-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E38AA3B#32 (((1 / 8) * (Real.log 2)⁻¹ : ℝ) : EReal)
  ∧ IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v11_0)) (v2 : (c : Dev Cert.Kernel2Ideal.nD) → Buf (Elt Ideal) ((c.tc : Thread Cert.Kernel2Ideal.nD Cert.Kernel2Ideal.τ).loc Cert.Kernel2Ideal.main_v17)) (v3 : (c : Dev Cert.Kernel2Ideal.nD) → Buf (Elt Ideal) ((c.tc : Thread Cert.Kernel2Ideal.nD Cert.Kernel2Ideal.τ).loc Cert.Kernel2Ideal.main_v14)) (v4 : (c : Dev Cert.Kernel2Ideal.nD) → Buf (Elt Ideal) ((c.tc : Thread Cert.Kernel2Ideal.nD Cert.Kernel2Ideal.τ).loc Cert.Kernel2Ideal.main_v16)) (v5 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v11_0) = v1 c
          ∧ r.2.mem ((c.tc : Thread Cert.Kernel2Ideal.nD Cert.Kernel2Ideal.τ).loc Cert.Kernel2Ideal.main_v17) = v2 c
          ∧ r.2.mem ((c.tc : Thread Cert.Kernel2Ideal.nD Cert.Kernel2Ideal.τ).loc Cert.Kernel2Ideal.main_v14) = v3 c
          ∧ r.2.mem ((c.tc : Thread Cert.Kernel2Ideal.nD Cert.Kernel2Ideal.τ).loc Cert.Kernel2Ideal.main_v16) = v4 c
          ∧ r.2.mem ((c.tc : Thread Cert.Kernel2Ideal.nD Cert.Kernel2Ideal.τ).loc Cert.Kernel2Ideal.main_v18) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_v59) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v19)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v19) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S3x2048x1024 : Shape := ⟨3, ![3, 2048, 1024]⟩
abbrev S16x513 : Shape := ⟨2, ![16, 513]⟩
abbrev S2048x1024 : Shape := ⟨2, ![2048, 1024]⟩
abbrev S_ : Shape := ⟨0, ![]⟩

class Facts : Prop where
  bitsLt_bf16_f32 : FTy.bits .bf16 < FTy.bits .f32
  bcast_S_S3x2048x1024 : S_.BroadcastsInDim S3x2048x1024 (![] : Fin 0 → Fin S3x2048x1024.rank)
  bcast_S_S16x513 : S_.BroadcastsInDim S16x513 (![] : Fin 0 → Fin S16x513.rank)
  bcast_S_S2048x1024 : S_.BroadcastsInDim S2048x1024 (![] : Fin 0 → Fin S2048x1024.rank)

variable [Facts]

def fn {F : FTy → Type} [FloatOps F] (main_arg0 : FVec F S3x2048x1024 .bf16) (main_arg1 : FVec F S16x513 .f32) (main_arg2 : FVec F S2048x1024 .f32) : IVec S3x2048x1024 1 × IVec S16x513 1 × IVec S2048x1024 1 :=
  let main_v0 : FVec F S3x2048x1024 .f32 := (extf .f32 · bitsLt_bf16_f32) main_arg0
  let main_v1 : FVec F S3x2048x1024 .f32 := Host.absf main_v0
  let main_cst : FVec F S_ .f32 := constant S_ .f32 0x7F800000#32
  let main_v2 : FVec F S3x2048x1024 .f32 := broadcastInDim S3x2048x1024 ![] bcast_S_S3x2048x1024 main_cst
  let main_v3 : IVec S3x2048x1024 1 := cmpf .olt main_v1 main_v2
  let main_v4 : FVec F S16x513 .f32 := Host.absf main_arg1
  let main_cst_0 : FVec F S_ .f32 := constant S_ .f32 0x7F800000#32
  let main_v5 : FVec F S16x513 .f32 := broadcastInDim S16x513 ![] bcast_S_S16x513 main_cst_0
  let main_v6 : IVec S16x513 1 := cmpf .olt main_v4 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  (main_v3, main_v6, main_v9)
-- ==== Pre_finite2.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1024 .f32) (main_arg2 : FVec F S1024x2816 .f32) (main_arg3 : FVec F S1024x2816 .f32) (main_arg4 : FVec F S2816x1024 .f32) (main_arg5 : FVec F S2048x1024 .f32) : IVec S2048x1024 1 × IVec S1024 1 × IVec S1024x2816 1 × IVec S1024x2816 1 × IVec S2816x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Kernel.lean ====
abbrev S3x2048x1024 : Shape := ⟨3, ![3, 2048, 1024]⟩
abbrev S16x513 : Shape := ⟨2, ![16, 513]⟩
abbrev S2048x1024 : Shape := ⟨2, ![2048, 1024]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S8x2x1024 : Shape := ⟨3, ![8, 2, 1024]⟩
abbrev S3x2048x128 : Shape := ⟨3, ![3, 2048, 128]⟩
abbrev S1x2x1024 : Shape := ⟨3, ![1, 2, 1024]⟩
abbrev S2048x128 : Shape := ⟨2, ![2048, 128]⟩
abbrev S2560x128 : Shape := ⟨2, ![2560, 128]⟩
abbrev S2x256x1024 : Shape := ⟨3, ![2, 256, 1024]⟩
abbrev S1x128 : Shape := ⟨2, ![1, 128]⟩
abbrev S512x128 : Shape := ⟨2, ![512, 128]⟩
abbrev S1x2048x128 : Shape := ⟨3, ![1, 2048, 128]⟩
abbrev S256x768 : Shape := ⟨2, ![256, 768]⟩
abbrev S1x1x1024 : Shape := ⟨3, ![1, 1, 1024]⟩
abbrev S1x1024 : Shape := ⟨2, ![1, 1024]⟩
abbrev S256x1024 : Shape := ⟨2, ![256, 1024]⟩
abbrev S1x256x128 : Shape := ⟨3, ![1, 256, 128]⟩
abbrev S256x128 : Shape := ⟨2, ![256, 128]⟩
abbrev S768x128 : Shape := ⟨2, ![768, 128]⟩
abbrev S256 : Shape := ⟨1, ![256]⟩
abbrev S256x1 : Shape := ⟨2, ![256, 1]⟩
abbrev S1x256x768 : Shape := ⟨3, ![1, 256, 768]⟩
abbrev S8x1024 : Shape := ⟨2, ![8, 1024]⟩
abbrev S1x8x1024 : Shape := ⟨3, ![1, 8, 1024]⟩
abbrev S16x640 : Shape := ⟨2, ![16, 640]⟩
abbrev S1024x640 : Shape := ⟨2, ![1024, 640]⟩

abbrev nBuf : Space → Nat
  | .hbm => 17
  | .vmem => 17
  | .smem => 0
  | _ => 0

abbrev bufTy : (tb : Table) → Fin (tcTables nBuf tb) → BufTy
  | .hbm, ⟨0, _⟩ => ⟨S3x2048x1024, .bf16⟩
  | .hbm, ⟨1, _⟩ => ⟨S16x513, .f32⟩
  | .hbm, ⟨2, _⟩ => ⟨S2048x1024, .f32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S16x1024, .f32⟩
  | .hbm, ⟨11, _⟩ => ⟨S8x2x1024, .f32⟩
  | .hbm, ⟨12, _⟩ => ⟨S3x2048x1024, .bf16⟩
  | .hbm, ⟨13, _⟩ => ⟨S8x2x1024, .f32⟩
  | .hbm, ⟨14, _⟩ => ⟨S16x1024, .f32⟩
  | .hbm, ⟨15, _⟩ => ⟨S16x640, .f32⟩
  | .hbm, ⟨16, _⟩ => ⟨S16x513, .f32⟩
  | .local _ .vmem, ⟨0, _⟩ => ⟨S3x2048x128, .bf16⟩
  | .local _ .vmem, ⟨1, _⟩ => ⟨S3x2048x128, .bf16⟩
  | .local _ .vmem, ⟨2, _⟩ => ⟨S1x2x1024, .f32⟩
  | .local _ .vmem, ⟨3, _⟩ => ⟨S1x2x1024, .f32⟩
  | .local _ .vmem, ⟨4, _⟩ => ⟨S2048x128, .f32⟩
  | .local _ .vmem, ⟨5, _⟩ => ⟨S2048x128, .f32⟩
  | .local _ .vmem, ⟨6, _⟩ => ⟨S3x2048x128, .bf16⟩
  | .local _ .vmem, ⟨7, _⟩ => ⟨S3x2048x128, .bf16⟩
  | .local _ .vmem, ⟨8, _⟩ => ⟨S1x2x1024, .f32⟩
  | .local _ .vmem, ⟨9, _⟩ => ⟨S1x2x1024, .f32⟩
  | .local _ .vmem, ⟨10, _⟩ => ⟨S2560x128, .bf16⟩
  | .local _ .vmem, ⟨11, _⟩ => ⟨S2560x128, .bf16⟩
  | .local _ .vmem, ⟨12, _⟩ => ⟨S2560x128, .f32⟩
  | .local _ .vmem, ⟨13, _⟩ => ⟨S2560x128, .f32⟩
  | .local _ .vmem, ⟨14, _⟩ => ⟨S2x256x1024, .f32⟩
  | .local _ .vmem, ⟨15, _⟩ => ⟨S16x1024, .f32⟩
  | .local _ .vmem, ⟨16, _⟩ => ⟨S16x640, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc1_stg0_0 : Ref sig .tc := ⟨.vmem, 15, rfl⟩
abbrev cc1_stg1_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_32 : BitVec 32 := 0#32
  let c8_i32_33 : BitVec 32 := 8#32
  let v68 : BitVec 32 := Scalar.addi c0_i32_32 c8_i32_33
  let c1_i32 : BitVec 32 := 1#32
  ⟨c0_i32_32, v68, c1_i32⟩
def k0_mult1 (k0_t1 : Fin k0_t1_loop.trips) : BitVec 32 :=
  let c0_i32_32 : BitVec 32 := 0#32
  let c1_i32 : BitVec 32 := 1#32
  let arg11 : BitVec 32 := Scf.iv c0_i32_32 c1_i32 k0_t1
  let c256_i32 : BitVec 32 := 256#32
  let v378 : BitVec 32 := Scalar.muli arg11 c256_i32
  v378
def k0_off1 (k0_t1 : Fin k0_t1_loop.trips) : Fin 3 → Nat :=
  let c0_258 : Index := 0#32
  let c0_i32_32 : BitVec 32 := 0#32
  let c1_i32 : BitVec 32 := 1#32
  let arg11 : BitVec 32 := Scf.iv c0_i32_32 c1_i32 k0_t1
  let c256_i32 : BitVec 32 := 256#32
  let v378 : BitVec 32 := Scalar.muli arg11 c256_i32
  let v379 : BitVec 32 := v378
  let v380 : Index := Scalar.indexCast v379
  let c0_259 : Index := 0#32
  ![0, v380.toNat, 0]
def k0_off2 (k0_t1 : Fin k0_t1_loop.trips) : Fin 2 → Nat :=
  let c0_i32_32 : BitVec 32 := 0#32
  let c1_i32 : BitVec 32 := 1#32
  let arg11 : BitVec 32 := Scf.iv c0_i32_32 c1_i32 k0_t1
  let c256_i32 : BitVec 32 := 256#32
  let v378 : BitVec 32 := Scalar.muli arg11 c256_i32
  let v379 : BitVec 32 := v378
  let v383 : Index := Scalar.indexCast v379
  let c0_260 : Index := 0#32
  ![v383.toNat, 0]
def k0_off3 (k0_t1 : Fin k0_t1_loop.trips) : Fin 2 → Nat :=
  let c0_i32_32 : BitVec 32 := 0#32
  let c1_i32 : BitVec 32 := 1#32
  let arg11 : BitVec 32 := Scf.iv c0_i32_32 c1_i32 k0_t1
  let c256_i32 : BitVec 32 := 256#32
  let v378 : BitVec 32 := Scalar.muli arg11 c256_i32
  let v379 : BitVec 32 := v378
  let v432 : Index := Scalar.indexCast v379
  let c0_275 : Index := 0#32
  ![v432.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | "masked" => some ⊥
  | "scale_log2e" => some (((1 / 8) * (Real.log 2)⁻¹ : ℝ) : EReal)
  | _ => none
-- ==== ReferenceIdeal.lean ====
abbrev S3x2048x1024 : Shape := ⟨3, ![3, 2048, 1024]⟩
abbrev S16x513 : Shape := ⟨2, ![16, 513]⟩
abbrev S2048x1024 : Shape := ⟨2, ![2048, 1024]⟩
abbrev S1x2048x1024 : Shape := ⟨3, ![1, 2048, 1024]⟩
abbrev S2048x16x64 : Shape := ⟨3, ![2048, 16, 64]⟩
abbrev S2048 : Shape := ⟨1, ![2048]⟩
abbrev S2048x1 : Shape := ⟨2, ![2048, 1]⟩
abbrev S1x2048 : Shape := ⟨2, ![1, 2048]⟩
abbrev S16x2048x2048 : Shape := ⟨3, ![16, 2048, 2048]⟩
abbrev S_ : Shape := ⟨0, ![]⟩
abbrev S2048x2048 : Shape := ⟨2, ![2048, 2048]⟩
abbrev S2048x2048x1 : Shape := ⟨3, ![2048, 2048, 1]⟩
abbrev S16x2048 : Shape := ⟨2, ![16, 2048]⟩
abbrev S16x2048x1 : Shape := ⟨3, ![16, 2048, 1]⟩
abbrev S16x64x2048 : Shape := ⟨3, ![16, 64, 2048]⟩
abbrev S16x2048x64 : Shape := ⟨3, ![16, 2048, 64]⟩

abbrev nBuf : Space → Nat
  | .hbm => 179
  | .vmem => 0
  | .smem => 0
  | _ => 0

abbrev hbmTy0_0 (i : Nat) : BufTy := match i % 128 with
  | 0 => ⟨S3x2048x1024, .bf16⟩
  | 1 => ⟨S16x513, .f32⟩
  | 2 => ⟨S2048x1024, .f32⟩
  | 3 => ⟨S3x2048x1024, .f32⟩
  | 4 => ⟨S1x2048x1024, .f32⟩
  | 5 => ⟨S2048x1024, .f32⟩
  | 6 => ⟨S1x2048x1024, .f32⟩
  | 7 => ⟨S2048x1024, .f32⟩
  | 8 => ⟨S1x2048x1024, .f32⟩
  | 9 => ⟨S2048x1024, .f32⟩
  | 10 => ⟨S2048x16x64, .f32⟩
  | 11 => ⟨S2048x16x64, .f32⟩
  | 12 => ⟨S2048x16x64, .f32⟩
  | 13 => ⟨S2048, .i32⟩
  | 14 => ⟨S2048x1, .i32⟩
  | 15 => ⟨S2048, .i32⟩
  | 16 => ⟨S1x2048, .i32⟩
  | 17 => ⟨S16x2048x2048, .f32⟩
  | 18 => ⟨S_, .f32⟩
  | 19 => ⟨S16x2048x2048, .f32⟩
  | 20 => ⟨S16x2048x2048, .f32⟩
  | 21 => ⟨S2048x2048, .i32⟩
  | 22 => ⟨S2048x2048, .i32⟩
  | 23 => ⟨S2048x2048, .i32⟩
  | 24 => ⟨S_, .i32⟩
  | 25 => ⟨S_, .i32⟩
  | 26 => ⟨S_, .i32⟩
  | 27 => ⟨S2048x2048, .i32⟩
  | 28 => ⟨S2048x2048, .i32⟩
  | 29 => ⟨S_, .i32⟩
  | 30 => ⟨S2048x2048, .i32⟩
  | 31 => ⟨S2048x2048, .i32⟩
  | 32 => ⟨S_, .i32⟩
  | 33 => ⟨S2048x2048, .i32⟩
  | 34 => ⟨S2048x2048, .i32⟩
  | 35 => ⟨S_, .i32⟩
  | 36 => ⟨S2048x2048, .i32⟩
  | 37 => ⟨S2048x2048, .i1⟩
  | 38 => ⟨S_, .i32⟩
  | 39 => ⟨S2048x2048, .i32⟩
  | 40 => ⟨S2048x2048, .i32⟩
  | 41 => ⟨S2048x2048, .i32⟩
  | 42 => ⟨S2048x2048x1, .i32⟩
  | 43 => ⟨S16x2048x2048, .f32⟩
  | 44 => ⟨S_, .i32⟩
  | 45 => ⟨S_, .i32⟩
  | 46 => ⟨S2048x1, .i32⟩
  | 47 => ⟨S2048x1, .i32⟩
  | 48 => ⟨S2048x1, .i32⟩
  | 49 => ⟨S_, .i32⟩
  | 50 => ⟨S2048x1, .i32⟩
  | 51 => ⟨S2048x1, .i1⟩
  | 52 => ⟨S2048x1, .i32⟩
  | 53 => ⟨S2048x1, .i32⟩
  | 54 => ⟨S_, .i32⟩
  | 55 => ⟨S2048x1, .i32⟩
  | 56 => ⟨S2048x1, .i1⟩
  | 57 => ⟨S2048x1, .i1⟩
  | 58 => ⟨S_, .i32⟩
  | 59 => ⟨S2048x1, .i32⟩
  | 60 => ⟨S2048x1, .i32⟩
  | 61 => ⟨S2048x1, .i32⟩
  | 62 => ⟨S_, .i32⟩
  | 63 => ⟨S_, .i32⟩
  | 64 => ⟨S1x2048, .i32⟩
  | 65 => ⟨S1x2048, .i32⟩
  | 66 => ⟨S1x2048, .i32⟩
  | 67 => ⟨S_, .i32⟩
  | 68 => ⟨S1x2048, .i32⟩
  | 69 => ⟨S1x2048, .i1⟩
  | 70 => ⟨S1x2048, .i32⟩
  | 71 => ⟨S1x2048, .i32⟩
  | 72 => ⟨S_, .i32⟩
  | 73 => ⟨S1x2048, .i32⟩
  | 74 => ⟨S1x2048, .i1⟩
  | 75 => ⟨S1x2048, .i1⟩
  | 76 => ⟨S_, .i32⟩
  | 77 => ⟨S1x2048, .i32⟩
  | 78 => ⟨S1x2048, .i32⟩
  | 79 => ⟨S1x2048, .i32⟩
  | 80 => ⟨S2048x2048, .i32⟩
  | 81 => ⟨S2048x2048, .i32⟩
  | 82 => ⟨S2048x2048, .i32⟩
  | 83 => ⟨S_, .i32⟩
  | 84 => ⟨S2048x2048, .i32⟩
  | 85 => ⟨S2048x2048, .i1⟩
  | 86 => ⟨S_, .i32⟩
  | 87 => ⟨S2048x2048, .i32⟩
  | 88 => ⟨S2048x2048, .i1⟩
  | 89 => ⟨S2048x2048, .i1⟩
  | 90 => ⟨S16x2048x2048, .f32⟩
  | 91 => ⟨S_, .f32⟩
  | 92 => ⟨S_, .f32⟩
  | 93 => ⟨S16x2048x2048, .i1⟩
  | 94 => ⟨S16x2048x2048, .f32⟩
  | 95 => ⟨S16x2048x2048, .f32⟩
  | 96 => ⟨S_, .f32⟩
  | 97 => ⟨S16x2048x2048, .f32⟩
  | 98 => ⟨S_, .f32⟩
  | 99 => ⟨S16x2048, .f32⟩
  | 100 => ⟨S16x2048x1, .f32⟩
  | 101 => ⟨S16x2048x2048, .f32⟩
  | 102 => ⟨S16x2048x2048, .i1⟩
  | 103 => ⟨S16x2048x2048, .f32⟩
  | 104 => ⟨S_, .f32⟩
  | 105 => ⟨S16x2048, .f32⟩
  | 106 => ⟨S_, .f32⟩
  | 107 => ⟨S16x2048, .f32⟩
  | 108 => ⟨S16x2048, .f32⟩
  | 109 => ⟨S_, .f32⟩
  | 110 => ⟨S16x2048, .f32⟩
  | 111 => ⟨S16x2048, .i1⟩
  | 112 => ⟨S_, .f32⟩
  | 113 => ⟨S16x2048, .f32⟩
  | 114 => ⟨S16x2048, .i1⟩
  | 115 => ⟨S_, .f32⟩
  | 116 => ⟨S16x2048, .f32⟩
  | 117 => ⟨S_, .f32⟩
  | 118 => ⟨S16x2048, .f32⟩
  | 119 => ⟨S_, .f32⟩
  | 120 => ⟨S16x2048, .f32⟩
  | 121 => ⟨S16x2048, .f32⟩
  | 122 => ⟨S16x2048, .f32⟩
  | 123 => ⟨S16x2048x1, .f32⟩
  | 124 => ⟨S16x2048x2048, .f32⟩
  | 125 => ⟨S16x2048x2048, .f32⟩
  | 126 => ⟨S16x2048x2048, .f32⟩
  | 127 => ⟨S_, .f32⟩
  | _ => ⟨S3x2048x1024, .bf16⟩

abbrev hbmTy0_1 (i : Nat) : BufTy := match i % 128 with
  | 0 => ⟨S16x2048, .f32⟩
  | 1 => ⟨S16x2048x1, .f32⟩
  | 2 => ⟨S16x2048x2048, .f32⟩
  | 3 => ⟨S16x2048x2048, .f32⟩
  | 4 => ⟨S16x2048x1, .f32⟩
  | 5 => ⟨S_, .f32⟩
  | 6 => ⟨S16x2048x1, .f32⟩
  | 7 => ⟨S16x2048x1, .f32⟩
  | 8 => ⟨S16x64x2048, .f32⟩
  | 9 => ⟨S2048x16x64, .f32⟩
  | 10 => ⟨S2048x1024, .f32⟩
  | 11 => ⟨S2048x16x64, .f32⟩
  | 12 => ⟨S16x64x2048, .f32⟩
  | 13 => ⟨S16x2048x2048, .f32⟩
  | 14 => ⟨S16x64x2048, .f32⟩
  | 15 => ⟨S2048x16x64, .f32⟩
  | 16 => ⟨S16x2048x2048, .f32⟩
  | 17 => ⟨S16x2048x2048, .f32⟩
  | 18 => ⟨S16x2048x2048, .f32⟩
  | 19 => ⟨S_, .f32⟩
  | 20 => ⟨S16x2048, .f32⟩
  | 21 => ⟨S16x2048x1, .f32⟩
  | 22 => ⟨S16x2048x1, .f32⟩
  | 23 => ⟨S16x2048x2048, .f32⟩
  | 24 => ⟨S16x2048x2048, .f32⟩
  | 25 => ⟨S_, .f32⟩
  | 26 => ⟨S16x2048, .f32⟩
  | 27 => ⟨S16x2048x2048, .f32⟩
  | 28 => ⟨S16x2048x2048, .f32⟩
  | 29 => ⟨S16x2048x2048, .f32⟩
  | 30 => ⟨S_, .f32⟩
  | 31 => ⟨S16x2048x2048, .f32⟩
  | 32 => ⟨S16x2048x2048, .f32⟩
  | 33 => ⟨S_, .f32⟩
  | 34 => ⟨S16x513, .f32⟩
  | 35 => ⟨S16x513, .f32⟩
  | 36 => ⟨S_, .f32⟩
  | 37 => ⟨S16x2048x2048, .f32⟩
  | 38 => ⟨S16x2048x2048, .f32⟩
  | 39 => ⟨S16x2048x64, .f32⟩
  | 40 => ⟨S2048x16x64, .f32⟩
  | 41 => ⟨S16x2048x64, .f32⟩
  | 42 => ⟨S2048x16x64, .f32⟩
  | 43 => ⟨S2048x1024, .f32⟩
  | 44 => ⟨S2048x1024, .f32⟩
  | 45 => ⟨S2048x1024, .f32⟩
  | 46 => ⟨S1x2048x1024, .f32⟩
  | 47 => ⟨S1x2048x1024, .f32⟩
  | 48 => ⟨S1x2048x1024, .f32⟩
  | 49 => ⟨S3x2048x1024, .f32⟩
  | 50 => ⟨S3x2048x1024, .bf16⟩
  | _ => ⟨S3x2048x1024, .bf16⟩

abbrev hbmTy (i : Nat) : BufTy := match i / 128 with
  | 0 => hbmTy0_0 i
  | 1 => hbmTy0_1 i
  | _ => ⟨S3x2048x1024, .bf16⟩

abbrev bufTy : (tb : Table) → Fin (tcTables nBuf tb) → BufTy
  | .hbm, ⟨i, _⟩ => hbmTy i
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v30 : Ref sig .tc := ⟨.hbm, 61, rfl⟩
abbrev main_c_5 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_6 : Ref sig .tc := ⟨.hbm, 83, rfl⟩
abbrev main_v35 : Ref sig .tc := ⟨.hbm, 84, rfl⟩
abbrev main_v36 : Ref sig .tc := ⟨.hbm, 85, rfl⟩
abbrev main_c_7 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_8 : Ref sig .tc := ⟨.hbm, 91, rfl⟩
abbrev main_call3_v0 : Ref sig .tc := ⟨.hbm, 92, rfl⟩
abbrev main_v41_1 : Ref sig .tc := ⟨.hbm, 93, rfl⟩
abbrev main_call3_v2 : Ref sig .tc := ⟨.hbm, 94, rfl⟩
abbrev main_v41_0 : Ref sig .tc := ⟨.hbm, 95, rfl⟩
abbrev main_call3_cst : Ref sig .tc := ⟨.hbm, 96, rfl⟩
abbrev main_v41_2 : Ref sig .tc := ⟨.hbm, 97, rfl⟩
abbrev main_cst_9 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_cst_10 : Ref sig .tc := ⟨.hbm, 104, rfl⟩
abbrev main_v47 : Ref sig .tc := ⟨.hbm, 105, rfl⟩
abbrev main_cst_11 : Ref sig .tc := ⟨.hbm, 106, rfl⟩
abbrev main_v48 : Ref sig .tc := ⟨.hbm, 107, rfl⟩
abbrev main_v49 : Ref sig .tc := ⟨.hbm, 108, rfl⟩
abbrev main_cst_12 : Ref sig .tc := ⟨.hbm, 109, rfl⟩
abbrev main_v50 : Ref sig .tc := ⟨.hbm, 110, rfl⟩
abbrev main_v51 : Ref sig .tc := ⟨.hbm, 111, rfl⟩
abbrev main_cst_13 : Ref sig .tc := ⟨.hbm, 112, rfl⟩
abbrev main_v52 : Ref sig .tc := ⟨.hbm, 113, rfl⟩
abbrev main_v53 : Ref sig .tc := ⟨.hbm, 114, rfl⟩
abbrev main_cst_14 : Ref sig .tc := ⟨.hbm, 115, rfl⟩
abbrev main_v54 : Ref sig .tc := ⟨.hbm, 116, rfl⟩
abbrev main_cst_15 : Ref sig .tc := ⟨.hbm, 117, rfl⟩
abbrev main_v55 : Ref sig .tc := ⟨.hbm, 118, rfl⟩
abbrev main_cst_16 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_cst_17 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_18 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_cst_19 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_cst_20 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_call4_cst : Ref sig .tc := ⟨.hbm, 158, rfl⟩
abbrev main_call4_v0 : Ref sig .tc := ⟨.hbm, 159, rfl⟩
abbrev main_v90 : Ref sig .tc := ⟨.hbm, 160, rfl⟩
abbrev main_cst_21 : Ref sig .tc := ⟨.hbm, 161, rfl⟩
abbrev main_v91 : Ref sig .tc := ⟨.hbm, 162, rfl⟩
abbrev main_v92 : Ref sig .tc := ⟨.hbm, 163, rfl⟩
abbrev main_cst_22 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩

abbrev nD : Nat := 1
abbrev τ : Topo := Topo.v7x

variable {F : FTy → Type} [FloatOps F]
-- ==== Kernel2.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024x1 : Shape := ⟨2, ![1024, 1]⟩
abbrev S704x1024 : Shape := ⟨2, ![704, 1024]⟩
abbrev S1024x704 : Shape := ⟨2, ![1024, 704]⟩
abbrev S512x1024 : Shape := ⟨2, ![512, 1024]⟩
abbrev S1x512x704 : Shape := ⟨3, ![1, 512, 704]⟩
abbrev S512 : Shape := ⟨1, ![512]⟩
abbrev S512x1 : Shape := ⟨2, ![512, 1]⟩
abbrev S512x704 : Shape := ⟨2, ![512, 704]⟩

abbrev nBuf : Space → Nat
  | .hbm => 34
  | .vmem => 63
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2816x1024, .f32⟩
  | .hbm, ⟨7, _⟩ => ⟨S2816x1024, .bf16⟩
  | .hbm, ⟨8, _⟩ => ⟨S4x704x1024, .bf16⟩
  | .hbm, ⟨9, _⟩ => ⟨S2816x1024, .f32⟩
  | .hbm, ⟨10, _⟩ => ⟨S2816x1024, .bf16⟩
  | .hbm, ⟨11, _⟩ => ⟨S4x704x1024, .bf16⟩
  | .hbm, ⟨12, _⟩ => ⟨S2816x1024, .bf16⟩
  | .hbm, ⟨13, _⟩ => ⟨S4x704x1024, .bf16⟩
  | .hbm, ⟨14, _⟩ => ⟨S1x1024, .f32⟩
  | .hbm, ⟨15, _⟩ => ⟨S2048x1024, .f32⟩
  | .hbm, ⟨16, _⟩ => ⟨S4x2048x704, .bf16⟩
  | .hbm, ⟨17, _⟩ => ⟨S4x2048x704, .bf16⟩
  | .hbm, ⟨18, _⟩ => ⟨S1x1024, .f32⟩
  | .hbm, ⟨19, _⟩ => ⟨S2048x1024, .f32⟩
  | .hbm, ⟨20, _⟩ => ⟨S1x1024, .f32⟩
  | .hbm, ⟨21, _⟩ => ⟨S2048x1024, .bf16⟩
  | .hbm, ⟨22, _⟩ => ⟨S4x2048x704, .bf16⟩
  | .hbm, ⟨23, _⟩ => ⟨S4x2048x704, .bf16⟩
  | .hbm, ⟨24, _⟩ => ⟨S4x2048x704, .bf16⟩
  | .hbm, ⟨25, _⟩ => ⟨S4x704x1024, .bf16⟩
  | .hbm, ⟨26, _⟩ => ⟨S4x704x1024, .bf16⟩
  | .hbm, ⟨27, _⟩ => ⟨S4x704x1024, .bf16⟩
  | .hbm, ⟨28, _⟩ => ⟨S2816x1024, .bf16⟩
  | .hbm, ⟨29, _⟩ => ⟨S1024x2816, .bf16⟩
  | .hbm, ⟨30, _⟩ => ⟨S2816x1024, .bf16⟩
  | .hbm, ⟨31, _⟩ => ⟨S1024x2816, .bf16⟩
  | .hbm, ⟨32, _⟩ => ⟨S1024, .f32⟩
  | .hbm, ⟨33, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x704x1024, .bf16⟩
  | .local _ .vmem, ⟨26, _⟩ => ⟨S1x704x1024, .bf16⟩
  | .local _ .vmem, ⟨27, _⟩ => ⟨S1x704x1024, .bf16⟩
  | .local _ .vmem, ⟨28, _⟩ => ⟨S1x704x1024, .bf16⟩
  | .local _ .vmem, ⟨29, _⟩ => ⟨S1x704x1024, .bf16⟩
  | .local _ .vmem, ⟨30, _⟩ => ⟨S1x704x1024, .bf16⟩
  | .local _ .vmem, ⟨31, _⟩ => ⟨S512x1024, .f32⟩
  | .local _ .vmem, ⟨32, _⟩ => ⟨S512x1024, .f32⟩
  | .local _ .vmem, ⟨33, _⟩ => ⟨S1x1024, .f32⟩
  | .local _ .vmem, ⟨34, _⟩ => ⟨S512x1024, .bf16⟩
  | .local _ .vmem, ⟨35, _⟩ => ⟨S512x1024, .bf16⟩
  | .local _ .vmem, ⟨36, _⟩ => ⟨S1x512x704, .bf16⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S1x512x704, .bf16⟩
  | .local _ .vmem, ⟨42, _⟩ => ⟨S512x1024, .bf16⟩
  | .local _ .vmem, ⟨43, _⟩ => ⟨S512x1024, .f32⟩
  | .local _ .vmem, ⟨44, _⟩ => ⟨S1024x1024, .bf16⟩
  | .local _ .vmem, ⟨45, _⟩ => ⟨S1024x1024, .bf16⟩
  | .local _ .vmem, ⟨46, _⟩ => ⟨S1024x1024, .f32⟩
  | .local _ .vmem, ⟨47, _⟩ => ⟨S1024x1024, .f32⟩
  | .local _ .vmem, ⟨48, _⟩ => ⟨S1x1024x704, .bf16⟩
  | .local _ .vmem, ⟨49, _⟩ => ⟨S1x1024x704, .bf16⟩
  | .local _ .vmem, ⟨50, _⟩ => ⟨S1x1024x704, .bf16⟩
  | .local _ .vmem, ⟨51, _⟩ => ⟨S1x1024x704, .bf16⟩
  | .local _ .vmem, ⟨52, _⟩ => ⟨S1x1024x704, .bf16⟩
  | .local _ .vmem, ⟨53, _⟩ => ⟨S1x1024x704, .bf16⟩
  | .local _ .vmem, ⟨54, _⟩ => ⟨S1x704x1024, .bf16⟩
  | .local _ .vmem, ⟨55, _⟩ => ⟨S1x704x1024, .bf16⟩
  | .local _ .vmem, ⟨56, _⟩ => ⟨S1x704x1024, .bf16⟩
  | .local _ .vmem, ⟨57, _⟩ => ⟨S1x704x1024, .bf16⟩
  | .local _ .vmem, ⟨58, _⟩ => ⟨S1x704x1024, .bf16⟩
  | .local _ .vmem, ⟨59, _⟩ => ⟨S1x704x1024, .bf16⟩
  | .local _ .vmem, ⟨60, _⟩ => ⟨S704x1024, .f32⟩
  | .local _ .vmem, ⟨61, _⟩ => ⟨S704x1024, .f32⟩
  | .local _ .vmem, ⟨62, _⟩ => ⟨S704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_scratch0 : Ref sig .tc := ⟨.vmem, 42, rfl⟩
abbrev cc1_scratch1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc2_stg5_0 : Ref sig .tc := ⟨.vmem, 54, rfl⟩
abbrev cc2_stg5_1 : Ref sig .tc := ⟨.vmem, 55, rfl⟩
abbrev cc2_stg6_0 : Ref sig .tc := ⟨.vmem, 56, rfl⟩
abbrev cc2_stg6_1 : Ref sig .tc := ⟨.vmem, 57, rfl⟩
abbrev cc2_stg7_0 : Ref sig .tc := ⟨.vmem, 58, rfl⟩
abbrev cc2_stg7_1 : Ref sig .tc := ⟨.vmem, 59, rfl⟩
abbrev cc2_scratch0 : Ref sig .tc := ⟨.vmem, 60, rfl⟩
abbrev cc2_scratch1 : Ref sig .tc := ⟨.vmem, 61, rfl⟩
abbrev cc2_scratch2 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem10_0 : DmaSem sig := 33
abbrev cc1_sem10_1 : DmaSem sig := 34
abbrev cc1_sem11_0 : DmaSem sig := 35
abbrev cc1_sem11_1 : DmaSem sig := 36
abbrev cc1_sem12_0 : DmaSem sig := 37
abbrev cc1_sem12_1 : DmaSem sig := 38
abbrev cc1_sem13_0 : DmaSem sig := 39
abbrev cc1_sem13_1 : DmaSem sig := 40
abbrev cc2_sem0_0 : DmaSem sig := 41
abbrev cc2_sem0_1 : DmaSem sig := 42
abbrev cc2_sem1_0 : DmaSem sig := 43
abbrev cc2_sem1_1 : DmaSem sig := 44
abbrev cc2_sem2_0 : DmaSem sig := 45
abbrev cc2_sem2_1 : DmaSem sig := 46
abbrev cc2_sem3_0 : DmaSem sig := 47
abbrev cc2_sem3_1 : DmaSem sig := 48
abbrev cc2_sem4_0 : DmaSem sig := 49
abbrev cc2_sem4_1 : DmaSem sig := 50
abbrev cc2_sem5_0 : DmaSem sig := 51
abbrev cc2_sem5_1 : DmaSem sig := 52
abbrev cc2_sem6_0 : DmaSem sig := 53
abbrev cc2_sem6_1 : DmaSem sig := 54
abbrev cc2_sem7_0 : DmaSem sig := 55
abbrev cc2_sem7_1 : DmaSem sig := 56

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_37 : BitVec 32 := 0#32
  let v57 : BitVec 1 := Scalar.cmpi .ne v56 c0_i32_37
  v57

def k1_cond3 (i : grid1.Coords) : BitVec 1 :=
  let arg0 : BitVec 32 := BitVec.ofNat 32 (i 0).val
  let c0_i32_54 : BitVec 32 := 0#32
  let v90 : BitVec 1 := Scalar.cmpi .eq arg0 c0_i32_54
  let v91 : BitVec 32 := Scalar.extui v90
  let c0_i32_55 : BitVec 32 := 0#32
  let v92 : BitVec 1 := Scalar.cmpi .ne v91 c0_i32_55
  v92

def k1_cond4 (i : grid1.Coords) : BitVec 1 :=
  let arg0 : BitVec 32 := BitVec.ofNat 32 (i 0).val
  let c0_i32_56 : BitVec 32 := 0#32
  let v93 : BitVec 1 := Scalar.cmpi .sgt arg0 c0_i32_56
  let v94 : BitVec 32 := Scalar.extui v93
  let c0_i32_57 : BitVec 32 := 0#32
  let v95 : BitVec 1 := Scalar.cmpi .ne v94 c0_i32_57
  v95

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x704x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x704x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x512x704 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x512x704 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x512x704 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev grid2 : Pipeline.Grid := ⟨2, ![4, 2], ![false, false]⟩

def k2_cond3 (i : grid2.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_17 : BitVec 32 := 0#32
  let v21 : BitVec 1 := Scalar.cmpi .ne v20 c0_i32_17
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x704x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x704x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x704x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]
-- ==== Reference2Ideal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S1024x2816, .f32⟩
  | .hbm, ⟨46, _⟩ => ⟨S2816x1024, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2816x1024, .f32⟩
  | .hbm, ⟨51, _⟩ => ⟨S1024x2816, .f32⟩
  | .hbm, ⟨52, _⟩ => ⟨S2048x1024, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2816x1024, .f32⟩
  | .hbm, ⟨58, _⟩ => ⟨S1024x2816, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S2048x1024, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S1024x2816, .bf16⟩
  | .hbm, ⟨88, _⟩ => ⟨S1024x2816, .bf16⟩
  | .hbm, ⟨89, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel3.lean ====
abbrev S2048x1024 : Shape := ⟨2, ![2048, 1024]⟩
abbrev S1024x3072 : Shape := ⟨2, ![1024, 3072]⟩
abbrev S3x2048x1024 : Shape := ⟨3, ![3, 2048, 1024]⟩
abbrev S1024x1024 : Shape := ⟨2, ![1024, 1024]⟩
abbrev S1x1024x1024 : Shape := ⟨3, ![1, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S1024x3072, .bf16⟩
  | .hbm, ⟨3, _⟩ => ⟨S3x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x1024 : Shape := ⟨2, ![2048, 1024]⟩
abbrev S1024x3072 : Shape := ⟨2, ![1024, 3072]⟩
abbrev S2048x3072 : Shape := ⟨2, ![2048, 3072]⟩
abbrev S2048x3x1024 : Shape := ⟨3, ![2048, 3, 1024]⟩
abbrev S3x2048x1024 : Shape := ⟨3, ![3, 2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S2048x1024, .f32⟩
  | .hbm, ⟨3, _⟩ => ⟨S2048x3072, .f32⟩
  | .hbm, ⟨4, _⟩ => ⟨S2048x3x1024, .f32⟩
  | .hbm, ⟨5, _⟩ => ⟨S3x2048x1024, .f32⟩
  | .hbm, ⟨6, _⟩ => ⟨S3x2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S2048x1024 : Shape := ⟨2, ![2048, 1024]⟩
abbrev S1024x3072 : Shape := ⟨2, ![1024, 3072]⟩
abbrev S3x2048x1024 : Shape := ⟨3, ![3, 2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S3x2048x1024, .bf16⟩
  | .hbm, ⟨3, _⟩ => ⟨S1024x3072, .bf16⟩
  | .hbm, ⟨4, _⟩ => ⟨S2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S2048x1024 : Shape := ⟨2, ![2048, 1024]⟩
abbrev S1024x3072 : Shape := ⟨2, ![1024, 3072]⟩
abbrev S3x2048x1024 : Shape := ⟨3, ![3, 2048, 1024]⟩
abbrev S2048x3072 : Shape := ⟨2, ![2048, 3072]⟩
abbrev S2048x3x1024 : Shape := ⟨3, ![2048, 3, 1024]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S3x2048x1024, .bf16⟩
  | .hbm, ⟨3, _⟩ => ⟨S2048x1024, .f32⟩
  | .hbm, ⟨4, _⟩ => ⟨S2048x3072, .f32⟩
  | .hbm, ⟨5, _⟩ => ⟨S2048x3x1024, .f32⟩
  | .hbm, ⟨6, _⟩ => ⟨S3x2048x1024, .f32⟩
  | .hbm, ⟨7, _⟩ => ⟨S3x2048x1024, .f32⟩
  | .hbm, ⟨8, _⟩ => ⟨S2048x3x1024, .f32⟩
  | .hbm, ⟨9, _⟩ => ⟨S2048x3072, .f32⟩
  | .hbm, ⟨10, _⟩ => ⟨S3072x1024, .f32⟩
  | .hbm, ⟨11, _⟩ => ⟨S1024x3072, .f32⟩
  | .hbm, ⟨12, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S2048x1024 : Shape := ⟨2, ![2048, 1024]⟩
abbrev S1024x3072 : Shape := ⟨2, ![1024, 3072]⟩
abbrev S3x2048x1024 : Shape := ⟨3, ![3, 2048, 1024]⟩
abbrev S4x1024x768 : Shape := ⟨3, ![4, 1024, 768]⟩
abbrev S1024x1024 : Shape := ⟨2, ![1024, 1024]⟩
abbrev S1x1024x256 : Shape := ⟨3, ![1, 1024, 256]⟩
abbrev S1x1024x768 : Shape := ⟨3, ![1, 1024, 768]⟩
abbrev S1024x768 : Shape := ⟨2, ![1024, 768]⟩
abbrev S1024x256 : Shape := ⟨2, ![1024, 256]⟩

abbrev nBuf : Space → Nat
  | .hbm => 4
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S3x2048x1024, .bf16⟩
  | .hbm, ⟨3, _⟩ => ⟨S4x1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x768, .bf16⟩
  | .local _ .vmem, ⟨9, _⟩ => ⟨S1x1024x768, .bf16⟩
  | .local _ .vmem, ⟨10, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32_5 : BitVec 32 := 3#32
  let v19 : BitVec 32 := Scalar.muli c3_i32_5 arg0
  let c0_i32_6 : BitVec 32 := 0#32
  let v20 : BitVec 32 := Scalar.addi v19 c0_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c3_i32_5 : BitVec 32 := 3#32
  let v19 : BitVec 32 := Scalar.muli c3_i32_5 arg0
  let c1_i32_6 : BitVec 32 := 1#32
  let v20 : BitVec 32 := Scalar.addi v19 c1_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32_4 : BitVec 32 := 3#32
  let v19 : BitVec 32 := Scalar.muli c3_i32_4 arg0
  let c2_i32_5 : BitVec 32 := 2#32
  let v20 : BitVec 32 := Scalar.addi v19 c2_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  ![v18.toNat, arg1.toNat, v30.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S2048x1024 : Shape := ⟨2, ![2048, 1024]⟩
abbrev S1024x3072 : Shape := ⟨2, ![1024, 3072]⟩
abbrev S3x2048x1024 : Shape := ⟨3, ![3, 2048, 1024]⟩
abbrev S2048x3072 : Shape := ⟨2, ![2048, 3072]⟩
abbrev S2048x3x1024 : Shape := ⟨3, ![2048, 3, 1024]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S3x2048x1024, .bf16⟩
  | .hbm, ⟨3, _⟩ => ⟨S2048x1024, .f32⟩
  | .hbm, ⟨4, _⟩ => ⟨S2048x3072, .f32⟩
  | .hbm, ⟨5, _⟩ => ⟨S2048x3x1024, .f32⟩
  | .hbm, ⟨6, _⟩ => ⟨S3x2048x1024, .f32⟩
  | .hbm, ⟨7, _⟩ => ⟨S3x2048x1024, .f32⟩
  | .hbm, ⟨8, _⟩ => ⟨S2048x3x1024, .f32⟩
  | .hbm, ⟨9, _⟩ => ⟨S2048x3072, .f32⟩
  | .hbm, ⟨10, _⟩ => ⟨S3072x1024, .f32⟩
  | .hbm, ⟨11, _⟩ => ⟨S1024x3072, .f32⟩
  | .hbm, ⟨12, _⟩ => ⟨S2048x1024, .f32⟩
  | .hbm, ⟨13, _⟩ => ⟨S1024x3072, .bf16⟩
  | .hbm, ⟨14, _⟩ => ⟨S1024x4x768, .bf16⟩
  | .hbm, ⟨15, _⟩ => ⟨S4x1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference6Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference7Ideal.lean ====
abbrev S2048x1024 : Shape := ⟨2, ![2048, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S2048x1024 : Shape := ⟨2, ![2048, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x1024 : Shape := ⟨2, ![2048, 1024]⟩
abbrev S1024x2208 : Shape := ⟨2, ![1024, 2208]⟩
abbrev S1024x384 : Shape := ⟨2, ![1024, 384]⟩
abbrev S_ : Shape := ⟨0, ![]⟩
abbrev S1024x128 : Shape := ⟨2, ![1024, 128]⟩
abbrev S1024x256 : Shape := ⟨2, ![1024, 256]⟩
abbrev S1024x1536 : Shape := ⟨2, ![1024, 1536]⟩
abbrev S1024x64 : Shape := ⟨2, ![1024, 64]⟩
abbrev S1024x32 : Shape := ⟨2, ![1024, 32]⟩
abbrev S1024x2432 : Shape := ⟨2, ![1024, 2432]⟩
abbrev S2048x2432 : Shape := ⟨2, ![2048, 2432]⟩
abbrev S512x1024 : Shape := ⟨2, ![512, 1024]⟩
abbrev S512x2432 : Shape := ⟨2, ![512, 2432]⟩

abbrev nBuf : Space → Nat
  | .hbm => 15
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2208, .f32⟩
  | .hbm, ⟨2, _⟩ => ⟨S1024x2208, .bf16⟩
  | .hbm, ⟨3, _⟩ => ⟨S1024x384, .bf16⟩
  | .hbm, ⟨4, _⟩ => ⟨S_, .bf16⟩
  | .hbm, ⟨5, _⟩ => ⟨S1024x128, .bf16⟩
  | .hbm, ⟨6, _⟩ => ⟨S1024x256, .bf16⟩
  | .hbm, ⟨7, _⟩ => ⟨S1024x1536, .bf16⟩
  | .hbm, ⟨8, _⟩ => ⟨S_, .bf16⟩
  | .hbm, ⟨9, _⟩ => ⟨S1024x64, .bf16⟩
  | .hbm, ⟨10, _⟩ => ⟨S1024x32, .bf16⟩
  | .hbm, ⟨11, _⟩ => ⟨S_, .bf16⟩
  | .hbm, ⟨12, _⟩ => ⟨S1024x32, .bf16⟩
  | .hbm, ⟨13, _⟩ => ⟨S1024x2432, .bf16⟩
  | .hbm, ⟨14, _⟩ => ⟨S2048x2432, .f32⟩
  | .local _ .vmem, ⟨0, _⟩ => ⟨S512x1024, .bf16⟩
  | .local _ .vmem, ⟨1, _⟩ => ⟨S512x1024, .bf16⟩
  | .local _ .vmem, ⟨2, _⟩ => ⟨S1024x2432, .bf16⟩
  | .local _ .vmem, ⟨3, _⟩ => ⟨S512x2432, .f32⟩
  | .local _ .vmem, ⟨4, _⟩ => ⟨S512x2432, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference9Ideal.lean ====
abbrev S2048x1024 : Shape := ⟨2, ![2048, 1024]⟩
abbrev S1024x2208 : Shape := ⟨2, ![1024, 2208]⟩
abbrev S2048x2208 : Shape := ⟨2, ![2048, 2208]⟩
abbrev S2048x384 : Shape := ⟨2, ![2048, 384]⟩
abbrev S2048x256 : Shape := ⟨2, ![2048, 256]⟩
abbrev S2048x32 : Shape := ⟨2, ![2048, 32]⟩
abbrev S2048x1536 : Shape := ⟨2, ![2048, 1536]⟩
abbrev S_ : Shape := ⟨0, ![]⟩
abbrev S2048x128 : Shape := ⟨2, ![2048, 128]⟩
abbrev S2048x64 : Shape := ⟨2, ![2048, 64]⟩
abbrev S2048x2432 : Shape := ⟨2, ![2048, 2432]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2208, .f32⟩
  | .hbm, ⟨2, _⟩ => ⟨S2048x1024, .f32⟩
  | .hbm, ⟨3, _⟩ => ⟨S2048x2208, .f32⟩
  | .hbm, ⟨4, _⟩ => ⟨S2048x384, .f32⟩
  | .hbm, ⟨5, _⟩ => ⟨S2048x256, .f32⟩
  | .hbm, ⟨6, _⟩ => ⟨S2048x32, .f32⟩
  | .hbm, ⟨7, _⟩ => ⟨S2048x1536, .f32⟩
  | .hbm, ⟨8, _⟩ => ⟨S_, .f32⟩
  | .hbm, ⟨9, _⟩ => ⟨S2048x128, .f32⟩
  | .hbm, ⟨10, _⟩ => ⟨S_, .f32⟩
  | .hbm, ⟨11, _⟩ => ⟨S2048x64, .f32⟩
  | .hbm, ⟨12, _⟩ => ⟨S_, .f32⟩
  | .hbm, ⟨13, _⟩ => ⟨S2048x32, .f32⟩
  | .hbm, ⟨14, _⟩ => ⟨S2048x2432, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel10.lean ====
abbrev S2048x1024 : Shape := ⟨2, ![2048, 1024]⟩
abbrev S1024x2208 : Shape := ⟨2, ![1024, 2208]⟩
abbrev S2048x2208 : Shape := ⟨2, ![2048, 2208]⟩
abbrev S2048x384 : Shape := ⟨2, ![2048, 384]⟩
abbrev S2048x256 : Shape := ⟨2, ![2048, 256]⟩
abbrev S2048x512 : Shape := ⟨2, ![2048, 512]⟩
abbrev S_ : Shape := ⟨0, ![]⟩
abbrev S2048x64 : Shape := ⟨2, ![2048, 64]⟩
abbrev S2048x32 : Shape := ⟨2, ![2048, 32]⟩
abbrev S2048x128 : Shape := ⟨2, ![2048, 128]⟩
abbrev S1024x2432 : Shape := ⟨2, ![1024, 2432]⟩
abbrev S1024x1024 : Shape := ⟨2, ![1024, 1024]⟩
abbrev S1024x384 : Shape := ⟨2, ![1024, 384]⟩
abbrev S1024x128 : Shape := ⟨2, ![1024, 128]⟩
abbrev S1024x256 : Shape := ⟨2, ![1024, 256]⟩
abbrev S1024x512 : Shape := ⟨2, ![1024, 512]⟩

abbrev nBuf : Space → Nat
  | .hbm => 17
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S1024x2208, .f32⟩
  | .hbm, ⟨2, _⟩ => ⟨S2048x2208, .bf16⟩
  | .hbm, ⟨3, _⟩ => ⟨S2048x384, .bf16⟩
  | .hbm, ⟨4, _⟩ => ⟨S2048x256, .bf16⟩
  | .hbm, ⟨5, _⟩ => ⟨S2048x512, .bf16⟩
  | .hbm, ⟨6, _⟩ => ⟨S2048x512, .bf16⟩
  | .hbm, ⟨7, _⟩ => ⟨S2048x512, .bf16⟩
  | .hbm, ⟨8, _⟩ => ⟨S_, .bf16⟩
  | .hbm, ⟨9, _⟩ => ⟨S2048x64, .bf16⟩
  | .hbm, ⟨10, _⟩ => ⟨S2048x32, .bf16⟩
  | .hbm, ⟨11, _⟩ => ⟨S_, .bf16⟩
  | .hbm, ⟨12, _⟩ => ⟨S2048x32, .bf16⟩
  | .hbm, ⟨13, _⟩ => ⟨S2048x128, .bf16⟩
  | .hbm, ⟨14, _⟩ => ⟨S_, .bf16⟩
  | .hbm, ⟨15, _⟩ => ⟨S2048x128, .bf16⟩
  | .hbm, ⟨16, _⟩ => ⟨S1024x2432, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x128, .bf16⟩
  | .local _ .vmem, ⟨5, _⟩ => ⟨S1024x128, .bf16⟩
  | .local _ .vmem, ⟨6, _⟩ => ⟨S1024x256, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x128, .bf16⟩
  | .local _ .vmem, ⟨15, _⟩ => ⟨S1024x128, .bf16⟩
  | .local _ .vmem, ⟨16, _⟩ => ⟨S1024x2432, .bf16⟩
  | .local _ .vmem, ⟨17, _⟩ => ⟨S1024x2432, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_18 : BitVec 32 := 0#32
  let v25 : BitVec 1 := Scalar.cmpi .ne v24 c0_i32_18
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference10Ideal.lean ====
abbrev S2048x1024 : Shape := ⟨2, ![2048, 1024]⟩
abbrev S1024x2208 : Shape := ⟨2, ![1024, 2208]⟩
abbrev S2048x2208 : Shape := ⟨2, ![2048, 2208]⟩
abbrev S2208x1024 : Shape := ⟨2, ![2208, 1024]⟩
abbrev S1024x384 : Shape := ⟨2, ![1024, 384]⟩
abbrev S1024x256 : Shape := ⟨2, ![1024, 256]⟩
abbrev S1024x32 : Shape := ⟨2, ![1024, 32]⟩
abbrev S1024x1536 : Shape := ⟨2, ![1024, 1536]⟩
abbrev S_ : Shape := ⟨0, ![]⟩
abbrev S1024x128 : Shape := ⟨2, ![1024, 128]⟩
abbrev S1024x64 : Shape := ⟨2, ![1024, 64]⟩
abbrev S1024x2432 : Shape := ⟨2, ![1024, 2432]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2208, .f32⟩
  | .hbm, ⟨2, _⟩ => ⟨S2048x2208, .bf16⟩
  | .hbm, ⟨3, _⟩ => ⟨S2048x1024, .f32⟩
  | .hbm, ⟨4, _⟩ => ⟨S2048x2208, .f32⟩
  | .hbm, ⟨5, _⟩ => ⟨S2048x2208, .f32⟩
  | .hbm, ⟨6, _⟩ => ⟨S2208x1024, .f32⟩
  | .hbm, ⟨7, _⟩ => ⟨S1024x2208, .f32⟩
  | .hbm, ⟨8, _⟩ => ⟨S2048x1024, .f32⟩
  | .hbm, ⟨9, _⟩ => ⟨S1024x2208, .bf16⟩
  | .hbm, ⟨10, _⟩ => ⟨S1024x384, .bf16⟩
  | .hbm, ⟨11, _⟩ => ⟨S1024x256, .bf16⟩
  | .hbm, ⟨12, _⟩ => ⟨S1024x32, .bf16⟩
  | .hbm, ⟨13, _⟩ => ⟨S1024x1536, .bf16⟩
  | .hbm, ⟨14, _⟩ => ⟨S_, .bf16⟩
  | .hbm, ⟨15, _⟩ => ⟨S1024x128, .bf16⟩
  | .hbm, ⟨16, _⟩ => ⟨S_, .bf16⟩
  | .hbm, ⟨17, _⟩ => ⟨S1024x64, .bf16⟩
  | .hbm, ⟨18, _⟩ => ⟨S_, .bf16⟩
  | .hbm, ⟨19, _⟩ => ⟨S1024x32, .bf16⟩
  | .hbm, ⟨20, _⟩ => ⟨S1024x2432, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S2048x1024 : Shape := ⟨2, ![2048, 1024]⟩
abbrev S1024x2208 : Shape := ⟨2, ![1024, 2208]⟩
abbrev S2048x2208 : Shape := ⟨2, ![2048, 2208]⟩
abbrev S2048x384 : Shape := ⟨2, ![2048, 384]⟩
abbrev S2048x256 : Shape := ⟨2, ![2048, 256]⟩
abbrev S2048x512 : Shape := ⟨2, ![2048, 512]⟩
abbrev S_ : Shape := ⟨0, ![]⟩
abbrev S2048x64 : Shape := ⟨2, ![2048, 64]⟩
abbrev S2048x32 : Shape := ⟨2, ![2048, 32]⟩
abbrev S2048x128 : Shape := ⟨2, ![2048, 128]⟩
abbrev S1024x384 : Shape := ⟨2, ![1024, 384]⟩
abbrev S1024x128 : Shape := ⟨2, ![1024, 128]⟩
abbrev S1024x256 : Shape := ⟨2, ![1024, 256]⟩
abbrev S1024x1536 : Shape := ⟨2, ![1024, 1536]⟩
abbrev S1024x64 : Shape := ⟨2, ![1024, 64]⟩
abbrev S1024x32 : Shape := ⟨2, ![1024, 32]⟩
abbrev S1024x2432 : Shape := ⟨2, ![1024, 2432]⟩
abbrev S512x384 : Shape := ⟨2, ![512, 384]⟩
abbrev S512x128 : Shape := ⟨2, ![512, 128]⟩
abbrev S512x256 : Shape := ⟨2, ![512, 256]⟩
abbrev S512x512 : Shape := ⟨2, ![512, 512]⟩
abbrev S512x1024 : Shape := ⟨2, ![512, 1024]⟩
abbrev S512x2432 : Shape := ⟨2, ![512, 2432]⟩

abbrev nBuf : Space → Nat
  | .hbm => 29
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S1024x2208, .f32⟩
  | .hbm, ⟨2, _⟩ => ⟨S2048x2208, .bf16⟩
  | .hbm, ⟨3, _⟩ => ⟨S2048x384, .bf16⟩
  | .hbm, ⟨4, _⟩ => ⟨S2048x256, .bf16⟩
  | .hbm, ⟨5, _⟩ => ⟨S2048x512, .bf16⟩
  | .hbm, ⟨6, _⟩ => ⟨S2048x512, .bf16⟩
  | .hbm, ⟨7, _⟩ => ⟨S2048x512, .bf16⟩
  | .hbm, ⟨8, _⟩ => ⟨S_, .bf16⟩
  | .hbm, ⟨9, _⟩ => ⟨S2048x64, .bf16⟩
  | .hbm, ⟨10, _⟩ => ⟨S2048x32, .bf16⟩
  | .hbm, ⟨11, _⟩ => ⟨S_, .bf16⟩
  | .hbm, ⟨12, _⟩ => ⟨S2048x32, .bf16⟩
  | .hbm, ⟨13, _⟩ => ⟨S2048x128, .bf16⟩
  | .hbm, ⟨14, _⟩ => ⟨S_, .bf16⟩
  | .hbm, ⟨15, _⟩ => ⟨S2048x128, .bf16⟩
  | .hbm, ⟨16, _⟩ => ⟨S1024x2208, .bf16⟩
  | .hbm, ⟨17, _⟩ => ⟨S1024x384, .bf16⟩
  | .hbm, ⟨18, _⟩ => ⟨S_, .bf16⟩
  | .hbm, ⟨19, _⟩ => ⟨S1024x128, .bf16⟩
  | .hbm, ⟨20, _⟩ => ⟨S1024x256, .bf16⟩
  | .hbm, ⟨21, _⟩ => ⟨S1024x1536, .bf16⟩
  | .hbm, ⟨22, _⟩ => ⟨S_, .bf16⟩
  | .hbm, ⟨23, _⟩ => ⟨S1024x64, .bf16⟩
  | .hbm, ⟨24, _⟩ => ⟨S1024x32, .bf16⟩
  | .hbm, ⟨25, _⟩ => ⟨S_, .bf16⟩
  | .hbm, ⟨26, _⟩ => ⟨S1024x32, .bf16⟩
  | .hbm, ⟨27, _⟩ => ⟨S1024x2432, .bf16⟩
  | .hbm, ⟨28, _⟩ => ⟨S2048x1024, .f32⟩
  | .local _ .vmem, ⟨0, _⟩ => ⟨S512x384, .bf16⟩
  | .local _ .vmem, ⟨1, _⟩ => ⟨S512x384, .bf16⟩
  | .local _ .vmem, ⟨2, _⟩ => ⟨S512x128, .bf16⟩
  | .local _ .vmem, ⟨3, _⟩ => ⟨S512x128, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S1024x2432, .bf16⟩
  | .local _ .vmem, ⟨15, _⟩ => ⟨S512x1024, .f32⟩
  | .local _ .vmem, ⟨16, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1024x2432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference11Ideal.lean ====
abbrev S2048x1024 : Shape := ⟨2, ![2048, 1024]⟩
abbrev S1024x2208 : Shape := ⟨2, ![1024, 2208]⟩
abbrev S2048x2208 : Shape := ⟨2, ![2048, 2208]⟩
abbrev S2208x1024 : Shape := ⟨2, ![2208, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2208, .f32⟩
  | .hbm, ⟨2, _⟩ => ⟨S2048x2208, .bf16⟩
  | .hbm, ⟨3, _⟩ => ⟨S2048x1024, .f32⟩
  | .hbm, ⟨4, _⟩ => ⟨S2048x2208, .f32⟩
  | .hbm, ⟨5, _⟩ => ⟨S2048x2208, .f32⟩
  | .hbm, ⟨6, _⟩ => ⟨S2208x1024, .f32⟩
  | .hbm, ⟨7, _⟩ => ⟨S1024x2208, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.BodyParts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Band
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The body of the attention gradient's call, part by part: what each part reads, stores and returns. -/

variable (c : Dev nD) (i : grid0.Coords) (arg1 : Memref sig .tc .vmem S3x2048x128 .bf16) (harg1 : arg1.IsWhole) (arg2 : Memref sig .tc .vmem S1x2x1024 .f32) (harg2 : arg2.IsWhole) (arg3 : Memref sig .tc .vmem S2048x128 .f32) (harg3 : arg3.IsWhole) (arg4 : Memref sig .tc .vmem S3x2048x128 .bf16) (harg4 : arg4.IsWhole) (arg5 : Memref sig .tc .vmem S1x2x1024 .f32) (harg5 : arg5.IsWhole) (arg6 : Memref sig .tc .vmem S2560x128 .bf16) (harg6 : arg6.IsWhole) (arg7 : Memref sig .tc .vmem S2560x128 .bf16) (harg7 : arg7.IsWhole) (arg8 : Memref sig .tc .vmem S2560x128 .f32) (harg8 : arg8.IsWhole) (arg9 : Memref sig .tc .vmem S2560x128 .f32) (harg9 : arg9.IsWhole) (arg10 : Memref sig .tc .vmem S2x256x1024 .f32) (harg10 : arg10.IsWhole)
/-- What is stored to the key buffer: 512 rows of zeros, then the key plane of the block. -/
def keyPieces (X1 : BufTy.Contents (Elt F) arg1.view.ty) : List (View.Piece (Elt F) S2560x128 .bf16) :=
  [⟨Rect.unit (s := S2560x128) ![512, 0] S2048x128.size inb_S2560x128_S2048x128_512_0, k0_pay30 (View.readAt (Elt F) arg1.view (Rect.unit (s := S3x2048x128) ![1, 0, 0] S1x2048x128.size inb_S3x2048x128_S1x2048x128_1_0_0).toLoadRect X1)⟩,
   ⟨Rect.unit (s := S2560x128) ![0, 0] S512x128.size inb_S2560x128_S512x128_0_0, k0_pay28⟩]

/-- What is stored to the value buffer: 512 rows of zeros, then the value plane of the block. -/
def valPieces (X1 : BufTy.Contents (Elt F) arg1.view.ty) : List (View.Piece (Elt F) S2560x128 .bf16) :=
  [⟨Rect.unit (s := S2560x128) ![512, 0] S2048x128.size inb_S2560x128_S2048x128_512_0, k0_pay31 (View.readAt (Elt F) arg1.view (Rect.unit (s := S3x2048x128) ![2, 0, 0] S1x2048x128.size inb_S3x2048x128_S1x2048x128_2_0_0).toLoadRect X1)⟩,
   ⟨Rect.unit (s := S2560x128) ![0, 0] S512x128.size inb_S2560x128_S512x128_0_0, k0_pay29⟩]

/-- The accumulators' first stores: zeros. -/
def dkZero : List (View.Piece (Elt F) S2560x128 .f32) := [⟨Rect.unit (s := S2560x128) ![0, 0] S2560x128.size inb_S2560x128_S2560x128_0_0, k0_pay37⟩]
/-- The same for the values' accumulator. -/
def dvZero : List (View.Piece (Elt F) S2560x128 .f32) := [⟨Rect.unit (s := S2560x128) ![0, 0] S2560x128.size inb_S2560x128_S2560x128_0_0, k0_pay38⟩]
/-- The same for the bias accumulator. -/
def dbZero : List (View.Piece (Elt F) S2x256x1024 .f32) := [⟨Rect.unit (s := S2x256x1024) ![0, 0, 0] S2x256x1024.size inb_S2x256x1024_S2x256x1024_0_0_0, k0_pay39⟩]

/-- The key and value buffers are filled from the block. -/
theorem part4_run (X1 : BufTy.Contents (Elt F) arg1.view.ty) (f6 : BufTy.Contents (Elt F) arg6.view.ty) (f7 : BufTy.Contents (Elt F) arg7.view.ty)
    (E : Set ℕ) (K : (Σ' (_ : FVec F S1x128 .bf16) (_ : FVec F S1x128 .bf16) (_ : IVec S256x768 32), IVec S256x768 32) → sProp 𝕄) :
    iprop((arg1.view.loc (c : Thread nD τ) ↦[arg1.view.set]{fullShare} X1) ∗ (arg6.view.loc (c : Thread nD τ) ↦[arg6.view.set]{fullShare} f6) ∗ (arg7.view.loc (c : Thread nD τ) ↦[arg7.view.set]{fullShare} f7)
        ∗ (iprop((arg1.view.loc (c : Thread nD τ) ↦[arg1.view.set]{fullShare} X1) ∗ (arg6.view.loc (c : Thread nD τ) ↦[arg6.view.set]{fullShare} (arg6.view.writes (Elt F) f6 (keyPieces arg1 X1))) ∗ (arg7.view.loc (c : Thread nD τ) ↦[arg7.view.set]{fullShare} (arg7.view.writes (Elt F) f7 (valPieces arg1 X1)))) -∗ K ⟨k0_pay26, k0_pay27, k0_pay32, k0_pay33⟩))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 ) K := by
  simp only [k0_part4_eq_skeleton]; unfold k0_part4_skel
  iintro ⟨H1, H6, H7, Hk⟩
  sl_exec
  sl_step
  iapply Hk
  isplitl [H1]; · iexact H1
  isplitl [H6]; · iexact H6
  iexact H7

/-- The two heads' bias bands are read and the accumulators set to zero. -/
theorem part5_run (v31 v34 : IVec S256x768 32) (X2 : BufTy.Contents (Elt F) arg2.view.ty) (f8 : BufTy.Contents (Elt F) arg8.view.ty) (f9 : BufTy.Contents (Elt F) arg9.view.ty) (f10 : BufTy.Contents (Elt F) arg10.view.ty)
    (E : Set ℕ) (K : (Σ' (_ : IVec S256x768 1) (_ : FVec F S256x768 .f32) (_ : FVec F S256x768 .f32), BitVec 32) → sProp 𝕄) :
    iprop((arg2.view.loc (c : Thread nD τ) ↦[arg2.view.set]{fullShare} X2) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (iprop((arg2.view.loc (c : Thread nD τ) ↦[arg2.view.set]{fullShare} X2) ∗ (arg8.view.loc (c : Thread nD τ) ↦[arg8.view.set]{fullShare} (arg8.view.writes (Elt F) f8 dkZero)) ∗ (arg9.view.loc (c : Thread nD τ) ↦[arg9.view.set]{fullShare} (arg9.view.writes (Elt F) f9 dvZero)) ∗ (arg10.view.loc (c : Thread nD τ) ↦[arg10.view.set]{fullShare} (arg10.view.writes (Elt F) f10 dbZero))) -∗ K ⟨k0_pay34 v31 v34, k0_pay35 (View.readAt (Elt F) arg2.view (Rect.unit (s := S1x2x1024) ![0, 0, 0] S1x1x1024.size inb_S1x2x1024_S1x1x1024_0_0_0).toLoadRect X2), k0_pay36 (View.readAt (Elt F) arg2.view (Rect.unit (s := S1x2x1024) ![0, 1, 0] S1x1x1024.size inb_S1x2x1024_S1x1x1024_0_1_0).toLoadRect X2), 0#32⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 v31 v34) K := by
  simp only [k0_part5_eq_skeleton]; unfold k0_part5_skel
  iintro ⟨H2, H8, H9, H10, Hk⟩
  sl_exec
  sl_step
  iapply Hk
  isplitl [H2]; · iexact H2
  isplitl [H8]; · iexact H8
  isplitl [H9]; · iexact H9
  iexact H10

/-- The pieces of all eight trips, per written buffer. -/
abbrev loopPieces (v5 v10 : FVec F S1x128 .bf16) (v39 : IVec S256x768 1) (v47 v55 : FVec F S256x768 .f32)
    (X1 : BufTy.Contents (Elt F) arg1.view.ty) (X3 : BufTy.Contents (Elt F) arg3.view.ty) (X6 : BufTy.Contents (Elt F) arg6.view.ty) (X7 : BufTy.Contents (Elt F) arg7.view.ty) (f4 : BufTy.Contents (Elt F) arg4.view.ty) (f8 : BufTy.Contents (Elt F) arg8.view.ty) (f9 : BufTy.Contents (Elt F) arg9.view.ty) (f10 : BufTy.Contents (Elt F) arg10.view.ty) :=
  pb_k0_t1 (F := F) Variants.none c none i arg1 harg1 arg2 harg2 arg3 harg3 arg4 harg4 arg5 harg5 arg6 harg6 arg7 harg7 arg8 harg8 arg9 harg9 arg10 harg10 v5 v10 v39 v47 v55 0#32 X1 X3 X6 X7 f4 f8 f9 f10 k0_t1_loop.trips

/-- What the loop leaves in the bias accumulator. -/
abbrev loopDb (v5 v10 : FVec F S1x128 .bf16) (v39 : IVec S256x768 1) (v47 v55 : FVec F S256x768 .f32)
    (X1 : BufTy.Contents (Elt F) arg1.view.ty) (X3 : BufTy.Contents (Elt F) arg3.view.ty) (X6 : BufTy.Contents (Elt F) arg6.view.ty) (X7 : BufTy.Contents (Elt F) arg7.view.ty) (f4 : BufTy.Contents (Elt F) arg4.view.ty) (f8 : BufTy.Contents (Elt F) arg8.view.ty) (f9 : BufTy.Contents (Elt F) arg9.view.ty) (f10 : BufTy.Contents (Elt F) arg10.view.ty) : BufTy.Contents (Elt F) arg10.view.ty :=
  arg10.view.writes (Elt F) f10 (loopPieces c i arg1 harg1 arg2 harg2 arg3 harg3 arg4 harg4 arg5 harg5 arg6 harg6 arg7 harg7 arg8 harg8 arg9 harg9 arg10 harg10 v5 v10 v39 v47 v55 X1 X3 X6 X7 f4 f8 f9 f10).2.2.2

/-- The pieces of the query, key and value gradient planes. -/
def outPieces (v5 v10 : FVec F S1x128 .bf16) (v39 : IVec S256x768 1) (v47 v55 : FVec F S256x768 .f32)
    (X1 : BufTy.Contents (Elt F) arg1.view.ty) (X3 : BufTy.Contents (Elt F) arg3.view.ty) (X6 : BufTy.Contents (Elt F) arg6.view.ty) (X7 : BufTy.Contents (Elt F) arg7.view.ty) (f4 : BufTy.Contents (Elt F) arg4.view.ty) (f8 : BufTy.Contents (Elt F) arg8.view.ty) (f9 : BufTy.Contents (Elt F) arg9.view.ty) (f10 : BufTy.Contents (Elt F) arg10.view.ty) :
    List (View.Piece (Elt F) S3x2048x128 .bf16) :=
  ⟨Rect.unit (s := S3x2048x128) ![2, 0, 0] S1x2048x128.size inb_S3x2048x128_S1x2048x128_2_0_0, k0_pay42 (View.readAt (Elt F) arg9.view (Rect.unit (s := S2560x128) ![512, 0] S2048x128.size inb_S2560x128_S2048x128_512_0).toLoadRect (arg9.view.writes (Elt F) f9 (loopPieces c i arg1 harg1 arg2 harg2 arg3 harg3 arg4 harg4 arg5 harg5 arg6 harg6 arg7 harg7 arg8 harg8 arg9 harg9 arg10 harg10 v5 v10 v39 v47 v55 X1 X3 X6 X7 f4 f8 f9 f10).2.2.1))⟩ ::
  ⟨Rect.unit (s := S3x2048x128) ![1, 0, 0] S1x2048x128.size inb_S3x2048x128_S1x2048x128_1_0_0, k0_pay41 (View.readAt (Elt F) arg8.view (Rect.unit (s := S2560x128) ![512, 0] S2048x128.size inb_S2560x128_S2048x128_512_0).toLoadRect (arg8.view.writes (Elt F) f8 (loopPieces c i arg1 harg1 arg2 harg2 arg3 harg3 arg4 harg4 arg5 harg5 arg6 harg6 arg7 harg7 arg8 harg8 arg9 harg9 arg10 harg10 v5 v10 v39 v47 v55 X1 X3 X6 X7 f4 f8 f9 f10).2.1))⟩ :: (loopPieces c i arg1 harg1 arg2 harg2 arg3 harg3 arg4 harg4 arg5 harg5 arg6 harg6 arg7 harg7 arg8 harg8 arg9 harg9 arg10 harg10 v5 v10 v39 v47 v55 X1 X3 X6 X7 f4 f8 f9 f10).1

/-- The loop over the eight blocks of query rows, the stores of the key and value gradients, the first rows of the fold. -/
theorem part6_run (v5 v10 : FVec F S1x128 .bf16) (v39 : IVec S256x768 1) (v47 v55 : FVec F S256x768 .f32)
    (X1 : BufTy.Contents (Elt F) arg1.view.ty) (X3 : BufTy.Contents (Elt F) arg3.view.ty) (X6 : BufTy.Contents (Elt F) arg6.view.ty) (X7 : BufTy.Contents (Elt F) arg7.view.ty) (f4 : BufTy.Contents (Elt F) arg4.view.ty) (f8 : BufTy.Contents (Elt F) arg8.view.ty) (f9 : BufTy.Contents (Elt F) arg9.view.ty) (f10 : BufTy.Contents (Elt F) arg10.view.ty)
    (E : Set ℕ) (K : (Σ' (_ : IVec S8x1024 32) (_ : FVec F S8x1024 .f32), FVec F S8x1024 .f32) → sProp 𝕄) :
    iprop((arg1.view.loc (c : Thread nD τ) ↦[arg1.view.set]{fullShare} X1) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg4.view.loc (c : Thread nD τ) ↦[arg4.view.set]{fullShare} f4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (iprop((arg1.view.loc (c : Thread nD τ) ↦[arg1.view.set]{fullShare} X1) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg4.view.loc (c : Thread nD τ) ↦[arg4.view.set]{fullShare} (arg4.view.writes (Elt F) f4 (outPieces c i arg1 harg1 arg2 harg2 arg3 harg3 arg4 harg4 arg5 harg5 arg6 harg6 arg7 harg7 arg8 harg8 arg9 harg9 arg10 harg10 v5 v10 v39 v47 v55 X1 X3 X6 X7 f4 f8 f9 f10))) ∗ (arg8.view.loc (c : Thread nD τ) ↦[arg8.view.set]{fullShare} (arg8.view.writes (Elt F) f8 (loopPieces c i arg1 harg1 arg2 harg2 arg3 harg3 arg4 harg4 arg5 harg5 arg6 harg6 arg7 harg7 arg8 harg8 arg9 harg9 arg10 harg10 v5 v10 v39 v47 v55 X1 X3 X6 X7 f4 f8 f9 f10).2.1)) ∗ (arg9.view.loc (c : Thread nD τ) ↦[arg9.view.set]{fullShare} (arg9.view.writes (Elt F) f9 (loopPieces c i arg1 harg1 arg2 harg2 arg3 harg3 arg4 harg4 arg5 harg5 arg6 harg6 arg7 harg7 arg8 harg8 arg9 harg9 arg10 harg10 v5 v10 v39 v47 v55 X1 X3 X6 X7 f4 f8 f9 f10).2.2.1)) ∗ (arg10.view.loc (c : Thread nD τ) ↦[arg10.view.set]{fullShare} (loopDb c i arg1 harg1 arg2 harg2 arg3 harg3 arg4 harg4 arg5 harg5 arg6 harg6 arg7 harg7 arg8 harg8 arg9 harg9 arg10 harg10 v5 v10 v39 v47 v55 X1 X3 X6 X7 f4 f8 f9 f10))) -∗ K ⟨iota .tc S8x1024 32 [0] iota_S8x1024_d0_w32, k0_pay43 (View.readAt (Elt F) arg10.view (Rect.unit (s := S2x256x1024) ![0, 0, 0] S1x8x1024.size inb_S2x256x1024_S1x8x1024_0_0_0).toLoadRect (loopDb c i arg1 harg1 arg2 harg2 arg3 harg3 arg4 harg4 arg5 harg5 arg6 harg6 arg7 harg7 arg8 harg8 arg9 harg9 arg10 harg10 v5 v10 v39 v47 v55 X1 X3 X6 X7 f4 f8 f9 f10)) (View.readAt (Elt F) arg10.view (Rect.unit (s := S2x256x1024) ![0, 8, 0] S1x8x1024.size inb_S2x256x1024_S1x8x1024_0_8_0).toLoadRect (loopDb c i arg1 harg1 arg2 harg2 arg3 harg3 arg4 harg4 arg5 harg5 arg6 harg6 arg7 harg7 arg8 harg8 arg9 harg9 arg10 harg10 v5 v10 v39 v47 v55 X1 X3 X6 X7 f4 f8 f9 f10)) (View.readAt (Elt F) arg10.view (Rect.unit (s := S2x256x1024) ![0, 16, 0] S1x8x1024.size inb_S2x256x1024_S1x8x1024_0_16_0).toLoadRect (loopDb c i arg1 harg1 arg2 harg2 arg3 harg3 arg4 harg4 arg5 harg5 arg6 harg6 arg7 harg7 arg8 harg8 arg9 harg9 arg10 harg10 v5 v10 v39 v47 v55 X1 X3 X6 X7 f4 f8 f9 f10)) (View.readAt (Elt F) arg10.view (Rect.unit (s := S2x256x1024) ![0, 24, 0] S1x8x1024.size inb_S2x256x1024_S1x8x1024_0_24_0).toLoadRect (loopDb c i arg1 harg1 arg2 harg2 arg3 harg3 arg4 harg4 arg5 harg5 arg6 harg6 arg7 harg7 arg8 harg8 arg9 harg9 arg10 harg10 v5 v10 v39 v47 v55 X1 X3 X6 X7 f4 f8 f9 f10)), k0_pay44 (View.readAt (Elt F) arg10.view (Rect.unit (s := S2x256x1024) ![0, 32, 0] S1x8x1024.size inb_S2x256x1024_S1x8x1024_0_32_0).toLoadRect (loopDb c i arg1 harg1 arg2 harg2 arg3 harg3 arg4 harg4 arg5 harg5 arg6 harg6 arg7 harg7 arg8 harg8 arg9 harg9 arg10 harg10 v5 v10 v39 v47 v55 X1 X3 X6 X7 f4 f8 f9 f10))⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 v5 v10 v39 v47 v55 0#32) K := by
  simp only [k0_part6_eq_skeleton]; unfold k0_part6_skel
  iintro ⟨H1, H3, H6, H7, H4, H8, H9, H10, Hk⟩
  sl_exec
  sl_step
  sl_unfold_words
  iapply Hk
  isplitl [H1]; · iexact H1
  isplitl [H3]; · iexact H3
  isplitl [H6]; · iexact H6
  isplitl [H7]; · iexact H7
  isplitl [H4]; · iexact H4
  isplitl [H8]; · iexact H8
  isplitl [H9]; · iexact H9
  iexact H10

/-- Rows of the first head's fold. -/
theorem part7_run (v93 v95 : FVec F S8x1024 .f32) (X : BufTy.Contents (Elt F) arg10.view.ty)
    (E : Set ℕ) (K : FVec F S8x1024 .f32 → sProp 𝕄) :
    iprop((arg10.view.loc (c : Thread nD τ) ↦[arg10.view.set]{fullShare} X)
        ∗ (iprop((arg10.view.loc (c : Thread nD τ) ↦[arg10.view.set]{fullShare} X)) -∗ K (k0_pay45 v93 v95 (View.readAt (Elt F) arg10.view (Rect.unit (s := S2x256x1024) ![0, 40, 0] S1x8x1024.size inb_S2x256x1024_S1x8x1024_0_40_0).toLoadRect X) (View.readAt (Elt F) arg10.view (Rect.unit (s := S2x256x1024) ![0, 48, 0] S1x8x1024.size inb_S2x256x1024_S1x8x1024_0_48_0).toLoadRect X) (View.readAt (Elt F) arg10.view (Rect.unit (s := S2x256x1024) ![0, 56, 0] S1x8x1024.size inb_S2x256x1024_S1x8x1024_0_56_0).toLoadRect X) (View.readAt (Elt F) arg10.view (Rect.unit (s := S2x256x1024) ![0, 64, 0] S1x8x1024.size inb_S2x256x1024_S1x8x1024_0_64_0).toLoadRect X) (View.readAt (Elt F) arg10.view (Rect.unit (s := S2x256x1024) ![0, 72, 0] S1x8x1024.size inb_S2x256x1024_S1x8x1024_0_72_0).toLoadRect X) (View.readAt (Elt F) arg10.view (Rect.unit (s := S2x256x1024) ![0, 80, 0] S1x8x1024.size inb_S2x256x1024_S1x8x1024_0_80_0).toLoadRect X) (View.readAt (Elt F) arg10.view (Rect.unit (s := S2x256x1024) ![0, 88, 0] S1x8x1024.size inb_S2x256x1024_S1x8x1024_0_88_0).toLoadRect X))))
      ⊢ wp frame (wpE (defs₀ (F := F)) Variants.none c none) E (k0_part7 i arg1 harg1 arg2 harg2 arg3 harg3 arg4 harg4 arg5 harg5 arg6 harg6 arg7 harg7 arg8 harg8 arg9 harg9 arg10 harg10 v93 v95) K := by
  simp only [k0_part7_eq_skeleton]; unfold k0_part7_skel
  iintro ⟨H10, Hk⟩
  sl_exec
  sl_step
  iapply Hk
  iexact H10

/-- Rows of the first head's fold. -/
theorem part8_run (v125 : FVec F S8x1024 .f32) (X : BufTy.Contents (Elt F) arg10.view.ty)
    (E : Set ℕ) (K : (Σ' (_ : FVec F S8x1024 .f32), FVec F S8x1024 .f32) → sProp 𝕄) :
    iprop((arg10.view.loc (c : Thread nD τ) ↦[arg10.view.set]{fullShare} X)
        ∗ (iprop((arg10.view.loc (c : Thread nD τ) ↦[arg10.view.set]{fullShare} X)) -∗ K ⟨k0_pay46 v125 (View.readAt (Elt F) arg10.view (Rect.unit (s := S2x256x1024) ![0, 96, 0] S1x8x1024.size inb_S2x256x1024_S1x8x1024_0_96_0).toLoadRect X) (View.readAt (Elt F) arg10.view (Rect.unit (s := S2x256x1024) ![0, 104, 0] S1x8x1024.size inb_S2x256x1024_S1x8x1024_0_104_0).toLoadRect X) (View.readAt (Elt F) arg10.view (Rect.unit (s := S2x256x1024) ![0, 112, 0] S1x8x1024.size inb_S2x256x1024_S1x8x1024_0_112_0).toLoadRect X) (View.readAt (Elt F) arg10.view (Rect.unit (s := S2x256x1024) ![0, 120, 0] S1x8x1024.size inb_S2x256x1024_S1x8x1024_0_120_0).toLoadRect X) (View.readAt (Elt F) arg10.view (Rect.unit (s := S2x256x1024) ![0, 128, 0] S1x8x1024.size inb_S2x256x1024_S1x8x1024_0_128_0).toLoadRect X) (View.readAt (Elt F) arg10.view (Rect.unit (s := S2x256x1024) ![0, 136, 0] S1x8x1024.size inb_S2x256x1024_S1x8x1024_0_136_0).toLoadRect X) (View.readAt (Elt F) arg10.view (Rect.unit (s := S2x256x1024) ![0, 144, 0] S1x8x1024.size inb_S2x256x1024_S1x8x1024_0_144_0).toLoadRect X), k0_pay47 (View.readAt (Elt F) arg10.view (Rect.unit (s := S2x256x1024) ![0, 152, 0] S1x8x1024.size inb_S2x256x1024_S1x8x1024_0_152_0).toLoadRect X)⟩))
      ⊢ wp frame (wpE (defs₀ (F := F)) Variants.none c none) E (k0_part8 i arg1 harg1 arg2 harg2 arg3 harg3 arg4 harg4 arg5 harg5 arg6 harg6 arg7 harg7 arg8 harg8 arg9 harg9 arg10 harg10 v125) K := by
  simp only [k0_part8_eq_skeleton]; unfold k0_part8_skel
  iintro ⟨H10, Hk⟩
  sl_exec
  sl_step
  iapply Hk
  iexact H10

/-- Rows of the first head's fold. -/
theorem part9_run (v153 v155 : FVec F S8x1024 .f32) (X : BufTy.Contents (Elt F) arg10.view.ty)
    (E : Set ℕ) (K : FVec F S8x1024 .f32 → sProp 𝕄) :
    iprop((arg10.view.loc (c : Thread nD τ) ↦[arg10.view.set]{fullShare} X)
        ∗ (iprop((arg10.view.loc (c : Thread nD τ) ↦[arg10.view.set]{fullShare} X)) -∗ K (k0_pay48 v153 v155 (View.readAt (Elt F) arg10.view (Rect.unit (s := S2x256x1024) ![0, 160, 0] S1x8x1024.size inb_S2x256x1024_S1x8x1024_0_160_0).toLoadRect X) (View.readAt (Elt F) arg10.view (Rect.unit (s := S2x256x1024) ![0, 168, 0] S1x8x1024.size inb_S2x256x1024_S1x8x1024_0_168_0).toLoadRect X) (View.readAt (Elt F) arg10.view (Rect.unit (s := S2x256x1024) ![0, 176, 0] S1x8x1024.size inb_S2x256x1024_S1x8x1024_0_176_0).toLoadRect X) (View.readAt (Elt F) arg10.view (Rect.unit (s := S2x256x1024) ![0, 184, 0] S1x8x1024.size inb_S2x256x1024_S1x8x1024_0_184_0).toLoadRect X) (View.readAt (Elt F) arg10.view (Rect.unit (s := S2x256x1024) ![0, 192, 0] S1x8x1024.size inb_S2x256x1024_S1x8x1024_0_192_0).toLoadRect X) (View.readAt (Elt F) arg10.view (Rect.unit (s := S2x256x1024) ![0, 200, 0] S1x8x1024.size inb_S2x256x1024_S1x8x1024_0_200_0).toLoadRect X) (View.readAt (Elt F) arg10.view (Rect.unit (s := S2x256x1024) ![0, 208, 0] S1x8x1024.size inb_S2x256x1024_S1x8x1024_0_208_0).toLoadRect X))))
      ⊢ wp frame (wpE (defs₀ (F := F)) Variants.none c none) E (k0_part9 i arg1 harg1 arg2 harg2 arg3 harg3 arg4 harg4 arg5 harg5 arg6 harg6 arg7 harg7 arg8 harg8 arg9 harg9 arg10 harg10 v153 v155) K := by
  simp only [k0_part9_eq_skeleton]; unfold k0_part9_skel
  iintro ⟨H10, Hk⟩
  sl_exec
  sl_step
  iapply Hk
  iexact H10

/-- The last rows of the first head's fold. -/
theorem part10_run (v79 : IVec S8x1024 32) (v185 : FVec F S8x1024 .f32) (X : BufTy.Contents (Elt F) arg10.view.ty)
    (E : Set ℕ) (K : (Σ' (_ : FVec F S8x1024 .f32) (_ : FVec F S8x1024 .f32), BitVec 32) → sProp 𝕄) :
    iprop((arg10.view.loc (c : Thread nD τ) ↦[arg10.view.set]{fullShare} X)
        ∗ (iprop((arg10.view.loc (c : Thread nD τ) ↦[arg10.view.set]{fullShare} X)) -∗ K ⟨k0_pay49 v79 v185 (View.readAt (Elt F) arg10.view (Rect.unit (s := S2x256x1024) ![0, 216, 0] S1x8x1024.size inb_S2x256x1024_S1x8x1024_0_216_0).toLoadRect X) (View.readAt (Elt F) arg10.view (Rect.unit (s := S2x256x1024) ![0, 224, 0] S1x8x1024.size inb_S2x256x1024_S1x8x1024_0_224_0).toLoadRect X) (View.readAt (Elt F) arg10.view (Rect.unit (s := S2x256x1024) ![0, 232, 0] S1x8x1024.size inb_S2x256x1024_S1x8x1024_0_232_0).toLoadRect X) (View.readAt (Elt F) arg10.view (Rect.unit (s := S2x256x1024) ![0, 240, 0] S1x8x1024.size inb_S2x256x1024_S1x8x1024_0_240_0).toLoadRect X) (View.readAt (Elt F) arg10.view (Rect.unit (s := S2x256x1024) ![0, 248, 0] S1x8x1024.size inb_S2x256x1024_S1x8x1024_0_248_0).toLoadRect X), k0_pay50 v79 v185 (View.readAt (Elt F) arg10.view (Rect.unit (s := S2x256x1024) ![0, 216, 0] S1x8x1024.size inb_S2x256x1024_S1x8x1024_0_216_0).toLoadRect X) (View.readAt (Elt F) arg10.view (Rect.unit (s := S2x256x1024) ![0, 224, 0] S1x8x1024.size inb_S2x256x1024_S1x8x1024_0_224_0).toLoadRect X) (View.readAt (Elt F) arg10.view (Rect.unit (s := S2x256x1024) ![0, 232, 0] S1x8x1024.size inb_S2x256x1024_S1x8x1024_0_232_0).toLoadRect X) (View.readAt (Elt F) arg10.view (Rect.unit (s := S2x256x1024) ![0, 240, 0] S1x8x1024.size inb_S2x256x1024_S1x8x1024_0_240_0).toLoadRect X) (View.readAt (Elt F) arg10.view (Rect.unit (s := S2x256x1024) ![0, 248, 0] S1x8x1024.size inb_S2x256x1024_S1x8x1024_0_248_0).toLoadRect X), 4#32⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 v79 v185) K := by
  simp only [k0_part10_eq_skeleton]; unfold k0_part10_skel
  iintro ⟨H10, Hk⟩
  sl_exec
  sl_step
  iapply Hk
  iexact H10

/-- The first head's fold is stored; rows of the second's. -/
theorem part11_run (v79 : IVec S8x1024 32) (v217 v218 : FVec F S8x1024 .f32) (c4 : BitVec 32) (f5 : BufTy.Contents (Elt F) arg5.view.ty) (X : BufTy.Contents (Elt F) arg10.view.ty)
    (E : Set ℕ) (K : (Σ' (_ : FVec F S8x1024 .f32), FVec F S8x1024 .f32) → sProp 𝕄) :
    iprop((arg5.view.loc (c : Thread nD τ) ↦[arg5.view.set]{fullShare} f5) ∗ (arg10.view.loc (c : Thread nD τ) ↦[arg10.view.set]{fullShare} X)
        ∗ (iprop((arg5.view.loc (c : Thread nD τ) ↦[arg5.view.set]{fullShare} (arg5.view.writes (Elt F) f5 [⟨Rect.unit (s := S1x2x1024) ![0, 0, 0] S1x1x1024.size inb_S1x2x1024_S1x1x1024_0_0_0, k0_pay51 v79 v217 v218 c4⟩])) ∗ (arg10.view.loc (c : Thread nD τ) ↦[arg10.view.set]{fullShare} X)) -∗ K ⟨k0_pay52 (View.readAt (Elt F) arg10.view (Rect.unit (s := S2x256x1024) ![1, 0, 0] S1x8x1024.size inb_S2x256x1024_S1x8x1024_1_0_0).toLoadRect X) (View.readAt (Elt F) arg10.view (Rect.unit (s := S2x256x1024) ![1, 8, 0] S1x8x1024.size inb_S2x256x1024_S1x8x1024_1_8_0).toLoadRect X) (View.readAt (Elt F) arg10.view (Rect.unit (s := S2x256x1024) ![1, 16, 0] S1x8x1024.size inb_S2x256x1024_S1x8x1024_1_16_0).toLoadRect X) (View.readAt (Elt F) arg10.view (Rect.unit (s := S2x256x1024) ![1, 24, 0] S1x8x1024.size inb_S2x256x1024_S1x8x1024_1_24_0).toLoadRect X) (View.readAt (Elt F) arg10.view (Rect.unit (s := S2x256x1024) ![1, 32, 0] S1x8x1024.size inb_S2x256x1024_S1x8x1024_1_32_0).toLoadRect X), k0_pay53 (View.readAt (Elt F) arg10.view (Rect.unit (s := S2x256x1024) ![1, 40, 0] S1x8x1024.size inb_S2x256x1024_S1x8x1024_1_40_0).toLoadRect X)⟩))
      ⊢ wp frame (wpE (defs₀ (F := F)) Variants.none c none) E (k0_part11 i arg1 harg1 arg2 harg2 arg3 harg3 arg4 harg4 arg5 harg5 arg6 harg6 arg7 harg7 arg8 harg8 arg9 harg9 arg10 harg10 v79 v217 v218 c4) K := by
  simp only [k0_part11_eq_skeleton]; unfold k0_part11_skel
  iintro ⟨H5, H10, Hk⟩
  sl_exec
  sl_step
  iapply Hk
  isplitl [H5]; · iexact H5
  iexact H10

/-- Rows of the second head's fold. -/
theorem part12_run (v246 v249 : FVec F S8x1024 .f32) (X : BufTy.Contents (Elt F) arg10.view.ty)
    (E : Set ℕ) (K : FVec F S8x1024 .f32 → sProp 𝕄) :
    iprop((arg10.view.loc (c : Thread nD τ) ↦[arg10.view.set]{fullShare} X)
        ∗ (iprop((arg10.view.loc (c : Thread nD τ) ↦[arg10.view.set]{fullShare} X)) -∗ K (k0_pay54 v246 v249 (View.readAt (Elt F) arg10.view (Rect.unit (s := S2x256x1024) ![1, 48, 0] S1x8x1024.size inb_S2x256x1024_S1x8x1024_1_48_0).toLoadRect X) (View.readAt (Elt F) arg10.view (Rect.unit (s := S2x256x1024) ![1, 56, 0] S1x8x1024.size inb_S2x256x1024_S1x8x1024_1_56_0).toLoadRect X) (View.readAt (Elt F) arg10.view (Rect.unit (s := S2x256x1024) ![1, 64, 0] S1x8x1024.size inb_S2x256x1024_S1x8x1024_1_64_0).toLoadRect X) (View.readAt (Elt F) arg10.view (Rect.unit (s := S2x256x1024) ![1, 72, 0] S1x8x1024.size inb_S2x256x1024_S1x8x1024_1_72_0).toLoadRect X) (View.readAt (Elt F) arg10.view (Rect.unit (s := S2x256x1024) ![1, 80, 0] S1x8x1024.size inb_S2x256x1024_S1x8x1024_1_80_0).toLoadRect X) (View.readAt (Elt F) arg10.view (Rect.unit (s := S2x256x1024) ![1, 88, 0] S1x8x1024.size inb_S2x256x1024_S1x8x1024_1_88_0).toLoadRect X) (View.readAt (Elt F) arg10.view (Rect.unit (s := S2x256x1024) ![1, 96, 0] S1x8x1024.size inb_S2x256x1024_S1x8x1024_1_96_0).toLoadRect X))))
      ⊢ wp frame (wpE (defs₀ (F := F)) Variants.none c none) E (k0_part12 i arg1 harg1 arg2 harg2 arg3 harg3 arg4 harg4 arg5 harg5 arg6 harg6 arg7 harg7 arg8 harg8 arg9 harg9 arg10 harg10 v246 v249) K := by
  simp only [k0_part12_eq_skeleton]; unfold k0_part12_skel
  iintro ⟨H10, Hk⟩
  sl_exec
  sl_step
  iapply Hk
  iexact H10

/-- Rows of the second head's fold. -/
theorem part13_run (v278 : FVec F S8x1024 .f32) (X : BufTy.Contents (Elt F) arg10.view.ty)
    (E : Set ℕ) (K : (Σ' (_ : FVec F S8x1024 .f32), FVec F S8x1024 .f32) → sProp 𝕄) :
    iprop((arg10.view.loc (c : Thread nD τ) ↦[arg10.view.set]{fullShare} X)
        ∗ (iprop((arg10.view.loc (c : Thread nD τ) ↦[arg10.view.set]{fullShare} X)) -∗ K ⟨k0_pay55 v278 (View.readAt (Elt F) arg10.view (Rect.unit (s := S2x256x1024) ![1, 104, 0] S1x8x1024.size inb_S2x256x1024_S1x8x1024_1_104_0).toLoadRect X) (View.readAt (Elt F) arg10.view (Rect.unit (s := S2x256x1024) ![1, 112, 0] S1x8x1024.size inb_S2x256x1024_S1x8x1024_1_112_0).toLoadRect X) (View.readAt (Elt F) arg10.view (Rect.unit (s := S2x256x1024) ![1, 120, 0] S1x8x1024.size inb_S2x256x1024_S1x8x1024_1_120_0).toLoadRect X) (View.readAt (Elt F) arg10.view (Rect.unit (s := S2x256x1024) ![1, 128, 0] S1x8x1024.size inb_S2x256x1024_S1x8x1024_1_128_0).toLoadRect X) (View.readAt (Elt F) arg10.view (Rect.unit (s := S2x256x1024) ![1, 136, 0] S1x8x1024.size inb_S2x256x1024_S1x8x1024_1_136_0).toLoadRect X) (View.readAt (Elt F) arg10.view (Rect.unit (s := S2x256x1024) ![1, 144, 0] S1x8x1024.size inb_S2x256x1024_S1x8x1024_1_144_0).toLoadRect X) (View.readAt (Elt F) arg10.view (Rect.unit (s := S2x256x1024) ![1, 152, 0] S1x8x1024.size inb_S2x256x1024_S1x8x1024_1_152_0).toLoadRect X), k0_pay56 (View.readAt (Elt F) arg10.view (Rect.unit (s := S2x256x1024) ![1, 160, 0] S1x8x1024.size inb_S2x256x1024_S1x8x1024_1_160_0).toLoadRect X)⟩))
      ⊢ wp frame (wpE (defs₀ (F := F)) Variants.none c none) E (k0_part13 i arg1 harg1 arg2 harg2 arg3 harg3 arg4 harg4 arg5 harg5 arg6 harg6 arg7 harg7 arg8 harg8 arg9 harg9 arg10 harg10 v278) K := by
  simp only [k0_part13_eq_skeleton]; unfold k0_part13_skel
  iintro ⟨H10, Hk⟩
  sl_exec
  sl_step
  iapply Hk
  iexact H10

/-- Rows of the second head's fold. -/
theorem part14_run (v306 v309 : FVec F S8x1024 .f32) (X : BufTy.Contents (Elt F) arg10.view.ty)
    (E : Set ℕ) (K : FVec F S8x1024 .f32 → sProp 𝕄) :
    iprop((arg10.view.loc (c : Thread nD τ) ↦[arg10.view.set]{fullShare} X)
        ∗ (iprop((arg10.view.loc (c : Thread nD τ) ↦[arg10.view.set]{fullShare} X)) -∗ K (k0_pay57 v306 v309 (View.readAt (Elt F) arg10.view (Rect.unit (s := S2x256x1024) ![1, 168, 0] S1x8x1024.size inb_S2x256x1024_S1x8x1024_1_168_0).toLoadRect X) (View.readAt (Elt F) arg10.view (Rect.unit (s := S2x256x1024) ![1, 176, 0] S1x8x1024.size inb_S2x256x1024_S1x8x1024_1_176_0).toLoadRect X) (View.readAt (Elt F) arg10.view (Rect.unit (s := S2x256x1024) ![1, 184, 0] S1x8x1024.size inb_S2x256x1024_S1x8x1024_1_184_0).toLoadRect X) (View.readAt (Elt F) arg10.view (Rect.unit (s := S2x256x1024) ![1, 192, 0] S1x8x1024.size inb_S2x256x1024_S1x8x1024_1_192_0).toLoadRect X) (View.readAt (Elt F) arg10.view (Rect.unit (s := S2x256x1024) ![1, 200, 0] S1x8x1024.size inb_S2x256x1024_S1x8x1024_1_200_0).toLoadRect X) (View.readAt (Elt F) arg10.view (Rect.unit (s := S2x256x1024) ![1, 208, 0] S1x8x1024.size inb_S2x256x1024_S1x8x1024_1_208_0).toLoadRect X) (View.readAt (Elt F) arg10.view (Rect.unit (s := S2x256x1024) ![1, 216, 0] S1x8x1024.size inb_S2x256x1024_S1x8x1024_1_216_0).toLoadRect X))))
      ⊢ wp frame (wpE (defs₀ (F := F)) Variants.none c none) E (k0_part14 i arg1 harg1 arg2 harg2 arg3 harg3 arg4 harg4 arg5 harg5 arg6 harg6 arg7 harg7 arg8 harg8 arg9 harg9 arg10 harg10 v306 v309) K := by
  simp only [k0_part14_eq_skeleton]; unfold k0_part14_skel
  iintro ⟨H10, Hk⟩
  sl_exec
  sl_step
  iapply Hk
  iexact H10

/-- The last rows of the second head's fold. -/
theorem part15_run (v79 : IVec S8x1024 32) (v338 : FVec F S8x1024 .f32) (X : BufTy.Contents (Elt F) arg10.view.ty)
    (E : Set ℕ) (K : FVec F S1x1024 .f32 → sProp 𝕄) :
    iprop((arg10.view.loc (c : Thread nD τ) ↦[arg10.view.set]{fullShare} X)
        ∗ (iprop((arg10.view.loc (c : Thread nD τ) ↦[arg10.view.set]{fullShare} X)) -∗ K (k0_pay58 v79 v338 (View.readAt (Elt F) arg10.view (Rect.unit (s := S2x256x1024) ![1, 224, 0] S1x8x1024.size inb_S2x256x1024_S1x8x1024_1_224_0).toLoadRect X) (View.readAt (Elt F) arg10.view (Rect.unit (s := S2x256x1024) ![1, 232, 0] S1x8x1024.size inb_S2x256x1024_S1x8x1024_1_232_0).toLoadRect X) (View.readAt (Elt F) arg10.view (Rect.unit (s := S2x256x1024) ![1, 240, 0] S1x8x1024.size inb_S2x256x1024_S1x8x1024_1_240_0).toLoadRect X) (View.readAt (Elt F) arg10.view (Rect.unit (s := S2x256x1024) ![1, 248, 0] S1x8x1024.size inb_S2x256x1024_S1x8x1024_1_248_0).toLoadRect X))))
      ⊢ wp frame (wpE (defs₀ (F := F)) Variants.none c none) E (k0_part15 i arg1 harg1 arg2 harg2 arg3 harg3 arg4 harg4 arg5 harg5 arg6 harg6 arg7 harg7 arg8 harg8 arg9 harg9 arg10 harg10 v79 v338) K := by
  simp only [k0_part15_eq_skeleton]; unfold k0_part15_skel
  iintro ⟨H10, Hk⟩
  sl_exec
  sl_step
  iapply Hk
  iexact H10

end Cert.KernelIdeal.Band
-- ==== Proof.BodyLoop.lean ====
module

public import proofs.«01_k».proof.Proof.BodyParts
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Band
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! One trip of the body's loop, and what the whole loop leaves, as functions of what the buffers read. -/

section Trip

/-! What one trip reads of the block `q` of queries, keys and values, of the gradient `g`, of the padded keys and values
    `kw` and `vw`, with the two heads' lane masks `m0 m1`, the band's mask `ok` and the heads' biases `b0 b1`. -/
variable (q : Vec F S3x2048x128 .bf16) (g : Vec F S2048x128 .f32) (kw vw : Vec F S2560x128 .bf16)
  (m0 m1 : FVec F S1x128 .bf16) (ok : IVec S256x768 1) (b0 b1 : FVec F S256x768 .f32) (k : Fin k0_t1_loop.trips)

/-- The rectangle of a trip's query rows. -/
abbrev rowRect : Rect S3x2048x128 := Rect.unit (s := S3x2048x128) (k0_off1 k) S1x256x128.size (k0_off1_inb k)
/-- The rectangle of a trip's key rows. -/
abbrev winRect : Rect S2560x128 := Rect.unit (s := S2560x128) (k0_off2 k) S768x128.size (k0_off2_inb k)
/-- The rectangle of a trip's rows of the gradient. -/
abbrev gradRect : Rect S2048x128 := Rect.unit (s := S2048x128) (k0_off3 k) S256x128.size (k0_off3_inb k)
/-- The first head's part of the bias accumulator. -/
abbrev dbRect0 : Rect S2x256x1024 := Rect.unit (s := S2x256x1024) ![0, 0, 0] S1x256x768.size inb_S2x256x1024_S1x256x768_0_0_0
/-- The second head's part. -/
abbrev dbRect1 : Rect S2x256x1024 := Rect.unit (s := S2x256x1024) ![1, 0, 0] S1x256x768.size inb_S2x256x1024_S1x256x768_1_0_0

/-- The query rows of the trip. -/
def tq : Vec F S1x256x128 .bf16 := View.ld (Val := Elt F) (e' := .bf16) q (rowRect k)
/-- The key rows. -/
def tk : Vec F S768x128 .bf16 := View.ld (Val := Elt F) (e' := .bf16) kw (winRect k)
/-- The value rows. -/
def tv : Vec F S768x128 .bf16 := View.ld (Val := Elt F) (e' := .bf16) vw (winRect k)
/-- The gradient's rows. -/
def tg : Vec F S256x128 .f32 := View.ld (Val := Elt F) (e' := .f32) g (gradRect k)
/-- The first head's softmax. -/
def tp0 : FVec F S256x768 .f32 := k0_pay6 m0 ok b0 0#32 1#32 k (tq q k) (tk kw k)
/-- The second head's scores. -/
def tz1 : FVec F S256x768 .f32 := k0_pay7 m1 ok b1 0#32 1#32 k (tq q k) (tk kw k)
/-- The second head's softmax. -/
def tp1 : FVec F S256x768 .f32 := k0_pay8 (tz1 q kw m1 ok b1 k)
/-- The second head's gradient of the softmax. -/
def tdp1 : FVec F S256x768 .f32 := k0_pay18 m1 (tv vw k) (tg g k)
/-- Its product with the softmax. -/
def tpdp1 : FVec F S256x768 .f32 := k0_pay19 m1 (tv vw k) (tz1 q kw m1 ok b1 k) (tg g k)

/-- What the trip stores of the queries' gradient. -/
def tdq : FVec F S1x256x128 .bf16 :=
  k0_pay23 m1 (tk kw k) (tp1 q kw m1 ok b1 k) (k0_pay15 m0 (tk kw k) (tv vw k) (tp0 q kw m0 ok b0 k) (tg g k)) (tdp1 g vw m1 k) (tpdp1 q g kw vw m1 ok b1 k)
/-- What it stores of the keys' gradient over `x`. -/
def tdk (x : Vec F S768x128 .f32) : FVec F S768x128 .f32 :=
  k0_pay24 (k0_pay5 m1 (tq q k)) (tp1 q kw m1 ok b1 k) (k0_pay16 m0 (tv vw k) (k0_pay4 m0 (tq q k)) (tp0 q kw m0 ok b0 k) (tg g k)) (tdp1 g vw m1 k) (tpdp1 q g kw vw m1 ok b1 k) x
/-- What it stores of the values' gradient over `x`. -/
def tdv (x : Vec F S768x128 .f32) : FVec F S768x128 .f32 :=
  k0_pay40 (k0_pay25 (tp1 q kw m1 ok b1 k) (k0_pay11 m1 (tg g k)) (k0_pay17 m0 (tp0 q kw m0 ok b0 k) (tg g k)) x)
/-- What it stores of the first head's bias gradient over `x`. -/
def tdb0 (x : Vec F S1x256x768 .f32) : FVec F S1x256x768 .f32 := k0_pay13 m0 (tv vw k) (tp0 q kw m0 ok b0 k) (tg g k) x
/-- What it stores of the second head's bias gradient over `x`. -/
def tdb1 (x : Vec F S1x256x768 .f32) : FVec F S1x256x768 .f32 := k0_pay21 (tp1 q kw m1 ok b1 k) (tdp1 g vw m1 k) (tpdp1 q g kw vw m1 ok b1 k) x

/-- The pieces of the queries' gradient after `n` trips, the last first. -/
def dqPieces : ℕ → List (View.Piece (Elt F) S3x2048x128 .bf16)
  | 0 => []
  | n + 1 => if h : n < k0_t1_loop.trips then ⟨rowRect ⟨n, h⟩, tdq q g kw vw m0 m1 ok b0 b1 ⟨n, h⟩⟩ :: dqPieces n else dqPieces n

/-- The keys' accumulator after `n` trips. -/
def accK (x : Vec F S2560x128 .f32) : ℕ → Vec F S2560x128 .f32
  | 0 => x
  | n + 1 => if h : n < k0_t1_loop.trips then
      (winRect ⟨n, h⟩).overlay (accK x n) (tdk q g kw vw m0 m1 ok b0 b1 ⟨n, h⟩ (View.ld (Val := Elt F) (e' := .f32) (accK x n) (winRect ⟨n, h⟩))) else accK x n

/-- The values' accumulator after `n` trips. -/
def accV (x : Vec F S2560x128 .f32) : ℕ → Vec F S2560x128 .f32
  | 0 => x
  | n + 1 => if h : n < k0_t1_loop.trips then
      (winRect ⟨n, h⟩).overlay (accV x n) (tdv q g kw m0 m1 ok b0 b1 ⟨n, h⟩ (View.ld (Val := Elt F) (e' := .f32) (accV x n) (winRect ⟨n, h⟩))) else accV x n

/-- The bias accumulator after `n` trips. -/
def accB (x : Vec F S2x256x1024 .f32) : ℕ → Vec F S2x256x1024 .f32
  | 0 => x
  | n + 1 => if h : n < k0_t1_loop.trips then
      dbRect1.overlay (dbRect0.overlay (accB x n) (tdb0 q g kw vw m0 ok b0 ⟨n, h⟩ (View.ld (Val := Elt F) (e' := .f32) (accB x n) dbRect0)))
        (tdb1 q g kw vw m1 ok b1 ⟨n, h⟩ (View.ld (Val := Elt F) (e' := .f32) (accB x n) dbRect1)) else accB x n

end Trip

/-- A store read back is the store's payload laid over what was there. -/
theorem read_writes_cons {κ : Kind} {sp : Space} {s : Shape} {e : EltTy} (v : View sig κ sp s e) (f : v.ty.Contents (Elt F)) (p : View.Piece (Elt F) s e)
    (L : List (View.Piece (Elt F) s e)) :
    v.read (Elt F) (v.writes (Elt F) f (p :: L)) = p.1.overlay (v.read (Elt F) (v.writes (Elt F) f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · have hy' : y ∉ Finset.univ.map p.1.emb := by rwa [Rect.map_emb_univ]
    rw [View.writes_cons, View.read_slice_write_of_not_mem p.1 _ _ _ hy', Rect.overlay_of_not_mem _ _ _ hy]

variable (c : Dev nD) (i : grid0.Coords) (arg1 : Memref sig .tc .vmem S3x2048x128 .bf16) (harg1 : arg1.IsWhole) (arg2 : Memref sig .tc .vmem S1x2x1024 .f32) (harg2 : arg2.IsWhole) (arg3 : Memref sig .tc .vmem S2048x128 .f32) (harg3 : arg3.IsWhole) (arg4 : Memref sig .tc .vmem S3x2048x128 .bf16) (harg4 : arg4.IsWhole) (arg5 : Memref sig .tc .vmem S1x2x1024 .f32) (harg5 : arg5.IsWhole) (arg6 : Memref sig .tc .vmem S2560x128 .bf16) (harg6 : arg6.IsWhole) (arg7 : Memref sig .tc .vmem S2560x128 .bf16) (harg7 : arg7.IsWhole) (arg8 : Memref sig .tc .vmem S2560x128 .f32) (harg8 : arg8.IsWhole) (arg9 : Memref sig .tc .vmem S2560x128 .f32) (harg9 : arg9.IsWhole) (arg10 : Memref sig .tc .vmem S2x256x1024 .f32) (harg10 : arg10.IsWhole)

/-- One trip's pieces, as functions of what the buffers read. -/
theorem trip_eq (v5 v10 : FVec F S1x128 .bf16) (v39 : IVec S256x768 1) (v47 v55 : FVec F S256x768 .f32)
    (X1 : BufTy.Contents (Elt F) arg1.view.ty) (X3 : BufTy.Contents (Elt F) arg3.view.ty) (X6 : BufTy.Contents (Elt F) arg6.view.ty) (X7 : BufTy.Contents (Elt F) arg7.view.ty) (f4 : BufTy.Contents (Elt F) arg4.view.ty) (f8 : BufTy.Contents (Elt F) arg8.view.ty) (f9 : BufTy.Contents (Elt F) arg9.view.ty) (f10 : BufTy.Contents (Elt F) arg10.view.ty) (k : Fin k0_t1_loop.trips)
    (q : Vec F S3x2048x128 .bf16) (g : Vec F S2048x128 .f32) (kw vw : Vec F S2560x128 .bf16)
    (hq : arg1.view.read (Elt F) X1 = q) (hg : arg3.view.read (Elt F) X3 = g) (hk : arg6.view.read (Elt F) X6 = kw) (hv : arg7.view.read (Elt F) X7 = vw) :
    tripL_k0_t1 (F := F) Variants.none c none i arg1 harg1 arg2 harg2 arg3 harg3 arg4 harg4 arg5 harg5 arg6 harg6 arg7 harg7 arg8 harg8 arg9 harg9 arg10 harg10 v5 v10 v39 v47 v55 0#32 X1 X3 X6 X7 k f4 f8 f9 f10
      = ([⟨rowRect k, tdq q g kw vw v5 v10 v39 v47 v55 k⟩],
         [⟨winRect k, tdk q g kw vw v5 v10 v39 v47 v55 k (View.ld (arg8.view.read (Elt F) f8) (winRect k))⟩],
         [⟨winRect k, tdv q g kw v5 v10 v39 v47 v55 k (View.ld (arg9.view.read (Elt F) f9) (winRect k))⟩],
         [⟨dbRect1, tdb1 q g kw vw v10 v39 v55 k (View.ld (arg10.view.read (Elt F) f10) dbRect1)⟩,
          ⟨dbRect0, tdb0 q g kw vw v5 v39 v47 k (View.ld (arg10.view.read (Elt F) f10) dbRect0)⟩]) := by
  subst hq hg hk hv
  unfold tripL_k0_t1 trip_k0_t1
  dsimp only
  sl_unfold_words
  rfl

/-- What `n` trips leave: the pieces of the queries' gradient, and what the accumulators read. -/
theorem loop_reads (v5 v10 : FVec F S1x128 .bf16) (v39 : IVec S256x768 1) (v47 v55 : FVec F S256x768 .f32)
    (X1 : BufTy.Contents (Elt F) arg1.view.ty) (X3 : BufTy.Contents (Elt F) arg3.view.ty) (X6 : BufTy.Contents (Elt F) arg6.view.ty) (X7 : BufTy.Contents (Elt F) arg7.view.ty) (f4 : BufTy.Contents (Elt F) arg4.view.ty) (f8 : BufTy.Contents (Elt F) arg8.view.ty) (f9 : BufTy.Contents (Elt F) arg9.view.ty) (f10 : BufTy.Contents (Elt F) arg10.view.ty)
    (q : Vec F S3x2048x128 .bf16) (g : Vec F S2048x128 .f32) (kw vw : Vec F S2560x128 .bf16)
    (x8 x9 : Vec F S2560x128 .f32) (x10 : Vec F S2x256x1024 .f32)
    (hq : arg1.view.read (Elt F) X1 = q) (hg : arg3.view.read (Elt F) X3 = g) (hk : arg6.view.read (Elt F) X6 = kw) (hv : arg7.view.read (Elt F) X7 = vw)
    (h8 : arg8.view.read (Elt F) f8 = x8) (h9 : arg9.view.read (Elt F) f9 = x9) (h10 : arg10.view.read (Elt F) f10 = x10) (n : ℕ) (hn : n ≤ k0_t1_loop.trips) :
    let P := pb_k0_t1 (F := F) Variants.none c none i arg1 harg1 arg2 harg2 arg3 harg3 arg4 harg4 arg5 harg5 arg6 harg6 arg7 harg7 arg8 harg8 arg9 harg9 arg10 harg10 v5 v10 v39 v47 v55 0#32 X1 X3 X6 X7 f4 f8 f9 f10 n
    P.1 = dqPieces q g kw vw v5 v10 v39 v47 v55 n
      ∧ arg8.view.read (Elt F) (arg8.view.writes (Elt F) f8 P.2.1) = accK q g kw vw v5 v10 v39 v47 v55 x8 n
      ∧ arg9.view.read (Elt F) (arg9.view.writes (Elt F) f9 P.2.2.1) = accV q g kw v5 v10 v39 v47 v55 x9 n
      ∧ arg10.view.read (Elt F) (arg10.view.writes (Elt F) f10 P.2.2.2) = accB q g kw vw v5 v10 v39 v47 v55 x10 n := by
  induction n with
  | zero => exact ⟨rfl, h8, h9, h10⟩
  | succ n ih =>
    have hlt : n < k0_t1_loop.trips := hn
    obtain ⟨ih1, ih2, ih3, ih4⟩ := ih (Nat.le_of_lt hlt)
    have hs := pb_k0_t1_succ (F := F) Variants.none c none i arg1 harg1 arg2 harg2 arg3 harg3 arg4 harg4 arg5 harg5 arg6 harg6 arg7 harg7 arg8 harg8 arg9 harg9 arg10 harg10 v5 v10 v39 v47 v55 0#32 X1 X3 X6 X7 f4 f8 f9 f10 ⟨n, hlt⟩
    rw [trip_eq c i arg1 harg1 arg2 harg2 arg3 harg3 arg4 harg4 arg5 harg5 arg6 harg6 arg7 harg7 arg8 harg8 arg9 harg9 arg10 harg10 v5 v10 v39 v47 v55 X1 X3 X6 X7 _ _ _ _ ⟨n, hlt⟩ q g kw vw hq hg hk hv] at hs
    dsimp only at hs ih1 ih2 ih3 ih4 ⊢
    rw [hs]
    dsimp only
    refine ⟨?_, ?_, ?_, ?_⟩
    · rw [ih1]; simp only [dqPieces, dif_pos hlt, List.cons_append, List.nil_append]
    · simp only [List.cons_append, List.nil_append]; rw [read_writes_cons, ih2]; simp only [accK, dif_pos hlt]
    · simp only [List.cons_append, List.nil_append]; rw [read_writes_cons, ih3]; simp only [accV, dif_pos hlt]
    · simp only [List.cons_append, List.nil_append]; rw [read_writes_cons, read_writes_cons, ih4]; simp only [accB, dif_pos hlt]
-- ==== Proof.BodyRun.lean ====
module

public import proofs.«01_k».proof.Proof.BodyLoop
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Band
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! What the body of the attention gradient's call leaves in its two outputs, as functions of the blocks it reads. -/

/-- Rows `8g … 8g+7` of head `h` of the bias accumulator. -/
def band (S : Vec F S2x256x1024 .f32) (h : Fin 2) (g : Fin 32) : Vec F S1x8x1024 .f32 :=
  View.ld (Val := Elt F) (e' := .f32) S (Rect.unit (s := S2x256x1024) ![h.val, 8 * g.val, 0] S1x8x1024.size (fun a => by
    have := h.isLt; have := g.isLt
    match a with
    | ⟨0, _⟩ => show h.val + 1 ≤ 2; omega
    | ⟨1, _⟩ => show 8 * g.val + 8 ≤ 256; omega
    | ⟨2, _⟩ => show 0 + 1024 ≤ 1024; omega))

/-- The row numbers of a group of eight rows. -/
def rowNo : IVec S8x1024 32 := iota .tc S8x1024 32 [0] iota_S8x1024_d0_w32

/-- The first head's groups of rows, summed along the diagonals. -/
def groups0 (S : Vec F S2x256x1024 .f32) : FVec F S8x1024 .f32 :=
  k0_pay48 (k0_pay46 (k0_pay45 (k0_pay43 (band S 0 0) (band S 0 1) (band S 0 2) (band S 0 3)) (k0_pay44 (band S 0 4)) (band S 0 5) (band S 0 6) (band S 0 7) (band S 0 8) (band S 0 9) (band S 0 10) (band S 0 11)) (band S 0 12) (band S 0 13) (band S 0 14) (band S 0 15) (band S 0 16) (band S 0 17) (band S 0 18)) (k0_pay47 (band S 0 19)) (band S 0 20) (band S 0 21) (band S 0 22) (band S 0 23) (band S 0 24) (band S 0 25) (band S 0 26)

/-- The first head's row of the bias gradient. -/
def fold0 (S : Vec F S2x256x1024 .f32) : FVec F S1x1x1024 .f32 :=
  k0_pay51 rowNo (k0_pay49 rowNo (groups0 S) (band S 0 27) (band S 0 28) (band S 0 29) (band S 0 30) (band S 0 31)) (k0_pay50 rowNo (groups0 S) (band S 0 27) (band S 0 28) (band S 0 29) (band S 0 30) (band S 0 31)) 4#32

/-- The second head's groups of rows, summed along the diagonals. -/
def groups1 (S : Vec F S2x256x1024 .f32) : FVec F S8x1024 .f32 :=
  k0_pay57 (k0_pay55 (k0_pay54 (k0_pay52 (band S 1 0) (band S 1 1) (band S 1 2) (band S 1 3) (band S 1 4)) (k0_pay53 (band S 1 5)) (band S 1 6) (band S 1 7) (band S 1 8) (band S 1 9) (band S 1 10) (band S 1 11) (band S 1 12)) (band S 1 13) (band S 1 14) (band S 1 15) (band S 1 16) (band S 1 17) (band S 1 18) (band S 1 19)) (k0_pay56 (band S 1 20)) (band S 1 21) (band S 1 22) (band S 1 23) (band S 1 24) (band S 1 25) (band S 1 26) (band S 1 27)

/-- The second head's row of the bias gradient. -/
def fold1 (S : Vec F S2x256x1024 .f32) : FVec F S1x1x1024 .f32 := k0_pay1 (k0_pay58 rowNo (groups1 S) (band S 1 28) (band S 1 29) (band S 1 30) (band S 1 31))

section Outputs

variable (x0 : Vec F S3x2048x128 .bf16) (x1 : Vec F S1x2x1024 .f32) (x2 : Vec F S2048x128 .f32)

/-- The padded keys. -/
def keys : Vec F S2560x128 .bf16 :=
  View.canon [⟨Rect.unit (s := S2560x128) ![512, 0] S2048x128.size inb_S2560x128_S2048x128_512_0, k0_pay30 (View.ld (Val := Elt F) (e' := .bf16) x0 (Rect.unit (s := S3x2048x128) ![1, 0, 0] S1x2048x128.size inb_S3x2048x128_S1x2048x128_1_0_0))⟩,
    ⟨Rect.unit (s := S2560x128) ![0, 0] S512x128.size inb_S2560x128_S512x128_0_0, k0_pay28⟩]
/-- The padded values. -/
def vals : Vec F S2560x128 .bf16 :=
  View.canon [⟨Rect.unit (s := S2560x128) ![512, 0] S2048x128.size inb_S2560x128_S2048x128_512_0, k0_pay31 (View.ld (Val := Elt F) (e' := .bf16) x0 (Rect.unit (s := S3x2048x128) ![2, 0, 0] S1x2048x128.size inb_S3x2048x128_S1x2048x128_2_0_0))⟩,
    ⟨Rect.unit (s := S2560x128) ![0, 0] S512x128.size inb_S2560x128_S512x128_0_0, k0_pay29⟩]
/-- The mask of the band's block diagonal. -/
def inBand : IVec S256x768 1 := k0_pay34 k0_pay32 k0_pay33
/-- The first head's bias on the band. -/
def bias0 : FVec F S256x768 .f32 := k0_pay35 (View.ld (Val := Elt F) (e' := .f32) x1 (Rect.unit (s := S1x2x1024) ![0, 0, 0] S1x1x1024.size inb_S1x2x1024_S1x1x1024_0_0_0))
/-- The second head's bias on the band. -/
def bias1 : FVec F S256x768 .f32 := k0_pay36 (View.ld (Val := Elt F) (e' := .f32) x1 (Rect.unit (s := S1x2x1024) ![0, 1, 0] S1x1x1024.size inb_S1x2x1024_S1x1x1024_0_1_0))

/-- The keys' gradient on the padded rows. -/
def dKeys : Vec F S2560x128 .f32 := accK x0 x2 (keys x0) (vals x0) k0_pay26 k0_pay27 inBand (bias0 x1) (bias1 x1) k0_pay37 k0_t1_loop.trips
/-- The values' gradient on the padded rows. -/
def dVals : Vec F S2560x128 .f32 := accV x0 x2 (keys x0) k0_pay26 k0_pay27 inBand (bias0 x1) (bias1 x1) k0_pay38 k0_t1_loop.trips
/-- The scores' gradient on the band, summed over the blocks of rows. -/
def dBand : Vec F S2x256x1024 .f32 := accB x0 x2 (keys x0) (vals x0) k0_pay26 k0_pay27 inBand (bias0 x1) (bias1 x1) k0_pay39 k0_t1_loop.trips

/-- The pieces of the gradient of queries, keys and values. -/
def gradPieces : List (View.Piece (Elt F) S3x2048x128 .bf16) :=
  ⟨Rect.unit (s := S3x2048x128) ![2, 0, 0] S1x2048x128.size inb_S3x2048x128_S1x2048x128_2_0_0, k0_pay42 (View.ld (Val := Elt F) (e' := .f32) (dVals x0 x1 x2) (Rect.unit (s := S2560x128) ![512, 0] S2048x128.size inb_S2560x128_S2048x128_512_0))⟩ ::
  ⟨Rect.unit (s := S3x2048x128) ![1, 0, 0] S1x2048x128.size inb_S3x2048x128_S1x2048x128_1_0_0, k0_pay41 (View.ld (Val := Elt F) (e' := .f32) (dKeys x0 x1 x2) (Rect.unit (s := S2560x128) ![512, 0] S2048x128.size inb_S2560x128_S2048x128_512_0))⟩ ::
  dqPieces x0 x2 (keys x0) (vals x0) k0_pay26 k0_pay27 inBand (bias0 x1) (bias1 x1) k0_t1_loop.trips
/-- The pieces of the bias gradient's row. -/
def rowPieces : List (View.Piece (Elt F) S1x2x1024 .f32) :=
  [⟨Rect.unit (s := S1x2x1024) ![0, 1, 0] S1x1x1024.size inb_S1x2x1024_S1x1x1024_0_1_0, fold1 (dBand x0 x1 x2)⟩,
   ⟨Rect.unit (s := S1x2x1024) ![0, 0, 0] S1x1x1024.size inb_S1x2x1024_S1x1x1024_0_0_0, fold0 (dBand x0 x1 x2)⟩]

/-- The gradient of queries, keys and values of the block. -/
def outGrad : Vec F S3x2048x128 .bf16 := View.canon (gradPieces x0 x1 x2)
/-- The bias gradient's row of the block. -/
def outRow : Vec F S1x2x1024 .f32 := View.canon (rowPieces x0 x1 x2)

/-- The gradient's pieces cover its block. -/
theorem gradPieces_cover (y : S3x2048x128.Idx) : ∃ p ∈ gradPieces x0 x1 x2, y ∈ p.1.set :=
  View.cover_of_tiledBy (gradPieces x0 x1 x2) ![1, 256, 128] (by sl_kernel_rfl) y
/-- The row's pieces cover its block. -/
theorem rowPieces_cover (y : S1x2x1024.Idx) : ∃ p ∈ rowPieces x0 x1 x2, y ∈ p.1.set :=
  View.cover_of_tiledL (rowPieces x0 x1 x2) S1x1x1024.size (by sl_kernel_rfl) y

end Outputs

variable (c : Dev nD) (i : grid0.Coords) (arg1 : Memref sig .tc .vmem S3x2048x128 .bf16) (harg1 : arg1.IsWhole) (arg2 : Memref sig .tc .vmem S1x2x1024 .f32) (harg2 : arg2.IsWhole) (arg3 : Memref sig .tc .vmem S2048x128 .f32) (harg3 : arg3.IsWhole) (arg4 : Memref sig .tc .vmem S3x2048x128 .bf16) (harg4 : arg4.IsWhole) (arg5 : Memref sig .tc .vmem S1x2x1024 .f32) (harg5 : arg5.IsWhole) (arg6 : Memref sig .tc .vmem S2560x128 .bf16) (harg6 : arg6.IsWhole) (arg7 : Memref sig .tc .vmem S2560x128 .bf16) (harg7 : arg7.IsWhole) (arg8 : Memref sig .tc .vmem S2560x128 .f32) (harg8 : arg8.IsWhole) (arg9 : Memref sig .tc .vmem S2560x128 .f32) (harg9 : arg9.IsWhole) (arg10 : Memref sig .tc .vmem S2x256x1024 .f32) (harg10 : arg10.IsWhole)

/-- The key buffer reads the padded keys. -/
theorem keys_read (X1 : BufTy.Contents (Elt F) arg1.view.ty) (f6 : BufTy.Contents (Elt F) arg6.view.ty) :
    arg6.view.read (Elt F) (arg6.view.writes (Elt F) f6 (keyPieces arg1 X1)) = keys (arg1.view.read (Elt F) X1) :=
  View.read_writes_eq_canon _ _ _ (fun y => View.cover_of_tiledBy (keyPieces arg1 X1) ![512, 128] (by sl_kernel_rfl) y)
/-- The value buffer reads the padded values. -/
theorem vals_read (X1 : BufTy.Contents (Elt F) arg1.view.ty) (f7 : BufTy.Contents (Elt F) arg7.view.ty) :
    arg7.view.read (Elt F) (arg7.view.writes (Elt F) f7 (valPieces arg1 X1)) = vals (arg1.view.read (Elt F) X1) :=
  View.read_writes_eq_canon _ _ _ (fun y => View.cover_of_tiledBy (valPieces arg1 X1) ![512, 128] (by sl_kernel_rfl) y)
/-- The keys' accumulator starts at zeros. -/
theorem dkZero_read (f8 : BufTy.Contents (Elt F) arg8.view.ty) : arg8.view.read (Elt F) (arg8.view.writes (Elt F) f8 dkZero) = k0_pay37 :=
  (View.read_writes_eq_canon _ _ _ (fun y => View.cover_of_tiledBy (dkZero (F := F)) ![2560, 128] (by sl_kernel_rfl) y)).trans
    (View.canon_unit_zero (funext (by decide)) _ _)
/-- The values' accumulator starts at zeros. -/
theorem dvZero_read (f9 : BufTy.Contents (Elt F) arg9.view.ty) : arg9.view.read (Elt F) (arg9.view.writes (Elt F) f9 dvZero) = k0_pay38 :=
  (View.read_writes_eq_canon _ _ _ (fun y => View.cover_of_tiledBy (dvZero (F := F)) ![2560, 128] (by sl_kernel_rfl) y)).trans
    (View.canon_unit_zero (funext (by decide)) _ _)
/-- The bias accumulator starts at zeros. -/
theorem dbZero_read (f10 : BufTy.Contents (Elt F) arg10.view.ty) : arg10.view.read (Elt F) (arg10.view.writes (Elt F) f10 dbZero) = k0_pay39 :=
  (View.read_writes_eq_canon _ _ _ (fun y => View.cover_of_tiledBy (dbZero (F := F)) ![2, 256, 1024] (by sl_kernel_rfl) y)).trans
    (View.canon_unit_zero (funext (by decide)) _ _)

set_option maxHeartbeats 4000000 in
/-- The whole body: from the three blocks to the two outputs, the scratch left at some contents. -/
theorem body_run (x0 : Vec F S3x2048x128 .bf16) (x1 : Vec F S1x2x1024 .f32) (x2 : Vec F S2048x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outGrad x0 x1 x2) ∗ owns (c : Thread nD τ) arg5 fullShare (outRow x0 x1 x2) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_band_attn_bwd i arg1 harg1 arg2 harg2 arg3 harg3 arg4 harg4 arg5 harg5 arg6 harg6 arg7 harg7 arg8 harg8 arg9 harg9 arg10 harg10) K := by
  simp only [cc0_band_attn_bwd_eq_skeleton]; unfold cc0_band_attn_bwd_skel
  unfold owns
  iintro ⟨⟨%f0, %hf0, H1⟩, ⟨%f1, %hf1, H2⟩, ⟨%f2, %hf2, H3⟩, ⟨%d3, %f3, -, H4⟩, ⟨%d4, %f4, -, H5⟩, ⟨%ds0, %fs0, -, H6⟩, ⟨%ds1, %fs1, -, H7⟩, ⟨%ds2, %fs2, -, H8⟩, ⟨%ds3, %fs3, -, H9⟩, ⟨%ds4, %fs4, -, H10⟩, Hk⟩
  subst hf0 hf1 hf2
  obtain ⟨e1, e2, e3, e4⟩ := loop_reads c i arg1 harg1 arg2 harg2 arg3 harg3 arg4 harg4 arg5 harg5 arg6 harg6 arg7 harg7 arg8 harg8 arg9 harg9 arg10 harg10 k0_pay26 k0_pay27 inBand (bias0 (arg2.view.read (Elt F) f1)) (bias1 (arg2.view.read (Elt F) f1)) f0 f2
    (arg6.view.writes (Elt F) fs0 (keyPieces arg1 f0)) (arg7.view.writes (Elt F) fs1 (valPieces arg1 f0)) f3 (arg8.view.writes (Elt F) fs2 dkZero) (arg9.view.writes (Elt F) fs3 dvZero) (arg10.view.writes (Elt F) fs4 dbZero)
    _ _ _ _ _ _ _ rfl rfl (keys_read arg1 arg6 f0 fs0) (vals_read arg1 arg7 f0 fs1) (dkZero_read arg8 fs2) (dvZero_read arg9 fs3) (dbZero_read arg10 fs4) k0_t1_loop.trips le_rfl
  dsimp only at e1 e2 e3 e4
  rw [wp_bind]
  iapply (part4_run c i arg1 harg1 arg2 harg2 arg3 harg3 arg4 harg4 arg5 harg5 arg6 harg6 arg7 harg7 arg8 harg8 arg9 harg9 arg10 harg10 f0 fs0 fs1)
  isplitl [H1]; · iexact H1
  isplitl [H6]; · iexact H6
  isplitl [H7]; · iexact H7
  iintro ⟨H1, H6, H7⟩
  dsimp only
  rw [wp_bind]
  iapply (part5_run c i arg1 harg1 arg2 harg2 arg3 harg3 arg4 harg4 arg5 harg5 arg6 harg6 arg7 harg7 arg8 harg8 arg9 harg9 arg10 harg10 _ _ f1 fs2 fs3 fs4)
  isplitl [H2]; · iexact H2
  isplitl [H8]; · iexact H8
  isplitl [H9]; · iexact H9
  isplitl [H10]; · iexact H10
  iintro ⟨H2, H8, H9, H10⟩
  dsimp only
  rw [wp_bind]
  iapply (part6_run c i arg1 harg1 arg2 harg2 arg3 harg3 arg4 harg4 arg5 harg5 arg6 harg6 arg7 harg7 arg8 harg8 arg9 harg9 arg10 harg10 _ _ _ _ _ f0 f2 _ _ f3 _ _ _)
  isplitl [H1]; · iexact H1
  isplitl [H3]; · iexact H3
  isplitl [H6]; · iexact H6
  isplitl [H7]; · iexact H7
  isplitl [H4]; · iexact H4
  isplitl [H8]; · iexact H8
  isplitl [H9]; · iexact H9
  isplitl [H10]; · iexact H10
  iintro ⟨H1, H3, H6, H7, H4, H8, H9, H10⟩
  dsimp only
  rw [wp_bind]
  iapply (part7_run c i arg1 harg1 arg2 harg2 arg3 harg3 arg4 harg4 arg5 harg5 arg6 harg6 arg7 harg7 arg8 harg8 arg9 harg9 arg10 harg10 _ _ _)
  isplitl [H10]; · iexact H10
  iintro H10
  dsimp only
  rw [wp_bind]
  iapply (part8_run c i arg1 harg1 arg2 harg2 arg3 harg3 arg4 harg4 arg5 harg5 arg6 harg6 arg7 harg7 arg8 harg8 arg9 harg9 arg10 harg10 _ _)
  isplitl [H10]; · iexact H10
  iintro H10
  dsimp only
  rw [wp_bind]
  iapply (part9_run c i arg1 harg1 arg2 harg2 arg3 harg3 arg4 harg4 arg5 harg5 arg6 harg6 arg7 harg7 arg8 harg8 arg9 harg9 arg10 harg10 _ _ _)
  isplitl [H10]; · iexact H10
  iintro H10
  dsimp only
  rw [wp_bind]
  iapply (part10_run c i arg1 harg1 arg2 harg2 arg3 harg3 arg4 harg4 arg5 harg5 arg6 harg6 arg7 harg7 arg8 harg8 arg9 harg9 arg10 harg10 _ _ _)
  isplitl [H10]; · iexact H10
  iintro H10
  dsimp only
  rw [wp_bind]
  iapply (part11_run c i arg1 harg1 arg2 harg2 arg3 harg3 arg4 harg4 arg5 harg5 arg6 harg6 arg7 harg7 arg8 harg8 arg9 harg9 arg10 harg10 _ _ _ _ f4 _)
  isplitl [H5]; · iexact H5
  isplitl [H10]; · iexact H10
  iintro ⟨H5, H10⟩
  dsimp only
  rw [wp_bind]
  iapply (part12_run c i arg1 harg1 arg2 harg2 arg3 harg3 arg4 harg4 arg5 harg5 arg6 harg6 arg7 harg7 arg8 harg8 arg9 harg9 arg10 harg10 _ _ _)
  isplitl [H10]; · iexact H10
  iintro H10
  dsimp only
  rw [wp_bind]
  iapply (part13_run c i arg1 harg1 arg2 harg2 arg3 harg3 arg4 harg4 arg5 harg5 arg6 harg6 arg7 harg7 arg8 harg8 arg9 harg9 arg10 harg10 _ _)
  isplitl [H10]; · iexact H10
  iintro H10
  dsimp only
  rw [wp_bind]
  iapply (part14_run c i arg1 harg1 arg2 harg2 arg3 harg3 arg4 harg4 arg5 harg5 arg6 harg6 arg7 harg7 arg8 harg8 arg9 harg9 arg10 harg10 _ _ _)
  isplitl [H10]; · iexact H10
  iintro H10
  dsimp only
  rw [wp_bind]
  iapply (part15_run c i arg1 harg1 arg2 harg2 arg3 harg3 arg4 harg4 arg5 harg5 arg6 harg6 arg7 harg7 arg8 harg8 arg9 harg9 arg10 harg10 _ _ _)
  isplitl [H10]; · iexact H10
  iintro H10
  dsimp only
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine Eq.trans ?_ (View.read_writes_eq_canon arg4.view f3 _ (gradPieces_cover (arg1.view.read (Elt F) f0) (arg2.view.read (Elt F) f1) (arg3.view.read (Elt F) f2)))
    unfold gradPieces dVals dKeys
    rw [← e1, ← e2, ← e3]
    rfl
  isplitl [H5]
  · iexists _; isplitr; swap; · iexact H5
    ipureintro
    refine Eq.trans ?_ (View.read_writes_eq_canon arg5.view f4 _ (rowPieces_cover (arg1.view.read (Elt F) f0) (arg2.view.read (Elt F) f1) (arg3.view.read (Elt F) f2)))
    unfold rowPieces dBand
    rw [← e4]
    rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl
-- ==== Proof.EReals.lean ====
/-
  Extended reals that are real: sums, quotients and the softmax of a row whose masked entries are `⊥`.
-/
module

public import Idealize.ShloMosaic.Lib.Pointwise

@[expose] public section

noncomputable section

namespace Cert.Band

open Idealize.ShloMosaic

/-- A finite sum of reals is the real sum. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals, the denominator not zero. -/
theorem div_real (a : ℝ) {b : ℝ} (h : b ≠ 0) : Ideal.div (a : EReal) (b : EReal) = ((a / b : ℝ) : EReal) := by
  rw [Ideal.div_coe h, ← EReal.coe_mul]; congr 1; field_simp

section Row

variable {n : ℕ} (ok : Fin n → Prop) [DecidablePred ok] (y : Fin n → ℝ)

/-- A row of scores: `⊥` where masked. -/
def row (i : Fin n) : EReal := if ok i then ((y i : ℝ) : EReal) else ⊥

/-- The maximum of a row with an unmasked entry is a real. -/
theorem row_max {i₀ : Fin n} (h₀ : ok i₀) : ∃ c : ℝ, Finset.univ.fold max ⊥ (row ok y) = (c : EReal) := by
  have e : Finset.univ.fold max ⊥ (row ok y) = Finset.univ.sup (row ok y) := rfl
  obtain ⟨i, -, hi⟩ := Finset.exists_mem_eq_sup (Finset.univ : Finset (Fin n)) ⟨i₀, Finset.mem_univ _⟩ (row ok y)
  have hle : row ok y i₀ ≤ Finset.univ.sup (row ok y) := Finset.le_sup (Finset.mem_univ i₀)
  rw [e, hi] at *
  by_cases hok : ok i
  · exact ⟨y i, by simp [row, hok]⟩
  · simp [row, hok, h₀] at hle

/-- The exponential of a row's entry less a real. -/
theorem row_exp (c : ℝ) (i : Fin n) :
    Ideal.exp (row ok y i - (c : EReal)) = ((if ok i then Real.exp (y i - c) else 0 : ℝ) : EReal) := by
  unfold row
  split_ifs
  · rw [← EReal.coe_sub, Ideal.exp_coe]
  · rw [EReal.bot_sub, Ideal.exp_bot]; rfl

/-- The same to the base two, for scores in units of `log 2`. -/
theorem row_exp2 (c : ℝ) (i : Fin n) :
    Ideal.exp2 (row ok y i - (c : EReal))
      = ((if ok i then Real.exp (Real.log 2 * (y i - c)) else 0 : ℝ) : EReal) := by
  unfold row
  split_ifs
  · rw [← EReal.coe_sub, Ideal.exp2_coe]; congr 1
    exact Real.rpow_def_of_pos (by norm_num) _
  · rw [EReal.bot_sub, Ideal.exp2_bot]; rfl

end Row

end Cert.Band
-- ==== Proof.Dense.lean ====
/-
  The gradient of chunked band attention as plain functions of real arrays: no blocks, no windows, no devices.
  Every array is a function of natural-number coordinates; a column `c` of the 1024 belongs to head `c / 64`.
-/
module

public import Mathlib.Analysis.SpecialFunctions.Log.Basic

@[expose] public section

noncomputable section

namespace Cert.Band

open Finset

/-- The column of the bias table for query row `t` and key row `s`: `t - s` clipped to `[-256, 256]`, plus 256. -/
def rel (t s : ℕ) : ℕ := min (t + 256 - s) 512

/-- Query row `t` sees key row `s`: `s` lies in the chunk of 64 rows of `t` or in one of the eight before it. -/
abbrev Valid (t s : ℕ) : Prop := s / 64 ≤ t / 64 ∧ t / 64 ≤ s / 64 + 8

/-- The real arrays the gradient is taken at: the three planes of `qkv`, the bias table and the upstream gradient. -/
structure Arrays where
  /-- queries, by row and column -/
  q : ℕ → ℕ → ℝ
  /-- keys -/
  k : ℕ → ℕ → ℝ
  /-- values -/
  v : ℕ → ℕ → ℝ
  /-- the relative position bias, by head and clipped distance -/
  b : ℕ → ℕ → ℝ
  /-- the gradient with respect to the attention output -/
  g : ℕ → ℕ → ℝ

namespace Arrays

variable (A : Arrays)

/-- The score of key `s` for query `t` in head `h`. -/
def z (h t s : ℕ) : ℝ := (∑ d ∈ range 64, A.q t (64 * h + d) * A.k s (64 * h + d)) * (1 / 8) + A.b h (rel t s)

/-- The softmax's denominator. -/
def den (h t : ℕ) : ℝ := ∑ s ∈ range 2048, if Valid t s then Real.exp (A.z h t s) else 0

/-- The attention probability. -/
def P (h t s : ℕ) : ℝ := if Valid t s then Real.exp (A.z h t s) / A.den h t else 0

/-- The gradient with respect to the probability. -/
def dP (h t s : ℕ) : ℝ := ∑ d ∈ range 64, A.g t (64 * h + d) * A.v s (64 * h + d)

/-- The gradient with respect to the score. -/
def dS (h t s : ℕ) : ℝ := A.P h t s * (A.dP h t s - ∑ j ∈ range 2048, A.dP h t j * A.P h t j)

/-- The gradient of the queries. -/
def dQ (t c : ℕ) : ℝ := ∑ s ∈ range 2048, A.dS (c / 64) t s * (1 / 8) * A.k s c

/-- The gradient of the keys. -/
def dK (s c : ℕ) : ℝ := ∑ t ∈ range 2048, A.dS (c / 64) t s * (1 / 8) * A.q t c

/-- The gradient of the values. -/
def dV (s c : ℕ) : ℝ := ∑ t ∈ range 2048, A.P (c / 64) t s * A.g t c

/-- The gradient of the bias table: every score's gradient added at its clipped distance. -/
def dB (h r : ℕ) : ℝ := ∑ t ∈ range 2048, ∑ s ∈ range 2048, if rel t s = r then A.dS h t s else 0

/-- The three planes of the gradient of `qkv`. -/
def dQKV (p t c : ℕ) : ℝ := if p = 0 then A.dQ t c else if p = 1 then A.dK t c else A.dV t c

/-- A query sees itself, so the denominator is positive. -/
theorem den_pos (h : ℕ) {t : ℕ} (ht : t < 2048) : 0 < A.den h t := by
  refine Finset.sum_pos' (fun s _ => ?_) ⟨t, mem_range.2 ht, ?_⟩
  · split_ifs
    · exact (Real.exp_pos _).le
    · exact le_rfl
  · rw [if_pos ⟨le_rfl, by omega⟩]; exact Real.exp_pos _

end Arrays

end Cert.Band
-- ==== Proof.Words.lean ====
/-
  The 32-bit words of row numbers: the clipped distance of two rows, the floor of a row by 64 and the window test.
-/
module

public import Idealize.ShloMosaic.Lib.Pointwise
public import proofs.«01_k».proof.Proof.Dense

@[expose] public section

set_option maxRecDepth 16384

noncomputable section

namespace Cert.Band

open Idealize.ShloMosaic

/-- The clip of a distance word, shifted to be a column of the bias table. -/
def clipWord (d : BitVec 32) : BitVec 32 :=
  IntOp.addi (IntOp.minsi 256#32 (IntOp.maxsi 4294967040#32 d)) 256#32

/-- A column word, the length of the table added where it is negative. -/
def wrapWord (d : BitVec 32) : BitVec 32 :=
  Scalar.select (IntOp.cmpi .slt d 0#32) (IntOp.addi d 513#32) d

theorem clip_closed : ∀ k : Fin 4096, wrapWord (clipWord (BitVec.ofNat 32 k - 2048#32)) = BitVec.ofNat 32 (min (k.val - 1792) 512) := by
  decide +kernel

theorem sub_words {t s : ℕ} (ht : t < 2048) (hs : s < 2048) :
    (BitVec.ofNat 32 t - BitVec.ofNat 32 s : BitVec 32) = BitVec.ofNat 32 (t + 2048 - s) - 2048#32 := by
  apply BitVec.eq_of_toNat_eq
  simp only [BitVec.toNat_sub, BitVec.toNat_ofNat]
  omega

/-- The column word of two rows is `rel` of them. -/
theorem clip_word {t s : ℕ} (ht : t < 2048) (hs : s < 2048) :
    wrapWord (clipWord (BitVec.ofNat 32 t - BitVec.ofNat 32 s)) = BitVec.ofNat 32 (rel t s) := by
  rw [sub_words ht hs, clip_closed ⟨t + 2048 - s, by omega⟩]
  congr 1; simp only [rel]; omega

/-- The floor of a word by 64 as the host computes it: the quotient toward zero, corrected where the signs differ. -/
def floorWord (d : BitVec 32) : BitVec 32 :=
  Scalar.select
    (IntOp.andi (IntOp.cmpi .ne (if d = 0 then 0 else if d.msb = true then -1 else 1) (if (64#32 : BitVec 32) = 0 then 0 else if BitVec.msb (64#32) = true then -1 else 1 : BitVec 32))
      (IntOp.cmpi .ne (IntOp.remsi .host d 64#32) 0#32))
    (IntOp.subi (IntOp.divsi .host d 64#32) 1#32) (IntOp.divsi .host d 64#32)

theorem floor_closed : ∀ k : Fin 2048, floorWord (BitVec.ofNat 32 k) = BitVec.ofNat 32 (k.val / 64) := by decide +kernel

/-- The window test on two chunk numbers. -/
def windowWord (a b : BitVec 32) : BitVec 1 :=
  IntOp.andi (IntOp.cmpi .sge (IntOp.subi a b) 0#32) (IntOp.cmpi .sle (IntOp.subi a b) 8#32)

theorem window_closed : ∀ a b : Fin 32, windowWord (BitVec.ofNat 32 a) (BitVec.ofNat 32 b) = if b.val ≤ a.val ∧ a.val ≤ b.val + 8 then 1 else 0 := by
  decide +kernel

/-- The window test on two rows is `Valid`. -/
theorem window_word {t s : ℕ} (ht : t < 2048) (hs : s < 2048) :
    windowWord (floorWord (BitVec.ofNat 32 t)) (floorWord (BitVec.ofNat 32 s)) = if Valid t s then 1 else 0 := by
  rw [floor_closed ⟨t, ht⟩, floor_closed ⟨s, hs⟩, window_closed ⟨t / 64, by omega⟩ ⟨s / 64, by omega⟩]

/-- One eighth, as its word reads. -/
theorem ofBits_eighth : Ideal.ofBits .f32 0x3E000000#32 = ((1 / 8 : ℝ) : EReal) := by
  simp [Ideal.ofBits, Ideal.ieee]
  rw [← EReal.coe_mul]; norm_num

/-- The word of minus infinity. -/
theorem ofBits_neg_inf : Ideal.ofBits .f32 0xFF800000#32 = ⊥ := by
  simp [Ideal.ofBits, Ideal.ieee]

end Cert.Band
-- ==== Proof.Blocks.lean ====
/-
  The band read by blocks: row `256 m + a` of the dense arrays is row `a` of block `m`, and key `s` is column `j` of the
  block's band with `s + 512 = 256 m + j`.
-/
module

public import proofs.«01_k».proof.Proof.Dense
public import Mathlib.Algebra.BigOperators.Intervals

@[expose] public section

noncomputable section

namespace Cert.Band

open Finset

/-- Column `j` of row `a` of block `m` is a key that the row sees. -/
abbrev Ok (m a j : ℕ) : Prop := (a / 64 ≤ j / 64 ∧ j / 64 ≤ a / 64 + 8) ∧ 512 ≤ 256 * m + j

/-- The key of column `j`. -/
abbrev key (m j : ℕ) : ℕ := 256 * m + j - 512

theorem ok_iff {m a j : ℕ} : Ok m a j ↔ 512 ≤ 256 * m + j ∧ Valid (256 * m + a) (key m j) := by
  simp only [Ok, Valid, key]; omega

theorem rel_key {m a j : ℕ} (h : 512 ≤ 256 * m + j) : rel (256 * m + a) (key m j) = min (768 + a - j) 512 := by
  simp only [rel, key]; omega

/-- A sum over the columns a row sees is the sum over the keys it sees. -/
theorem band_sum {M : Type*} [AddCommMonoid M] {m a : ℕ} (hm : m < 8) (ha : a < 256) (f : ℕ → M) :
    ∑ j ∈ range 768, (if Ok m a j then f (key m j) else 0) = ∑ s ∈ range 2048, if Valid (256 * m + a) s then f s else 0 := by
  rw [← sum_filter, ← sum_filter]
  refine sum_bij' (fun j _ => key m j) (fun s _ => s + 512 - 256 * m) ?_ ?_ ?_ ?_ ?_
  · intro j hj
    simp only [mem_filter, mem_range, ok_iff] at hj ⊢
    exact ⟨by simp only [key]; simp only [Valid, key] at hj; omega, hj.2.2⟩
  · intro s hs
    simp only [mem_filter, mem_range, Ok, Valid] at hs ⊢
    omega
  · intro j hj
    simp only [mem_filter, mem_range, Ok] at hj
    simp only [key]; omega
  · intro s hs
    simp only [mem_filter, mem_range, Valid] at hs
    simp only [key]; omega
  · intro j _; rfl

/-- A sum over the lanes of one head of a block. -/
theorem lane_sum {hh : ℕ} (h : hh < 2) (f : ℕ → ℝ) :
    ∑ l ∈ range 128, f l * (if l / 64 = hh then 1 else 0) = ∑ d ∈ range 64, f (64 * hh + d) := by
  rw [show (128 : ℕ) = 64 + 64 from rfl, sum_range_add]
  have e0 : ∀ l ∈ range 64, f l * (if l / 64 = hh then 1 else 0 : ℝ) = if hh = 0 then f l else 0 := by
    intro l hl; rw [mem_range] at hl; rw [show l / 64 = 0 by omega]; rcases hh with _ | _ | hh <;> simp
  have e1 : ∀ l ∈ range 64, f (64 + l) * (if (64 + l) / 64 = hh then 1 else 0 : ℝ) = if hh = 1 then f (64 + l) else 0 := by
    intro l hl; rw [mem_range] at hl; rw [show (64 + l) / 64 = 1 by omega]; rcases hh with _ | _ | hh <;> simp
  rw [sum_congr rfl e0, sum_congr rfl e1]
  obtain rfl | rfl : hh = 0 ∨ hh = 1 := by omega
  · simp
  · simp

namespace Arrays

variable (A : Arrays)

theorem P_zero {h t s : ℕ} (hv : ¬ Valid t s) : A.P h t s = 0 := if_neg hv
theorem dS_zero {h t s : ℕ} (hv : ¬ Valid t s) : A.dS h t s = 0 := by rw [dS, P_zero A hv, zero_mul]

/-- The probability on the band. -/
def bP (h m a j : ℕ) : ℝ := if Ok m a j then A.P h (256 * m + a) (key m j) else 0
/-- The gradient of the probability on the band, zero on the padding. -/
def bdP (h m a j : ℕ) : ℝ := if 512 ≤ 256 * m + j then A.dP h (256 * m + a) (key m j) else 0
/-- The gradient of the score on the band. -/
def bdS (h m a j : ℕ) : ℝ := if Ok m a j then A.dS h (256 * m + a) (key m j) else 0

/-- The denominator is the sum over the band. -/
theorem band_den {h m a : ℕ} (hm : m < 8) (ha : a < 256) :
    ∑ j ∈ range 768, (if Ok m a j then Real.exp (A.z h (256 * m + a) (key m j)) else 0) = A.den h (256 * m + a) :=
  band_sum hm ha fun s => Real.exp (A.z h (256 * m + a) s)

/-- The row sum of the softmax's gradient is the sum over the band. -/
theorem band_dot {h m a : ℕ} (hm : m < 8) (ha : a < 256) :
    ∑ j ∈ range 768, A.bdP h m a j * A.bP h m a j = ∑ s ∈ range 2048, A.dP h (256 * m + a) s * A.P h (256 * m + a) s := by
  refine Eq.trans ?_ ((band_sum hm ha fun s => A.dP h (256 * m + a) s * A.P h (256 * m + a) s).trans ?_)
  · refine sum_congr rfl fun j _ => ?_
    unfold bdP bP
    by_cases h1 : Ok m a j
    · rw [if_pos h1, if_pos h1, if_pos h1.2]
    · rw [if_neg h1, if_neg h1, mul_zero]
  · refine sum_congr rfl fun s _ => ?_
    split_ifs with hv
    · rfl
    · rw [P_zero A hv, mul_zero]

theorem bdS_eq {h m a j : ℕ} (hm : m < 8) (ha : a < 256) :
    A.bP h m a j * (A.bdP h m a j - ∑ j' ∈ range 768, A.bdP h m a j' * A.bP h m a j') = A.bdS h m a j := by
  rw [band_dot A hm ha]
  unfold bP bdP bdS
  by_cases h1 : Ok m a j
  · rw [if_pos h1, if_pos h1, if_pos h1.2]; rfl
  · rw [if_neg h1, if_neg h1, zero_mul]

/-- A sum of the score's gradient along a row of the band. -/
theorem row_sum {h m a : ℕ} (hm : m < 8) (ha : a < 256) (f : ℕ → ℝ) :
    ∑ j ∈ range 768, A.bdS h m a j * (if 512 ≤ 256 * m + j then f (key m j) else 0) = ∑ s ∈ range 2048, A.dS h (256 * m + a) s * f s := by
  refine Eq.trans ?_ ((band_sum hm ha fun s => A.dS h (256 * m + a) s * f s).trans ?_)
  · refine sum_congr rfl fun j _ => ?_
    unfold bdS
    by_cases h1 : Ok m a j
    · rw [if_pos h1, if_pos h1, if_pos h1.2]
    · rw [if_neg h1, if_neg h1, zero_mul]
  · refine sum_congr rfl fun s _ => ?_
    split_ifs with hv
    · rfl
    · rw [dS_zero A hv, zero_mul]

/-- On a key's own column the band holds the dense value. -/
theorem bdS_key {h m a s : ℕ} (h1 : 256 * m ≤ s + 512) : A.bdS h m a (s + 512 - 256 * m) = A.dS h (256 * m + a) s := by
  have e : key m (s + 512 - 256 * m) = s := by simp only [key]; omega
  unfold bdS
  rw [e]
  split_ifs with hk
  · rfl
  · rw [ok_iff, e] at hk
    exact (dS_zero A fun hv => hk ⟨by omega, hv⟩).symm
theorem bP_key {h m a s : ℕ} (h1 : 256 * m ≤ s + 512) : A.bP h m a (s + 512 - 256 * m) = A.P h (256 * m + a) s := by
  have e : key m (s + 512 - 256 * m) = s := by simp only [key]; omega
  unfold bP
  rw [e]
  split_ifs with hk
  · rfl
  · rw [ok_iff, e] at hk
    exact (P_zero A fun hv => hk ⟨by omega, hv⟩).symm

end Arrays

/-- A key outside the block's window is seen by none of its rows. -/
theorem not_valid_of_outside {m a s : ℕ} (ha : a < 256) (h : ¬ (256 * m ≤ s + 512 ∧ s + 512 < 256 * m + 768)) : ¬ Valid (256 * m + a) s := by
  simp only [Valid]; omega

end Cert.Band

end
-- ==== Proof.Payload.lean ====
/-
  The body's payloads over the extended reals, read at an index: for each of the two heads of a block the scores, the
  softmax, the gradient of the softmax and of the scores on the band.
-/
module

public import Idealize.ShloMosaic.Lib.Pointwise
public import Idealize.ShloMosaic.Lib.IdealHost
public import Idealize.ShloMosaic.PureOps.IdealRules
public import proofs.«01_k».proof.Proof.BodyRun
public import proofs.«01_k».proof.Proof.EReals
public import proofs.«01_k».proof.Proof.Words
public import proofs.«01_k».proof.Proof.Blocks

@[expose] public section

set_option maxRecDepth 16384

noncomputable section

namespace Cert.KernelIdeal.Band

open Idealize.ShloMosaic Cert.KernelIdeal Cert.KernelIdeal.Gen Cert.Band

/-- The lane mask of a head of a block. -/
def lane (hh l : ℕ) : ℝ := if l / 64 = hh then 1 else 0

theorem lane_word0 : ∀ l : Fin 128, IntOp.cmpi .slt (BitVec.ofNat 32 l.val) 64#32 = if l.val / 64 = 0 then 1#1 else 0#1 := by decide +kernel
theorem lane_word1 : ∀ l : Fin 128, IntOp.cmpi .sge (BitVec.ofNat 32 l.val) 64#32 = if l.val / 64 = 1 then 1#1 else 0#1 := by decide +kernel

/-- A bit as a float. -/
theorem bit_float (p : Prop) [Decidable p] :
    @Eq EReal (FloatOps.sitofp (F := Ideal) .f32 (BitVec.setWidth 32 (if p then 1#1 else 0#1))) ((if p then 1 else 0 : ℝ) : EReal) := by
  split_ifs
  · show (((BitVec.setWidth 32 1#1).toInt : ℝ) : EReal) = _
    norm_num
  · show (((BitVec.setWidth 32 0#1).toInt : ℝ) : EReal) = _
    norm_num

/-- The first head's lanes. -/
theorem pay26_at (l : Fin 128) : k0_pay26 (F := Ideal) (ix2 0 l) = ((lane 0 l : ℝ) : EReal) := by
  pointwise [k0_pay26]
  rw [lane_word0, bit_float]; rfl

/-- The second head's lanes. -/
theorem pay27_at (l : Fin 128) : k0_pay27 (F := Ideal) (ix2 0 l) = ((lane 1 l : ℝ) : EReal) := by
  pointwise [k0_pay27]
  rw [lane_word1, bit_float]; rfl

theorem shift_word : ∀ j : Fin 768, IntOp.shrui .vector (BitVec.ofNat 32 j.val) 6#32 = BitVec.ofNat 32 (j.val / 64) := by decide +kernel
theorem chunk_word : ∀ (a : Fin 4) (j : Fin 12), IntOp.andi (IntOp.cmpi .sge (BitVec.ofNat 32 j.val) (BitVec.ofNat 32 a.val))
    (IntOp.cmpi .sle (BitVec.ofNat 32 j.val) (IntOp.addi (BitVec.ofNat 32 a.val) 8#32)) = if a.val ≤ j.val ∧ j.val ≤ a.val + 8 then 1#1 else 0#1 := by
  decide +kernel
theorem pad_word : ∀ (k : Fin 8) (j : Fin 768), IntOp.cmpi .sge
    (IntOp.addi (Scalar.subi (Scalar.muli (Scf.iv 0#32 1#32 k.val) 256#32) 512#32) (BitVec.ofNat 32 j.val)) 0#32
      = if 512 ≤ 256 * k.val + j.val then 1#1 else 0#1 := by decide +kernel

/-- The band's block diagonal. -/
theorem inBand_at (a : Fin 256) (j : Fin 768) :
    inBand (ix2 a j) = if a.val / 64 ≤ j.val / 64 ∧ j.val / 64 ≤ a.val / 64 + 8 then 1#1 else 0#1 := by
  unfold inBand
  pointwise [k0_pay34, k0_pay32, k0_pay33]
  rw [shift_word j, shift_word ⟨a, by omega⟩, chunk_word ⟨a / 64, by omega⟩ ⟨j / 64, by omega⟩]

theorem and_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem select_row (p : Prop) [Decidable p] (x y : EReal) : Scalar.select (if p then 1#1 else 0#1) x y = if p then x else y := by
  split_ifs <;> rfl

theorem named_scale : @Eq EReal (Named.named (F := Ideal) (φ := .f32) κ "scale_log2e" 0x3E38AA3B#32) (((1 / 8) * (Real.log 2)⁻¹ : ℝ) : EReal) := by
  exact IdealRules.named_const.ideal_named_scalar κ "scale_log2e" (φ := .f32) _ _ rfl
theorem named_log2e : @Eq EReal (Named.named (F := Ideal) (φ := .f32) κ "log2e" 0x3FB8AA3B#32) (((Real.log 2)⁻¹ : ℝ) : EReal) := by
  exact IdealRules.named_const.ideal_named_scalar κ "log2e" (φ := .f32) _ _ rfl
theorem named_masked : @Eq EReal (Named.named (F := Ideal) (φ := .f32) κ "masked" 0xF149F2CA#32) ⊥ := by
  exact IdealRules.named_const.ideal_named_scalar κ "masked" (φ := .f32) _ _ rfl

end Cert.KernelIdeal.Band
-- ==== Proof.Rects.lean ====
/-
  Loads and stores of unit-stride rectangles, read at an index.
-/
module

public import Idealize.ShloMosaic.Lib.Pipeline.Value

@[expose] public section

noncomputable section

namespace Cert.Band

open Idealize.ShloMosaic

variable {s : Shape} {α : Type}

/-- Inside the rectangle the store's payload is read. -/
theorem overlay_in (r : Rect s) (hs : ∀ a, r.stride a = 1) (X : s.Idx → α) (Y : r.shape.Idx → α) (i : s.Idx) (x : r.shape.Idx)
    (h : ∀ a, (i a).val = r.off a + (x a).val) : r.overlay X Y i = Y x := by
  have e : i = r.emb x := funext fun a => Fin.ext (by rw [h a, Rect.emb_apply, hs a, one_mul])
  rw [e, Rect.overlay_emb]

/-- Outside it, what was there. -/
theorem overlay_out (r : Rect s) (hs : ∀ a, r.stride a = 1) (X : s.Idx → α) (Y : r.shape.Idx → α) (i : s.Idx) (a : Fin s.rank)
    (h : (i a).val < r.off a ∨ r.off a + r.size a ≤ (i a).val) : r.overlay X Y i = X i := by
  refine Rect.overlay_of_not_mem _ _ _ fun hm => ?_
  obtain ⟨j, hj, e⟩ := r.mem_set.mp hm a
  rw [hs a, one_mul] at e
  omega

/-- A load at an index. -/
theorem ld_at {Val : EltTy → Type} {e : EltTy} (X : s.Idx → Val e) (r : Rect s) (hs : ∀ a, r.stride a = 1) (x : r.shape.Idx) (i : s.Idx)
    (h : ∀ a, (i a).val = r.off a + (x a).val) : View.ld X r x = X i :=
  congrArg X (funext fun a => Fin.ext (by
    show r.off a + r.stride a * (x a).val = (i a).val
    rw [h a, hs a, one_mul]))

end Cert.Band

end
-- ==== Proof.TripValue.lean ====
/-
  One trip of the body's loop over the extended reals: for real blocks of the arrays, the trip's payloads are the dense
  arrays read on the band.
-/
module

public import proofs.«01_k».proof.Proof.Payload
public import proofs.«01_k».proof.Proof.Rects

@[expose] public section

set_option maxRecDepth 16384

noncomputable section

namespace Cert.KernelIdeal.Band

open Idealize.ShloMosaic Cert.KernelIdeal Cert.KernelIdeal.Gen Cert.Band

/-- The column of the bias table that the row of biases holds at distance `u`. -/
def relU (u : ℕ) : ℕ := if 768 ≤ u then 512 else min (768 - u) 512

/-- The blocks the body reads for the heads `2 p` and `2 p + 1`. -/
structure Blocks (A : Arrays) (p : ℕ) (x0 : Vec Ideal S3x2048x128 .bf16) (x1 : Vec Ideal S1x2x1024 .f32) (x2 : Vec Ideal S2048x128 .f32) : Prop where
  /-- queries -/
  q : ∀ (t : Fin 2048) (l : Fin 128), x0 (ix3 0 t l) = ((A.q t (128 * p + l) : ℝ) : EReal)
  /-- keys -/
  k : ∀ (t : Fin 2048) (l : Fin 128), x0 (ix3 1 t l) = ((A.k t (128 * p + l) : ℝ) : EReal)
  /-- values -/
  v : ∀ (t : Fin 2048) (l : Fin 128), x0 (ix3 2 t l) = ((A.v t (128 * p + l) : ℝ) : EReal)
  /-- biases by distance -/
  b : ∀ (hh : Fin 2) (u : Fin 1024), x1 (ix3 0 hh u) = ((A.b (2 * p + hh) (relU u) : ℝ) : EReal)
  /-- the upstream gradient -/
  g : ∀ (t : Fin 2048) (l : Fin 128), x2 (ix2 t l) = ((A.g t (128 * p + l) : ℝ) : EReal)

theorem off1_eq : ∀ (k : Fin k0_t1_loop.trips) (a : Fin 3), k0_off1 k a = ![0, 256 * k.val, 0] a := by decide +kernel
theorem off2_eq : ∀ (k : Fin k0_t1_loop.trips) (a : Fin 2), k0_off2 k a = ![256 * k.val, 0] a := by decide +kernel
theorem off3_eq : ∀ (k : Fin k0_t1_loop.trips) (a : Fin 2), k0_off3 k a = ![256 * k.val, 0] a := by decide +kernel

theorem trips_lt (k : Fin k0_t1_loop.trips) : k.val < 8 := k.isLt

/-- Padded rows: zero before row 512. -/
def pad (f : ℕ → ℕ → ℝ) (r c : ℕ) : ℝ := if 512 ≤ r then f (r - 512) c else 0

section Padded

variable {A : Arrays} {p : ℕ} {x0 : Vec Ideal S3x2048x128 .bf16} {x1 : Vec Ideal S1x2x1024 .f32} {x2 : Vec Ideal S2048x128 .f32}
  (H : Blocks A p x0 x1 x2)
include H

/-- The padded keys. -/
theorem keys_at (r : Fin 2560) (l : Fin 128) : keys x0 (ix2 r l) = ((pad A.k r (128 * p + l) : ℝ) : EReal) := by
  unfold keys pad
  rw [View.canon_cons]
  by_cases hr : 512 ≤ r.val
  · rw [if_pos hr]
    refine (overlay_in _ (fun _ => rfl) _ _ _ (ix2 (⟨r.val - 512, by omega⟩ : Fin 2048) l) (fun a => ?_)).trans ?_
    · match a with
      | 0 => show r.val = 512 + (r.val - 512); omega
      | 1 => show l.val = 0 + l.val; omega
    · pointwise [k0_pay30]
      exact H.k ⟨r.val - 512, by omega⟩ l
  · rw [if_neg hr]
    refine (overlay_out _ (fun _ => rfl) _ _ _ (0 : Fin 2) (Or.inl ?_)).trans ?_
    · show r.val < 512; omega
    rw [View.canon_cons]
    refine (overlay_in _ (fun _ => rfl) _ _ _ (ix2 (⟨r.val, by omega⟩ : Fin 512) l) (fun a => ?_)).trans ?_
    · match a with
      | 0 => exact (Nat.zero_add _).symm
      | 1 => exact (Nat.zero_add _).symm
    · pointwise [k0_pay28]
      exact EReal.coe_zero.symm

/-- The padded values. -/
theorem vals_at (r : Fin 2560) (l : Fin 128) : vals x0 (ix2 r l) = ((pad A.v r (128 * p + l) : ℝ) : EReal) := by
  unfold vals pad
  rw [View.canon_cons]
  by_cases hr : 512 ≤ r.val
  · rw [if_pos hr]
    refine (overlay_in _ (fun _ => rfl) _ _ _ (ix2 (⟨r.val - 512, by omega⟩ : Fin 2048) l) (fun a => ?_)).trans ?_
    · match a with
      | 0 => show r.val = 512 + (r.val - 512); omega
      | 1 => show l.val = 0 + l.val; omega
    · pointwise [k0_pay31]
      exact H.v ⟨r.val - 512, by omega⟩ l
  · rw [if_neg hr]
    refine (overlay_out _ (fun _ => rfl) _ _ _ (0 : Fin 2) (Or.inl ?_)).trans ?_
    · show r.val < 512; omega
    rw [View.canon_cons]
    refine (overlay_in _ (fun _ => rfl) _ _ _ (ix2 (⟨r.val, by omega⟩ : Fin 512) l) (fun a => ?_)).trans ?_
    · match a with
      | 0 => exact (Nat.zero_add _).symm
      | 1 => exact (Nat.zero_add _).symm
    · pointwise [k0_pay29]
      exact EReal.coe_zero.symm

/-- The biases of a head on the band. -/
theorem bias0_at (a : Fin 256) (j : Fin 768) :
    bias0 x1 (ix2 a j) = ((A.b (2 * p + 0) (min (768 + a.val - j.val) 512) * (Real.log 2)⁻¹ : ℝ) : EReal) := by
  unfold bias0
  pointwise [k0_pay35]
  refine (congrArg₂ (fun x y : EReal => x * y) (H.b 0 ⟨(j.val + 1024 - a.val % 1024) % 1024, by omega⟩) named_log2e).trans ?_
  have e : relU ((j.val + 1024 - a.val % 1024) % 1024) = min (768 + a.val - j.val) 512 := by unfold relU; split_ifs <;> omega
  show ((A.b (2 * p + 0) (relU ((j.val + 1024 - a.val % 1024) % 1024)) : ℝ) : EReal) * _ = _
  rw [e, ← EReal.coe_mul]
  rfl

theorem bias1_at (a : Fin 256) (j : Fin 768) :
    bias1 x1 (ix2 a j) = ((A.b (2 * p + 1) (min (768 + a.val - j.val) 512) * (Real.log 2)⁻¹ : ℝ) : EReal) := by
  unfold bias1
  pointwise [k0_pay36]
  refine (congrArg₂ (fun x y : EReal => x * y) (H.b 1 ⟨(j.val + 1024 - a.val % 1024) % 1024, by omega⟩) named_log2e).trans ?_
  have e : relU ((j.val + 1024 - a.val % 1024) % 1024) = min (768 + a.val - j.val) 512 := by unfold relU; split_ifs <;> omega
  show ((A.b (2 * p + 1) (relU ((j.val + 1024 - a.val % 1024) % 1024)) : ℝ) : EReal) * _ = _
  rw [e, ← EReal.coe_mul]

/-- A trip's query rows. -/
theorem tq_at (k : Fin k0_t1_loop.trips) (a : Fin 256) (l : Fin 128) : tq x0 k (ix3 0 a l) = ((A.q (256 * k + a) (128 * p + l) : ℝ) : EReal) := by
  have := trips_lt k
  refine (ld_at _ _ (fun _ => rfl) _ (ix3 0 (⟨256 * k.val + a.val, by omega⟩ : Fin 2048) l) (fun i => ?_)).trans (H.q _ _)
  have e := off1_eq k i
  match i with
  | 0 => exact ((Nat.add_zero _).trans e).symm
  | 1 => exact (congrArg (· + a.val) e).symm
  | 2 => exact ((congrArg (· + l.val) e).trans (Nat.zero_add _)).symm

/-- A trip's rows of the upstream gradient. -/
theorem tg_at (k : Fin k0_t1_loop.trips) (a : Fin 256) (l : Fin 128) : tg x2 k (ix2 a l) = ((A.g (256 * k + a) (128 * p + l) : ℝ) : EReal) := by
  have := trips_lt k
  refine (ld_at _ _ (fun _ => rfl) _ (ix2 (⟨256 * k.val + a.val, by omega⟩ : Fin 2048) l) (fun i => ?_)).trans (H.g _ _)
  have e := off3_eq k i
  match i with
  | 0 => exact (congrArg (· + a.val) e).symm
  | 1 => exact ((congrArg (· + l.val) e).trans (Nat.zero_add _)).symm

omit H in
/-- A trip's rows of a padded buffer. -/
theorem tk_eq {e : EltTy} (w : Vec Ideal S2560x128 e) (k : Fin k0_t1_loop.trips) (j : Fin 768) (l : Fin 128) :
    View.ld (Val := Elt Ideal) (e' := e) w (winRect k) (ix2 j l) = w (ix2 (⟨256 * k.val + j.val, by have := trips_lt k; omega⟩ : Fin 2560) l) := by
  refine ld_at _ _ (fun _ => rfl) _ _ (fun i => ?_)
  have e := off2_eq k i
  match i with
  | 0 => exact (congrArg (· + j.val) e).symm
  | 1 => exact ((congrArg (· + l.val) e).trans (Nat.zero_add _)).symm

theorem tk_at (k : Fin k0_t1_loop.trips) (j : Fin 768) (l : Fin 128) : tk (keys x0) k (ix2 j l) = ((pad A.k (256 * k + j) (128 * p + l) : ℝ) : EReal) := by
  have e := keys_at H (⟨256 * k.val + j.val, by have := trips_lt k; omega⟩ : Fin 2560) l
  unfold tk
  rw [tk_eq, e]
theorem tv_at (k : Fin k0_t1_loop.trips) (j : Fin 768) (l : Fin 128) : tv (vals x0) k (ix2 j l) = ((pad A.v (256 * k + j) (128 * p + l) : ℝ) : EReal) := by
  have e := vals_at H (⟨256 * k.val + j.val, by have := trips_lt k; omega⟩ : Fin 2560) l
  unfold tv
  rw [tk_eq, e]

end Padded

end Cert.KernelIdeal.Band
-- ==== Proof.HeadValue.lean ====
/-
  One head of one trip over the extended reals: scores, softmax and the gradients on the band, and what the trip adds to
  the gradients of queries, keys, values and biases.
-/
module

public import proofs.«01_k».proof.Proof.TripValue

@[expose] public section

set_option maxRecDepth 16384

noncomputable section

namespace Cert.KernelIdeal.Band

open Idealize.ShloMosaic Cert.KernelIdeal Cert.KernelIdeal.Gen Cert.Band

section Fns

variable (m : FVec Ideal S1x128 .bf16) (ok : IVec S256x768 1) (b : FVec Ideal S256x768 .f32) (k : Fin k0_t1_loop.trips)
  (q : Vec Ideal S3x2048x128 .bf16) (g : Vec Ideal S2048x128 .f32) (kw vw : Vec Ideal S2560x128 .bf16)

/-- A head's masked scores. -/
def hz : FVec Ideal S256x768 .f32 := k0_pay7 m ok b 0#32 1#32 k (tq q k) (tk kw k)
/-- A head's softmax. -/
def hp : FVec Ideal S256x768 .f32 := k0_pay8 (hz m ok b k q kw)
/-- The gradient with respect to the softmax. -/
def hdp : FVec Ideal S256x768 .f32 := k0_pay18 m (tv vw k) (tg g k)
/-- Its product with the softmax. -/
def hdd : FVec Ideal S256x768 .f32 := mulf (hdp m k g vw) (hp m ok b k q kw)

end Fns

/-- The lanes of one head in a sum over the lanes. -/
theorem lane_dot {hh : ℕ} (h : hh < 2) (u w : ℕ → ℝ) :
    ∑ x : Fin 128, u x * lane hh x * w x = ∑ d ∈ Finset.range 64, u (64 * hh + d) * w (64 * hh + d) := by
  rw [← lane_sum h fun l => u l * w l, Finset.sum_range]
  refine Finset.sum_congr rfl fun x _ => ?_
  unfold lane; ring

theorem head_col (p hh d : ℕ) : 128 * p + (64 * hh + d) = 64 * (2 * p + hh) + d := by ring

section Values

variable {A : Arrays} {p : ℕ} {x0 : Vec Ideal S3x2048x128 .bf16} {x1 : Vec Ideal S1x2x1024 .f32} {x2 : Vec Ideal S2048x128 .f32}
  (H : Blocks A p x0 x1 x2) {m : FVec Ideal S1x128 .bf16} {b : FVec Ideal S256x768 .f32} {hh : ℕ} (hlt : hh < 2)
  (hm : ∀ l : Fin 128, m (ix2 0 l) = ((lane hh l : ℝ) : EReal))
  (hb : ∀ (a : Fin 256) (j : Fin 768), b (ix2 a j) = ((A.b (2 * p + hh) (min (768 + a.val - j.val) 512) * (Real.log 2)⁻¹ : ℝ) : EReal))
include H hlt hm

include hb in
/-- The masked scores, in units of `log 2`. -/
theorem hz_at (k : Fin k0_t1_loop.trips) (a : Fin 256) (j : Fin 768) :
    hz m inBand b k x0 (keys x0) (ix2 a j)
      = row (fun j : Fin 768 => Ok k a j) (fun j : Fin 768 => (Real.log 2)⁻¹ * A.z (2 * p + hh) (256 * k + a) (key k j)) j := by
  unfold hz
  pointwise [k0_pay7, k0_pay5, k0_pay2, k0_pay3]
  have w := pad_word ⟨k.val, trips_lt k⟩ j
  dsimp only at w
  rw [w, inBand_at, and_bits, select_row, named_masked, named_scale, hb]
  unfold row
  by_cases h : Ok k a j
  · rw [if_pos h, if_pos h]
    simp only [tq_at H, tk_at H, hm, ← EReal.coe_mul, ← coe_sum, ← EReal.coe_add]
    refine congrArg (fun r : ℝ => (r : EReal)) ?_
    rw [lane_dot hlt (fun l => A.q (256 * k + a) (128 * p + l)) (fun l => pad A.k (256 * k + j) (128 * p + l))]
    simp only [head_col, pad, if_pos h.2]
    rw [Arrays.z, rel_key h.2]
    ring
  · rw [if_neg h, if_neg h]

include hb in
/-- The softmax. -/
theorem hp_at (k : Fin k0_t1_loop.trips) (a : Fin 256) (j : Fin 768) :
    hp m inBand b k x0 (keys x0) (ix2 a j) = ((A.bP (2 * p + hh) k a j : ℝ) : EReal) := by
  have hk := trips_lt k
  have hd := A.den_pos (2 * p + hh) (show 256 * k.val + a.val < 2048 by omega)
  obtain ⟨c, hc⟩ := row_max (fun j : Fin 768 => Ok k a j) (fun j : Fin 768 => (Real.log 2)⁻¹ * A.z (2 * p + hh) (256 * k + a) (key k j))
    (i₀ := ⟨a.val + 512, by omega⟩) (by simp only [Ok]; omega)
  have hl : Real.log 2 ≠ 0 := (Real.log_pos (by norm_num)).ne'
  have e : ∀ j : Fin 768, Ideal.exp2 (hz m inBand b k x0 (keys x0) (ix2 a j) - (c : EReal))
      = ((Real.exp (-(Real.log 2 * c)) * (if Ok k a j then Real.exp (A.z (2 * p + hh) (256 * k + a) (key k j)) else 0) : ℝ) : EReal) := by
    intro j
    rw [hz_at H hlt hm hb, row_exp2]
    refine congrArg (fun r : ℝ => (r : EReal)) ?_
    split_ifs
    · rw [← Real.exp_add, mul_sub, mul_inv_cancel_left₀ hl, neg_add_eq_sub]
    · rw [mul_zero]
  have hc' : Finset.univ.fold max (Ideal.ofBits .f32 0xFF800000#32) (fun x => hz m inBand b k x0 (keys x0) (ix2 a x)) = (c : EReal) := by
    simp only [ofBits_neg_inf, hz_at H hlt hm hb]
    exact hc
  have ee : ∀ j : Fin 768, FloatOps.exp2 (hz m inBand b k x0 (keys x0) (ix2 a j) - (c : EReal)) = Ideal.exp2 (hz m inBand b k x0 (keys x0) (ix2 a j) - (c : EReal)) := fun _ => rfl
  have den : ∑ x : Fin 768, (Real.exp (-(Real.log 2 * c)) * (if Ok k a x then Real.exp (A.z (2 * p + hh) (256 * k + a) (key k x)) else 0))
      = Real.exp (-(Real.log 2 * c)) * A.den (2 * p + hh) (256 * k + a) := by
    rw [← Finset.mul_sum, ← A.band_den hk a.isLt, Finset.sum_range]
  unfold hp
  pointwise [k0_pay8]
  rw [hc']
  simp only [ee, e, ← coe_sum]
  rw [den, ← EReal.coe_one, div_real _ (by positivity), ← EReal.coe_mul]
  refine congrArg (fun r : ℝ => (r : EReal)) ?_
  unfold Arrays.bP
  split_ifs with h
  · rw [Arrays.P, if_pos (ok_iff.1 h).2]
    field_simp
  · rw [mul_zero, zero_mul]

/-- The gradient with respect to the softmax. -/
theorem hdp_at (k : Fin k0_t1_loop.trips) (a : Fin 256) (j : Fin 768) :
    hdp m k x2 (vals x0) (ix2 a j) = ((A.bdP (2 * p + hh) k a j : ℝ) : EReal) := by
  unfold hdp
  pointwise [k0_pay18, k0_pay11, k0_pay9]
  simp only [tg_at H, tv_at H, hm, ← EReal.coe_mul, ← coe_sum]
  refine congrArg (fun r : ℝ => (r : EReal)) ?_
  rw [lane_dot hlt (fun l => A.g (256 * k + a) (128 * p + l)) (fun l => pad A.v (256 * k + j) (128 * p + l))]
  unfold Arrays.bdP
  split_ifs with h
  · simp only [head_col, pad, if_pos h, Arrays.dP]
  · simp only [pad, if_neg h, mul_zero, Finset.sum_const_zero]

include hb in
/-- The gradient with respect to the scores. -/
theorem hds_at (k : Fin k0_t1_loop.trips) (a : Fin 256) (j : Fin 768) :
    k0_pay20 (hp m inBand b k x0 (keys x0)) (hdp m k x2 (vals x0)) (hdd m inBand b k x0 x2 (keys x0) (vals x0)) (ix2 a j) = ((A.bdS (2 * p + hh) k a j : ℝ) : EReal) := by
  unfold hdd
  pointwise [k0_pay20]
  simp only [hp_at H hlt hm hb, hdp_at H hlt hm, ← EReal.coe_mul, ← coe_sum, ← EReal.coe_sub]
  rw [← A.bdS_eq (trips_lt k) a.isLt, Finset.sum_range]

include hb in
/-- The same by the score's scale. -/
theorem hds8_at (k : Fin k0_t1_loop.trips) (a : Fin 256) (j : Fin 768) :
    k0_pay22 (hp m inBand b k x0 (keys x0)) (hdp m k x2 (vals x0)) (hdd m inBand b k x0 x2 (keys x0) (vals x0)) (ix2 a j) = ((A.bdS (2 * p + hh) k a j * (1 / 8) : ℝ) : EReal) := by
  have e := hds_at H hlt hm hb k a j
  pointwise [k0_pay22]
  rw [e, ofBits_eighth, ← EReal.coe_mul]

end Values

section Trips

variable {A : Arrays} {p : ℕ} {x0 : Vec Ideal S3x2048x128 .bf16} {x1 : Vec Ideal S1x2x1024 .f32} {x2 : Vec Ideal S2048x128 .f32}
  (H : Blocks A p x0 x1 x2)

/-- One of two heads by the lane. -/
theorem lane_pick (X : ℕ → ℝ) (l : Fin 128) : X 0 * lane 0 l + X 1 * lane 1 l = X (l.val / 64) := by
  unfold lane
  obtain h | h : l.val / 64 = 0 ∨ l.val / 64 = 1 := by omega
  · simp [h]
  · simp [h]

theorem lane_head (p : ℕ) (l : Fin 128) : (128 * p + l.val) / 64 = 2 * p + l.val / 64 := by omega

/-- Two heads' sums, each by its lane mask: the sum of the lane's head. -/
theorem heads_sum {n : ℕ} (X : ℕ → Fin n → ℝ) (f : Fin n → ℝ) (l : Fin 128) :
    ∑ i, X 0 i * (f i * lane 0 l) + ∑ i, X 1 i * (f i * lane 1 l) = ∑ i, X (l.val / 64) i * f i := by
  rw [← Finset.sum_add_distrib]
  refine Finset.sum_congr rfl fun i _ => ?_
  have := lane_pick (fun h => X h i * f i) l
  rw [← this]
  ring

include H in
/-- A trip's rows of the gradient of the queries. -/
theorem tdq_at (k : Fin k0_t1_loop.trips) (a : Fin 256) (l : Fin 128) :
    tdq x0 x2 (keys x0) (vals x0) k0_pay26 k0_pay27 inBand (bias0 x1) (bias1 x1) k (ix3 0 a l) = ((A.dQ (256 * k + a) (128 * p + l) : ℝ) : EReal) := by
  have e : tdq x0 x2 (keys x0) (vals x0) k0_pay26 k0_pay27 inBand (bias0 x1) (bias1 x1) k
      = k0_pay23 k0_pay27 (tk (keys x0) k) (hp k0_pay27 inBand (bias1 x1) k x0 (keys x0))
          (k0_pay15 k0_pay26 (tk (keys x0) k) (tv (vals x0) k) (hp k0_pay26 inBand (bias0 x1) k x0 (keys x0)) (tg x2 k))
          (hdp k0_pay27 k x2 (vals x0)) (hdd k0_pay27 inBand (bias1 x1) k x0 x2 (keys x0) (vals x0)) := rfl
  have e0 : k0_pay14 k0_pay26 (tv (vals x0) k) (hp k0_pay26 inBand (bias0 x1) k x0 (keys x0)) (tg x2 k)
      = k0_pay22 (hp k0_pay26 inBand (bias0 x1) k x0 (keys x0)) (hdp k0_pay26 k x2 (vals x0)) (hdd k0_pay26 inBand (bias0 x1) k x0 x2 (keys x0) (vals x0)) := rfl
  rw [e]
  pointwise [k0_pay23, k0_pay15]
  rw [e0]
  simp only [hds8_at H (by norm_num : 0 < 2) pay26_at (bias0_at H), hds8_at H (by norm_num : 1 < 2) pay27_at (bias1_at H), tk_at H, pay26_at, pay27_at,
    ← EReal.coe_mul, ← coe_sum, ← EReal.coe_add]
  refine congrArg (fun r : ℝ => (r : EReal)) ?_
  rw [heads_sum (fun h (i : Fin 768) => A.bdS (2 * p + h) k a i * (1 / 8)) (fun i => pad A.k (256 * k + i) (128 * p + l)) l]
  have e2 := A.row_sum (h := 2 * p + l.val / 64) (trips_lt k) a.isLt (fun s => 1 / 8 * A.k s (128 * p + l))
  rw [Finset.sum_range (n := 768)] at e2
  rw [Arrays.dQ, lane_head]
  refine Eq.trans (Finset.sum_congr rfl fun i _ => ?_) (e2.trans (Finset.sum_congr rfl fun s _ => ?_))
  · unfold pad
    split_ifs
    · rw [mul_assoc]
    · rw [mul_zero, mul_zero]
  · rw [mul_assoc]

include H in
/-- What a trip adds to a row of the gradient of the keys. -/
theorem tdk_at (k : Fin k0_t1_loop.trips) (x : Vec Ideal S768x128 .f32) (j : Fin 768) (l : Fin 128) :
    tdk x0 x2 (keys x0) (vals x0) k0_pay26 k0_pay27 inBand (bias0 x1) (bias1 x1) k x (ix2 j l)
      = x (ix2 j l) + ((∑ a ∈ Finset.range 256, A.bdS (2 * p + l / 64) k a j * (1 / 8) * A.q (256 * k + a) (128 * p + l) : ℝ) : EReal) := by
  have e : tdk x0 x2 (keys x0) (vals x0) k0_pay26 k0_pay27 inBand (bias0 x1) (bias1 x1) k x
      = k0_pay24 (k0_pay5 k0_pay27 (tq x0 k)) (hp k0_pay27 inBand (bias1 x1) k x0 (keys x0))
          (k0_pay16 k0_pay26 (tv (vals x0) k) (k0_pay4 k0_pay26 (tq x0 k)) (hp k0_pay26 inBand (bias0 x1) k x0 (keys x0)) (tg x2 k))
          (hdp k0_pay27 k x2 (vals x0)) (hdd k0_pay27 inBand (bias1 x1) k x0 x2 (keys x0) (vals x0)) x := rfl
  have e0 : k0_pay14 k0_pay26 (tv (vals x0) k) (hp k0_pay26 inBand (bias0 x1) k x0 (keys x0)) (tg x2 k)
      = k0_pay22 (hp k0_pay26 inBand (bias0 x1) k x0 (keys x0)) (hdp k0_pay26 k x2 (vals x0)) (hdd k0_pay26 inBand (bias0 x1) k x0 x2 (keys x0) (vals x0)) := rfl
  rw [e]
  pointwise [k0_pay24, k0_pay16, k0_pay5, k0_pay4, k0_pay2]
  rw [e0]
  simp only [hds8_at H (by norm_num : 0 < 2) pay26_at (bias0_at H), hds8_at H (by norm_num : 1 < 2) pay27_at (bias1_at H), tq_at H, pay26_at, pay27_at,
    ← EReal.coe_mul, ← coe_sum, ← EReal.coe_add]
  refine congrArg (fun r : ℝ => x (ix2 j l) + (r : EReal)) ?_
  rw [heads_sum (fun h (i : Fin 256) => A.bdS (2 * p + h) k i j * (1 / 8)) (fun i => A.q (256 * k + i) (128 * p + l)) l, Finset.sum_range]

include H in
/-- What a trip adds to a row of the gradient of the values. -/
theorem tdv_at (k : Fin k0_t1_loop.trips) (x : Vec Ideal S768x128 .f32) (j : Fin 768) (l : Fin 128) :
    tdv x0 x2 (keys x0) k0_pay26 k0_pay27 inBand (bias0 x1) (bias1 x1) k x (ix2 j l)
      = x (ix2 j l) + ((∑ a ∈ Finset.range 256, A.bP (2 * p + l / 64) k a j * A.g (256 * k + a) (128 * p + l) : ℝ) : EReal) := by
  have e : tdv x0 x2 (keys x0) k0_pay26 k0_pay27 inBand (bias0 x1) (bias1 x1) k x
      = k0_pay40 (k0_pay25 (hp k0_pay27 inBand (bias1 x1) k x0 (keys x0)) (k0_pay11 k0_pay27 (tg x2 k))
          (k0_pay17 k0_pay26 (hp k0_pay26 inBand (bias0 x1) k x0 (keys x0)) (tg x2 k)) x) := rfl
  rw [e]
  pointwise [k0_pay40, k0_pay25, k0_pay17, k0_pay11, k0_pay10, k0_pay9]
  simp only [hp_at H (by norm_num : 0 < 2) pay26_at (bias0_at H), hp_at H (by norm_num : 1 < 2) pay27_at (bias1_at H), tg_at H, pay26_at, pay27_at,
    ← EReal.coe_mul, ← coe_sum, ← EReal.coe_add]
  refine congrArg (fun r : ℝ => x (ix2 j l) + (r : EReal)) ?_
  rw [heads_sum (fun h (i : Fin 256) => A.bP (2 * p + h) k i j) (fun i => A.g (256 * k + i) (128 * p + l)) l, Finset.sum_range]

include H in
/-- What a trip adds to the first head's bias gradient. -/
theorem tdb0_at (k : Fin k0_t1_loop.trips) (x : Vec Ideal S1x256x768 .f32) (a : Fin 256) (j : Fin 768) :
    tdb0 x0 x2 (keys x0) (vals x0) k0_pay26 inBand (bias0 x1) k x (ix3 0 a j) = x (ix3 0 a j) + ((A.bdS (2 * p + 0) k a j : ℝ) : EReal) := by
  have e : tdb0 x0 x2 (keys x0) (vals x0) k0_pay26 inBand (bias0 x1) k x
      = k0_pay21 (hp k0_pay26 inBand (bias0 x1) k x0 (keys x0)) (hdp k0_pay26 k x2 (vals x0)) (hdd k0_pay26 inBand (bias0 x1) k x0 x2 (keys x0) (vals x0)) x := rfl
  rw [e, ← hds_at H (by norm_num : 0 < 2) pay26_at (bias0_at H)]
  pointwise [k0_pay21]

include H in
/-- What a trip adds to the second head's bias gradient. -/
theorem tdb1_at (k : Fin k0_t1_loop.trips) (x : Vec Ideal S1x256x768 .f32) (a : Fin 256) (j : Fin 768) :
    tdb1 x0 x2 (keys x0) (vals x0) k0_pay27 inBand (bias1 x1) k x (ix3 0 a j) = x (ix3 0 a j) + ((A.bdS (2 * p + 1) k a j : ℝ) : EReal) := by
  have e : tdb1 x0 x2 (keys x0) (vals x0) k0_pay27 inBand (bias1 x1) k x
      = k0_pay21 (hp k0_pay27 inBand (bias1 x1) k x0 (keys x0)) (hdp k0_pay27 k x2 (vals x0)) (hdd k0_pay27 inBand (bias1 x1) k x0 x2 (keys x0) (vals x0)) x := rfl
  rw [e, ← hds_at H (by norm_num : 1 < 2) pay27_at (bias1_at H)]
  pointwise [k0_pay21]

end Trips

end Cert.KernelIdeal.Band
-- ==== Proof.LoopValue.lean ====
/-
  What the loop's accumulators hold after its trips: the gradients of keys and values summed over the rows the trips so far took,
  and the band's score gradients summed over the blocks of rows.
-/
module

public import proofs.«01_k».proof.Proof.HeadValue
public import proofs.«01_k».proof.Proof.Rects

@[expose] public section

set_option maxRecDepth 16384

noncomputable section

namespace Cert.KernelIdeal.Band

open Idealize.ShloMosaic Cert.KernelIdeal Cert.KernelIdeal.Gen Cert.Band

variable {A : Arrays} {p : ℕ} {x0 : Vec Ideal S3x2048x128 .bf16} {x1 : Vec Ideal S1x2x1024 .f32} {x2 : Vec Ideal S2048x128 .f32}
  (H : Blocks A p x0 x1 x2)

/-- A trip's window of key rows, read at a row of the window. -/
theorem win_ld (w : Vec Ideal S2560x128 .f32) (k : Fin k0_t1_loop.trips) (R : Fin 2560) (l : Fin 128) (j : Fin 768) (h : R.val = 256 * k + j) :
    View.ld (Val := Elt Ideal) (e' := .f32) w (winRect k) (ix2 j l) = w (ix2 R l) := by
  refine ld_at w (winRect k) (fun _ => rfl) (ix2 j l) (ix2 R l) fun a => ?_
  match a with
  | ⟨0, _⟩ => exact h.trans (congrArg (· + j.val) (off2_eq k 0).symm)
  | ⟨1, _⟩ => exact (Nat.zero_add _).symm.trans (congrArg (· + l.val) (off2_eq k 1).symm)

/-- A window laid over the rows, at a row inside it. -/
theorem win_in (w : Vec Ideal S2560x128 .f32) (Y : Vec Ideal S768x128 .f32) (k : Fin k0_t1_loop.trips) (R : Fin 2560) (l : Fin 128) (j : Fin 768) (h : R.val = 256 * k + j) :
    (winRect k).overlay w Y (ix2 R l) = Y (ix2 j l) := by
  refine overlay_in (winRect k) (fun _ => rfl) w Y (ix2 R l) (ix2 j l) fun a => ?_
  match a with
  | ⟨0, _⟩ => exact h.trans (congrArg (· + j.val) (off2_eq k 0).symm)
  | ⟨1, _⟩ => exact (Nat.zero_add _).symm.trans (congrArg (· + l.val) (off2_eq k 1).symm)

/-- A window laid over the rows, at a row outside it. -/
theorem win_out (w : Vec Ideal S2560x128 .f32) (Y : Vec Ideal S768x128 .f32) (k : Fin k0_t1_loop.trips) (R : Fin 2560) (l : Fin 128)
    (h : R.val < 256 * k ∨ 256 * k + 768 ≤ R.val) : (winRect k).overlay w Y (ix2 R l) = w (ix2 R l) := by
  refine overlay_out (winRect k) (fun _ => rfl) w Y (ix2 R l) 0 ?_
  have e : (winRect k).off 0 = 256 * k := off2_eq k 0
  rw [e]
  exact h

/-- Equal reals added to the same number. -/
theorem add_coe_congr (x : EReal) {r s : ℝ} (h : r = s) : x + (r : EReal) = x + (s : EReal) := by rw [h]

/-- The sum over rows up to the next block of rows. -/
theorem sum_block (f : ℕ → ℝ) (n : ℕ) : ∑ t ∈ Finset.range (256 * (n + 1)), f t = ∑ t ∈ Finset.range (256 * n), f t + ∑ a ∈ Finset.range 256, f (256 * n + a) := by
  rw [Nat.mul_succ, Finset.sum_range_add]

/-- The zeros the accumulators start at. -/
theorem zero37 (i : S2560x128.Idx) : k0_pay37 (F := Ideal) i = ((0 : ℝ) : EReal) := by
  rw [eq_ix2 i]; pointwise [k0_pay37]; rfl
theorem zero38 (i : S2560x128.Idx) : k0_pay38 (F := Ideal) i = ((0 : ℝ) : EReal) := by
  rw [eq_ix2 i]; pointwise [k0_pay38]; rfl
theorem zero39 (hh : Fin 2) (a : Fin 256) (j : Fin 1024) : k0_pay39 (F := Ideal) (ix3 hh a j) = ((0 : ℝ) : EReal) := by
  pointwise [k0_pay39]; rfl

include H in
/-- The gradient of the keys over the blocks of rows so far. -/
theorem accK_at (n : ℕ) (hn : n ≤ k0_t1_loop.trips) (R : Fin 2560) (hR : 512 ≤ R.val) (l : Fin 128) :
    accK x0 x2 (keys x0) (vals x0) k0_pay26 k0_pay27 inBand (bias0 x1) (bias1 x1) (k0_pay37 (F := Ideal)) n (ix2 R l)
      = ((∑ t ∈ Finset.range (256 * n), A.dS (2 * p + l / 64) t (R - 512) * (1 / 8) * A.q t (128 * p + l) : ℝ) : EReal) := by
  induction n with
  | zero => exact zero37 _
  | succ n ih =>
    have h : n < k0_t1_loop.trips := hn
    have h8 : n < 8 := trips_lt ⟨n, h⟩
    specialize ih (le_of_lt h)
    rw [accK, dif_pos h, sum_block, EReal.coe_add]
    by_cases hw : R.val < 256 * n ∨ 256 * n + 768 ≤ R.val
    · rw [win_out _ _ ⟨n, h⟩ R l hw, ih]
      have hs : ∑ a ∈ Finset.range 256, A.dS (2 * p + l.val / 64) (256 * n + a) (R.val - 512) * (1 / 8) * A.q (256 * n + a) (128 * p + l) = 0 :=
        Finset.sum_eq_zero fun a ha => by rw [A.dS_zero (not_valid_of_outside (Finset.mem_range.1 ha) (by omega)), zero_mul, zero_mul]
      rw [hs, EReal.coe_zero, add_zero]
    · push Not at hw
      have e : R.val = 256 * n + (R.val - 256 * n) := by omega
      rw [win_in _ _ ⟨n, h⟩ R l ⟨R.val - 256 * n, by omega⟩ e, tdk_at H, win_ld _ ⟨n, h⟩ R l ⟨R.val - 256 * n, by omega⟩ e, ih]
      refine add_coe_congr _ (Finset.sum_congr rfl fun a _ => ?_)
      have e2 := A.bdS_key (h := 2 * p + l.val / 64) (m := n) (a := a) (s := R.val - 512) (by omega)
      rw [show R.val - 512 + 512 - 256 * n = R.val - 256 * n by omega] at e2
      exact congrArg (fun r : ℝ => r * (1 / 8) * A.q (256 * n + a) (128 * p + l)) e2

include H in
/-- The gradient of the values over the blocks of rows so far. -/
theorem accV_at (n : ℕ) (hn : n ≤ k0_t1_loop.trips) (R : Fin 2560) (hR : 512 ≤ R.val) (l : Fin 128) :
    accV x0 x2 (keys x0) k0_pay26 k0_pay27 inBand (bias0 x1) (bias1 x1) (k0_pay38 (F := Ideal)) n (ix2 R l)
      = ((∑ t ∈ Finset.range (256 * n), A.P (2 * p + l / 64) t (R - 512) * A.g t (128 * p + l) : ℝ) : EReal) := by
  induction n with
  | zero => exact zero38 _
  | succ n ih =>
    have h : n < k0_t1_loop.trips := hn
    have h8 : n < 8 := trips_lt ⟨n, h⟩
    specialize ih (le_of_lt h)
    rw [accV, dif_pos h, sum_block, EReal.coe_add]
    by_cases hw : R.val < 256 * n ∨ 256 * n + 768 ≤ R.val
    · rw [win_out _ _ ⟨n, h⟩ R l hw, ih]
      have hs : ∑ a ∈ Finset.range 256, A.P (2 * p + l.val / 64) (256 * n + a) (R.val - 512) * A.g (256 * n + a) (128 * p + l) = 0 :=
        Finset.sum_eq_zero fun a ha => by rw [A.P_zero (not_valid_of_outside (Finset.mem_range.1 ha) (by omega)), zero_mul]
      rw [hs, EReal.coe_zero, add_zero]
    · push Not at hw
      have e : R.val = 256 * n + (R.val - 256 * n) := by omega
      rw [win_in _ _ ⟨n, h⟩ R l ⟨R.val - 256 * n, by omega⟩ e, tdv_at H, win_ld _ ⟨n, h⟩ R l ⟨R.val - 256 * n, by omega⟩ e, ih]
      refine add_coe_congr _ (Finset.sum_congr rfl fun a _ => ?_)
      have e2 := A.bP_key (h := 2 * p + l.val / 64) (m := n) (a := a) (s := R.val - 512) (by omega)
      rw [show R.val - 512 + 512 - 256 * n = R.val - 256 * n by omega] at e2
      exact congrArg (fun r : ℝ => r * A.g (256 * n + a) (128 * p + l)) e2

/-- The two heads' bands of the bias accumulator. -/
theorem head_ld0 (w : Vec Ideal S2x256x1024 .f32) (a : Fin 256) (j : Fin 768) :
    View.ld (Val := Elt Ideal) (e' := .f32) w dbRect0 (ix3 0 a j) = w (ix3 0 a ⟨j, by omega⟩) := by
  refine ld_at w dbRect0 (fun _ => rfl) (ix3 0 a j) (ix3 0 a ⟨j, by omega⟩) fun x => ?_
  match x with
  | ⟨0, _⟩ => rfl
  | ⟨1, _⟩ => exact (Nat.zero_add _).symm
  | ⟨2, _⟩ => exact (Nat.zero_add _).symm
theorem head_ld1 (w : Vec Ideal S2x256x1024 .f32) (a : Fin 256) (j : Fin 768) :
    View.ld (Val := Elt Ideal) (e' := .f32) w dbRect1 (ix3 0 a j) = w (ix3 1 a ⟨j, by omega⟩) := by
  refine ld_at w dbRect1 (fun _ => rfl) (ix3 0 a j) (ix3 1 a ⟨j, by omega⟩) fun x => ?_
  match x with
  | ⟨0, _⟩ => rfl
  | ⟨1, _⟩ => exact (Nat.zero_add _).symm
  | ⟨2, _⟩ => exact (Nat.zero_add _).symm

/-- Both heads' bands laid over the bias accumulator, read in the first head's band. -/
theorem heads_over0 (w : Vec Ideal S2x256x1024 .f32) (Y Z : Vec Ideal S1x256x768 .f32) (a : Fin 256) (j : Fin 1024) (hj : j.val < 768) :
    dbRect1.overlay (dbRect0.overlay w Y) Z (ix3 0 a j) = Y (ix3 0 a ⟨j, hj⟩) := by
  rw [overlay_out dbRect1 (fun _ => rfl) _ Z (ix3 0 a j) 0 (Or.inl Nat.zero_lt_one)]
  refine overlay_in dbRect0 (fun _ => rfl) w Y (ix3 0 a j) (ix3 0 a ⟨j, hj⟩) fun x => ?_
  match x with
  | ⟨0, _⟩ => rfl
  | ⟨1, _⟩ => exact (Nat.zero_add _).symm
  | ⟨2, _⟩ => exact (Nat.zero_add _).symm
/-- The same in the second head's band. -/
theorem heads_over1 (w : Vec Ideal S2x256x1024 .f32) (Z : Vec Ideal S1x256x768 .f32) (a : Fin 256) (j : Fin 1024) (hj : j.val < 768) :
    dbRect1.overlay w Z (ix3 1 a j) = Z (ix3 0 a ⟨j, hj⟩) := by
  refine overlay_in dbRect1 (fun _ => rfl) w Z (ix3 1 a j) (ix3 0 a ⟨j, hj⟩) fun x => ?_
  match x with
  | ⟨0, _⟩ => rfl
  | ⟨1, _⟩ => exact (Nat.zero_add _).symm
  | ⟨2, _⟩ => exact (Nat.zero_add _).symm
/-- Right of the band nothing is laid. -/
theorem heads_right (w : Vec Ideal S2x256x1024 .f32) (Y Z : Vec Ideal S1x256x768 .f32) (hh : Fin 2) (a : Fin 256) (j : Fin 1024) (hj : 768 ≤ j.val) :
    dbRect1.overlay (dbRect0.overlay w Y) Z (ix3 hh a j) = w (ix3 hh a j) := by
  rw [overlay_out dbRect1 (fun _ => rfl) _ Z (ix3 hh a j) 2 (Or.inr hj), overlay_out dbRect0 (fun _ => rfl) w Y (ix3 hh a j) 2 (Or.inr hj)]
/-- The second head's rows are outside the first's. -/
theorem heads_other (w : Vec Ideal S2x256x1024 .f32) (Y : Vec Ideal S1x256x768 .f32) (a : Fin 256) (j : Fin 1024) :
    dbRect0.overlay w Y (ix3 1 a j) = w (ix3 1 a j) :=
  overlay_out dbRect0 (fun _ => rfl) w Y (ix3 1 a j) 0 (Or.inr le_rfl)

/-- The score gradients at a place of the band, summed over blocks of rows; none right of the band. -/
def bandSum (A : Arrays) (h n a j : ℕ) : ℝ := ∑ m ∈ Finset.range n, if j < 768 then A.bdS h m a j else 0

include H in
/-- The bias accumulator over the blocks of rows so far. -/
theorem accB_at (n : ℕ) (hn : n ≤ k0_t1_loop.trips) (hh : Fin 2) (a : Fin 256) (j : Fin 1024) :
    accB x0 x2 (keys x0) (vals x0) k0_pay26 k0_pay27 inBand (bias0 x1) (bias1 x1) (k0_pay39 (F := Ideal)) n (ix3 hh a j)
      = ((bandSum A (2 * p + hh) n a j : ℝ) : EReal) := by
  induction n generalizing hh a j with
  | zero => exact zero39 _ _ _
  | succ n ih =>
    have h : n < k0_t1_loop.trips := hn
    replace ih := fun hh a j => ih (le_of_lt h) hh a j
    rw [accB, dif_pos h, bandSum, Finset.sum_range_succ, EReal.coe_add]
    by_cases hj : j.val < 768
    · rw [if_pos hj]
      obtain rfl | rfl : hh = 0 ∨ hh = 1 := by omega
      · rw [heads_over0 _ _ _ a j hj, tdb0_at H, head_ld0, ih]
        rfl
      · rw [heads_over1 _ _ a j hj, tdb1_at H, head_ld1, ih]
        rfl
    · rw [if_neg hj, heads_right _ _ _ hh a j (by omega), ih, EReal.coe_zero, add_zero]
      rfl

end Cert.KernelIdeal.Band
-- ==== Proof.FoldValue.lean ====
/-
  The bias gradient's row of a block: the band's score gradients summed along the diagonals, by rotating the groups of eight
  rows and then the rows of a group.
-/
module

public import proofs.«01_k».proof.Proof.LoopValue

@[expose] public section

set_option maxRecDepth 16384

noncomputable section

namespace Cert.KernelIdeal.Band

open Idealize.ShloMosaic Cert.KernelIdeal Cert.KernelIdeal.Gen Cert.Band

/-- A group of eight rows of a head, rotated. -/
def turned (S : Vec Ideal S2x256x1024 .f32) (h : Fin 2) (g : ℕ) : FVec Ideal S8x1024 .f32 :=
  dynamicRotate 1 (BitVec.ofNat 32 (1024 - 8 * g)) none (shapeCast S8x1024 (band S h (Fin.ofNat 32 g)) shapeCasts_S1x8x1024_S8x1024) rotates_S8x1024_d1

/-- The groups up to one, each rotated to the first's diagonals, summed. -/
def diagSum (S : Vec Ideal S2x256x1024 .f32) (h : Fin 2) : ℕ → FVec Ideal S8x1024 .f32
  | 0 => shapeCast S8x1024 (band S h 0) shapeCasts_S1x8x1024_S8x1024
  | n + 1 => addf (diagSum S h n) (turned S h (n + 1))

/-- The rows with a bit set, rotated. -/
def stage (w c : BitVec 32) (x : FVec Ideal S8x1024 .f32) : FVec Ideal S8x1024 .f32 :=
  select (cmpi .ne (andi rowNo (broadcast S8x1024 w)) (broadcast S8x1024 0#32)) (dynamicRotate 1 c none x rotates_S8x1024_d1) x

/-- Each row rotated by its number, and the rows summed. -/
def folded (x : FVec Ideal S8x1024 .f32) : FVec Ideal S1x1x1024 .f32 :=
  shapeCast S1x1x1024 (shapeCast S1x1024 (multiReduction .add [0] S1024 (stage 4#32 1020#32 (stage 2#32 1022#32 (stage 1#32 1023#32 x))) 0x00000000#32 reduces_S8x1024_S1024 (.inl rfl) rfl)
    shapeCasts_S1024_S1x1024) shapeCasts_S1x1024_S1x1x1024

theorem fold0_eq (S : Vec Ideal S2x256x1024 .f32) : fold0 S = folded (diagSum S 0 31) := rfl
theorem fold1_eq (S : Vec Ideal S2x256x1024 .f32) : fold1 S = folded (diagSum S 1 31) := rfl

/-- A stage takes the rows with the bit to the place `s` to the right. -/
theorem stage_at {w c : BitVec 32} {s : ℕ} {P : Fin 8 → Prop} [DecidablePred P] (hc : c.toNat = 1024 - s) (hs : 0 < s) (hs' : s < 1024)
    (hP : ∀ r : Fin 8, IntOp.cmpi .ne (IntOp.andi (BitVec.ofNat 32 r.val) w) 0#32 = if P r then 1#1 else 0#1)
    (x : FVec Ideal S8x1024 .f32) (r : Fin 8) (u : Fin 1024) :
    stage w c x (ix2 r u) = if P r then x (ix2 r ⟨(u.val + s) % 1024, Nat.mod_lt _ (by norm_num)⟩) else x (ix2 r u) := by
  unfold stage rowNo
  pointwise
  rw [hP r, select_row]
  refine if_congr Iff.rfl (congrArg (fun v => x (ix2 r v)) (Fin.ext ?_)) rfl
  show (u.val + 1024 - c.toNat % 1024) % 1024 = (u.val + s) % 1024
  rw [hc]
  omega

/-- The three stages take each row to the place its number to the right. -/
theorem stages_at (x : FVec Ideal S8x1024 .f32) (r : Fin 8) (u : Fin 1024) :
    stage 4#32 1020#32 (stage 2#32 1022#32 (stage 1#32 1023#32 x)) (ix2 r u) = x (ix2 r ⟨(u.val + r.val) % 1024, Nat.mod_lt _ (by norm_num)⟩) := by
  simp only [stage_at (s := 4) (w := 4#32) (c := 1020#32) (P := fun r => r.val / 4 = 1) rfl (by norm_num) (by norm_num) (by decide +kernel),
    stage_at (s := 2) (w := 2#32) (c := 1022#32) (P := fun r => r.val / 2 % 2 = 1) rfl (by norm_num) (by norm_num) (by decide +kernel),
    stage_at (s := 1) (w := 1#32) (c := 1023#32) (P := fun r => r.val % 2 = 1) rfl (by norm_num) (by norm_num) (by decide +kernel)]
  have h := r.isLt
  split_ifs <;> exact congrArg (fun v => x (ix2 r v)) (Fin.ext (by simp only; omega))

theorem folded_at (x : FVec Ideal S8x1024 .f32) (u : Fin 1024) :
    folded x (ix3 0 0 u) = ∑ r : Fin 8, x (ix2 r ⟨(u.val + r.val) % 1024, Nat.mod_lt _ (by norm_num)⟩) := by
  unfold folded
  pointwise
  exact Finset.sum_congr rfl fun r _ => stages_at x r u

/-- A group of rows read at a place. -/
theorem band_at (S : Vec Ideal S2x256x1024 .f32) (h : Fin 2) (g : Fin 32) (r : Fin 8) (u : Fin 1024) (a : Fin 256) (e : a.val = 8 * g + r) :
    band S h g (ix3 0 r u) = S (ix3 h a u) := by
  unfold band
  refine ld_at S _ (fun _ => rfl) _ (ix3 h a u) fun x => ?_
  match x with
  | ⟨0, _⟩ => rfl
  | ⟨1, _⟩ => exact e
  | ⟨2, _⟩ => exact (Nat.zero_add _).symm

variable {D : ℕ → ℕ → ℝ} {S : Vec Ideal S2x256x1024 .f32} {h : Fin 2} (hS : ∀ (a : Fin 256) (u : Fin 1024), S (ix3 h a u) = ((D a u : ℝ) : EReal))

include hS in
theorem turned_at (g : ℕ) (hg : 0 < g) (hg' : g < 32) (r : Fin 8) (u : Fin 1024) :
    turned S h g (ix2 r u) = ((D (8 * g + r) ((u + 8 * g) % 1024) : ℝ) : EReal) := by
  unfold turned
  pointwise
  rw [band_at S h (Fin.ofNat 32 g) r _ ⟨8 * g + r, by omega⟩ (by show 8 * g + r.val = 8 * (g % 32) + r.val; omega), hS]
  refine congrArg (fun v : ℕ => ((D (8 * g + r) v : ℝ) : EReal)) ?_
  show (u.val + 1024 - (1024 - 8 * g) % 2 ^ 32 % 1024) % 1024 = _
  omega

include hS in
theorem diagSum_at (n : ℕ) (hn : n < 32) (r : Fin 8) (u : Fin 1024) :
    diagSum S h n (ix2 r u) = ((∑ g ∈ Finset.range (n + 1), D (8 * g + r) ((u + 8 * g) % 1024) : ℝ) : EReal) := by
  induction n with
  | zero =>
    unfold diagSum
    pointwise
    rw [band_at S h 0 r u ⟨r, by omega⟩ (by simp), hS, Finset.sum_range_one]
    rw [mul_zero, add_zero, zero_add, Nat.mod_eq_of_lt u.isLt]
  | succ n ih =>
    rw [Finset.sum_range_succ, EReal.coe_add, ← ih (by omega), ← turned_at hS (n + 1) (by omega) hn r u]
    rfl

/-- Rows by groups of eight. -/
theorem sum_groups (f : ℕ → ℝ) (n : ℕ) : ∑ r ∈ Finset.range 8, ∑ g ∈ Finset.range n, f (8 * g + r) = ∑ a ∈ Finset.range (8 * n), f a := by
  rw [Finset.sum_comm]
  induction n with
  | zero => rfl
  | succ n ih => rw [Finset.sum_range_succ, ih, Nat.mul_succ, Finset.sum_range_add]

include hS in
/-- A head's row: its diagonals' sums. -/
theorem diagonal_at (u : Fin 1024) :
    folded (diagSum S h 31) (ix3 0 0 u) = ((∑ a ∈ Finset.range 256, D a ((u + a) % 1024) : ℝ) : EReal) := by
  rw [folded_at]
  simp only [diagSum_at hS 31 (by norm_num), ← coe_sum]
  refine congrArg (fun r : ℝ => (r : EReal)) ?_
  rw [show (256 : ℕ) = 8 * 32 from rfl, ← sum_groups (fun a => D a ((u + a) % 1024)) 32, Finset.sum_range]
  refine Finset.sum_congr rfl fun r _ => Finset.sum_congr rfl fun g _ => congrArg (D (8 * g + r)) ?_
  omega

end Cert.KernelIdeal.Band
-- ==== Proof.BlockValue.lean ====
/-
  What a block's body leaves in its two outputs: two heads' columns of the gradients of queries, keys and values, and the two
  heads' rows of diagonal sums of the score gradients.
-/
module

public import proofs.«01_k».proof.Proof.FoldValue

@[expose] public section

set_option maxRecDepth 16384

noncomputable section

namespace Cert.KernelIdeal.Band

open Idealize.ShloMosaic Cert.KernelIdeal Cert.KernelIdeal.Gen Cert.Band

/-- A head's row of diagonal sums. -/
def rowSum (A : Arrays) (h u : ℕ) : ℝ := ∑ a ∈ Finset.range 256, bandSum A h 8 a ((u + a) % 1024)

variable {A : Arrays} {p : ℕ} {x0 : Vec Ideal S3x2048x128 .bf16} {x1 : Vec Ideal S1x2x1024 .f32} {x2 : Vec Ideal S2048x128 .f32}
  (H : Blocks A p x0 x1 x2)

include H in
/-- The pieces of the gradient of the queries, after the trips so far. -/
theorem dqPieces_at (n : ℕ) (hn : n ≤ k0_t1_loop.trips) (t : Fin 2048) (ht : t.val < 256 * n) (l : Fin 128) :
    View.canon (dqPieces x0 x2 (keys x0) (vals x0) k0_pay26 k0_pay27 inBand (bias0 x1) (bias1 x1) n) (ix3 0 t l)
      = ((A.dQ t (128 * p + l) : ℝ) : EReal) := by
  induction n with
  | zero => omega
  | succ n ih =>
    have h : n < k0_t1_loop.trips := hn
    have o0 : (rowRect ⟨n, h⟩).off 0 = 0 := off1_eq ⟨n, h⟩ 0
    have o1 : (rowRect ⟨n, h⟩).off 1 = 256 * n := off1_eq ⟨n, h⟩ 1
    have o2 : (rowRect ⟨n, h⟩).off 2 = 0 := off1_eq ⟨n, h⟩ 2
    rw [dqPieces, dif_pos h, View.canon_cons]
    by_cases hw : t.val < 256 * n
    · rw [overlay_out (rowRect ⟨n, h⟩) (fun _ => rfl) _ _ (ix3 0 t l) 1 (Or.inl (by rw [o1]; exact hw))]
      exact ih (le_of_lt h) hw
    · have e := overlay_in (rowRect ⟨n, h⟩) (fun _ => rfl)
        (View.canon (dqPieces x0 x2 (keys x0) (vals x0) k0_pay26 k0_pay27 inBand (bias0 x1) (bias1 x1) n))
        (tdq x0 x2 (keys x0) (vals x0) k0_pay26 k0_pay27 inBand (bias0 x1) (bias1 x1) ⟨n, h⟩) (ix3 0 t l)
        (ix3 0 ⟨t.val - 256 * n, by omega⟩ l) (fun x => by
          match x with
          | ⟨0, _⟩ => exact (congrArg (· + 0) o0).symm
          | ⟨1, _⟩ => exact (show t.val = 256 * n + (t.val - 256 * n) by omega).trans (congrArg (· + (t.val - 256 * n)) o1).symm
          | ⟨2, _⟩ => exact (Nat.zero_add _).symm.trans (congrArg (· + l.val) o2).symm)
      rw [e, tdq_at H]
      refine congrArg (fun v : ℕ => ((A.dQ v (128 * p + l) : ℝ) : EReal)) ?_
      show 256 * n + (t.val - 256 * n) = t.val
      omega

theorem trips_eq : k0_t1_loop.trips = 8 := by decide +kernel

/-- A row of the accumulators from the first row that stands for a key. -/
theorem from_ld (w : Vec Ideal S2560x128 .f32) (t : Fin 2048) (l : Fin 128) :
    View.ld (Val := Elt Ideal) (e' := .f32) w (Rect.unit (s := S2560x128) ![512, 0] S2048x128.size inb_S2560x128_S2048x128_512_0) (ix2 t l) = w (ix2 ⟨512 + t.val, by omega⟩ l) := by
  refine ld_at w _ (fun _ => rfl) _ (ix2 ⟨512 + t.val, by omega⟩ l) fun x => ?_
  match x with
  | ⟨0, _⟩ => rfl
  | ⟨1, _⟩ => exact (Nat.zero_add _).symm

include H in
/-- The gradient of queries, keys and values on a block's columns. -/
theorem outGrad_at (a : Fin 3) (t : Fin 2048) (l : Fin 128) :
    outGrad x0 x1 x2 (ix3 a t l) = ((A.dQKV a t (128 * p + l) : ℝ) : EReal) := by
  unfold outGrad gradPieces
  rw [View.canon_cons, View.canon_cons]
  obtain rfl | rfl | rfl : a = 0 ∨ a = 1 ∨ a = 2 := by omega
  · rw [overlay_out _ (fun _ => rfl) _ _ (ix3 0 t l) 0 (Or.inl (by show 0 < 2; norm_num)), overlay_out _ (fun _ => rfl) _ _ (ix3 0 t l) 0 (Or.inl (by show 0 < 1; norm_num))]
    rw [dqPieces_at H _ le_rfl t (by rw [trips_eq]; omega) l]
    rfl
  · rw [overlay_out _ (fun _ => rfl) _ _ (ix3 1 t l) 0 (Or.inl (by show 1 < 2; norm_num))]
    rw [overlay_in _ (fun _ => rfl) _ _ (ix3 1 t l) (ix3 0 t l) (fun x => by
      match x with
      | ⟨0, _⟩ => rfl
      | ⟨1, _⟩ => exact (Nat.zero_add _).symm
      | ⟨2, _⟩ => exact (Nat.zero_add _).symm)]
    have e : ∀ y : Vec Ideal S2048x128 .f32, k0_pay41 y (ix3 0 t l) = y (ix2 t l) := fun y => by pointwise [k0_pay41]
    refine (e _).trans ((from_ld _ t l).trans ?_)
    unfold dKeys
    rw [accK_at H _ le_rfl ⟨512 + t.val, by omega⟩ (by show 512 ≤ 512 + t.val; omega) l, trips_eq]
    refine congrArg (fun r : ℝ => (r : EReal)) ?_
    show _ = A.dK t (128 * p + l)
    rw [Arrays.dK, lane_head]
    simp
  · rw [overlay_in _ (fun _ => rfl) _ _ (ix3 2 t l) (ix3 0 t l) (fun x => by
      match x with
      | ⟨0, _⟩ => rfl
      | ⟨1, _⟩ => exact (Nat.zero_add _).symm
      | ⟨2, _⟩ => exact (Nat.zero_add _).symm)]
    have e : ∀ y : Vec Ideal S2048x128 .f32, k0_pay42 y (ix3 0 t l) = y (ix2 t l) := fun y => by pointwise [k0_pay42]
    refine (e _).trans ((from_ld _ t l).trans ?_)
    unfold dVals
    rw [accV_at H _ le_rfl ⟨512 + t.val, by omega⟩ (by show 512 ≤ 512 + t.val; omega) l, trips_eq]
    refine congrArg (fun r : ℝ => (r : EReal)) ?_
    show _ = A.dV t (128 * p + l)
    rw [Arrays.dV, lane_head]
    simp

include H in
/-- The rows of diagonal sums of a block's two heads. -/
theorem outRow_at (hh : Fin 2) (u : Fin 1024) : outRow x0 x1 x2 (ix3 0 hh u) = ((rowSum A (2 * p + hh) u : ℝ) : EReal) := by
  have hB : ∀ (hh : Fin 2) (a : Fin 256) (u : Fin 1024), dBand x0 x1 x2 (ix3 hh a u) = ((bandSum A (2 * p + hh) 8 a u : ℝ) : EReal) := fun hh a u => by
    unfold dBand
    rw [accB_at H _ le_rfl hh a u, trips_eq]
  unfold outRow rowPieces
  rw [View.canon_cons]
  obtain rfl | rfl : hh = 0 ∨ hh = 1 := by omega
  · rw [overlay_out _ (fun _ => rfl) _ _ (ix3 0 0 u) 1 (Or.inl (by show 0 < 1; norm_num)), View.canon_cons]
    rw [overlay_in _ (fun _ => rfl) _ _ (ix3 0 0 u) (ix3 0 0 u) (fun x => by
      match x with
      | ⟨0, _⟩ => rfl
      | ⟨1, _⟩ => rfl
      | ⟨2, _⟩ => exact (Nat.zero_add _).symm)]
    rw [fold0_eq]
    exact diagonal_at (hB 0) u
  · rw [overlay_in _ (fun _ => rfl) _ _ (ix3 0 1 u) (ix3 0 0 u) (fun x => by
      match x with
      | ⟨0, _⟩ => rfl
      | ⟨1, _⟩ => rfl
      | ⟨2, _⟩ => exact (Nat.zero_add _).symm)]
    rw [fold1_eq]
    exact diagonal_at (hB 1) u

end Cert.KernelIdeal.Band
-- ==== Proof.BodyFrame.lean ====
module

public import proofs.«01_k».proof.Proof.BodyRun
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Band
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_band_attn_bwd` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

abbrev ms0_0 (t : Fin cfg0.N) : Memref sig .tc .vmem S3x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x1024 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2560x128 .bf16 := Memref.whole cc0_scratch0
abbrev scM0_1 : Memref sig .tc .vmem S2560x128 .bf16 := Memref.whole cc0_scratch1
abbrev scM0_2 : Memref sig .tc .vmem S2560x128 .f32 := Memref.whole cc0_scratch2
abbrev scM0_3 : Memref sig .tc .vmem S2560x128 .f32 := Memref.whole cc0_scratch3
abbrev scM0_4 : Memref sig .tc .vmem S2x256x1024 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r)) := by
  unfold Pipeline.ΦA; rw [scopedRest0_eq]; simp only [scM0_0, scM0_1, scM0_2, scM0_3, scM0_4, owns_whole]; try rfl

/-! ## What the outputs hold after each point -/

/-- What the outputs' staging buffers hold after the body at point `t` (as a tuple, in window order): the run's contents at
    the point's memrefs and input blocks. -/
def outsAt0 (c : Dev nD) (t : Fin cfg0.N) : Vec F S3x2048x128 .bf16 × Vec F S1x2x1024 .f32 :=
  (outGrad (iblk0 V c 0 t) (iblk0 V c 1 t) (iblk0 V c 2 t), outRow (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).Φ t.castSucc = Pipeline.ΦA spec0 c from rfl, PhiA0_eq]
  unfold outsAt0
  dsimp only
  iintro ⟨⟨⟨HS0, HS1, HS2, HS3, HS4, HR5, HR6⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ _ _ _ _ _ _ (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, HS4⟩
  isplitl [HS0 HS1 HS2 HS3 HS4 HR5 HR6 Hg]
  · isplitl [HS0 HS1 HS2 HS3 HS4 HR5 HR6]
    · isplitl [HS0]
      · iexact HS0
      isplitl [HS1]
      · iexact HS1
      isplitl [HS2]
      · iexact HS2
      isplitl [HS3]
      · iexact HS3
      isplitl [HS4]
      · iexact HS4
      isplitl [HR5]
      · iexact HR5
      iexact HR6
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_rel_bias_grad` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S16x1024 := Rect.unit (s := S16x1024) ![0, 0] S16x1024.size inb_S16x1024_S16x1024_0_0
abbrev r1_1 : Rect S16x640 := Rect.unit (s := S16x640) ![0, 0] S16x640.size inb_S16x640_S16x640_0_0

/-! ## What the body leaves in each output window's buffer -/

/-- Window 1's staging buffer after the body, from the input windows' blocks: its 1 store as pieces, LAST
    FIRST (Lib/Pipeline/FrameBody.lean `View.canon`; the payloads are the skeleton's). -/
def out1_1 (x0 : Vec F S16x1024 .f32) : Vec F S16x640 .f32 :=
  View.canon [⟨r1_1, k1_pay1 (View.ld x0 r1_0)⟩]

/-- Its stores tile the buffer (checked by evaluation), so they cover it. -/
theorem cover1_1 (p0 : Vec F S16x640 .f32) (y : S16x640.Idx) :
    ∃ pc ∈ ([⟨r1_1, p0⟩] : List (View.Piece (Elt F) S16x640 .f32)), y ∈ pc.1.set :=
  View.cover_of_tiled [⟨r1_1, p0⟩] S16x640.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S16x1024 .f32) (harg0 : arg0.IsWhole) (arg1 : Memref sig .tc .vmem S16x640 .f32) (harg1 : arg1.IsWhole)
    (x0 : Vec F S16x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1_rel_bias_grad arg0 harg0 arg1 harg1) K := by
  simp only [cc1_rel_bias_grad_eq_skeleton]; unfold cc1_rel_bias_grad_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_c, main_c_0, main_c_1, main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every execution terminates without a fault, the arguments end unchanged, the two results end as `W5` has
    them, and every counter ends at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v6_0) = W5 m ρ c (Proc.devRef .tc main_v6_0)
      ∧ r.2.mem ((c.tc : Thread nD τ).loc main_v9) = W5 m ρ c (Proc.devRef .tc main_v9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       h c _ (mem_uc main_v6_0 (by decide)), h c _ (mem_uc main_v9 (by decide))⟩), funext fun g => hz g (.inr (no_unscoped g.2))⟩)

/-- The frame: termination without a fault, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1, (h.1 c).2.1, (h.1 c).2.2.1⟩, h.2⟩) (run m ρ)

end Cert.KernelIdeal.Band

end
-- ==== Proof.TableValue.lean ====
/-
  The table gradient: the diagonal sums sent to their clipped distances.
-/
module

public import proofs.«01_k».proof.Proof.BlockValue
public import proofs.«01_k».proof.Proof.BodyFrame

@[expose] public section

set_option maxRecDepth 16384

noncomputable section

namespace Cert.KernelIdeal.Band

open Idealize.ShloMosaic Cert.KernelIdeal Cert.KernelIdeal.Gen Cert.Band

theorem relU_word : ∀ u : Fin 1024,
    Scalar.select (IntOp.cmpi .sge (BitVec.ofNat 32 u.val) 768#32) (512#32)
      (IntOp.addi (IntOp.minsi (256#32) (IntOp.maxsi (4294967040#32) (IntOp.subi (512#32) (BitVec.ofNat 32 u.val)))) 256#32)
      = BitVec.ofNat 32 (relU u.val) := by decide +kernel

theorem relU_le (u : ℕ) : relU u ≤ 512 := by
  unfold relU
  split_ifs <;> omega

/-- Equality of small numbers as words. -/
theorem eq_word (a b : ℕ) (ha : a < 1024) (hb : b < 1024) : IntOp.cmpi .eq (BitVec.ofNat 32 a) (BitVec.ofNat 32 b) = if a = b then 1#1 else 0#1 := by
  by_cases h : a = b
  · subst h
    rw [if_pos rfl]
    simp [IntOp.cmpi]
  · rw [if_neg h]
    have : ¬ BitVec.ofNat 32 a = BitVec.ofNat 32 b := fun e => h (by
      have := congrArg BitVec.toNat e
      simp only [BitVec.toNat_ofNat] at this
      omega)
    exact congrArg BitVec.ofBool (beq_eq_false_iff_ne.2 this)

/-- The table gradient's body over real rows: each row's entries added at their clipped distances. -/
theorem table_pay_at {D : ℕ → ℝ} (v : Vec Ideal S16x1024 .f32) (h : Fin 16) (hv : ∀ u : Fin 1024, v (ix2 h u) = ((D u : ℝ) : EReal)) (r : Fin 640) :
    k1_pay1 v (ix2 h r) = ((∑ u ∈ Finset.range 1024, if relU u = r.val then D u else 0 : ℝ) : EReal) := by
  have hw : ∀ x : Fin 1024, IntOp.cmpi .eq (BitVec.ofNat 32 (relU x.val)) (BitVec.ofNat 32 r.val) = if relU x.val = r.val then 1#1 else 0#1 := fun x =>
    eq_word _ _ (by have := relU_le x.val; omega) (by omega)
  pointwise [k1_pay1]
  simp only [relU_word, hw, bit_float, hv, ← EReal.coe_sub, ← EReal.coe_mul, ← coe_sum, ← EReal.coe_add]
  refine congrArg (fun r : ℝ => (r : EReal)) ?_
  simp only [sub_self, zero_mul, Finset.sum_const_zero, add_zero, mul_ite, mul_one, mul_zero, ite_self]
  rw [Finset.sum_range]

theorem out1_1_at {D : ℕ → ℝ} (v : Vec Ideal S16x1024 .f32) (h : Fin 16) (hv : ∀ u : Fin 1024, v (ix2 h u) = ((D u : ℝ) : EReal)) (r : Fin 640) :
    out1_1 v (ix2 h r) = ((∑ u ∈ Finset.range 1024, if relU u = r.val then D u else 0 : ℝ) : EReal) := by
  unfold out1_1
  rw [View.canon_cons, overlay_in r1_1 (fun _ => rfl) _ _ (ix2 h r) (ix2 h r) (fun x => by
    match x with
    | ⟨0, _⟩ => exact (Nat.zero_add _).symm
    | ⟨1, _⟩ => exact (Nat.zero_add _).symm)]
  refine table_pay_at _ h (fun u => (?_ : View.ld (Val := Elt Ideal) (e' := .f32) v r1_0 (ix2 h u) = v (ix2 h u)).trans (hv u)) r
  refine ld_at v r1_0 (fun _ => rfl) _ (ix2 h u) fun x => ?_
  match x with
  | ⟨0, _⟩ => exact (Nat.zero_add _).symm
  | ⟨1, _⟩ => exact (Nat.zero_add _).symm

/-- Turning a row: the sum over all places, by the place turned to. -/
theorem sum_turn (a : ℕ) (ha : a ≤ 1024) (f : ℕ → ℕ → ℝ) :
    ∑ u ∈ Finset.range 1024, f u ((u + a) % 1024) = ∑ j ∈ Finset.range 1024, f ((j + (1024 - a)) % 1024) j := by
  refine Finset.sum_bij' (fun u _ => (u + a) % 1024) (fun j _ => (j + (1024 - a)) % 1024) ?_ ?_ ?_ ?_ ?_
  · intro u hu; exact Finset.mem_range.2 (Nat.mod_lt _ (by norm_num))
  · intro u hu; exact Finset.mem_range.2 (Nat.mod_lt _ (by norm_num))
  · intro u hu; have := Finset.mem_range.1 hu; omega
  · intro u hu; have := Finset.mem_range.1 hu; omega
  · intro u hu
    have := Finset.mem_range.1 hu
    rw [show ((u + a) % 1024 + (1024 - a)) % 1024 = u by omega]

/-- Rows by blocks of 256. -/
theorem sum_rows (f : ℕ → ℝ) (n : ℕ) : ∑ t ∈ Finset.range (256 * n), f t = ∑ m ∈ Finset.range n, ∑ a ∈ Finset.range 256, f (256 * m + a) := by
  induction n with
  | zero => rfl
  | succ n ih => rw [sum_block, ih, Finset.sum_range_succ (fun m => ∑ a ∈ Finset.range 256, f (256 * m + a)) n]

/-- The place a row's diagonal starts at has the clipped distance of the place on the band. -/
theorem relU_turn (a j : ℕ) (ha : a < 256) (hj : j < 768) : relU ((j + (1024 - a)) % 1024) = min (768 + a - j) 512 := by
  unfold relU
  split_ifs <;> omega

/-- The diagonal sums sent to their clipped distances: the table gradient. -/
theorem dB_of_rows (A : Arrays) (h r : ℕ) : ∑ u ∈ Finset.range 1024, (if relU u = r then rowSum A h u else 0) = A.dB h r := by
  have e1 : ∀ u, (if relU u = r then rowSum A h u else 0)
      = ∑ a ∈ Finset.range 256, (if relU u = r then bandSum A h 8 a ((u + a) % 1024) else 0) := fun u => by
    split_ifs
    · rfl
    · rw [Finset.sum_const_zero]
  rw [Finset.sum_congr rfl fun u _ => e1 u, Arrays.dB, show (2048 : ℕ) = 256 * 8 from rfl, sum_rows]
  refine Finset.sum_comm.trans (Eq.trans ?_ Finset.sum_comm)
  refine Finset.sum_congr rfl fun a ha => ?_
  have ha := Finset.mem_range.1 ha
  rw [sum_turn a (by omega) (fun u j => if relU u = r then bandSum A h 8 a j else 0)]
  have e2 : ∀ j, (if relU ((j + (1024 - a)) % 1024) = r then bandSum A h 8 a j else 0)
      = ∑ m ∈ Finset.range 8, (if j < 768 ∧ relU ((j + (1024 - a)) % 1024) = r then A.bdS h m a j else 0) := fun j => by
    unfold bandSum
    by_cases h1 : relU ((j + (1024 - a)) % 1024) = r
    · rw [if_pos h1]
      exact Finset.sum_congr rfl fun m _ => if_congr ⟨fun h => ⟨h, h1⟩, fun h => h.1⟩ rfl rfl
    · rw [if_neg h1, Finset.sum_eq_zero fun m _ => if_neg fun h => h1 h.2]
  rw [Finset.sum_congr rfl fun j _ => e2 j, Finset.sum_comm]
  refine Finset.sum_congr rfl fun m hm => ?_
  have hm := Finset.mem_range.1 hm
  rw [show (1024 : ℕ) = 768 + 256 from rfl, Finset.sum_range_add]
  rw [Finset.sum_eq_zero (s := Finset.range 256) fun j _ => if_neg fun h3 => by have := h3.1; omega, add_zero]
  have e3 := band_sum hm ha (fun s => if rel (256 * m + a) s = r then A.dS h (256 * m + a) s else 0)
  refine Eq.trans (Finset.sum_congr rfl fun j hj => ?_) (e3.trans (Finset.sum_congr rfl fun s _ => ?_))
  · have hj := Finset.mem_range.1 hj
    rw [relU_turn a j ha hj]
    unfold Arrays.bdS
    by_cases ho : Ok m a j
    · rw [if_pos ho, if_pos ho, rel_key ho.2]
      exact if_congr ⟨fun h => h.2, fun h => ⟨hj, h⟩⟩ rfl rfl
    · rw [if_neg ho, if_neg ho, ite_self]
  · by_cases hv : Valid (256 * m + a) s
    · rw [if_pos hv]
    · rw [if_neg hv, A.dS_zero hv, ite_self]

end Cert.KernelIdeal.Band
-- ==== Proof.HostValue.lean ====
/-
  The host's lines around the two calls: the bias rows gathered from the table, and the reshapes and the slice between and
  after the calls.
-/
module

public import proofs.«01_k».proof.Proof.TableValue
public import Idealize.ShloMosaic.Lib.Claim
public import Idealize.ShloMosaic.Lib.StableHlo.Predicate
public import Idealize.ShloMosaic.Lib.Pipeline.ValueKit

@[expose] public section

set_option maxRecDepth 16384

noncomputable section

namespace Cert.KernelIdeal.Band

open Idealize.ShloMosaic Idealize.ShloMosaic.TcCoe Cert.KernelIdeal Cert.KernelIdeal.Gen Cert.Band

/-- The constant column words: the clipped distances. -/
theorem entry_word : ∀ u : Fin 1024, lit0 (S1024.rowMajor (ix1 u)) = BitVec.ofNat 32 (relU u.val) := by decide +kernel

/-- The table's columns, in the order of the bias rows. -/
def columns : IVec S1024x1 32 :=
  broadcastInDim S1024x1 ![0] bcast_S1024_S1024x1_0 (select (constantI S1024 1 0#1) (addi (fun i => lit0 (S1024.rowMajor i)) (broadcastInDim S1024 ![] bcast_S_S1024 (constantI S_ 32 513#32))) (fun i => lit0 (S1024.rowMajor i)))

/-- The columns at a place. -/
theorem columns_at (u : Fin 1024) : columns (ix2 u 0) = BitVec.ofNat 32 (relU u.val) := by
  unfold columns
  pointwise
  exact entry_word u

/-- The gathered rows. -/
theorem gather_at (x : Vec Ideal S16x513 .f32) (idx : IVec S1024x1 32) (h : Fin 16) (u : Fin 1024) (r : Fin 513)
    (hr : idx (ix2 u 0) = BitVec.ofNat 32 r.val) :
    Host.gather gather_S16x513_S1024x1_S16x1024_0_1_n_n_1_1_161 x idx (ix2 h u) = x (ix2 h r) := by
  unfold Host.gather
  congr 1
  funext a
  refine Fin.ext ?_
  show GatherDims.start gather_S16x513_S1024x1_S16x1024_0_1_n_n_1_1_161 (ix2 h u) idx a
    + GatherDims.batchCoord gather_S16x513_S1024x1_S16x1024_0_1_n_n_1_1_161 (ix2 h u) a
    + GatherDims.offCoord gather_S16x513_S1024x1_S16x1024_0_1_n_n_1_1_161 (ix2 h u) a = _
  match a with
  | ⟨0, _⟩ =>
    rw [GatherDims.batchCoord_eq_zero _ _ _ (fun h => by cases h)]
    have h1 : GatherDims.start gather_S16x513_S1024x1_S16x1024_0_1_n_n_1_1_161 (ix2 h u) idx (0 : Fin 2) = 0 := by
      unfold GatherDims.start
      rw [dif_neg (by decide)]
    have h2 : GatherDims.offCoord gather_S16x513_S1024x1_S16x1024_0_1_n_n_1_1_161 (ix2 h u) (0 : Fin 2) = h.val := by
      unfold GatherDims.offCoord
      rw [dif_pos (by decide)]
      rfl
    exact (congrArg₂ (fun a b => a + 0 + b) h1 h2).trans (by rw [Nat.zero_add]; rfl)
  | ⟨1, _⟩ =>
    rw [GatherDims.batchCoord_eq_zero _ _ _ (fun h => by cases h),
      GatherDims.offCoord_eq_zero _ _ _ (fun h => ((GatherDims.mem_sKept _ _).mp h).1 (List.mem_singleton.mpr rfl))]
    suffices hst : GatherDims.start gather_S16x513_S1024x1_S16x1024_0_1_n_n_1_1_161 (ix2 h u) idx (1 : Fin 2) = r.val from
      (congrArg (fun a => a + 0 + 0) hst).trans rfl
    unfold GatherDims.start
    rw [dif_pos (show (1 : Fin 2) ∈ (gather_S16x513_S1024x1_S16x1024_0_1_n_n_1_1_161).startIndexMap from List.mem_singleton.mpr rfl)]
    have hsi : GatherDims.siIdx gather_S16x513_S1024x1_S16x1024_0_1_n_n_1_1_161 (ix2 h u)
        ⟨List.idxOf (1 : Fin 2) (gather_S16x513_S1024x1_S16x1024_0_1_n_n_1_1_161).startIndexMap,
        List.idxOf_lt_length_iff.2 (List.mem_singleton.mpr rfl)⟩ = ix2 u 0 := by
      funext b; refine Fin.ext ?_
      match b with
      | ⟨0, _⟩ => rfl
      | ⟨1, _⟩ => rfl
    rw [hsi, hr, StableHlo.Predicate.toInt_ofNat_small _ (by have := r.isLt; omega)]
    show min (Int.toNat (r.val : ℤ)) (513 - 1) = r.val
    have := r.isLt
    omega

variable (m : (ℓ : Loc nD τ sig) → Buf (Elt Ideal) ℓ) (ρ : Dev nD → PrngReg) (c : Dev nD)

/-- What the first call reads as bias rows. -/
theorem entry_rows : StableHlo.after hostOps0 (W0 m ρ c) (Proc.devRef .tc main_v5)
    = shapeCast S8x2x1024 (Host.gather gather_S16x513_S1024x1_S16x1024_0_1_n_n_1_1_161 (W0 m ρ c (Proc.devRef .tc main_arg1)) columns) shapeCasts_S16x1024_S8x2x1024 := by
  entry_read
  rfl

/-- What the second call reads: the first call's rows of diagonal sums. -/
theorem entry_sums : StableHlo.after hostOps1 (W2 m ρ c) (Proc.devRef .tc main_v7)
    = shapeCast S16x1024 (W2 m ρ c (Proc.devRef .tc main_v6_1)) shapeCasts_S8x2x1024_S16x1024 := by
  entry_read
  rfl

/-- The second result: the second call's columns up to the table's width. -/
theorem entry_table : StableHlo.after hostOps2 (W4 m ρ c) (Proc.devRef .tc main_v9)
    = extractStridedSlice S16x513 ![0, 0] (W4 m ρ c (Proc.devRef .tc main_v8)) slices_S16x640_S16x513_0_0 := by
  entry_read
  rfl

/-- The windows' block indices: one block of 128 columns, two heads, per point. -/
theorem idx0 : ∀ t : Fin cfg0.N, win0_0.index t = ![0, 0, t.val] ∧ win0_1.index t = ![t.val, 0, 0] ∧ win0_2.index t = ![0, t.val] ∧ win0_3.index t = ![0, 0, t.val]
    ∧ win0_4.index t = ![t.val, 0, 0] ∧ t.val < 8 := (by decide +kernel : ∀ t : Fin grid0.N, _)

end Cert.KernelIdeal.Band
-- ==== Proof.ArrayValue.lean ====
/-
  The kernel's two results: from real arguments, the gradients of queries, keys and values and of the bias table.
-/
module

public import proofs.«01_k».proof.Proof.HostValue

@[expose] public section

set_option maxRecDepth 16384

noncomputable section

namespace Cert.KernelIdeal.Band

open Idealize.ShloMosaic Idealize.ShloMosaic.TcCoe Cert.KernelIdeal Cert.KernelIdeal.Gen Cert.Band
open Idealize.ShloMosaic.Pipeline (Dat)

variable {A : Arrays} (m : (ℓ : Loc nD τ sig) → Buf (Elt Ideal) ℓ) (ρ : Dev nD → PrngReg) (c : Dev nD)

/-- The arguments hold the real arrays. -/
structure Entry (A : Arrays) : Prop where
  q : ∀ (t : Fin 2048) (x : Fin 1024), (m ((c : Thread nD τ).loc main_arg0) : Vec Ideal S3x2048x1024 .bf16) (ix3 0 t x) = ((A.q t x : ℝ) : EReal)
  k : ∀ (t : Fin 2048) (x : Fin 1024), (m ((c : Thread nD τ).loc main_arg0) : Vec Ideal S3x2048x1024 .bf16) (ix3 1 t x) = ((A.k t x : ℝ) : EReal)
  v : ∀ (t : Fin 2048) (x : Fin 1024), (m ((c : Thread nD τ).loc main_arg0) : Vec Ideal S3x2048x1024 .bf16) (ix3 2 t x) = ((A.v t x : ℝ) : EReal)
  b : ∀ (h : Fin 16) (r : Fin 513), (m ((c : Thread nD τ).loc main_arg1) : Vec Ideal S16x513 .f32) (ix2 h r) = ((A.b h r : ℝ) : EReal)
  g : ∀ (t : Fin 2048) (x : Fin 1024), (m ((c : Thread nD τ).loc main_arg2) : Vec Ideal S2048x1024 .f32) (ix2 t x) = ((A.g t x : ℝ) : EReal)

variable {m c} (E : Entry m c A)

include E in
/-- The bias rows the first call reads. -/
theorem rows_at (p : Fin 8) (hh : Fin 2) (u : Fin 1024) :
    (V1 m ρ c main_v5 : Vec Ideal S8x2x1024 .f32) (ix3 p hh u) = ((A.b (2 * p + hh) (relU u) : ℝ) : EReal) := by
  have e := gather_at (m ((c : Thread nD τ).loc main_arg1)) columns ⟨2 * p.val + hh.val, by omega⟩ u ⟨relU u, by have := relU_le u.val; omega⟩ (columns_at u)
  have e2 := E.b ⟨2 * p.val + hh.val, by omega⟩ ⟨relU u, by have := relU_le u.val; omega⟩
  refine (congrFun (entry_rows m ρ c) (ix3 p hh u)).trans ?_
  pointwise
  have e3 : (⟨p.val * 2 + hh.val, by omega⟩ : Fin 16) = ⟨2 * p.val + hh.val, by omega⟩ := Fin.ext (by show p.val * 2 + hh.val = 2 * p.val + hh.val; omega)
  rw [e3]
  exact e.trans e2

/-- A point's block of the queries, keys and values. -/
theorem qkv_blk (t : Fin cfg0.N) (a : Fin 3) (r : Fin 2048) (l : Fin 128) (x : Fin 1024) (hx : x.val = 128 * t.val + l) :
    (iblk0 (V1 m ρ) c 0 t : Vec Ideal S3x2048x128 .bf16) (ix3 a r l) = (m ((c : Thread nD τ).loc main_arg0) : Vec Ideal S3x2048x1024 .bf16) (ix3 a r x) := by
  refine Eq.trans ?_ (congrFun (W1_args m ρ c main_arg0 (by decide)) (ix3 a r x))
  blk_ext [iblk0, idx0 t]

/-- A point's block of the upstream gradient. -/
theorem do_blk (t : Fin cfg0.N) (r : Fin 2048) (l : Fin 128) (x : Fin 1024) (hx : x.val = 128 * t.val + l) :
    (iblk0 (V1 m ρ) c 2 t : Vec Ideal S2048x128 .f32) (ix2 r l) = (m ((c : Thread nD τ).loc main_arg2) : Vec Ideal S2048x1024 .f32) (ix2 r x) := by
  refine Eq.trans ?_ (congrFun (W1_args m ρ c main_arg2 (by decide)) (ix2 r x))
  blk_ext [iblk0, idx0 t]

/-- A point's bias rows. -/
theorem rows_blk (t : Fin cfg0.N) (hh : Fin 2) (u : Fin 1024) (p : Fin 8) (hp : p.val = t.val) :
    (iblk0 (V1 m ρ) c 1 t : Vec Ideal S1x2x1024 .f32) (ix3 0 hh u) = (V1 m ρ c main_v5 : Vec Ideal S8x2x1024 .f32) (ix3 p hh u) := by
  blk_ext [iblk0, idx0 t]

include E in
/-- The blocks a point reads. -/
theorem blocks (t : Fin cfg0.N) : Blocks A t.val (iblk0 (V1 m ρ) c 0 t) (iblk0 (V1 m ρ) c 1 t) (iblk0 (V1 m ρ) c 2 t) where
  q a l := by
    have := (idx0 t).2.2.2.2.2
    exact (qkv_blk ρ t 0 a l ⟨128 * t.val + l.val, by omega⟩ rfl).trans (E.q a _)
  k a l := by
    have := (idx0 t).2.2.2.2.2
    exact (qkv_blk ρ t 1 a l ⟨128 * t.val + l.val, by omega⟩ rfl).trans (E.k a _)
  v a l := by
    have := (idx0 t).2.2.2.2.2
    exact (qkv_blk ρ t 2 a l ⟨128 * t.val + l.val, by omega⟩ rfl).trans (E.v a _)
  b hh u := (rows_blk ρ t hh u ⟨t.val, (idx0 t).2.2.2.2.2⟩ rfl).trans (rows_at ρ E _ hh u)
  g a l := by
    have := (idx0 t).2.2.2.2.2
    exact (do_blk ρ t a l ⟨128 * t.val + l.val, by omega⟩ rfl).trans (E.g a _)

include E in
/-- What a point leaves in its block of the gradient. -/
theorem grad_pt (t : Fin cfg0.N) (y : S3x2048x128.Idx) :
    (outsAt0 (V1 m ρ) c t).1 y = ((A.dQKV (y 0).val (y 1).val (t.val * 128 + (y 2).val) : ℝ) : EReal) := by
  have e : (outsAt0 (V1 m ρ) c t).1 = outGrad (iblk0 (V1 m ρ) c 0 t) (iblk0 (V1 m ρ) c 1 t) (iblk0 (V1 m ρ) c 2 t) := by
    unfold outsAt0
    with_reducible rfl
  have h := outGrad_at (blocks ρ E t)
  rw [e, mul_comm t.val]
  generalize outGrad (iblk0 (V1 m ρ) c 0 t) (iblk0 (V1 m ρ) c 1 t) (iblk0 (V1 m ρ) c 2 t) = X at h ⊢
  exact (congrArg X (eq_ix3 y)).trans (h (y 0) (y 1) (y 2))

include E in
/-- What a point leaves in its rows of diagonal sums. -/
theorem sums_pt (t : Fin cfg0.N) (y : S1x2x1024.Idx) :
    (outsAt0 (V1 m ρ) c t).2 y = ((rowSum A (2 * t.val + (y 1).val) (y 2).val : ℝ) : EReal) := by
  have e : (outsAt0 (V1 m ρ) c t).2 = outRow (iblk0 (V1 m ρ) c 0 t) (iblk0 (V1 m ρ) c 1 t) (iblk0 (V1 m ρ) c 2 t) := by
    unfold outsAt0
    with_reducible rfl
  have h := outRow_at (blocks ρ E t)
  rw [e]
  generalize outRow (iblk0 (V1 m ρ) c 0 t) (iblk0 (V1 m ρ) c 1 t) (iblk0 (V1 m ρ) c 2 t) = X at h ⊢
  have h1 : ∀ (z : Fin 1) (hh : Fin 2) (u : Fin 1024), X (ix3 z hh u) = ((rowSum A (2 * t.val + hh.val) u.val : ℝ) : EReal) := fun z hh u => by
    rw [Subsingleton.elim z 0]
    exact h hh u
  exact (congrArg X (eq_ix3 y)).trans (h1 (y 0) (y 1) (y 2))

include E in
/-- The gradient of queries, keys and values after the first call. -/
theorem grad_arr : (dat0 (V1 m ρ) c).arrAt 3 cfg0.N = (fun i : S3x2048x1024.Idx => ((A.dQKV (i 0).val (i 1).val (i 2).val : ℝ) : EReal)) := by
  refine (dat0 (V1 m ρ) c).arrAt_eq_of_covers 3 _ (by decide +kernel) fun t _ y => ?_
  blk_simp
  rw [after0_3]
  refine (grad_pt ρ E t y).trans ?_
  have e := (idx0 t).2.2.2.1
  have e0 : win0_3.index t 0 = 0 := congrFun e 0
  have e1 : win0_3.index t 1 = 0 := congrFun e 1
  have e2 : win0_3.index t 2 = t.val := congrFun e 2
  rw [e0, e1, e2, zero_mul, zero_add, zero_mul, zero_add]

include E in
/-- The rows of diagonal sums after the first call. -/
theorem sums_arr : (dat0 (V1 m ρ) c).arrAt 4 cfg0.N = (fun i : S8x2x1024.Idx => ((rowSum A (2 * (i 0).val + (i 1).val) (i 2).val : ℝ) : EReal)) := by
  refine (dat0 (V1 m ρ) c).arrAt_eq_of_covers 4 _ (by decide +kernel) fun t _ y => ?_
  blk_simp
  rw [after0_4]
  refine (sums_pt ρ E t y).trans ?_
  have e := (idx0 t).2.2.2.2.1
  have e0 : win0_4.index t 0 = t.val := congrFun e 0
  have e1 : win0_4.index t 1 = 0 := congrFun e 1
  have e2 : win0_4.index t 2 = 0 := congrFun e 2
  rw [e0, e1, e2, zero_mul, zero_add, zero_mul, zero_add]

/-- The diagonal sums the second call reads. -/
theorem sums_at (h : Fin 16) (u : Fin 1024) (hs : (dat0 (V1 m ρ) c).arrAt 4 cfg0.N = (fun i : S8x2x1024.Idx => ((rowSum A (2 * (i 0).val + (i 1).val) (i 2).val : ℝ) : EReal))) :
    (V3 m ρ c main_v7 : Vec Ideal S16x1024 .f32) (ix2 h u) = ((rowSum A h u : ℝ) : EReal) := by
  refine (congrFun (entry_sums m ρ c) (ix2 h u)).trans ?_
  have e := (W2_arr m ρ c 4).trans hs
  have e' : W2 m ρ c (Proc.devRef .tc main_v6_1) = (fun i : S8x2x1024.Idx => ((rowSum A (2 * (i 0).val + (i 1).val) (i 2).val : ℝ) : EReal)) := e
  rw [e']
  pointwise
  rw [Nat.div_add_mod]

theorem idx1 : ∀ t : Fin cfg1.N, win1_0.index t = ![0, 0] ∧ win1_1.index t = ![0, 0] := (by decide +kernel : ∀ t : Fin grid1.N, _)

include E in
/-- The table gradient after the second call. -/
theorem table_arr : (dat1 (V3 m ρ) c).arrAt 1 cfg1.N = (fun i : S16x640.Idx => ((A.dB (i 0).val (i 1).val : ℝ) : EReal)) := by
  refine (dat1 (V3 m ρ) c).arrAt_eq_of_after_last 1 t1_0 (by decide +kernel) _ fun j => ?_
  blk_simp
  rw [after1_1]
  have hb : ∀ (h : Fin 16) (u : Fin 1024), (iblk1 (V3 m ρ) c 0 t1_0 : Vec Ideal S16x1024 .f32) (ix2 h u) = ((rowSum A h u : ℝ) : EReal) := fun h u => by
    refine Eq.trans ?_ (sums_at ρ h u (sums_arr ρ E))
    blk_ext [iblk1, idx1 t1_0]
  have hp : ∀ j : S16x640.Idx, out1_1 (iblk1 (V3 m ρ) c 0 t1_0) j = ((A.dB (j 0).val (j 1).val : ℝ) : EReal) := fun j => by
    rw [eq_ix2 j, out1_1_at _ (j 0) (hb (j 0)) (j 1), dB_of_rows]
    rfl
  exact hp j

include E in
/-- The first result. -/
theorem grad_at (a : Fin 3) (t : Fin 2048) (x : Fin 1024) :
    (W5 m ρ c (Proc.devRef .tc main_v6_0) : Vec Ideal S3x2048x1024 .bf16) (ix3 a t x) = ((A.dQKV a t x : ℝ) : EReal) := by
  have e1 : W5 m ρ c (Proc.devRef .tc main_v6_0) = W2 m ρ c (Proc.devRef .tc main_v6_0) :=
    (W5_of m ρ c main_v6_0 (by decide)).trans ((W4_of_ne m ρ c main_v6_0 (by decide)).trans (W3_of m ρ c main_v6_0 (by decide)))
  have e2 : W2 m ρ c (Proc.devRef .tc main_v6_0) = (fun i : S3x2048x1024.Idx => ((A.dQKV (i 0).val (i 1).val (i 2).val : ℝ) : EReal)) :=
    (W2_arr m ρ c 3).trans (grad_arr ρ E)
  rw [e1, e2]
  rfl

include E in
/-- The second result. -/
theorem table_at (h : Fin 16) (r : Fin 513) :
    (W5 m ρ c (Proc.devRef .tc main_v9) : Vec Ideal S16x513 .f32) (ix2 h r) = ((A.dB h r : ℝ) : EReal) := by
  have e2 : W4 m ρ c (Proc.devRef .tc main_v8) = (fun i : S16x640.Idx => ((A.dB (i 0).val (i 1).val : ℝ) : EReal)) :=
    (W4_arr m ρ c 1).trans (table_arr ρ E)
  refine (congrFun (entry_table m ρ c) (ix2 h r)).trans ?_
  rw [e2]
  pointwise

end Cert.KernelIdeal.Band
-- ==== Proof.RefTable.lean ====
/-
  The reference's two table accesses at an index: the bias gathered at a row's and a column's clipped distance, and the
  scatter that adds every score's gradient at its clipped distance.
-/
module

public import proofs.«01_k».proof.Proof.Gen.ReferenceIdeal.Run
public import proofs.«01_k».proof.Proof.Words
public import proofs.«01_k».proof.Proof.EReals
public import Idealize.ShloMosaic.Lib.Pointwise
public import Idealize.ShloMosaic.Lib.Routing.OpsPair
public import Idealize.ShloMosaic.Lib.StableHlo.Predicate

@[expose] public section

set_option maxRecDepth 16384

noncomputable section

namespace Cert.ReferenceIdeal.Dense

open Idealize.ShloMosaic Cert.ReferenceIdeal

/-- The bias gathered at `(h, t, s)` is the table's entry at head `h` and the column the index word names. -/
theorem gather_at (x : Vec Ideal S16x513 .f32) (idx : IVec S2048x2048x1 32) (h : Fin 16) (t s : Fin 2048) (r : Fin 513)
    (hr : idx (ix3 t s 0) = BitVec.ofNat 32 r.val) :
    Host.gather gather_S16x513_S2048x2048x1_S16x2048x2048_0_1_n_n_1_2_161 x idx (ix3 h t s) = x (ix2 h r) := by
  unfold Host.gather
  congr 1
  funext a
  refine Fin.ext ?_
  show GatherDims.start gather_S16x513_S2048x2048x1_S16x2048x2048_0_1_n_n_1_2_161 (ix3 h t s) idx a
    + GatherDims.batchCoord gather_S16x513_S2048x2048x1_S16x2048x2048_0_1_n_n_1_2_161 (ix3 h t s) a
    + GatherDims.offCoord gather_S16x513_S2048x2048x1_S16x2048x2048_0_1_n_n_1_2_161 (ix3 h t s) a = _
  match a with
  | ⟨0, _⟩ =>
    rw [GatherDims.batchCoord_eq_zero _ _ _ (fun h => by cases h)]
    have h1 : GatherDims.start gather_S16x513_S2048x2048x1_S16x2048x2048_0_1_n_n_1_2_161 (ix3 h t s) idx (0 : Fin 2) = 0 := by
      unfold GatherDims.start
      rw [dif_neg (by decide)]
    have h2 : GatherDims.offCoord gather_S16x513_S2048x2048x1_S16x2048x2048_0_1_n_n_1_2_161 (ix3 h t s) (0 : Fin 2) = h.val := by
      unfold GatherDims.offCoord
      rw [dif_pos (by decide)]
      rfl
    exact (congrArg₂ (fun a b => a + 0 + b) h1 h2).trans (by rw [Nat.zero_add]; rfl)
  | ⟨1, _⟩ =>
    rw [GatherDims.batchCoord_eq_zero _ _ _ (fun h => by cases h),
      GatherDims.offCoord_eq_zero _ _ _ (fun h => ((GatherDims.mem_sKept _ _).mp h).1 (List.mem_singleton.mpr rfl))]
    suffices hst : GatherDims.start gather_S16x513_S2048x2048x1_S16x2048x2048_0_1_n_n_1_2_161 (ix3 h t s) idx (1 : Fin 2) = r.val from
      (congrArg (fun a => a + 0 + 0) hst).trans rfl
    unfold GatherDims.start
    rw [dif_pos (show (1 : Fin 2) ∈ (gather_S16x513_S2048x2048x1_S16x2048x2048_0_1_n_n_1_2_161).startIndexMap from List.mem_singleton.mpr rfl)]
    have hsi : GatherDims.siIdx gather_S16x513_S2048x2048x1_S16x2048x2048_0_1_n_n_1_2_161 (ix3 h t s)
        ⟨List.idxOf (1 : Fin 2) (gather_S16x513_S2048x2048x1_S16x2048x2048_0_1_n_n_1_2_161).startIndexMap,
        List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi, hr, StableHlo.Predicate.toInt_ofNat_small _ (by have := r.isLt; omega)]
    show min (Int.toNat (r.val : ℤ)) (513 - 1) = r.val
    have := r.isLt
    omega

/-- The update at `(h', t, s)` lands at `(h, r)` exactly when the heads agree and the index word names `r`. -/
theorem scatter_lands (idx : IVec S2048x2048x1 32) (h' h : Fin 16) (t s : Fin 2048) (r r' : Fin 513)
    (hr : idx (ix3 t s 0) = BitVec.ofNat 32 r'.val) :
    ScatterDims.resultIdx? scatter_S16x513_S2048x2048x1_S16x2048x2048_0_1_1_2 (ix3 h' t s) idx = some (ix2 h r) ↔ h' = h ∧ r' = r := by
  have hw0 : ScatterDims.window scatter_S16x513_S2048x2048x1_S16x2048x2048_0_1_1_2 (ix3 h' t s) (0 : Fin 2) = h'.val := by
    unfold ScatterDims.window
    rw [dif_pos (by decide)]
    rfl
  have hw1 : ScatterDims.window scatter_S16x513_S2048x2048x1_S16x2048x2048_0_1_1_2 (ix3 h' t s) (1 : Fin 2) = 0 := by
    unfold ScatterDims.window
    rw [dif_neg (by decide)]
  have hs0 : ScatterDims.start scatter_S16x513_S2048x2048x1_S16x2048x2048_0_1_1_2 (ix3 h' t s) idx (0 : Fin 2) = 0 := by
    unfold ScatterDims.start
    rw [dif_neg (by decide)]
  have hs1 : ScatterDims.start scatter_S16x513_S2048x2048x1_S16x2048x2048_0_1_1_2 (ix3 h' t s) idx (1 : Fin 2) = (r'.val : ℤ) := by
    unfold ScatterDims.start
    rw [dif_pos (show (1 : Fin 2) ∈ (scatter_S16x513_S2048x2048x1_S16x2048x2048_0_1_1_2).scatterDimsToOperandDims from List.mem_singleton.mpr rfl)]
    have hsi : ScatterDims.siIdx scatter_S16x513_S2048x2048x1_S16x2048x2048_0_1_1_2 (ix3 h' t s)
        ⟨List.idxOf (1 : Fin 2) (scatter_S16x513_S2048x2048x1_S16x2048x2048_0_1_1_2).scatterDimsToOperandDims,
        List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi, hr, StableHlo.Predicate.toInt_ofNat_small _ (by have := r'.isLt; omega)]
  rw [Routing.resultIdx?_eq_some]
  constructor
  · intro H
    have e0 := H (0 : Fin 2)
    have e1 := H (1 : Fin 2)
    rw [hs0, hw0] at e0
    rw [hs1, hw1] at e1
    have e0' : (0 : ℤ) + (h'.val : ℤ) = (h.val : ℤ) := e0
    have e1' : (r'.val : ℤ) + ((0 : ℕ) : ℤ) = (r.val : ℤ) := e1
    exact ⟨Fin.ext (by omega), Fin.ext (by omega)⟩
  · rintro ⟨rfl, rfl⟩ a
    match a with
    | ⟨0, _⟩ => exact (congrArg₂ (fun (a : ℤ) (b : ℕ) => a + (b : ℤ)) hs0 hw0).trans (by simp)
    | ⟨1, _⟩ => exact (congrArg₂ (fun (a : ℤ) (b : ℕ) => a + (b : ℤ)) hs1 hw1).trans (by simp)

end Cert.ReferenceIdeal.Dense

end
-- ==== Proof.RefValue.lean ====
/-
  The reference over the extended reals, at real arguments: its two results are the real gradient of dense masked
  attention (`Cert.Band.Arrays.dQKV`, `Cert.Band.Arrays.dB`).
-/
module

public import Idealize.ShloMosaic.Lib.Tactic.CleanTypes
public import Idealize.ShloMosaic.Lib.IdealHost
public import proofs.«01_k».proof.Proof.RefTable

@[expose] public section

set_option maxRecDepth 16384

noncomputable section

namespace Cert.ReferenceIdeal.Dense

open Idealize.ShloMosaic Cert.ReferenceIdeal Cert.ReferenceIdeal.Value Cert.Band

/-- The arguments are the real arrays. -/
structure Reads (A : Arrays) (V0 : Valuation τ sig (Elt Ideal)) : Prop where
  /-- the queries -/
  q : ∀ (t : Fin 2048) (c : Fin 1024), V0 (Proc.devRef .tc main_arg0) (ix3 0 t c) = ((A.q t c : ℝ) : EReal)
  /-- the keys -/
  k : ∀ (t : Fin 2048) (c : Fin 1024), V0 (Proc.devRef .tc main_arg0) (ix3 1 t c) = ((A.k t c : ℝ) : EReal)
  /-- the values -/
  v : ∀ (t : Fin 2048) (c : Fin 1024), V0 (Proc.devRef .tc main_arg0) (ix3 2 t c) = ((A.v t c : ℝ) : EReal)
  /-- the bias table -/
  b : ∀ (h : Fin 16) (r : Fin 513), V0 (Proc.devRef .tc main_arg1) (ix2 h r) = ((A.b h r : ℝ) : EReal)
  /-- the upstream gradient -/
  g : ∀ (t : Fin 2048) (c : Fin 1024), V0 (Proc.devRef .tc main_arg2) (ix2 t c) = ((A.g t c : ℝ) : EReal)

/-- The gradient of a softmax by its quotient rule is `P (dP - ∑ dP P)`. -/
theorem softmax_grad {ι : Type*} (u : Finset ι) (a n : ι → ℝ) {e d : ℝ} (he : e ≠ 0) (hd : d ≠ 0) (x m : ℝ) :
    (x / (e * d) + -∑ j ∈ u, a j * (1 / (e * d * (e * d))) * (e * n j)) * (e * m) = m / d * (x - ∑ j ∈ u, a j * (n j / d)) := by
  have h : ∑ j ∈ u, a j * (n j / d) = (∑ j ∈ u, a j * (1 / (e * d * (e * d))) * (e * n j)) * (e * d) := by
    rw [Finset.sum_mul]
    refine Finset.sum_congr rfl fun j _ => ?_
    field_simp
  rw [h]
  field_simp
  ring

variable {A : Arrays} {V0 : Valuation τ sig (Elt Ideal)} (H : Reads A V0)
include H

/-- A head's queries. -/
theorem v7_at (t : Fin 2048) (h : Fin 16) (d : Fin 64) : res_main_v7 V0 (ix3 t h d) = ((A.q t (64 * h + d) : ℝ) : EReal) := by
  pointwise [res_main_v7, res_main_v0]
  rw [← H.q t ⟨64 * h + d, by omega⟩]
  congr 2; simp [Fin.ext_iff]; omega

/-- A head's keys. -/
theorem v8_at (t : Fin 2048) (h : Fin 16) (d : Fin 64) : res_main_v8 V0 (ix3 t h d) = ((A.k t (64 * h + d) : ℝ) : EReal) := by
  pointwise [res_main_v8, res_main_v0]
  rw [← H.k t ⟨64 * h + d, by omega⟩]
  congr 2; simp [Fin.ext_iff]; omega

/-- A head's values. -/
theorem v9_at (t : Fin 2048) (h : Fin 16) (d : Fin 64) : res_main_v9 V0 (ix3 t h d) = ((A.v t (64 * h + d) : ℝ) : EReal) := by
  pointwise [res_main_v9, res_main_v0]
  rw [← H.v t ⟨64 * h + d, by omega⟩]
  congr 2; simp [Fin.ext_iff]; omega

/-- A head's upstream gradient. -/
theorem v74_at (t : Fin 2048) (h : Fin 16) (d : Fin 64) : res_main_v74 V0 (ix3 h d t) = ((A.g t (64 * h + d) : ℝ) : EReal) := by
  pointwise [res_main_v74]
  rw [← H.g t ⟨64 * h + d, by omega⟩]
  congr 2; simp [Fin.ext_iff]; omega

omit H in
/-- The window test. -/
theorem v41m_at (t s : Fin 2048) (h : Fin 16) : @Eq (BitVec 1) (res_main_v41_1 V0 (ix3 h t s)) (if Valid t s then 1#1 else 0#1) := by
  have e : (if Valid t s then 1#1 else 0#1 : BitVec 1) = _ := (window_word t.isLt s.isLt).symm
  rw [e]
  pointwise [res_main_v41_1, res_main_call1_v0, res_main_call2_v0, res_main_call1_v2, res_main_call2_v2, res_main_v34, res_main_v13, res_main_v11]
  rfl

omit H in
/-- The column of the bias table. -/
theorem v28_at (t s : Fin 2048) : (res_main_v28 V0 (ix3 t s 0) : BitVec 32) = BitVec.ofNat 32 (rel t s) := by
  rw [← clip_word t.isLt s.isLt]
  pointwise [res_main_v28, res_main_v22, res_main_v13, res_main_v11]
  rfl

/-- The masked score. -/
theorem v41_at (t s : Fin 2048) (h : Fin 16) :
    res_main_v41_0 V0 (ix3 h t s) = row (fun s : Fin 2048 => Valid t s) (fun s : Fin 2048 => A.z h t s) s := by
  pointwise [res_main_v41_0]
  rw [v41m_at, gather_at _ _ h t s ⟨rel t s, by unfold rel; omega⟩ (v28_at t s), H.b, ofBits_eighth]
  simp only [v7_at H, v8_at H]
  have e : (id (constant S_ FTy.f32 4286578688#32) ix0 : Ideal .f32) = (⊥ : EReal) := ofBits_neg_inf
  rw [e]
  unfold row Arrays.z
  simp only [Finset.sum_range, ← EReal.coe_mul, ← coe_sum, ← EReal.coe_add]
  by_cases hv : Valid t s
  · rw [if_pos hv, if_pos hv]; rfl
  · rw [if_neg hv, if_neg hv]; rfl

/-- A row's maximum. -/
theorem v42_at (t : Fin 2048) (h : Fin 16) : ∃ c : ℝ, res_main_v42 V0 (ix2 h t) = (c : EReal) := by
  obtain ⟨c, hc⟩ := row_max (fun s : Fin 2048 => Valid t s) (fun s : Fin 2048 => A.z h t s) (i₀ := t) ⟨le_rfl, by omega⟩
  refine ⟨c, ?_⟩
  unfold res_main_v42
  clean_types
  pointwise
  simp only [ofBits_neg_inf, v41_at H]
  exact hc

omit H in
/-- A score's exponential over any scores and maxima. -/
theorem v62_of (u : FVec Ideal S16x2048x2048 .f32) (w : FVec Ideal S16x2048 .f32) (t s : Fin 2048) (h : Fin 16) :
    Host.exp (subf u (broadcastInDim S16x2048x2048 ![0, 1, 2] Gen.bcast_S16x2048x1_S16x2048x2048_0_1_2
      (broadcastInDim S16x2048x1 ![0, 1] Gen.bcast_S16x2048_S16x2048x1_0_1
        (maximumf (broadcastInDim S16x2048 ![] Gen.bcast_S_S16x2048 (constant S_ .f32 0xFF800000#32)) w)))) (ix3 h t s)
      = Ideal.exp (u (ix3 h t s) - max (Ideal.ofBits .f32 0xFF800000#32) (w (ix2 h t))) := by
  pointwise

/-- A score's exponential, less the row's maximum. -/
theorem v62_at (t s : Fin 2048) (h : Fin 16) {c : ℝ} (hc : res_main_v42 V0 (ix2 h t) = (c : EReal)) :
    res_main_v62 V0 (ix3 h t s) = ((Real.exp (-c) * (if Valid t s then Real.exp (A.z h t s) else 0) : ℝ) : EReal) := by
  have e := row_exp (fun s : Fin 2048 => Valid t s) (fun s : Fin 2048 => A.z h t s) c s
  rw [← v41_at H] at e
  refine (v62_of (res_main_v41_0 V0) (res_main_v42 V0) t s h).trans ?_
  rw [hc, ofBits_neg_inf, max_eq_right bot_le]
  refine e.trans (congrArg (fun r : ℝ => (r : EReal)) ?_)
  split_ifs
  · rw [← Real.exp_add, neg_add_eq_sub]
  · ring

/-- A row's sum of exponentials. -/
theorem v64_at (t : Fin 2048) (h : Fin 16) {c : ℝ} (hc : res_main_v42 V0 (ix2 h t) = (c : EReal)) :
    res_main_v64 V0 (ix3 h t 0) = ((Real.exp (-c) * A.den h t : ℝ) : EReal) := by
  unfold res_main_v64
  clean_types
  pointwise
  simp only [v62_at H _ _ _ hc]
  rw [← coe_sum, ← Finset.mul_sum]
  simp only [Arrays.den, Finset.sum_range]

/-- The attention probability. -/
theorem v66_at (t s : Fin 2048) (h : Fin 16) : res_main_v66 V0 (ix3 h t s) = ((A.P h t s : ℝ) : EReal) := by
  obtain ⟨c, hc⟩ := v42_at H t h
  have hd := A.den_pos h t.isLt
  unfold res_main_v66
  clean_types
  pointwise
  rw [v62_at H _ _ _ hc, v64_at H _ _ hc, div_real _ (by positivity)]
  refine congrArg (fun r : ℝ => (r : EReal)) ?_
  unfold Arrays.P
  split_ifs
  · field_simp
  · simp

/-- The gradient with respect to a probability. -/
theorem v75_at (t s : Fin 2048) (h : Fin 16) : res_main_v75 V0 (ix3 h t s) = ((A.dP h t s : ℝ) : EReal) := by
  unfold res_main_v75
  clean_types
  pointwise
  simp only [v74_at H, v9_at H, ← EReal.coe_mul, ← coe_sum, Arrays.dP, Finset.sum_range]

/-- The gradient with respect to a score. -/
theorem v90_at (t s : Fin 2048) (h : Fin 16) : res_main_v90 V0 (ix3 h t s) = ((A.dS h t s : ℝ) : EReal) := by
  obtain ⟨c, hc⟩ := v42_at H t h
  have hd := A.den_pos h t.isLt
  unfold res_main_v90
  clean_types
  pointwise
  rw [v41m_at]
  by_cases hv : Valid t s
  · rw [if_pos hv]
    have one : Ideal.div 1 (((Real.exp (-c) * A.den h t : ℝ) : EReal) * ((Real.exp (-c) * A.den h t : ℝ) : EReal))
        = ((1 / (Real.exp (-c) * A.den h t * (Real.exp (-c) * A.den h t)) : ℝ) : EReal) := by
      rw [← EReal.coe_mul, ← EReal.coe_one, div_real _ (by positivity)]
    have quot : Ideal.div ((A.dP h t s : ℝ) : EReal) ((Real.exp (-c) * A.den h t : ℝ) : EReal) = ((A.dP h t s / (Real.exp (-c) * A.den h t) : ℝ) : EReal) :=
      div_real _ (by positivity)
    simp only [v75_at H, v64_at H _ _ hc, v62_at H _ _ _ hc]
    simp only [one, quot]
    simp only [← EReal.coe_mul, ← coe_sum, ← EReal.coe_neg, ← EReal.coe_add, Finset.univ_unique, Finset.sum_singleton]
    refine (if_pos (by decide)).trans ?_
    refine congrArg (fun r : ℝ => (r : EReal)) ?_
    rw [Arrays.dS, Arrays.P, if_pos hv, if_pos hv, Finset.sum_range]
    have e : ∀ j : Fin 2048, A.P h t j = (if Valid t j then Real.exp (A.z h t j) else 0) / A.den h t := by
      intro j; unfold Arrays.P; split_ifs
      · rfl
      · exact (zero_div _).symm
    simp only [e]
    exact softmax_grad _ _ _ (Real.exp_pos _).ne' hd.ne' _ _
  · rw [if_neg hv, Arrays.dS, Arrays.P, if_neg hv, zero_mul]
    exact (if_neg (by decide)).trans EReal.coe_zero.symm

/-- The same by the score's scale. -/
theorem v94_at (t s : Fin 2048) (h : Fin 16) : res_main_v94 V0 (ix3 h t s) = ((A.dS h t s * (1 / 8) : ℝ) : EReal) := by
  unfold res_main_v94
  clean_types
  pointwise
  rw [v90_at H, ofBits_eighth, ← EReal.coe_mul]

omit H in
/-- A scatter that adds every update of a head at its row's column. -/
theorem scatter_sum (x : FVec Ideal S16x513 .f32) (idx : IVec S2048x2048x1 32) (u : FVec Ideal S16x2048x2048 .f32)
    (hr : ∀ t s : Fin 2048, idx (ix3 t s 0) = BitVec.ofNat 32 (rel t s)) (h : Fin 16) (r : Fin 513) :
    Host.scatterAdd scatter_S16x513_S2048x2048x1_S16x2048x2048_0_1_1_2 x idx u (ix2 h r)
      = x (ix2 h r) + ∑ t : Fin 2048, ∑ s : Fin 2048, if rel t s = r then u (ix3 h t s) else 0 := by
  unfold Host.scatterAdd
  rw [Ideal.hostScatterAdd_def]
  have e : ∀ (h' : Fin 16) (t s : Fin 2048), ScatterDims.resultIdx? scatter_S16x513_S2048x2048x1_S16x2048x2048_0_1_1_2 (ix3 h' t s) idx = some (ix2 h r)
      ↔ h' = h ∧ rel t s = r := by
    intro h' t s
    rw [scatter_lands idx h' h t s r ⟨rel t s, by unfold rel; omega⟩ (hr t s), Fin.ext_iff (b := r)]
  unfold Ideal.hostScatterAdd
  rw [Finset.sum_filter, sum_idx3]
  simp only [e]
  rw [Finset.sum_eq_single h]
  · simp
  · intro b _ hb; simp [hb]
  · simp

/-- The gradient of the bias table. -/
theorem table_at (h : Fin 16) (r : Fin 513) :
    Host.scatterAdd scatter_S16x513_S2048x2048x1_S16x2048x2048_0_1_1_2 (broadcastInDim S16x513 ![] Gen.bcast_S_S16x513 (constant S_ .f32 0x00000000#32)) (res_main_v28 V0) (res_main_v90 V0) (ix2 h r)
      = ((A.dB h r : ℝ) : EReal) := by
  refine (scatter_sum _ (res_main_v28 V0) (res_main_v90 V0) v28_at h r).trans ?_
  have z : broadcastInDim S16x513 ![] Gen.bcast_S_S16x513 (constant (F := Ideal) S_ FTy.f32 0#32) (ix2 h r) = 0 := by
    pointwise
  simp only [v90_at H]
  rw [z, zero_add, Arrays.dB, Finset.sum_range, coe_sum]
  refine Finset.sum_congr rfl fun t _ => ?_
  rw [Finset.sum_range, coe_sum]
  refine Finset.sum_congr rfl fun s _ => ?_
  split_ifs
  · rfl
  · exact EReal.coe_zero.symm

omit H in
/-- The three planes stacked. -/
theorem stack_at (a b e : FVec Ideal S1x2048x1024 .f32) (p : Fin 3) (t : Fin 2048) (c : Fin 1024) :
    truncf .bf16 (concatenate S3x2048x1024 0 [⟨S1x2048x1024, a⟩, ⟨S1x2048x1024, b⟩, ⟨S1x2048x1024, e⟩] Gen.concatenates_S1x2048x1024_S1x2048x1024_S1x2048x1024_S3x2048x1024_d0) Gen.bitsLt_bf16_f32 (ix3 p t c)
      = if p = 0 then a (ix3 0 t c) else if p = 1 then b (ix3 0 t c) else e (ix3 0 t c) := by
  pointwise
  match p with
  | 0 => rfl
  | 1 => rfl
  | 2 => rfl

/-- The gradient of the three planes. -/
theorem planes_at (p : Fin 3) (t : Fin 2048) (c : Fin 1024) :
    truncf .bf16 (concatenate S3x2048x1024 0
      [⟨S1x2048x1024, ((broadcastInDim S1x2048x1024 ![1, 2] Gen.bcast_S2048x1024_S1x2048x1024_1_2 (shapeCast _ (transpose S2048x16x64 [1, 0, 2] (Host.dotGeneral (φ₁ := .f32) (φ₂ := .f32) dot_S16x2048x2048_S2048x16x64_S16x2048x64_2_0_1_2_0_1 none (res_main_v94 V0) (res_main_v8 V0)) Gen.transposes_S16x2048x64_S2048x16x64_1_0_2) Gen.shapeCasts_S2048x16x64_S2048x1024)) : FVec Ideal S1x2048x1024 .f32)⟩,
       ⟨S1x2048x1024, ((broadcastInDim S1x2048x1024 ![1, 2] Gen.bcast_S2048x1024_S1x2048x1024_1_2 (shapeCast _ (transpose S2048x16x64 [1, 0, 2] (Host.dotGeneral (φ₁ := .f32) (φ₂ := .f32) dot_S16x2048x2048_S2048x16x64_S16x2048x64_1_0_2_2_0_1 none (res_main_v94 V0) (res_main_v7 V0)) Gen.transposes_S16x2048x64_S2048x16x64_1_0_2) Gen.shapeCasts_S2048x16x64_S2048x1024)) : FVec Ideal S1x2048x1024 .f32)⟩,
       ⟨S1x2048x1024, ((broadcastInDim S1x2048x1024 ![1, 2] Gen.bcast_S2048x1024_S1x2048x1024_1_2 (shapeCast _ (transpose S2048x16x64 [2, 0, 1] (Host.dotGeneral (φ₁ := .f32) (φ₂ := .f32) dot_S16x64x2048_S16x2048x2048_S16x64x2048_2_1_1_2_0_0 none (res_main_v74 V0) (res_main_v66 V0)) Gen.transposes_S16x64x2048_S2048x16x64_2_0_1) Gen.shapeCasts_S2048x16x64_S2048x1024)) : FVec Ideal S1x2048x1024 .f32)⟩]
      Gen.concatenates_S1x2048x1024_S1x2048x1024_S1x2048x1024_S3x2048x1024_d0) Gen.bitsLt_bf16_f32 (ix3 p t c)
      = ((A.dQKV p t c : ℝ) : EReal) := by
  have hc : 64 * (c.val / 64) + c.val % 64 = c.val := Nat.div_add_mod _ _
  refine (stack_at _ _ _ p t c).trans ?_
  match p with
  | 0 =>
    refine (if_pos rfl).trans ?_
    pointwise
    simp only [v94_at H, v8_at H, ← EReal.coe_mul, ← coe_sum, hc]
    simp only [Arrays.dQKV, Arrays.dQ, Finset.sum_range]
    rfl
  | 1 =>
    refine (if_neg (by decide)).trans ((if_pos rfl).trans ?_)
    pointwise
    simp only [v94_at H, v7_at H, ← EReal.coe_mul, ← coe_sum, hc]
    simp only [Arrays.dQKV, Arrays.dK, Finset.sum_range]
    rfl
  | 2 =>
    refine (if_neg (by decide)).trans ((if_neg (by decide)).trans ?_)
    pointwise
    simp only [v66_at H, v74_at H, ← EReal.coe_mul, ← coe_sum, hc]
    simp only [Arrays.dQKV, Arrays.dV, Finset.sum_range, mul_comm (A.g _ _)]
    rfl

end Cert.ReferenceIdeal.Dense

end
-- ==== Proof.Finite.lean ====
/-
  The precondition read: arguments bounded in absolute value by infinity are real arrays.
-/
module

public import proofs.«01_k».proof.Defs
public import proofs.«01_k».proof.Proof.Gen.Pre_finite
public import proofs.«01_k».proof.Proof.ArrayValue
public import proofs.«01_k».proof.Proof.RefValue

@[expose] public section

set_option maxRecDepth 16384

noncomputable section

namespace Cert.Band

open Idealize.ShloMosaic Idealize.ShloMosaic.TcCoe

/-- The word of positive infinity. -/
theorem ofBits_pos_inf : Ideal.ofBits .f32 0x7F800000#32 = ⊤ := by
  simp [Ideal.ofBits, Ideal.ieee]

/-- An extended real whose absolute value compares below infinity is real. -/
theorem real_of_cmp (x : EReal) (h : Ideal.cmp .olt (max x (-x)) (Ideal.ofBits .f32 0x7F800000#32) = 1#1) : x = ((x.toReal : ℝ) : EReal) := by
  rw [ofBits_pos_inf] at h
  have hx : max x (-x) < ⊤ := by
    by_contra hn
    simp [Ideal.cmp, hn] at h
  refine (EReal.coe_toReal ?_ ?_).symm
  · rintro rfl; simp at hx
  · rintro rfl; simp at hx

/-- A table of reals on all pairs of numbers, zero outside. -/
def spread {n k : ℕ} (f : Fin n → Fin k → EReal) (a b : ℕ) : ℝ := if h : a < n ∧ b < k then (f ⟨a, h.1⟩ ⟨b, h.2⟩).toReal else 0

/-- Inside its range the table holds the reals. -/
theorem spread_at {n k : ℕ} (f : Fin n → Fin k → EReal) (a : Fin n) (b : Fin k) (h : f a b = (((f a b).toReal : ℝ) : EReal)) :
    f a b = ((spread f a b : ℝ) : EReal) := by
  have e : spread f a.val b.val = (f a b).toReal := dif_pos ⟨a.isLt, b.isLt⟩
  rw [e]
  exact h

/-- The real arrays that finite arguments hold. -/
def arrays (x0 : Vec Ideal Cert.Pre_finite.S3x2048x1024 .bf16) (x1 : Vec Ideal Cert.Pre_finite.S16x513 .f32) (x2 : Vec Ideal Cert.Pre_finite.S2048x1024 .f32) : Arrays where
  q := spread fun (t : Fin 2048) (c : Fin 1024) => x0 (ix3 0 t c)
  k := spread fun (t : Fin 2048) (c : Fin 1024) => x0 (ix3 1 t c)
  v := spread fun (t : Fin 2048) (c : Fin 1024) => x0 (ix3 2 t c)
  b := spread fun (h : Fin 16) (r : Fin 513) => x1 (ix2 h r)
  g := spread fun (t : Fin 2048) (c : Fin 1024) => x2 (ix2 t c)

/-- What the arrays hold, entry by entry. -/
structure Held (A : Arrays) (x0 : Vec Ideal Cert.Pre_finite.S3x2048x1024 .bf16) (x1 : Vec Ideal Cert.Pre_finite.S16x513 .f32) (x2 : Vec Ideal Cert.Pre_finite.S2048x1024 .f32) : Prop where
  q : ∀ (t : Fin 2048) (c : Fin 1024), x0 (ix3 0 t c) = ((A.q t c : ℝ) : EReal)
  k : ∀ (t : Fin 2048) (c : Fin 1024), x0 (ix3 1 t c) = ((A.k t c : ℝ) : EReal)
  v : ∀ (t : Fin 2048) (c : Fin 1024), x0 (ix3 2 t c) = ((A.v t c : ℝ) : EReal)
  b : ∀ (h : Fin 16) (r : Fin 513), x1 (ix2 h r) = ((A.b h r : ℝ) : EReal)
  g : ∀ (t : Fin 2048) (c : Fin 1024), x2 (ix2 t c) = ((A.g t c : ℝ) : EReal)

/-- The precondition makes the arguments real. -/
theorem held (x0 : Vec Ideal Cert.Pre_finite.S3x2048x1024 .bf16) (x1 : Vec Ideal Cert.Pre_finite.S16x513 .f32) (x2 : Vec Ideal Cert.Pre_finite.S2048x1024 .f32)
    (h0 : (Cert.Pre_finite.fn (F := Ideal) x0 x1 x2).1 = (fun _ => 1#1))
    (h1 : (Cert.Pre_finite.fn (F := Ideal) x0 x1 x2).2.1 = (fun _ => 1#1))
    (h2 : (Cert.Pre_finite.fn (F := Ideal) x0 x1 x2).2.2 = (fun _ => 1#1)) : Held (arrays x0 x1 x2) x0 x1 x2 := by
  have e0 : ∀ i, x0 i = ((EReal.toReal (x0 i) : ℝ) : EReal) := fun i => real_of_cmp _ (congrFun h0 i)
  have e1 : ∀ i, x1 i = ((EReal.toReal (x1 i) : ℝ) : EReal) := fun i => real_of_cmp _ (congrFun h1 i)
  have e2 : ∀ i, x2 i = ((EReal.toReal (x2 i) : ℝ) : EReal) := fun i => real_of_cmp _ (congrFun h2 i)
  exact ⟨fun t c => spread_at (fun (t : Fin 2048) (c : Fin 1024) => x0 (ix3 0 t c)) t c (e0 _),
    fun t c => spread_at (fun (t : Fin 2048) (c : Fin 1024) => x0 (ix3 1 t c)) t c (e0 _),
    fun t c => spread_at (fun (t : Fin 2048) (c : Fin 1024) => x0 (ix3 2 t c)) t c (e0 _),
    fun h r => spread_at (fun (h : Fin 16) (r : Fin 513) => x1 (ix2 h r)) h r (e1 _),
    fun t c => spread_at (fun (t : Fin 2048) (c : Fin 1024) => x2 (ix2 t c)) t c (e2 _)⟩

/-- Two arrays of rank three that agree with a function of the coordinates are equal. -/
theorem ext3 {a b c : ℕ} {X Y : (⟨3, ![a, b, c]⟩ : Shape).Idx → EReal} (G : ℕ → ℕ → ℕ → EReal)
    (hX : ∀ (i : Fin a) (j : Fin b) (k : Fin c), X (ix3 i j k) = G i j k) (hY : ∀ (i : Fin a) (j : Fin b) (k : Fin c), Y (ix3 i j k) = G i j k) : X = Y :=
  funext fun i => (congrArg X (eq_ix3 i)).trans ((hX (i 0) (i 1) (i 2)).trans ((hY (i 0) (i 1) (i 2)).symm.trans (congrArg Y (eq_ix3 i)).symm))

/-- The same of rank two. -/
theorem ext2 {a b : ℕ} {X Y : (⟨2, ![a, b]⟩ : Shape).Idx → EReal} (G : ℕ → ℕ → EReal)
    (hX : ∀ (i : Fin a) (j : Fin b), X (ix2 i j) = G i j) (hY : ∀ (i : Fin a) (j : Fin b), Y (ix2 i j) = G i j) : X = Y :=
  funext fun i => (congrArg X (eq_ix2 i)).trans ((hX (i 0) (i 1)).trans ((hY (i 0) (i 1)).symm.trans (congrArg Y (eq_ix2 i)).symm))

end Cert.Band
-- ==== Proof.Claims.lean ====
/-
  The claims: the frames, the named constants, and the equality of the two programs over the extended reals.
-/
module

public import proofs.«01_k».proof.Proof.Finite
public import proofs.«01_k».proof.Proof.BodyFrame
public import proofs.«01_k».proof.Proof.Bits.BodyFrame
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Claims

open Idealize.ShloMosaic Idealize.ShloMosaic.StableHlo Idealize.SL.Sem Cert.Band

/-- The kernel as it runs on words ends with its arguments unchanged and every counter at zero. -/
theorem frame_bits : quiescent_Kernel (hKernel := Cert.Kernel.Gen.facts) := fun m g _ => Cert.Kernel.Band.frame m g

/-- The kernel over the extended reals likewise. -/
theorem frame_ideal : quiescent_KernelIdeal (hKernelIdeal := Cert.KernelIdeal.Gen.facts) := fun m g _ => Cert.KernelIdeal.Band.frame m g

/-- The same under the precondition. -/
theorem frame_ideal_finite : quiescent_KernelIdeal_pre_finite (hKernelIdeal := Cert.KernelIdeal.Gen.facts) (hPre_finite := Cert.Pre_finite.Gen.facts) :=
  fun m g _ => Cert.KernelIdeal.Band.frame m g

/-- The reference ends with its arguments unchanged and every counter at zero. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono (fun r h => ⟨fun c => (h c).2.2, Idealize.ShloMosaic.sem_eq_zero_of_no_sems (by decide) r.2⟩) (Cert.ReferenceIdeal.Value.run m g)

/-- The named constants stand for what they are named for. -/
theorem preserves : preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3E38AA3B#32 (((1 / 8) * (Real.log 2)⁻¹ : ℝ) : EReal) rfl,
    IdealRules.named_const.statement Cert.KernelIdeal.κ "masked" .f32 0xF149F2CA#32 ⊥ rfl⟩

/-- The two programs compute the same gradients from finite arguments. -/
theorem algebraic : algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hargs
  have H : ∀ c : Dev Cert.KernelIdeal.nD, _ := fun c => held _ _ _ (hpre c).1 (hpre c).2.1 (hpre c).2.2
  refine ⟨fun c => Cert.KernelIdeal.Band.W5 m g c (Proc.devRef .tc Cert.KernelIdeal.main_v6_0), fun c => Cert.KernelIdeal.Band.W5 m g c (Proc.devRef .tc Cert.KernelIdeal.main_v9), ?_, ?_⟩
  · exact (θ_run (Cert.KernelIdeal.defs (F := Ideal)) _ _).mono (fun _ h c => ⟨(h.1 c).2.2.2.1, (h.1 c).2.2.2.2, (h.1 c).1, (h.1 c).2.1, (h.1 c).2.2.1⟩) (Cert.KernelIdeal.Band.run m g)
  · have R : ∀ c : Dev Cert.KernelIdeal.nD, Cert.ReferenceIdeal.Dense.Reads (arrays _ _ _) (launchContents m' c) := fun c => by
      obtain ⟨a0, a1, a2⟩ := hargs c
      exact ⟨fun t x => (congrFun a0 _).trans ((H c).q t x), fun t x => (congrFun a0 _).trans ((H c).k t x), fun t x => (congrFun a0 _).trans ((H c).v t x),
        fun h r => (congrFun a1 _).trans ((H c).b h r), fun t x => (congrFun a2 _).trans ((H c).g t x)⟩
    have E : ∀ c : Dev Cert.KernelIdeal.nD, Cert.KernelIdeal.Band.Entry m c (arrays _ _ _) := fun c => ⟨(H c).q, (H c).k, (H c).v, (H c).b, (H c).g⟩
    refine (θ_run (Cert.ReferenceIdeal.defs (F := Ideal)) _ _).mono (fun _ h c => ⟨(h c).1.trans ?_, (h c).2.1.trans ?_, (h c).2.2⟩) (Cert.ReferenceIdeal.Value.run m' g')
    · exact ext3 (fun a t x => (((arrays (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).dQKV a t x : ℝ) : EReal))
        (fun a t x => Cert.ReferenceIdeal.Dense.planes_at (R c) a t x) (fun a t x => Cert.KernelIdeal.Band.grad_at g (E c) a t x)
    · exact ext2 (fun h r => (((arrays (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).dB h r : ℝ) : EReal))
        (fun h r => Cert.ReferenceIdeal.Dense.table_at (R c) h r) (fun h r => Cert.KernelIdeal.Band.table_at g (E c) h r)

end Cert.Claims
-- ==== Proof.Ffn.Stores.lean ====
module

public import Idealize.ShloMosaic.Lib.Pipeline.FrameBody
public import Idealize.ShloMosaic.Lib.Pipeline.Value
public import Idealize.ShloMosaic.Lib.Pipeline.ValueKit
public import Idealize.ShloMosaic.Lib.Pipeline.TableIdle

@[expose] public section

/-! # A store through a whole block -/

namespace Idealize.ShloMosaic.View

variable {sig : RefSig} {κ : Kind} {sp : Space} {S : Shape} {e : EltTy} {Val : EltTy → Type}

/-- After a last store through the whole of a block, the block reads what was stored, whatever was there and whatever
    was stored before. -/
theorem read_store [∀ e, Nonempty (Val e)] (v : View sig κ sp S e) (f : v.ty.Contents Val) {off : Fin S.rank → Nat}
    (inb : ∀ a, off a + S.size a ≤ S.size a) (w : S.Idx → Val e) (L : List (Piece Val S e)) (h : ∀ a, off a = 0) :
    v.read Val (v.writes Val f ((⟨Rect.unit off S.size inb, w⟩ : Piece Val S e) :: L)) = w := by
  have h0 : off = fun _ => 0 := funext h
  subst h0
  refine (read_writes_eq_canon v f _ fun y => ⟨_, List.mem_cons_self, ?_⟩).trans
    (canon_cons_unit_zero rfl inb w L)
  have : y ∈ (Rect.whole S).set := by rw [Rect.set_whole]; exact Finset.mem_univ y
  exact this

end Idealize.ShloMosaic.View

namespace Idealize.ShloMosaic.Pipeline.Dat

open Idealize.SL Idealize.SL.RA Idealize.SL.BI TcCoe
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type}
  [DecidableEq Name] {U : Type} [URA U] {Lvl : Type}
variable {Λ₀ : Labels} {cfg : Pipeline.Cfg sig Λ₀} {c : Dev nD} (dat : Pipeline.Dat τ Val Ix Name U Lvl cfg c)

/-- What a body must leave in a window's buffer, from one value: where the window is idle and not written back the
    value is what was found there, everywhere else it is the value stated for the point. -/
theorem leaves_of (w : Fin cfg.W) (t : Fin cfg.N) (d : (cfg.win w).block.Idx → Val (cfg.win w).elt)
    (X : (cfg.win w).block.Idx → Val (cfg.win w).elt)
    (hi : cfg.idle w (cfg.grid.coords t) = true → (cfg.win w).flush t = false → X = dat.before w t d)
    (ha : ¬(cfg.idle w (cfg.grid.coords t) = true ∧ (cfg.win w).flush t = false) → X = dat.after w t) :
    owns (c : Thread nD τ) ((cfg.win w).stage (cfg.slots t w)) fullShare X ⊢ dat.leavesExact w t := by
  unfold leavesExact
  cases h : cfg.idle w (cfg.grid.coords t)
  · rw [ha (by simp [h])]
  · cases h' : (cfg.win w).flush t
    · rw [hi h h']
      iintro H; iexists d; iexact H
    · rw [ha (by simp [h'])]

end Idealize.ShloMosaic.Pipeline.Dat
-- ==== Proof.Ffn.Run0.lean ====
module

public import proofs.«01_k».proof.Proof.Ffn.Stores
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Pipeline.ValueKit
public import Idealize.ShloMosaic.Lib.Tactic

@[expose] public section

set_option maxRecDepth 16384

/-! # The body of the forward call -/

noncomputable section

namespace Cert.Kernel2Ideal.Ffn
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of a row block: the rows are normalised and the result is started. -/
abbrev first0 (i : grid0.Coords) : Prop :=
  (Scalar.cmpi .ne (Scalar.extui (Scalar.cmpi .eq (BitVec.ofNat 32 (i 1).val) 0#32)) 0#32) = 1#1

variable (c : Dev nD) (i : grid0.Coords)
  (arg2 : Memref sig .tc .vmem S1024x1024 .f32) (harg2 : arg2.IsWhole) (arg3 : Memref sig .tc .vmem S1x1024 .f32)
  (harg3 : arg3.IsWhole) (arg4 : Memref sig .tc .vmem S1x704x1024 .bf16) (harg4 : arg4.IsWhole) (arg5 : Memref sig .tc
  .vmem S1x704x1024 .bf16) (harg5 : arg5.IsWhole) (arg6 : Memref sig .tc .vmem S1x704x1024 .bf16) (harg6 :
  arg6.IsWhole) (arg7 : Memref sig .tc .vmem S1024x1024 .f32) (harg7 : arg7.IsWhole) (arg8 : Memref sig .tc .vmem
  S1x1024x704 .bf16) (harg8 : arg8.IsWhole) (arg9 : Memref sig .tc .vmem S1x1024x704 .bf16) (harg9 : arg9.IsWhole)
  (arg10 : Memref sig .tc .vmem S1024x1024 .bf16) (harg10 : arg10.IsWhole)
  (x0 : Vec F S1024x1024 .f32) (x1 : Vec F S1x1024 .f32) (x2 : Vec F S1x704x1024 .bf16) (x3 : Vec F S1x704x1024 .bf16)
  (x4 : Vec F S1x704x1024 .bf16) (o5 : Vec F S1024x1024 .f32) (o6 : Vec F S1x1024x704 .bf16) (o7 : Vec F S1x1024x704
  .bf16) (s0 : Vec F S1024x1024 .bf16)

set_option maxHeartbeats 4000000 in
/-- One run of the body: the normalised rows, the result with this shard's share added, the gate and the up
    products. -/
theorem run0 (E : Set ℕ) (K : PUnit → sProp 𝕄) :
    iprop(owns (c : Thread nD τ) arg2 fullShare x0 ∗ owns (c : Thread nD τ) arg3 fullShare x1 ∗ owns (c : Thread nD τ)
      arg4 fullShare x2 ∗ owns (c : Thread nD τ) arg5 fullShare x3 ∗ owns (c : Thread nD τ) arg6 fullShare x4 ∗ owns
      (c : Thread nD τ) arg7 fullShare o5 ∗ owns (c : Thread nD τ) arg8 fullShare o6 ∗ owns (c : Thread nD τ) arg9
      fullShare o7 ∗ owns (c : Thread nD τ) arg10 fullShare s0
        ∗ (iprop(owns (c : Thread nD τ) arg2 fullShare x0 ∗ owns (c : Thread nD τ) arg3 fullShare x1 ∗ owns (c : Thread nD τ)
          arg4 fullShare x2 ∗ owns (c : Thread nD τ) arg5 fullShare x3 ∗ owns (c : Thread nD τ) arg6 fullShare x4 ∗
          owns (c : Thread nD τ) arg7 fullShare (k0_pay6 (if first0 i then k0_pay3 x0 x1 else s0) x2 x3 (if first0 i
          then x0 else o5) x4) ∗ owns (c : Thread nD τ) arg8 fullShare (k0_pay1 (k0_pay7 (if first0 i then k0_pay3 x0
          x1 else s0) x2)) ∗ owns (c : Thread nD τ) arg9 fullShare (k0_pay2 (k0_pay5 (if first0 i then k0_pay3 x0 x1
          else s0) x3)) ∗ owns (c : Thread nD τ) arg10 fullShare (if first0 i then k0_pay3 x0 x1 else s0)) -∗ K ⟨⟩))
      ⊢ wp frame (wpE (defs₀ (F := F)) Variants.none c none) E
          (cc0_ffn1 i arg2 harg2 arg3 harg3 arg4 harg4 arg5 harg5 arg6 harg6 arg7 harg7 arg8 harg8 arg9 harg9 arg10
          harg10) K := by
  simp only [cc0_ffn1_eq_skeleton]; unfold cc0_ffn1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6,
    H6⟩, ⟨%f7, %hf7, H7⟩, ⟨%f8, %hf8, H8⟩, Hk⟩
  obtain rfl := harg2.eq_unread hf0; obtain rfl := harg3.eq_unread hf1; obtain rfl := harg4.eq_unread hf2; obtain rfl
  := harg5.eq_unread hf3; obtain rfl := harg6.eq_unread hf4; obtain rfl := harg7.eq_unread hf5; obtain rfl :=
  harg8.eq_unread hf6; obtain rfl := harg9.eq_unread hf7; obtain rfl := harg10.eq_unread hf8
  by_cases hc : first0 i
  all_goals
    sl_exec (disch := first | sl_exact hc)
  all_goals
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      try simp only [if_pos hc]
      try simp only [if_neg hc]
      first
        | with_reducible exact harg7.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H6]
    · iexists _; isplitr; swap; · iexact H6
      ipureintro
      try simp only [if_pos hc]
      try simp only [if_neg hc]
      first
        | with_reducible exact harg8.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H7]
    · iexists _; isplitr; swap; · iexact H7
      ipureintro
      try simp only [if_pos hc]
      try simp only [if_neg hc]
      first
        | with_reducible exact harg9.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    iexists _; isplitr; swap; · iexact H8
    ipureintro
    try simp only [if_pos hc]
    try simp only [if_neg hc]
    first
      | with_reducible exact harg10.read_unread _
      | refine (View.read_store _ _ _ _ _ (by decide)).trans ?_
        sl_unfold_words
        simp (disch := decide) only [View.ld_unit_lit', View.readCov_unit_lit', View.readCov_cons_unit_lit',
          View.canon_cons_unit_lit', View.readAt_eq_ld, Memref.IsWhole.read_unread]

end Cert.Kernel2Ideal.Ffn
-- ==== Proof.Ffn.Reg0.lean ====
module

public import proofs.«01_k».proof.Proof.Ffn.Run0
public import Idealize.ShloMosaic.Lib.WordCmp

@[expose] public section

set_option maxRecDepth 16384

/-! # The forward call, point by point

What every grid point of the forward call finds and leaves: the normalised rows stay in the scratch buffer through the
four shards of a row block, and the result's block collects the shards' shares. -/

noncomputable section

namespace Cert.Kernel2Ideal.Ffn
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the call finds it. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- One point: the normalised rows and the result's block, from those of the point before. -/
def step0 (c : Dev nD) (t : Fin cfg0.N) (p : Vec F S1024x1024 .bf16 × Vec F S1024x1024 .f32) :
    Vec F S1024x1024 .bf16 × Vec F S1024x1024 .f32 :=
  (if t.val % 4 = 0 then k0_pay3 (blk0 V c 0 t) (blk0 V c 1 t) else p.1,
    k0_pay6 (if t.val % 4 = 0 then k0_pay3 (blk0 V c 0 t) (blk0 V c 1 t) else p.1) (blk0 V c 2 t) (blk0 V c 3 t)
      (if t.val % 4 = 0 then blk0 V c 0 t else p.2) (blk0 V c 4 t))

/-- The normalised rows and the result's block after every point. -/
def at0 (c : Dev nD) : (n : ℕ) → n < cfg0.N → Vec F S1024x1024 .bf16 × Vec F S1024x1024 .f32
  | 0, h => step0 V c ⟨0, h⟩ (k0_pay3 (blk0 V c 0 ⟨0, h⟩) (blk0 V c 1 ⟨0, h⟩), blk0 V c 0 ⟨0, h⟩)
  | n + 1, h => step0 V c ⟨n + 1, h⟩ (at0 c n (Nat.lt_of_succ_lt h))

/-- The state before a point. -/
abbrev prev0 (c : Dev nD) (t : Fin cfg0.N) : Vec F S1024x1024 .bf16 × Vec F S1024x1024 .f32 :=
  at0 V c (t.val - 1) (Nat.lt_of_le_of_lt (Nat.sub_le _ _) t.isLt)

/-- A point steps from any pair that agrees with the point before where that is read. -/
theorem step0_eq (c : Dev nD) (t : Fin cfg0.N) (p : Vec F S1024x1024 .bf16 × Vec F S1024x1024 .f32)
    (h1 : ¬t.val % 4 = 0 → p.1 = (prev0 V c t).1) (h2 : ¬t.val % 4 = 0 → p.2 = (prev0 V c t).2) :
    step0 V c t p = at0 V c t.val t.isLt := by
  obtain ⟨n, hn⟩ := t
  cases n with
  | zero => rfl
  | succ n =>
    show step0 V c ⟨n + 1, hn⟩ p = step0 V c ⟨n + 1, hn⟩ (at0 V c n _)
    by_cases h : (n + 1) % 4 = 0
    · unfold step0; simp only [h, if_true]
    · exact congrArg _ (Prod.ext (h1 h) (h2 h))

/-- Between the points: the scratch buffer holds the normalised rows of the point before, the rest is anything. -/
def Phi0 (c : Dev nD) (n : ℕ) (hn : n ≤ cfg0.N) : sProp 𝕄 :=
  iprop(∃ s : Vec F S1024x1024 .bf16, ⌜∀ h : n ≠ 0, s = (at0 V c (n - 1) (by omega)).1⌝
      ∗ owns (c : Thread nD τ) (Memref.whole cc0_scratch0) fullShare s
      ∗ Pipeline.scopedRestBut (Ix := Unit) (Name := ℕ) (U := UR sig nD τ) (Lvl := ℕ) (Val := Elt F) spec0 c [cc0_scratch0]
      ∗ ∃ r, prngReg c r)

/-- The pipeline's proof data: the arrays as found, the inputs' blocks left in place, the outputs at the stated values,
    the scratch buffer at the normalised rows. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => (at0 V c t.val t.isLt).2
    | ⟨6, _⟩ => k0_pay1 (k0_pay7 (at0 V c t.val t.isLt).1 (blk0 V c 2 t))
    | ⟨7, _⟩ => k0_pay2 (k0_pay5 (at0 V c t.val t.isLt).1 (blk0 V c 3 t))
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t

/-- An input's buffer holds its block at every point. -/
theorem in0_of (c : Dev nD) (w : Fin cfg0.W) (hw : (cfg0.win w).isOut = false)
    (hf : ∀ t d, (dat0 V c).fetched w t d = (dat0 V c).after w t)
    (hk : ∀ t, (cfg0.win w).cut (cfg0.grid.coords t) ((dat0 V c).after w t) = (dat0 V c).blockOf w t)
    (hc : ∀ t t' : Fin cfg0.N, (cfg0.win w).index t = (cfg0.win w).index t' →
      (cfg0.win w).clip (cfg0.grid.coords t) = (cfg0.win w).clip (cfg0.grid.coords t'))
    (hl : ∀ i, cfg0.idle w i = false) (t : Fin cfg0.N) (d) :
    (dat0 V c).before w t d = (dat0 V c).after w t :=
  ((dat0 V c).before_in_eq_fetched w hw hl hc hk t d).trans (hf t d)

theorem in0_0 (c : Dev nD) (t d) : (dat0 V c).before 0 t d = blk0 V c 0 t :=
  in0_of V c 0 rfl (fun _ _ => rfl) (fun _ => rfl) (fun _ _ _ => rfl) (fun _ => rfl) t d
theorem in0_1 (c : Dev nD) (t d) : (dat0 V c).before 1 t d = blk0 V c 1 t :=
  in0_of V c 1 rfl (fun _ _ => rfl) (fun _ => rfl) (fun _ _ _ => rfl) (fun _ => rfl) t d
theorem in0_2 (c : Dev nD) (t d) : (dat0 V c).before 2 t d = blk0 V c 2 t :=
  in0_of V c 2 rfl (fun _ _ => rfl) (fun _ => rfl) (fun _ _ _ => rfl) (fun _ => rfl) t d
theorem in0_3 (c : Dev nD) (t d) : (dat0 V c).before 3 t d = blk0 V c 3 t :=
  in0_of V c 3 rfl (fun _ _ => rfl) (fun _ => rfl) (fun _ _ _ => rfl) (fun _ => rfl) t d
theorem in0_4 (c : Dev nD) (t d) : (dat0 V c).before 4 t d = blk0 V c 4 t :=
  in0_of V c 4 rfl (fun _ _ => rfl) (fun _ => rfl) (fun _ _ _ => rfl) (fun _ => rfl) t d

/-- After the first shard of a row block the result's buffer holds what the point before left. -/
theorem mid0 (c : Dev nD) (t : Fin cfg0.N) (h0 : ¬t.val % 4 = 0) (d) : (dat0 V c).before 5 t d = (prev0 V c t).2 := by
  have hN : t.val < 8 := lt_of_lt_of_eq t.isLt (show cfg0.N = 8 from N_0)
  rw [Dat.before_out_kept _ 5 rfl t (by omega)
    (Bool.eq_false_iff.mpr fun h => by have := (flush0_5 _).mp h; dsimp only at this; omega)
    (fun _ => rfl) (fun _ _ => rfl)]
  dsimp only [dat0]

/-- The first point of a row block is the one at its first shard. -/
theorem first0_iff (t : Fin cfg0.N) : first0 (grid0.coords t) ↔ t.val % 4 = 0 := by
  have ht : t.val < 8 := Nat.lt_of_lt_of_eq t.isLt N_0
  have e1 : (grid0.coords t 1).val = t.val / 1 % 4 := Pipeline.Grid.coords_val t 1 (by decide) rfl
  simp only [first0, e1]
  word_cmp

set_option maxHeartbeats 6400000 in
/-- The body at any point: what it finds, run through the body, is what it must leave. -/
theorem sound0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d))
        ∗ (∃ d, owns (c : Thread nD τ) (st0_7 t) fullShare ((dat0 V c).before 7 t d)))
      ⊢ wp frame (wpE (defs₀ (F := F)) Variants.none c none) Set.univ (bodyAt0 t)
        (fun _ => iprop((dat0 V c).Φ t.succ ∗ (dat0 V c).owesAt () t.succ
          ∗ (dat0 V c).leavesExact 0 t ∗ (dat0 V c).leavesExact 1 t ∗ (dat0 V c).leavesExact 2 t
          ∗ (dat0 V c).leavesExact 3 t ∗ (dat0 V c).leavesExact 4 t ∗ (dat0 V c).leavesExact 5 t
          ∗ (dat0 V c).leavesExact 6 t ∗ (dat0 V c).leavesExact 7 t)) := by
  unfold bodyAt0
  simp only [in0_0, in0_1, in0_2, in0_3, in0_4]
  rw [show (dat0 V c).owesAt () t.succ = (dat0 V c).owesAt () t.castSucc from rfl, Phi0_castSucc,
    show (dat0 V c).Φ t.succ = Phi0 V c (t.val + 1) t.isLt from rfl]
  unfold Phi0
  iintro ⟨⟨%s, %hs, HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have e : step0 V c t (s, (dat0 V c).before 5 t d5) = at0 V c t.val t.isLt :=
    step0_eq V c t _ (fun h => hs fun h0 => h (by rw [h0])) (fun h => mid0 V c t h d5)
  have e1 := congrArg Prod.fst e
  have e2 := congrArg Prod.snd e
  dsimp only [step0] at e1 e2
  iapply (run0 c (grid0.coords t) _ _ _ _ _ _ _ _ _ _ _ _ _ _ _ _ _ _ (blk0 V c 0 t) (blk0 V c 1 t) (blk0 V c 2 t)
    (blk0 V c 3 t) (blk0 V c 4 t) ((dat0 V c).before 5 t d5) ((dat0 V c).before 6 t d6) ((dat0 V c).before 7 t d7) s
    Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  simp only [first0_iff]
  rw [e2, e1]
  iintro ⟨H0, H1, H2, H3, H4, H5, H6, H7, HS⟩
  isplitl [HS HR Hg]
  · iexists _
    isplitr; swap
    · isplitl [HS]; · iexact HS
      isplitl [HR]; · iexact HR
      iexact Hg
    ipureintro; exact fun _ => rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots is the body on them. -/
theorem row0 (t : Fin cfg0.N) : defs₀ (F := F) .tc cfg0.body (cfg0.bodyArgs t (cfg0.slots t)) = bodyAt0 t := by
  unfold defs₀; rw [Defs.onTc_tc]

/-- The body meets its obligation at every point. -/
theorem body_obligation0 (c : Dev nD) :
    BodyObligation (dat0 (F := F) V c) (defs₀ (F := F)) Variants.none () Set.univ := fun t => by
  rw [bigSep_W0, bigSep_W0, row0]
  exact triple_restated (sound0 V c t) rfl .rfl fun _ => .rfl

/-- What the launch hands the call is its state before the first point. -/
theorem hin0 (c : Dev nD) : Pipeline.ΦA spec0 c ⊢ (dat0 V c).Φ 0 := by
  rw [show (dat0 V c).Φ 0 = Phi0 V c 0 (Nat.zero_le _) from rfl]
  unfold Phi0 Pipeline.ΦA; rw [scopedRest0_split]; simp only [owns_whole]
  iintro ⟨⟨⟨%s, HS⟩, HR⟩, Hg⟩
  iexists s
  isplitr; · ipureintro; exact fun h => absurd rfl h
  isplitl [HS]; · iexact HS
  isplitl [HR]; · iexact HR
  iexact Hg

/-- After the last point the launch gets it back. -/
theorem hout0 (c : Dev nD) : (dat0 V c).Φ (Fin.last cfg0.N) ⊢ Pipeline.ΦA spec0 c := by
  rw [show (dat0 V c).Φ (Fin.last cfg0.N) = Phi0 V c cfg0.N le_rfl from rfl]
  unfold Phi0 Pipeline.ΦA; rw [scopedRest0_split]; simp only [owns_whole]
  iintro ⟨%s, -, HS, HR, Hg⟩
  isplitl [HS HR]
  · isplitl [HS]; · iexists s; iexact HS
    iexact HR
  iexact Hg

end Cert.Kernel2Ideal.Ffn
-- ==== Proof.Ffn.Run1.lean ====
module

public import proofs.«01_k».proof.Proof.Ffn.Stores
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Pipeline.ValueKit
public import Idealize.ShloMosaic.Lib.Tactic

@[expose] public section

set_option maxRecDepth 16384

/-! # The body of the backward call -/

noncomputable section

namespace Cert.Kernel2Ideal.Ffn
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg2 : Memref sig .tc .vmem S512x1024 .f32) (harg2 : arg2.IsWhole) (arg3 : Memref sig .tc .vmem S512x1024 .f32)
  (harg3 : arg3.IsWhole) (arg4 : Memref sig .tc .vmem S1x1024 .f32) (harg4 : arg4.IsWhole) (arg5 : Memref sig .tc
  .vmem S1x512x704 .bf16) (harg5 : arg5.IsWhole) (arg6 : Memref sig .tc .vmem S1x512x704 .bf16) (harg6 : arg6.IsWhole)
  (arg7 : Memref sig .tc .vmem S1x704x1024 .bf16) (harg7 : arg7.IsWhole) (arg8 : Memref sig .tc .vmem S1x704x1024
  .bf16) (harg8 : arg8.IsWhole) (arg9 : Memref sig .tc .vmem S1x704x1024 .bf16) (harg9 : arg9.IsWhole) (arg10 : Memref
  sig .tc .vmem S512x1024 .f32) (harg10 : arg10.IsWhole) (arg11 : Memref sig .tc .vmem S1x1024 .f32) (harg11 :
  arg11.IsWhole) (arg12 : Memref sig .tc .vmem S512x1024 .bf16) (harg12 : arg12.IsWhole) (arg13 : Memref sig .tc .vmem
  S1x512x704 .bf16) (harg13 : arg13.IsWhole) (arg14 : Memref sig .tc .vmem S1x512x704 .bf16) (harg14 : arg14.IsWhole)
  (arg15 : Memref sig .tc .vmem S1x512x704 .bf16) (harg15 : arg15.IsWhole) (arg16 : Memref sig .tc .vmem S512x1024
  .bf16) (harg16 : arg16.IsWhole) (arg17 : Memref sig .tc .vmem S512x1024 .f32) (harg17 : arg17.IsWhole)
  (x0 : Vec F S512x1024 .f32) (x1 : Vec F S512x1024 .f32) (x2 : Vec F S1x1024 .f32) (x3 : Vec F S1x512x704 .bf16) (x4
  : Vec F S1x512x704 .bf16) (x5 : Vec F S1x704x1024 .bf16) (x6 : Vec F S1x704x1024 .bf16) (x7 : Vec F S1x704x1024
  .bf16) (o8 : Vec F S512x1024 .f32) (o9 : Vec F S1x1024 .f32) (o10 : Vec F S512x1024 .bf16) (o11 : Vec F S1x512x704
  .bf16) (o12 : Vec F S1x512x704 .bf16) (o13 : Vec F S1x512x704 .bf16) (s0 : Vec F S512x1024 .bf16) (s1 : Vec F
  S512x1024 .f32)

set_option maxHeartbeats 4000000 in
/-- One run of the body: the rows normalised and the sum started at the first shard, the three shard products,
    the sum continued, and after the last shard the gradient of the rows and of the scale. -/
theorem run1 (h : (k1_cond1 i = 1#1 ∧ ¬k1_cond2 i = 1#1) ∨ (¬k1_cond1 i = 1#1 ∧ ¬k1_cond2 i = 1#1)
      ∨ (¬k1_cond1 i = 1#1 ∧ k1_cond2 i = 1#1))
    (h34 : (k1_cond3 i = 1#1 ∧ ¬k1_cond4 i = 1#1) ∨ (¬k1_cond3 i = 1#1 ∧ k1_cond4 i = 1#1))
    (E : Set ℕ) (K : PUnit → sProp 𝕄) :
    iprop(owns (c : Thread nD τ) arg2 fullShare x0 ∗ owns (c : Thread nD τ) arg3 fullShare x1 ∗ owns (c : Thread nD τ)
      arg4 fullShare x2 ∗ owns (c : Thread nD τ) arg5 fullShare x3 ∗ owns (c : Thread nD τ) arg6 fullShare x4 ∗ owns
      (c : Thread nD τ) arg7 fullShare x5 ∗ owns (c : Thread nD τ) arg8 fullShare x6 ∗ owns (c : Thread nD τ) arg9
      fullShare x7 ∗ owns (c : Thread nD τ) arg10 fullShare o8 ∗ owns (c : Thread nD τ) arg11 fullShare o9 ∗ owns (c :
      Thread nD τ) arg12 fullShare o10 ∗ owns (c : Thread nD τ) arg13 fullShare o11 ∗ owns (c : Thread nD τ) arg14
      fullShare o12 ∗ owns (c : Thread nD τ) arg15 fullShare o13 ∗ owns (c : Thread nD τ) arg16 fullShare s0 ∗ owns (c
      : Thread nD τ) arg17 fullShare s1
        ∗ (iprop(owns (c : Thread nD τ) arg2 fullShare x0 ∗ owns (c : Thread nD τ) arg3 fullShare x1 ∗ owns (c : Thread nD τ)
          arg4 fullShare x2 ∗ owns (c : Thread nD τ) arg5 fullShare x3 ∗ owns (c : Thread nD τ) arg6 fullShare x4 ∗
          owns (c : Thread nD τ) arg7 fullShare x5 ∗ owns (c : Thread nD τ) arg8 fullShare x6 ∗ owns (c : Thread nD τ)
          arg9 fullShare x7 ∗ owns (c : Thread nD τ) arg10 fullShare (if k1_cond2 i = 1#1 then k1_pay8 x1 (k1_pay4
          (k1_pay18 (if k1_cond1 i = 1#1 then k1_pay11 x0 else s0) x7 x3 x4) (k1_pay19 (if k1_cond1 i = 1#1 then
          k1_pay11 x0 else s0) x7 x3) (if k1_cond1 i = 1#1 then k1_pay12 else s1) x5 x6) x2 x0 else o8) ∗ owns (c :
          Thread nD τ) arg11 fullShare (if k1_cond2 i = 1#1 then (if k1_cond4 i = 1#1 then k1_pay5 (k1_pay9 x1
          (k1_pay4 (k1_pay18 (if k1_cond1 i = 1#1 then k1_pay11 x0 else s0) x7 x3 x4) (k1_pay19 (if k1_cond1 i = 1#1
          then k1_pay11 x0 else s0) x7 x3) (if k1_cond1 i = 1#1 then k1_pay12 else s1) x5 x6)) o9 else k1_pay9 x1
          (k1_pay4 (k1_pay18 (if k1_cond1 i = 1#1 then k1_pay11 x0 else s0) x7 x3 x4) (k1_pay19 (if k1_cond1 i = 1#1
          then k1_pay11 x0 else s0) x7 x3) (if k1_cond1 i = 1#1 then k1_pay12 else s1) x5 x6)) else o9) ∗ owns (c :
          Thread nD τ) arg12 fullShare (if k1_cond1 i = 1#1 then k1_pay10 x1 x2 else o10) ∗ owns (c : Thread nD τ)
          arg13 fullShare (k1_pay2 (k1_pay18 (if k1_cond1 i = 1#1 then k1_pay11 x0 else s0) x7 x3 x4)) ∗ owns (c :
          Thread nD τ) arg14 fullShare (k1_pay3 (k1_pay19 (if k1_cond1 i = 1#1 then k1_pay11 x0 else s0) x7 x3)) ∗
          owns (c : Thread nD τ) arg15 fullShare (k1_pay1 (k1_pay20 x3 x4)) ∗ owns (c : Thread nD τ) arg16 fullShare
          (if k1_cond1 i = 1#1 then k1_pay11 x0 else s0) ∗ owns (c : Thread nD τ) arg17 fullShare (k1_pay4 (k1_pay18
          (if k1_cond1 i = 1#1 then k1_pay11 x0 else s0) x7 x3 x4) (k1_pay19 (if k1_cond1 i = 1#1 then k1_pay11 x0
          else s0) x7 x3) (if k1_cond1 i = 1#1 then k1_pay12 else s1) x5 x6)) -∗ K ⟨⟩))
      ⊢ wp frame (wpE (defs₀ (F := F)) Variants.none c none) E
          (cc1_ffn1_bwd i arg2 harg2 arg3 harg3 arg4 harg4 arg5 harg5 arg6 harg6 arg7 harg7 arg8 harg8 arg9 harg9 arg10
          harg10 arg11 harg11 arg12 harg12 arg13 harg13 arg14 harg14 arg15 harg15 arg16 harg16 arg17 harg17) K := by
  simp only [cc1_ffn1_bwd_eq_skeleton]; unfold cc1_ffn1_bwd_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6,
    H6⟩, ⟨%f7, %hf7, H7⟩, ⟨%f8, %hf8, H8⟩, ⟨%f9, %hf9, H9⟩, ⟨%f10, %hf10, H10⟩, ⟨%f11, %hf11, H11⟩, ⟨%f12, %hf12,
    H12⟩, ⟨%f13, %hf13, H13⟩, ⟨%f14, %hf14, H14⟩, ⟨%f15, %hf15, H15⟩, Hk⟩
  obtain rfl := harg2.eq_unread hf0; obtain rfl := harg3.eq_unread hf1; obtain rfl := harg4.eq_unread hf2; obtain rfl
  := harg5.eq_unread hf3; obtain rfl := harg6.eq_unread hf4; obtain rfl := harg7.eq_unread hf5; obtain rfl :=
  harg8.eq_unread hf6; obtain rfl := harg9.eq_unread hf7; obtain rfl := harg10.eq_unread hf8; obtain rfl :=
  harg11.eq_unread hf9; obtain rfl := harg12.eq_unread hf10; obtain rfl := harg13.eq_unread hf11; obtain rfl :=
  harg14.eq_unread hf12; obtain rfl := harg15.eq_unread hf13; obtain rfl := harg16.eq_unread hf14; obtain rfl :=
  harg17.eq_unread hf15
  rcases h34 with ⟨h3, h4⟩ | ⟨h3, h4⟩ <;> rcases h with ⟨hc, he⟩ | ⟨hc, he⟩ | ⟨hc, he⟩
  all_goals
    sl_exec (disch := first | sl_exact hc | sl_exact he | sl_exact h3 | sl_exact h4)
  all_goals
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      try simp only [if_pos hc]
      try simp only [if_neg hc]
      try simp only [if_pos he]
      try simp only [if_neg he]
      try simp only [if_pos h4]
      try simp only [if_neg h4]
      first
        | with_reducible exact harg10.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H9]
    · iexists _; isplitr; swap; · iexact H9
      ipureintro
      try simp only [if_pos hc]
      try simp only [if_neg hc]
      try simp only [if_pos he]
      try simp only [if_neg he]
      try simp only [if_pos h4]
      try simp only [if_neg h4]
      first
        | with_reducible exact harg11.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H10]
    · iexists _; isplitr; swap; · iexact H10
      ipureintro
      try simp only [if_pos hc]
      try simp only [if_neg hc]
      try simp only [if_pos he]
      try simp only [if_neg he]
      try simp only [if_pos h4]
      try simp only [if_neg h4]
      first
        | with_reducible exact harg12.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H11]
    · iexists _; isplitr; swap; · iexact H11
      ipureintro
      try simp only [if_pos hc]
      try simp only [if_neg hc]
      try simp only [if_pos he]
      try simp only [if_neg he]
      try simp only [if_pos h4]
      try simp only [if_neg h4]
      first
        | with_reducible exact harg13.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H12]
    · iexists _; isplitr; swap; · iexact H12
      ipureintro
      try simp only [if_pos hc]
      try simp only [if_neg hc]
      try simp only [if_pos he]
      try simp only [if_neg he]
      try simp only [if_pos h4]
      try simp only [if_neg h4]
      first
        | with_reducible exact harg14.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H13]
    · iexists _; isplitr; swap; · iexact H13
      ipureintro
      try simp only [if_pos hc]
      try simp only [if_neg hc]
      try simp only [if_pos he]
      try simp only [if_neg he]
      try simp only [if_pos h4]
      try simp only [if_neg h4]
      first
        | with_reducible exact harg15.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H14]
    · iexists _; isplitr; swap; · iexact H14
      ipureintro
      try simp only [if_pos hc]
      try simp only [if_neg hc]
      try simp only [if_pos he]
      try simp only [if_neg he]
      try simp only [if_pos h4]
      try simp only [if_neg h4]
      first
        | with_reducible exact harg16.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    iexists _; isplitr; swap; · iexact H15
    ipureintro
    try simp only [if_pos hc]
    try simp only [if_neg hc]
    try simp only [if_pos he]
    try simp only [if_neg he]
    try simp only [if_pos h4]
    try simp only [if_neg h4]
    first
      | with_reducible exact harg17.read_unread _
      | refine (View.read_store _ _ _ _ _ (by decide)).trans ?_
        sl_unfold_words
        simp (disch := decide) only [View.ld_unit_lit', View.readCov_unit_lit', View.readCov_cons_unit_lit',
          View.canon_cons_unit_lit', View.readAt_eq_ld, Memref.IsWhole.read_unread]

end Cert.Kernel2Ideal.Ffn
-- ==== Proof.Ffn.Reg1.lean ====
module

public import proofs.«01_k».proof.Proof.Ffn.Run1
public import Idealize.ShloMosaic.Lib.WordCmp

@[expose] public section

set_option maxRecDepth 16384

/-! # The backward call, point by point

What every grid point of the call finds and leaves: the rounded gradient and the normalised rows are made at the first
shard of a row block, the gradient of the normalised rows collects the shards' shares, and after the last shard the
gradients of the rows and of the scale are written. -/

noncomputable section

namespace Cert.Kernel2Ideal.Ffn
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the call finds it. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- What is carried from point to point: the rounded gradient, the sum for the normalised rows, the normalised rows and
    the gradient of the scale. -/
abbrev State1 (F : FTy → Type) [FloatOps F] : Type :=
  Vec F S512x1024 .bf16 × Vec F S512x1024 .f32 × Vec F S512x1024 .bf16 × Vec F S1x1024 .f32

/-- One point's rounded gradient. -/
def dhb1 (c : Dev nD) (t : Fin cfg1.N) (p : State1 F) : Vec F S512x1024 .bf16 :=
  if t.val % 4 = 0 then k1_pay11 (blk1 V c 0 t) else p.1

/-- One point's sum for the normalised rows. -/
def du1 (c : Dev nD) (t : Fin cfg1.N) (p : State1 F) : Vec F S512x1024 .f32 :=
  k1_pay4 (k1_pay18 (dhb1 V c t p) (blk1 V c 7 t) (blk1 V c 3 t) (blk1 V c 4 t))
    (k1_pay19 (dhb1 V c t p) (blk1 V c 7 t) (blk1 V c 3 t)) (if t.val % 4 = 0 then k1_pay12 else p.2.1)
    (blk1 V c 5 t) (blk1 V c 6 t)

/-- One point, from the state of the point before. -/
def step1 (c : Dev nD) (t : Fin cfg1.N) (p : State1 F) : State1 F :=
  (dhb1 V c t p, du1 V c t p, if t.val % 4 = 0 then k1_pay10 (blk1 V c 1 t) (blk1 V c 2 t) else p.2.2.1,
    if t.val % 4 = 3 then
      (if t.val = 3 then k1_pay9 (blk1 V c 1 t) (du1 V c t p) else k1_pay5 (k1_pay9 (blk1 V c 1 t) (du1 V c t p)) p.2.2.2)
    else p.2.2.2)

/-- The state after every point. -/
def at1 (c : Dev nD) : (n : ℕ) → n < cfg1.N → State1 F
  | 0, h => step1 V c ⟨0, h⟩ (k1_pay11 (blk1 V c 0 ⟨0, h⟩), k1_pay12, k1_pay10 (blk1 V c 1 ⟨0, h⟩) (blk1 V c 2 ⟨0, h⟩),
      blk1 V c 2 ⟨0, h⟩)
  | n + 1, h => step1 V c ⟨n + 1, h⟩ (at1 c n (Nat.lt_of_succ_lt h))

/-- The state before a point. -/
abbrev prev1 (c : Dev nD) (t : Fin cfg1.N) : State1 F :=
  at1 V c (t.val - 1) (Nat.lt_of_le_of_lt (Nat.sub_le _ _) t.isLt)

/-- After the first point a point steps from the state before it. -/
theorem at1_pos (c : Dev nD) (t : Fin cfg1.N) (h : t.val ≠ 0) : at1 V c t.val t.isLt = step1 V c t (prev1 V c t) := by
  obtain ⟨n, hn⟩ := t
  cases n with
  | zero => exact absurd rfl h
  | succ n => rfl

/-- The rounded gradient and the sum step from any values that agree with the point before where they are read. -/
theorem step1_eq (c : Dev nD) (t : Fin cfg1.N) (p : State1 F)
    (h1 : ¬t.val % 4 = 0 → p.1 = (prev1 V c t).1) (h2 : ¬t.val % 4 = 0 → p.2.1 = (prev1 V c t).2.1) :
    dhb1 V c t p = (at1 V c t.val t.isLt).1 ∧ du1 V c t p = (at1 V c t.val t.isLt).2.1 := by
  by_cases h : t.val % 4 = 0
  · by_cases h0 : t.val = 0
    · obtain ⟨n, hn⟩ := t
      subst h0
      exact ⟨rfl, rfl⟩
    · rw [at1_pos V c t h0]
      dsimp only [step1, du1, dhb1]
      simp only [h, if_true]
      exact ⟨trivial, trivial⟩
  · rw [at1_pos V c t (fun h0 => h (by rw [h0]))]
    dsimp only [step1, du1, dhb1]
    rw [if_neg h, if_neg h, if_neg h, if_neg h, h1 h, h2 h]
    exact ⟨rfl, rfl⟩

/-- Between the points: the scratch buffers hold the rounded gradient and the sum, the rest is anything. -/
def Phi1 (c : Dev nD) (n : ℕ) (hn : n ≤ cfg1.N) : sProp 𝕄 :=
  iprop(∃ s : Vec F S512x1024 .bf16 × Vec F S512x1024 .f32,
      ⌜∀ h : n ≠ 0, s = ((at1 V c (n - 1) (by omega)).1, (at1 V c (n - 1) (by omega)).2.1)⌝
      ∗ owns (c : Thread nD τ) (Memref.whole cc1_scratch0) fullShare s.1
      ∗ owns (c : Thread nD τ) (Memref.whole cc1_scratch1) fullShare s.2
      ∗ Pipeline.scopedRestBut (Ix := Unit) (Name := ℕ) (U := UR sig nD τ) (Lvl := ℕ) (Val := Elt F) spec1 c
          [cc1_scratch0, cc1_scratch1]
      ∗ ∃ r, prngReg c r)

/-- The pipeline's proof data: the arrays as found, the inputs' blocks left in place, the outputs and the scratch buffers
    at the stated values. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => k1_pay8 (blk1 V c 1 t) (at1 V c t.val t.isLt).2.1 (blk1 V c 2 t) (blk1 V c 0 t)
    | ⟨9, _⟩ => (at1 V c t.val t.isLt).2.2.2
    | ⟨10, _⟩ => (at1 V c t.val t.isLt).2.2.1
    | ⟨11, _⟩ => k1_pay2 (k1_pay18 (at1 V c t.val t.isLt).1 (blk1 V c 7 t) (blk1 V c 3 t) (blk1 V c 4 t))
    | ⟨12, _⟩ => k1_pay3 (k1_pay19 (at1 V c t.val t.isLt).1 (blk1 V c 7 t) (blk1 V c 3 t))
    | ⟨13, _⟩ => k1_pay1 (k1_pay20 (blk1 V c 3 t) (blk1 V c 4 t))
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

/-- An input's buffer holds its block at every point. -/
theorem in1_of (c : Dev nD) (w : Fin cfg1.W) (hw : (cfg1.win w).isOut = false)
    (hf : ∀ t d, (dat1 V c).fetched w t d = (dat1 V c).after w t)
    (hk : ∀ t, (cfg1.win w).cut (cfg1.grid.coords t) ((dat1 V c).after w t) = (dat1 V c).blockOf w t)
    (hc : ∀ t t' : Fin cfg1.N, (cfg1.win w).index t = (cfg1.win w).index t' →
      (cfg1.win w).clip (cfg1.grid.coords t) = (cfg1.win w).clip (cfg1.grid.coords t'))
    (hl : ∀ i, cfg1.idle w i = false) (t : Fin cfg1.N) (d) :
    (dat1 V c).before w t d = (dat1 V c).after w t :=
  ((dat1 V c).before_in_eq_fetched w hw hl hc hk t d).trans (hf t d)

theorem in1_0 (c : Dev nD) (t d) : (dat1 V c).before 0 t d = blk1 V c 0 t :=
  in1_of V c 0 rfl (fun _ _ => rfl) (fun _ => rfl) (fun _ _ _ => rfl) (fun _ => rfl) t d
theorem in1_1 (c : Dev nD) (t d) : (dat1 V c).before 1 t d = blk1 V c 1 t :=
  in1_of V c 1 rfl (fun _ _ => rfl) (fun _ => rfl) (fun _ _ _ => rfl) (fun _ => rfl) t d
theorem in1_2 (c : Dev nD) (t d) : (dat1 V c).before 2 t d = blk1 V c 2 t :=
  in1_of V c 2 rfl (fun _ _ => rfl) (fun _ => rfl) (fun _ _ _ => rfl) (fun _ => rfl) t d
theorem in1_3 (c : Dev nD) (t d) : (dat1 V c).before 3 t d = blk1 V c 3 t :=
  in1_of V c 3 rfl (fun _ _ => rfl) (fun _ => rfl) (fun _ _ _ => rfl) (fun _ => rfl) t d
theorem in1_4 (c : Dev nD) (t d) : (dat1 V c).before 4 t d = blk1 V c 4 t :=
  in1_of V c 4 rfl (fun _ _ => rfl) (fun _ => rfl) (fun _ _ _ => rfl) (fun _ => rfl) t d
theorem in1_5 (c : Dev nD) (t d) : (dat1 V c).before 5 t d = blk1 V c 5 t :=
  in1_of V c 5 rfl (fun _ _ => rfl) (fun _ => rfl) (fun _ _ _ => rfl) (fun _ => rfl) t d
theorem in1_6 (c : Dev nD) (t d) : (dat1 V c).before 6 t d = blk1 V c 6 t :=
  in1_of V c 6 rfl (fun _ _ => rfl) (fun _ => rfl) (fun _ _ _ => rfl) (fun _ => rfl) t d
theorem in1_7 (c : Dev nD) (t d) : (dat1 V c).before 7 t d = blk1 V c 7 t :=
  in1_of V c 7 rfl (fun _ _ => rfl) (fun _ => rfl) (fun _ _ _ => rfl) (fun _ => rfl) t d

theorem cond1_iff : ∀ t : Fin cfg1.N, k1_cond1 (grid1.coords t) = 1#1 ↔ t.val % 4 = 0 := by decide +kernel
theorem cond2_iff : ∀ t : Fin cfg1.N, k1_cond2 (grid1.coords t) = 1#1 ↔ t.val % 4 = 3 := by decide +kernel
theorem cond4_iff : ∀ t : Fin cfg1.N, k1_cond4 (grid1.coords t) = 1#1 ↔ ¬t.val < 4 := by decide +kernel
theorem cond34 : ∀ t : Fin cfg1.N, (k1_cond3 (grid1.coords t) = 1#1 ∧ ¬k1_cond4 (grid1.coords t) = 1#1)
    ∨ (¬k1_cond3 (grid1.coords t) = 1#1 ∧ k1_cond4 (grid1.coords t) = 1#1) := by decide +kernel

/-- Where an output is idle. -/
theorem idle1_8 : ∀ t : Fin cfg1.N, (cfg1.idle 8 (cfg1.grid.coords t) = true ↔ ¬t.val % 4 = 3) := by decide +kernel
theorem idle1_9 : ∀ t : Fin cfg1.N, (cfg1.idle 9 (cfg1.grid.coords t) = true ↔ ¬t.val % 4 = 3) := by decide +kernel
theorem idle1_10 : ∀ t : Fin cfg1.N, (cfg1.idle 10 (cfg1.grid.coords t) = true ↔ ¬t.val % 4 = 0) := by decide +kernel
theorem idle1_11 : ∀ t : Fin cfg1.N, cfg1.idle 11 (cfg1.grid.coords t) = false := by decide +kernel
/-- Where an output's buffer has not been stored to since it was last written back. -/
theorem fresh1_9 : ∀ t : Fin cfg1.N, (cfg1.fresh 9 t.val = true ↔ t.val < 4) := by decide +kernel
theorem fresh1_10 : ∀ t : Fin cfg1.N, (cfg1.fresh 10 t.val = true ↔ t.val % 4 = 0) := by decide +kernel

/-- The gradient of the scale is carried to where it is read. -/
theorem carry9 (c : Dev nD) (t : Fin cfg1.N) (d) :
    (dat1 V c).before 9 t d = if t.val < 4 then d else (prev1 V c t).2.2.2 := by
  rw [(dat1 V c).before_out_traj 9 rfl (fun _ _ => rfl) (fun t h hi _ => ?_) t.val t rfl d]
  · by_cases h : t.val < 4
    · rw [if_pos h, if_pos ((fresh1_9 t).mpr h)]
    · rw [if_neg h, if_neg (fun h' => h ((fresh1_9 t).mp h'))]; dsimp only [dat1]
  · dsimp only [dat1]
    rw [at1_pos V c t h]; dsimp only [step1]; rw [if_neg ((idle1_9 t).mp hi)]

/-- The normalised rows are carried to where they are written back. -/
theorem carry10 (c : Dev nD) (t : Fin cfg1.N) (d) :
    (dat1 V c).before 10 t d = if t.val % 4 = 0 then d else (prev1 V c t).2.2.1 := by
  rw [(dat1 V c).before_out_traj 10 rfl (fun _ _ => rfl) (fun t h hi _ => ?_) t.val t rfl d]
  · by_cases h : t.val % 4 = 0
    · rw [if_pos h, if_pos ((fresh1_10 t).mpr h)]
    · rw [if_neg h, if_neg (fun h' => h ((fresh1_10 t).mp h'))]; dsimp only [dat1]
  · dsimp only [dat1]
    rw [at1_pos V c t h]; dsimp only [step1]; rw [if_neg ((idle1_10 t).mp hi)]

/-- What the body leaves for the normalised rows: made at the first shard, carried after it. -/
theorem left10 (c : Dev nD) (t : Fin cfg1.N) (d) :
    (if t.val % 4 = 0 then k1_pay10 (blk1 V c 1 t) (blk1 V c 2 t) else (dat1 V c).before 10 t d) = (at1 V c t.val t.isLt).2.2.1 := by
  by_cases h0 : t.val = 0
  · obtain ⟨n, hn⟩ := t
    subst h0
    rfl
  · rw [at1_pos V c t h0, carry10]
    dsimp only [step1]
    by_cases h : t.val % 4 = 0
    · rw [if_pos h, if_pos h]
    · rw [if_neg h, if_neg h, if_neg h]

/-- What the body leaves for the gradient of the scale after a last shard. -/
theorem left9 (c : Dev nD) (t : Fin cfg1.N) (h : t.val % 4 = 3) (d) :
    (if ¬t.val < 4 then k1_pay5 (k1_pay9 (blk1 V c 1 t) (at1 V c t.val t.isLt).2.1) ((dat1 V c).before 9 t d)
      else k1_pay9 (blk1 V c 1 t) (at1 V c t.val t.isLt).2.1) = (at1 V c t.val t.isLt).2.2.2 := by
  rw [at1_pos V c t (fun h0 => by rw [h0] at h; exact absurd h (by decide)), carry9]
  dsimp only [step1]
  rw [if_pos h]
  by_cases h4 : t.val < 4
  · rw [if_neg (not_not.mpr h4), if_pos (by omega)]
  · rw [if_pos h4, if_neg h4, if_neg (by omega)]

set_option maxHeartbeats 6400000 in
/-- The body at any point: what it finds, run through the body, is what it must leave. -/
theorem sound1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d))
        ∗ (∃ d, owns (c : Thread nD τ) (st1_7 t) fullShare ((dat1 V c).before 7 t d))
        ∗ (∃ d, owns (c : Thread nD τ) (st1_8 t) fullShare ((dat1 V c).before 8 t d))
        ∗ (∃ d, owns (c : Thread nD τ) (st1_9 t) fullShare ((dat1 V c).before 9 t d))
        ∗ (∃ d, owns (c : Thread nD τ) (st1_10 t) fullShare ((dat1 V c).before 10 t d))
        ∗ (∃ d, owns (c : Thread nD τ) (st1_11 t) fullShare ((dat1 V c).before 11 t d))
        ∗ (∃ d, owns (c : Thread nD τ) (st1_12 t) fullShare ((dat1 V c).before 12 t d))
        ∗ (∃ d, owns (c : Thread nD τ) (st1_13 t) fullShare ((dat1 V c).before 13 t d)))
      ⊢ wp frame (wpE (defs₀ (F := F)) Variants.none c none) Set.univ (bodyAt1 t)
        (fun _ => iprop((dat1 V c).Φ t.succ ∗ (dat1 V c).owesAt () t.succ
          ∗ (dat1 V c).leavesExact 0 t ∗ (dat1 V c).leavesExact 1 t ∗ (dat1 V c).leavesExact 2 t
          ∗ (dat1 V c).leavesExact 3 t ∗ (dat1 V c).leavesExact 4 t ∗ (dat1 V c).leavesExact 5 t
          ∗ (dat1 V c).leavesExact 6 t ∗ (dat1 V c).leavesExact 7 t ∗ (dat1 V c).leavesExact 8 t
          ∗ (dat1 V c).leavesExact 9 t ∗ (dat1 V c).leavesExact 10 t ∗ (dat1 V c).leavesExact 11 t
          ∗ (dat1 V c).leavesExact 12 t ∗ (dat1 V c).leavesExact 13 t)) := by
  unfold bodyAt1
  simp only [in1_0, in1_1, in1_2, in1_3, in1_4, in1_5, in1_6, in1_7]
  rw [show (dat1 V c).owesAt () t.succ = (dat1 V c).owesAt () t.castSucc from rfl, Phi1_castSucc,
    show (dat1 V c).Φ t.succ = Phi1 V c (t.val + 1) t.isLt from rfl]
  unfold Phi1
  iintro ⟨⟨%s, %hs, HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨e1, e2⟩ := step1_eq V c t (s.1, s.2, k1_pay10 (blk1 V c 1 t) (blk1 V c 2 t), blk1 V c 2 t)
    (fun h => by dsimp only; rw [hs fun h0 => h (by rw [h0])]) (fun h => by dsimp only; rw [hs fun h0 => h (by rw [h0])])
  dsimp only [du1, dhb1] at e1 e2
  have l8 := (dat1 V c).leaves_of 8 t d8
      (if t.val % 4 = 3 then k1_pay8 (blk1 V c 1 t) (at1 V c t.val t.isLt).2.1 (blk1 V c 2 t) (blk1 V c 0 t) else (dat1 V c).before 8 t d8)
      (fun h _ => if_neg ((idle1_8 t).mp h)) (fun h => if_pos (not_not.mp fun h' =>
      h ⟨(idle1_8 t).mpr h', Bool.eq_false_iff.mpr fun hf => h' ((flush1_8 t).mp hf)⟩))
  have l9 := (dat1 V c).leaves_of 9 t d9
      (if t.val % 4 = 3 then (if ¬t.val < 4 then k1_pay5 (k1_pay9 (blk1 V c 1 t) (at1 V c t.val t.isLt).2.1) ((dat1 V c).before 9 t d9)
        else k1_pay9 (blk1 V c 1 t) (at1 V c t.val t.isLt).2.1) else (dat1 V c).before 9 t d9)
      (fun h _ => if_neg ((idle1_9 t).mp h)) (fun h => by
      have h3 : t.val % 4 = 3 := not_not.mp fun h' =>
        h ⟨(idle1_9 t).mpr h', Bool.eq_false_iff.mpr fun hf => h' (by have := (flush1_9 t).mp hf; omega)⟩
      rw [if_pos h3]; exact left9 V c t h3 d9)
  have l10 := (dat1 V c).leaves_of 10 t d10
      (if t.val % 4 = 0 then k1_pay10 (blk1 V c 1 t) (blk1 V c 2 t) else (dat1 V c).before 10 t d10)
      (fun h _ => if_neg ((idle1_10 t).mp h)) (fun _ => left10 V c t d10)
  iapply (run1 c (grid1.coords t) _ _ _ _ _ _ _ _ _ _ _ _ _ _ _ _ _ _ _ _ _ _ _ _ _ _ _ _ _ _ _ _ (blk1 V c 0 t)
    (blk1 V c 1 t) (blk1 V c 2 t) (blk1 V c 3 t) (blk1 V c 4 t) (blk1 V c 5 t) (blk1 V c 6 t) (blk1 V c 7 t)
    ((dat1 V c).before 8 t d8) ((dat1 V c).before 9 t d9) ((dat1 V c).before 10 t d10) ((dat1 V c).before 11 t d11)
    ((dat1 V c).before 12 t d12) ((dat1 V c).before 13 t d13) s.1 s.2
    (by rw [cond1_iff, cond2_iff]; omega) (cond34 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  simp only [cond1_iff, cond2_iff, cond4_iff]
  rw [e2, e1]
  iintro ⟨H0, H1, H2, H3, H4, H5, H6, H7, H8, H9, H10, H11, H12, H13, HS0, HS1⟩
  isplitl [HS0 HS1 HR Hg]
  · iexists ((at1 V c t.val t.isLt).1, (at1 V c t.val t.isLt).2.1)
    isplitr; swap
    · isplitl [HS0]; · iexact HS0
      isplitl [HS1]; · iexact HS1
      isplitl [HR]; · iexact HR
      iexact Hg
    ipureintro; exact fun _ => rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply l8; iexact H8
  isplitl [H9]; · iapply l9; iexact H9
  isplitl [H10]; · iapply l10; iexact H10
  isplitl [H11]; · iexact H11
  isplitl [H12]; · iexact H12
  iexact H13

/-- The body table's row at a point's slots is the body on them. -/
theorem row1 (t : Fin cfg1.N) : defs₀ (F := F) .tc cfg1.body (cfg1.bodyArgs t (cfg1.slots t)) = bodyAt1 t := by
  unfold defs₀; rw [Defs.onTc_tc]

/-- The body meets its obligation at every point. -/
theorem body_obligation1 (c : Dev nD) :
    BodyObligation (dat1 (F := F) V c) (defs₀ (F := F)) Variants.none () Set.univ := fun t => by
  rw [bigSep_W1, bigSep_W1, row1]
  exact triple_restated (sound1 V c t) rfl .rfl fun _ => .rfl

/-- What the launch hands the call is its state before the first point. -/
theorem hin1 (c : Dev nD) : Pipeline.ΦA spec1 c ⊢ (dat1 V c).Φ 0 := by
  rw [show (dat1 V c).Φ 0 = Phi1 V c 0 (Nat.zero_le _) from rfl]
  unfold Phi1 Pipeline.ΦA; rw [scopedRest1_split]; simp only [owns_whole]
  iintro ⟨⟨⟨⟨%s0, HS0⟩, ⟨%s1, HS1⟩⟩, HR⟩, Hg⟩
  iexists (s0, s1)
  isplitr; · ipureintro; exact fun h => absurd rfl h
  isplitl [HS0]; · iexact HS0
  isplitl [HS1]; · iexact HS1
  isplitl [HR]; · iexact HR
  iexact Hg

/-- After the last point the launch gets it back. -/
theorem hout1 (c : Dev nD) : (dat1 V c).Φ (Fin.last cfg1.N) ⊢ Pipeline.ΦA spec1 c := by
  rw [show (dat1 V c).Φ (Fin.last cfg1.N) = Phi1 V c cfg1.N le_rfl from rfl]
  unfold Phi1 Pipeline.ΦA; rw [scopedRest1_split]; simp only [owns_whole]
  iintro ⟨%s, -, HS0, HS1, HR, Hg⟩
  isplitl [HS0 HS1 HR]
  · isplitl [HS0 HS1]
    · isplitl [HS0]; · iexists _; iexact HS0
      iexists _; iexact HS1
    iexact HR
  iexact Hg

end Cert.Kernel2Ideal.Ffn
-- ==== Proof.Ffn.Run2.lean ====
module

public import proofs.«01_k».proof.Proof.Ffn.Stores
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Pipeline.ValueKit
public import Idealize.ShloMosaic.Lib.Tactic

@[expose] public section

set_option maxRecDepth 16384

/-! # The body of the call of the weight gradients -/

noncomputable section

namespace Cert.Kernel2Ideal.Ffn
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row block of a shard: the sums are started. -/
abbrev first2 (i : grid2.Coords) : Prop :=
  (Scalar.cmpi .ne (Scalar.extui (Scalar.cmpi .eq (BitVec.ofNat 32 (i 1).val) 0#32)) 0#32) = 1#1

/-- A later row block: the sums are continued. -/
abbrev later2 (i : grid2.Coords) : Prop :=
  (Scalar.cmpi .ne (Scalar.extui (Scalar.cmpi .sgt (BitVec.ofNat 32 (i 1).val) 0#32)) 0#32) = 1#1

variable (c : Dev nD) (i : grid2.Coords)
  (arg2 : Memref sig .tc .vmem S1024x1024 .bf16) (harg2 : arg2.IsWhole) (arg3 : Memref sig .tc .vmem S1024x1024 .f32)
  (harg3 : arg3.IsWhole) (arg4 : Memref sig .tc .vmem S1x1024x704 .bf16) (harg4 : arg4.IsWhole) (arg5 : Memref sig .tc
  .vmem S1x1024x704 .bf16) (harg5 : arg5.IsWhole) (arg6 : Memref sig .tc .vmem S1x1024x704 .bf16) (harg6 :
  arg6.IsWhole) (arg7 : Memref sig .tc .vmem S1x704x1024 .bf16) (harg7 : arg7.IsWhole) (arg8 : Memref sig .tc .vmem
  S1x704x1024 .bf16) (harg8 : arg8.IsWhole) (arg9 : Memref sig .tc .vmem S1x704x1024 .bf16) (harg9 : arg9.IsWhole)
  (arg10 : Memref sig .tc .vmem S704x1024 .f32) (harg10 : arg10.IsWhole) (arg11 : Memref sig .tc .vmem S704x1024 .f32)
  (harg11 : arg11.IsWhole) (arg12 : Memref sig .tc .vmem S704x1024 .f32) (harg12 : arg12.IsWhole)
  (x0 : Vec F S1024x1024 .bf16) (x1 : Vec F S1024x1024 .f32) (x2 : Vec F S1x1024x704 .bf16) (x3 : Vec F S1x1024x704
  .bf16) (x4 : Vec F S1x1024x704 .bf16) (o5 : Vec F S1x704x1024 .bf16) (o6 : Vec F S1x704x1024 .bf16) (o7 : Vec F
  S1x704x1024 .bf16) (s0 : Vec F S704x1024 .f32) (s1 : Vec F S704x1024 .f32) (s2 : Vec F S704x1024 .f32)

set_option maxHeartbeats 4000000 in
/-- One run of the body: the three sums started or continued, and written out after the last row block. -/
theorem run2 (h : (first2 i ∧ ¬later2 i ∧ ¬k2_cond3 i = 1#1) ∨ (¬first2 i ∧ later2 i ∧ k2_cond3 i = 1#1))
    (E : Set ℕ) (K : PUnit → sProp 𝕄) :
    iprop(owns (c : Thread nD τ) arg2 fullShare x0 ∗ owns (c : Thread nD τ) arg3 fullShare x1 ∗ owns (c : Thread nD τ)
      arg4 fullShare x2 ∗ owns (c : Thread nD τ) arg5 fullShare x3 ∗ owns (c : Thread nD τ) arg6 fullShare x4 ∗ owns
      (c : Thread nD τ) arg7 fullShare o5 ∗ owns (c : Thread nD τ) arg8 fullShare o6 ∗ owns (c : Thread nD τ) arg9
      fullShare o7 ∗ owns (c : Thread nD τ) arg10 fullShare s0 ∗ owns (c : Thread nD τ) arg11 fullShare s1 ∗ owns (c :
      Thread nD τ) arg12 fullShare s2
        ∗ (iprop(owns (c : Thread nD τ) arg2 fullShare x0 ∗ owns (c : Thread nD τ) arg3 fullShare x1 ∗ owns (c : Thread nD τ)
          arg4 fullShare x2 ∗ owns (c : Thread nD τ) arg5 fullShare x3 ∗ owns (c : Thread nD τ) arg6 fullShare x4 ∗
          owns (c : Thread nD τ) arg7 fullShare (if first2 i then o5 else k2_pay11 (k2_pay8 x0 x2 s0)) ∗ owns (c :
          Thread nD τ) arg8 fullShare (if first2 i then o6 else k2_pay12 (k2_pay9 x0 x3 s1)) ∗ owns (c : Thread nD τ)
          arg9 fullShare (if first2 i then o7 else k2_pay13 (k2_pay10 x4 x1 s2)) ∗ owns (c : Thread nD τ) arg10
          fullShare (if first2 i then k2_pay5 x0 x2 else k2_pay8 x0 x2 s0) ∗ owns (c : Thread nD τ) arg11 fullShare
          (if first2 i then k2_pay6 x0 x3 else k2_pay9 x0 x3 s1) ∗ owns (c : Thread nD τ) arg12 fullShare (if first2 i
          then k2_pay7 x4 x1 else k2_pay10 x4 x1 s2)) -∗ K ⟨⟩))
      ⊢ wp frame (wpE (defs₀ (F := F)) Variants.none c none) E
          (cc2_ffn1_dw i arg2 harg2 arg3 harg3 arg4 harg4 arg5 harg5 arg6 harg6 arg7 harg7 arg8 harg8 arg9 harg9 arg10
          harg10 arg11 harg11 arg12 harg12) K := by
  simp only [cc2_ffn1_dw_eq_skeleton]; unfold cc2_ffn1_dw_skel
  skip
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6,
    H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl
  := harg5.eq_unread hf3; obtain rfl := harg6.eq_unread hf4; obtain rfl := harg7.eq_unread hf5; obtain rfl :=
  harg8.eq_unread hf6; obtain rfl := harg9.eq_unread hf7; obtain rfl := harg10.eq_unread hf8; obtain rfl :=
  harg11.eq_unread hf9; obtain rfl := harg12.eq_unread hf10
  rcases h with ⟨hc, hl, he⟩ | ⟨hc, hl, he⟩
  all_goals
    sl_exec (disch := first | sl_exact hc | sl_exact hl | sl_exact he)
  all_goals
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      try simp only [if_pos hc]
      try simp only [if_neg hc]
      first
        | with_reducible exact harg7.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H6]
    · iexists _; isplitr; swap; · iexact H6
      ipureintro
      try simp only [if_pos hc]
      try simp only [if_neg hc]
      first
        | with_reducible exact harg8.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H7]
    · iexists _; isplitr; swap; · iexact H7
      ipureintro
      try simp only [if_pos hc]
      try simp only [if_neg hc]
      first
        | with_reducible exact harg9.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H8]
    · iexists _; isplitr; swap; · iexact H8
      ipureintro
      try simp only [if_pos hc]
      try simp only [if_neg hc]
      first
        | with_reducible exact harg10.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    isplitl [H9]
    · iexists _; isplitr; swap; · iexact H9
      ipureintro
      try simp only [if_pos hc]
      try simp only [if_neg hc]
      first
        | with_reducible exact harg11.read_unread _
        | refine (View.read_store _ _ _ _ _ (by decide)).trans ?_
          sl_unfold_words
          simp (disch := decide) only [View.ld_unit_lit', View.readCov_unit_lit', View.readCov_cons_unit_lit',
            View.canon_cons_unit_lit', View.readAt_eq_ld, Memref.IsWhole.read_unread]
    iexists _; isplitr; swap; · iexact H10
    ipureintro
    try simp only [if_pos hc]
    try simp only [if_neg hc]
    first
      | with_reducible exact harg12.read_unread _
      | refine (View.read_store _ _ _ _ _ (by decide)).trans ?_
        sl_unfold_words
        simp (disch := decide) only [View.ld_unit_lit', View.readCov_unit_lit', View.readCov_cons_unit_lit',
          View.canon_cons_unit_lit', View.readAt_eq_ld, Memref.IsWhole.read_unread]

end Cert.Kernel2Ideal.Ffn
-- ==== Proof.Ffn.Reg2.lean ====
module

public import proofs.«01_k».proof.Proof.Ffn.Run2
public import Idealize.ShloMosaic.Lib.WordCmp

@[expose] public section

set_option maxRecDepth 16384

/-! # The call of the weight gradients, point by point

What every grid point of the call finds and leaves: three sums are started at the first row block of a shard, continued
at the second and then written out. -/

noncomputable section

namespace Cert.Kernel2Ideal.Ffn
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the call finds it. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- One point: the three sums, from those of the point before. -/
def step2 (c : Dev nD) (t : Fin cfg2.N) (p : Vec F S704x1024 .f32 × Vec F S704x1024 .f32 × Vec F S704x1024 .f32) : Vec F S704x1024 .f32 × Vec F S704x1024 .f32 × Vec F S704x1024 .f32 :=
  (if t.val % 2 = 0 then k2_pay5 (blk2 V c 0 t) (blk2 V c 2 t) else k2_pay8 (blk2 V c 0 t) (blk2 V c 2 t) p.1,
    if t.val % 2 = 0 then k2_pay6 (blk2 V c 0 t) (blk2 V c 3 t) else k2_pay9 (blk2 V c 0 t) (blk2 V c 3 t) p.2.1,
    if t.val % 2 = 0 then k2_pay7 (blk2 V c 4 t) (blk2 V c 1 t) else k2_pay10 (blk2 V c 4 t) (blk2 V c 1 t) p.2.2)

/-- The three sums after every point. -/
def at2 (c : Dev nD) : (n : ℕ) → n < cfg2.N → Vec F S704x1024 .f32 × Vec F S704x1024 .f32 × Vec F S704x1024 .f32
  | 0, h => step2 V c ⟨0, h⟩ (k2_pay5 (blk2 V c 0 ⟨0, h⟩) (blk2 V c 2 ⟨0, h⟩), k2_pay6 (blk2 V c 0 ⟨0, h⟩) (blk2 V c 3 ⟨0, h⟩),
      k2_pay7 (blk2 V c 4 ⟨0, h⟩) (blk2 V c 1 ⟨0, h⟩))
  | n + 1, h => step2 V c ⟨n + 1, h⟩ (at2 c n (Nat.lt_of_succ_lt h))

/-- The state before a point. -/
abbrev prev2 (c : Dev nD) (t : Fin cfg2.N) : Vec F S704x1024 .f32 × Vec F S704x1024 .f32 × Vec F S704x1024 .f32 :=
  at2 V c (t.val - 1) (Nat.lt_of_le_of_lt (Nat.sub_le _ _) t.isLt)

/-- A point steps from any sums that agree with the point before where they are read. -/
theorem step2_eq (c : Dev nD) (t : Fin cfg2.N) (p : Vec F S704x1024 .f32 × Vec F S704x1024 .f32 × Vec F S704x1024 .f32) (h1 : ¬t.val % 2 = 0 → p = prev2 V c t) :
    step2 V c t p = at2 V c t.val t.isLt := by
  obtain ⟨n, hn⟩ := t
  cases n with
  | zero => rfl
  | succ n =>
    show step2 V c ⟨n + 1, hn⟩ p = step2 V c ⟨n + 1, hn⟩ (at2 V c n _)
    by_cases h : (n + 1) % 2 = 0
    · unfold step2; simp only [h, if_true]
    · exact congrArg _ (h1 h)

/-- Between the points: the scratch buffers hold the sums of the point before, the rest is anything. -/
def Phi2 (c : Dev nD) (n : ℕ) (hn : n ≤ cfg2.N) : sProp 𝕄 :=
  iprop(∃ s : Vec F S704x1024 .f32 × Vec F S704x1024 .f32 × Vec F S704x1024 .f32, ⌜∀ h : n ≠ 0, s = at2 V c (n - 1) (by omega)⌝
      ∗ owns (c : Thread nD τ) (Memref.whole cc2_scratch0) fullShare s.1
      ∗ owns (c : Thread nD τ) (Memref.whole cc2_scratch1) fullShare s.2.1
      ∗ owns (c : Thread nD τ) (Memref.whole cc2_scratch2) fullShare s.2.2
      ∗ Pipeline.scopedRestBut (Ix := Unit) (Name := ℕ) (U := UR sig nD τ) (Lvl := ℕ) (Val := Elt F) spec2 c
          [cc2_scratch0, cc2_scratch1, cc2_scratch2]
      ∗ ∃ r, prngReg c r)

/-- The pipeline's proof data: the arrays as found, the inputs' blocks left in place, the outputs at the rounded sums, the
    scratch buffers at the sums. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => k2_pay11 (at2 V c t.val t.isLt).1
    | ⟨6, _⟩ => k2_pay12 (at2 V c t.val t.isLt).2.1
    | ⟨7, _⟩ => k2_pay13 (at2 V c t.val t.isLt).2.2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; exact Pipeline.Dat.Φ_castSucc (Phi2 V c) t

/-- An input's buffer holds its block at every point. -/
theorem in2_of (c : Dev nD) (w : Fin cfg2.W) (hw : (cfg2.win w).isOut = false)
    (hf : ∀ t d, (dat2 V c).fetched w t d = (dat2 V c).after w t)
    (hk : ∀ t, (cfg2.win w).cut (cfg2.grid.coords t) ((dat2 V c).after w t) = (dat2 V c).blockOf w t)
    (hc : ∀ t t' : Fin cfg2.N, (cfg2.win w).index t = (cfg2.win w).index t' →
      (cfg2.win w).clip (cfg2.grid.coords t) = (cfg2.win w).clip (cfg2.grid.coords t'))
    (hl : ∀ i, cfg2.idle w i = false) (t : Fin cfg2.N) (d) :
    (dat2 V c).before w t d = (dat2 V c).after w t :=
  ((dat2 V c).before_in_eq_fetched w hw hl hc hk t d).trans (hf t d)

theorem in2_0 (c : Dev nD) (t d) : (dat2 V c).before 0 t d = blk2 V c 0 t :=
  in2_of V c 0 rfl (fun _ _ => rfl) (fun _ => rfl) (fun _ _ _ => rfl) (fun _ => rfl) t d
theorem in2_1 (c : Dev nD) (t d) : (dat2 V c).before 1 t d = blk2 V c 1 t :=
  in2_of V c 1 rfl (fun _ _ => rfl) (fun _ => rfl) (fun _ _ _ => rfl) (fun _ => rfl) t d
theorem in2_2 (c : Dev nD) (t d) : (dat2 V c).before 2 t d = blk2 V c 2 t :=
  in2_of V c 2 rfl (fun _ _ => rfl) (fun _ => rfl) (fun _ _ _ => rfl) (fun _ => rfl) t d
theorem in2_3 (c : Dev nD) (t d) : (dat2 V c).before 3 t d = blk2 V c 3 t :=
  in2_of V c 3 rfl (fun _ _ => rfl) (fun _ => rfl) (fun _ _ _ => rfl) (fun _ => rfl) t d
theorem in2_4 (c : Dev nD) (t d) : (dat2 V c).before 4 t d = blk2 V c 4 t :=
  in2_of V c 4 rfl (fun _ _ => rfl) (fun _ => rfl) (fun _ _ _ => rfl) (fun _ => rfl) t d

/-- Which conditionals a point takes: by the parity of the point. -/
theorem conds2 (t : Fin cfg2.N) :
    (first2 (grid2.coords t) ∧ ¬later2 (grid2.coords t) ∧ ¬k2_cond3 (grid2.coords t) = 1#1)
      ∨ (¬first2 (grid2.coords t) ∧ later2 (grid2.coords t) ∧ k2_cond3 (grid2.coords t) = 1#1) := by
  revert t; decide +kernel

theorem first2_iff : ∀ t : Fin cfg2.N, first2 (grid2.coords t) ↔ t.val % 2 = 0 := by decide +kernel

/-- The outputs are idle, and not written back, exactly at the first row block. -/
theorem idle2_iff : ∀ t : Fin cfg2.N, ∀ w : Fin cfg2.W, 5 ≤ w.val →
    (cfg2.idle w (cfg2.grid.coords t) = true ∧ (cfg2.win w).flush t = false ↔ t.val % 2 = 0) := by decide +kernel

theorem idle2_only : ∀ t : Fin cfg2.N, ∀ w : Fin cfg2.W, 5 ≤ w.val →
    cfg2.idle w (cfg2.grid.coords t) = true → t.val % 2 = 0 := by decide +kernel

set_option maxHeartbeats 6400000 in
/-- The body at any point: what it finds, run through the body, is what it must leave. -/
theorem sound2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d))
        ∗ (∃ d, owns (c : Thread nD τ) (st2_5 t) fullShare ((dat2 V c).before 5 t d))
        ∗ (∃ d, owns (c : Thread nD τ) (st2_6 t) fullShare ((dat2 V c).before 6 t d))
        ∗ (∃ d, owns (c : Thread nD τ) (st2_7 t) fullShare ((dat2 V c).before 7 t d)))
      ⊢ wp frame (wpE (defs₀ (F := F)) Variants.none c none) Set.univ (bodyAt2 t)
        (fun _ => iprop((dat2 V c).Φ t.succ ∗ (dat2 V c).owesAt () t.succ
          ∗ (dat2 V c).leavesExact 0 t ∗ (dat2 V c).leavesExact 1 t ∗ (dat2 V c).leavesExact 2 t
          ∗ (dat2 V c).leavesExact 3 t ∗ (dat2 V c).leavesExact 4 t ∗ (dat2 V c).leavesExact 5 t
          ∗ (dat2 V c).leavesExact 6 t ∗ (dat2 V c).leavesExact 7 t)) := by
  unfold bodyAt2
  simp only [in2_0, in2_1, in2_2, in2_3, in2_4]
  rw [show (dat2 V c).owesAt () t.succ = (dat2 V c).owesAt () t.castSucc from rfl, Phi2_castSucc,
    show (dat2 V c).Φ t.succ = Phi2 V c (t.val + 1) t.isLt from rfl]
  unfold Phi2
  iintro ⟨⟨%s, %hs, HS0, HS1, HS2, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have e : step2 V c t s = at2 V c t.val t.isLt :=
    step2_eq V c t _ (fun h => hs fun h0 => h (by rw [h0]))
  have e1 := congrArg (fun p => p.1) e
  have e2 := congrArg (fun p => p.2.1) e
  have e3 := congrArg (fun p => p.2.2) e
  dsimp only [step2] at e1 e2 e3
  have o1 : ¬t.val % 2 = 0 → k2_pay8 (blk2 V c 0 t) (blk2 V c 2 t) s.1 = (at2 V c t.val t.isLt).1 := fun h => by
    rw [← e1, if_neg h]
  have o2 : ¬t.val % 2 = 0 → k2_pay9 (blk2 V c 0 t) (blk2 V c 3 t) s.2.1 = (at2 V c t.val t.isLt).2.1 := fun h => by
    rw [← e2, if_neg h]
  have o3 : ¬t.val % 2 = 0 → k2_pay10 (blk2 V c 4 t) (blk2 V c 1 t) s.2.2 = (at2 V c t.val t.isLt).2.2 := fun h => by
    rw [← e3, if_neg h]
  have l5 := (dat2 V c).leaves_of 5 t d5
      (if t.val % 2 = 0 then (dat2 V c).before 5 t d5 else k2_pay11 (k2_pay8 (blk2 V c 0 t) (blk2 V c 2 t) s.1))
      (fun h _ => if_pos (idle2_only t 5 (by decide) h))
      (fun h => (if_neg (fun h' => h ((idle2_iff t 5 (by decide)).mpr h'))).trans
        (congrArg k2_pay11 (o1 (fun h' => h ((idle2_iff t 5 (by decide)).mpr h')))))
  have l6 := (dat2 V c).leaves_of 6 t d6
      (if t.val % 2 = 0 then (dat2 V c).before 6 t d6 else k2_pay12 (k2_pay9 (blk2 V c 0 t) (blk2 V c 3 t) s.2.1))
      (fun h _ => if_pos (idle2_only t 6 (by decide) h))
      (fun h => (if_neg (fun h' => h ((idle2_iff t 6 (by decide)).mpr h'))).trans
        (congrArg k2_pay12 (o2 (fun h' => h ((idle2_iff t 6 (by decide)).mpr h')))))
  have l7 := (dat2 V c).leaves_of 7 t d7
      (if t.val % 2 = 0 then (dat2 V c).before 7 t d7 else k2_pay13 (k2_pay10 (blk2 V c 4 t) (blk2 V c 1 t) s.2.2))
      (fun h _ => if_pos (idle2_only t 7 (by decide) h))
      (fun h => (if_neg (fun h' => h ((idle2_iff t 7 (by decide)).mpr h'))).trans
        (congrArg k2_pay13 (o3 (fun h' => h ((idle2_iff t 7 (by decide)).mpr h')))))
  iapply (run2 c (grid2.coords t) _ _ _ _ _ _ _ _ _ _ _ _ _ _ _ _ _ _ _ _ _ _ (blk2 V c 0 t) (blk2 V c 1 t)
    (blk2 V c 2 t) (blk2 V c 3 t) (blk2 V c 4 t) ((dat2 V c).before 5 t d5) ((dat2 V c).before 6 t d6)
    ((dat2 V c).before 7 t d7) s.1 s.2.1 s.2.2 (conds2 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  simp only [first2_iff]
  rw [e1, e2, e3]
  iintro ⟨H0, H1, H2, H3, H4, H5, H6, H7, HS0, HS1, HS2⟩
  isplitl [HS0 HS1 HS2 HR Hg]
  · iexists _
    isplitr; swap
    · isplitl [HS0]; · iexact HS0
      isplitl [HS1]; · iexact HS1
      isplitl [HS2]; · iexact HS2
      isplitl [HR]; · iexact HR
      iexact Hg
    ipureintro; exact fun _ => rfl
  isplitl [Ho]; · iexact Ho
  isplitl [H0]; · iexact H0
  isplitl [H1]; · iexact H1
  isplitl [H2]; · iexact H2
  isplitl [H3]; · iexact H3
  isplitl [H4]; · iexact H4
  isplitl [H5]; · iapply l5; iexact H5
  isplitl [H6]; · iapply l6; iexact H6
  iapply l7; iexact H7

/-- The body table's row at a point's slots is the body on them. -/
theorem row2 (t : Fin cfg2.N) : defs₀ (F := F) .tc cfg2.body (cfg2.bodyArgs t (cfg2.slots t)) = bodyAt2 t := by
  unfold defs₀; rw [Defs.onTc_tc]

/-- The body meets its obligation at every point. -/
theorem body_obligation2 (c : Dev nD) :
    BodyObligation (dat2 (F := F) V c) (defs₀ (F := F)) Variants.none () Set.univ := fun t => by
  rw [bigSep_W2, bigSep_W2, row2]
  exact triple_restated (sound2 V c t) rfl .rfl fun _ => .rfl

/-- What the launch hands the call is its state before the first point. -/
theorem hin2 (c : Dev nD) : Pipeline.ΦA spec2 c ⊢ (dat2 V c).Φ 0 := by
  rw [show (dat2 V c).Φ 0 = Phi2 V c 0 (Nat.zero_le _) from rfl]
  unfold Phi2 Pipeline.ΦA; rw [scopedRest2_split]; simp only [owns_whole]
  iintro ⟨⟨⟨⟨%s0, HS0⟩, ⟨%s1, HS1⟩, ⟨%s2, HS2⟩⟩, HR⟩, Hg⟩
  iexists (s0, s1, s2)
  isplitr; · ipureintro; exact fun h => absurd rfl h
  isplitl [HS0]; · iexact HS0
  isplitl [HS1]; · iexact HS1
  isplitl [HS2]; · iexact HS2
  isplitl [HR]; · iexact HR
  iexact Hg

/-- After the last point the launch gets it back. -/
theorem hout2 (c : Dev nD) : (dat2 V c).Φ (Fin.last cfg2.N) ⊢ Pipeline.ΦA spec2 c := by
  rw [show (dat2 V c).Φ (Fin.last cfg2.N) = Phi2 V c cfg2.N le_rfl from rfl]
  unfold Phi2 Pipeline.ΦA; rw [scopedRest2_split]; simp only [owns_whole]
  iintro ⟨%s, -, HS0, HS1, HS2, HR, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Cert.Kernel2Ideal.Ffn
-- ==== Proof.Ffn.Launch.lean ====
module

public import proofs.«01_k».proof.Proof.Ffn.Reg0
public import proofs.«01_k».proof.Proof.Ffn.Reg1
public import proofs.«01_k».proof.Proof.Ffn.Reg2
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

/-! # The feed-forward layer's run

The three calls and the host lines around them one after another: the forward call, the backward call, the call that
makes the gradients of the weights. What every buffer holds between them, and that the whole run ends without a fault,
with the arguments as they were, the six results as the calls leave them and every semaphore at zero. -/

noncomputable section

namespace Cert.Kernel2Ideal.Ffn
open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v13, main_v14, main_v15, main_v16, main_v17, main_v18]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` . -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references . -/
abbrev V6 : (c : Dev nD) → (b : Ref sig .tc) → Buf (Elt F) ((c : Thread nD τ).loc b) := fun c b => W6 m ρ c b
/-! ## The proof data family and the thread state -/

/-- The prefetched tables' admissible contents: no pipeline has a table. -/
abbrev adm : (p : Fin 3) → (pcfgs (F := F) p).Adm := fun p => (cfgs p).toPCfg_adm
/-- Every pipeline's proof data, each at what its call finds. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last _) from rfl]
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last _) from rfl]
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V4 m ρ) c
    unfold Pipeline.ΦA at h
    rw [show (pdats m ρ 2 c).Φ 0 = (dat2 (V4 m ρ) c).Φ 0 from rfl]
    iintro ⟨Hp, -, Hr⟩
    iapply h
    isplitl [Hr]; · iexact Hr
    iexact Hp
  hout c := by
    have h := hout2 (V4 m ρ) c
    unfold Pipeline.ΦA at h
    rw [Pipeline.ownSems0_none, show (pdats m ρ 2 c).Φ (Fin.last _) = (dat2 (V4 m ρ) c).Φ (Fin.last _) from rfl]
    iintro H
    ihave H := h $$ H
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every execution terminates without a fault, the arguments end unchanged, the six results end as `W6` has
    them, and every counter ends at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v9_0) = W6 m ρ c (Proc.devRef .tc main_v9_0)
      ∧ r.2.mem ((c.tc : Thread nD τ).loc main_v11_0) = W6 m ρ c (Proc.devRef .tc main_v11_0)
      ∧ r.2.mem ((c.tc : Thread nD τ).loc main_v17) = W6 m ρ c (Proc.devRef .tc main_v17)
      ∧ r.2.mem ((c.tc : Thread nD τ).loc main_v14) = W6 m ρ c (Proc.devRef .tc main_v14)
      ∧ r.2.mem ((c.tc : Thread nD τ).loc main_v16) = W6 m ρ c (Proc.devRef .tc main_v16)
      ∧ r.2.mem ((c.tc : Thread nD τ).loc main_v18) = W6 m ρ c (Proc.devRef .tc main_v18))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_args m ρ c main_arg0 (by decide)),
       (h c _ (mem_uc main_arg1 (by decide))).trans (W6_args m ρ c main_arg1 (by decide)),
       (h c _ (mem_uc main_arg2 (by decide))).trans (W6_args m ρ c main_arg2 (by decide)),
       (h c _ (mem_uc main_arg3 (by decide))).trans (W6_args m ρ c main_arg3 (by decide)),
       (h c _ (mem_uc main_arg4 (by decide))).trans (W6_args m ρ c main_arg4 (by decide)),
       (h c _ (mem_uc main_arg5 (by decide))).trans (W6_args m ρ c main_arg5 (by decide)),
       h c _ (mem_uc main_v9_0 (by decide)),
       h c _ (mem_uc main_v11_0 (by decide)),
       h c _ (mem_uc main_v17 (by decide)),
       h c _ (mem_uc main_v14 (by decide)),
       h c _ (mem_uc main_v16 (by decide)),
       h c _ (mem_uc main_v18 (by decide))⟩), funext fun g => hz g (.inr (no_unscoped g.2))⟩)

/-- The frame: termination without a fault, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1⟩, h.2⟩) (run m ρ)

end Cert.Kernel2Ideal.Ffn

end
-- ==== Proof.Ffn.Frames.lean ====
/-
  The feed-forward layer's frames.
-/
module

public import proofs.«01_k».proof.Defs
public import proofs.«01_k».proof.Proof.Gen.Kernel2
public import proofs.«01_k».proof.Proof.Gen.Kernel2Ideal
public import proofs.«01_k».proof.Proof.Ffn.Launch
public import proofs.«01_k».proof.Proof.Gen.Reference2Ideal
public import proofs.«01_k».proof.Proof.Gen.Reference2Ideal.Run
public import proofs.«01_k».proof.Proof.Gen.Pre_finite2
public import Idealize.ShloMosaic.Adequacy
public import Idealize.ShloMosaic.Init

@[expose] public section

set_option maxRecDepth 16384
set_option maxHeartbeats 2000000

noncomputable section

namespace Cert.Claims2

open Idealize.ShloMosaic Idealize.ShloMosaic.StableHlo Idealize.SL.Sem

set_option maxHeartbeats 8000000 in
/-- The two printings of the layer's kernel have the same bodies. -/
theorem bodies_eq : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun n => funext fun x => ?_)
  match n, x with
  | 0, (t, s) => exact rfl
  | 1, (t, s) => exact rfl
  | 2, (t, s) => exact rfl
  | ⟨k + 3, h⟩, _ => exact absurd h (Nat.not_lt.2 (Nat.le_add_left _ _))

/-- They have the same calls. -/
theorem defs_eq : @Cert.Kernel2.defs Bits _ Cert.Kernel2.Gen.facts = @Cert.Kernel2Ideal.defs Bits _ Cert.Kernel2Ideal.Gen.facts :=
  congrArg (Pipeline.defs (Cert.Kernel2Ideal.pcfgs (F := Bits))) bodies_eq

/-- They have the same host program. -/
theorem main_eq : @Cert.Kernel2.main Bits _ Cert.Kernel2.Gen.facts = @Cert.Kernel2Ideal.main Bits _ Cert.Kernel2Ideal.Gen.facts := rfl

/-- The layer's kernel as it runs on words ends with its arguments unchanged and every counter at zero. -/
theorem frame_bits : quiescent_Kernel2 (hKernel2 := Cert.Kernel2.Gen.facts) := by
  intro m g _
  rw [defs_eq, main_eq]
  exact Cert.Kernel2Ideal.Ffn.frame (F := Bits) m g

/-- The layer's kernel over the extended reals likewise. -/
theorem frame_ideal : quiescent_Kernel2Ideal (hKernel2Ideal := Cert.Kernel2Ideal.Gen.facts) := fun m g _ => Cert.Kernel2Ideal.Ffn.frame m g

/-- The same under the precondition. -/
theorem frame_ideal_finite : quiescent_Kernel2Ideal_pre_finite2 (hKernel2Ideal := Cert.Kernel2Ideal.Gen.facts) (hPre_finite2 := Cert.Pre_finite2.Gen.facts) :=
  fun m g _ => Cert.Kernel2Ideal.Ffn.frame m g

/-- The layer's reference ends with its arguments unchanged and every counter at zero. -/
theorem frame_ref : quiescent_Reference2Ideal (hReference2Ideal := Cert.Reference2Ideal.Gen.facts) := fun m g _ =>
  (θ_run (Cert.Reference2Ideal.defs (F := Ideal)) _ _).mono (fun r h => ⟨fun c => (h c).2.2.2.2.2.2, Idealize.ShloMosaic.sem_eq_zero_of_no_sems (by decide) r.2⟩) (Cert.Reference2Ideal.Value.run m g)

/-- The same under the precondition. -/
theorem frame_ref_finite : quiescent_Reference2Ideal_pre_finite2 (hReference2Ideal := Cert.Reference2Ideal.Gen.facts) (hPre_finite2 := Cert.Pre_finite2.Gen.facts) :=
  fun m g _ => (θ_run (Cert.Reference2Ideal.defs (F := Ideal)) _ _).mono (fun r h => ⟨fun c => (h c).2.2.2.2.2.2, Idealize.ShloMosaic.sem_eq_zero_of_no_sems (by decide) r.2⟩) (Cert.Reference2Ideal.Value.run m g)

end Cert.Claims2
-- ==== Proof.Ffn.Layer.lean ====
/-
  The feed-forward layer in the reals: its forward lines and the gradients of its arguments.
-/
module

public import proofs.«01_k».proof.Proof.EReals
public import Idealize.ShloMosaic.Lib.Pipeline.ValueKit

@[expose] public section

noncomputable section

namespace Cert.Layer

open Idealize.ShloMosaic Cert.Band

/-- The small number under the root of the row norm, as its float word reads. -/
def eps : ℝ := 8796093 / 8796093022208

/-- One over the root mean square of a row. -/
def inv (y : Fin 1024 → ℝ) : ℝ := (√((∑ j, y j * y j) / 1024 + eps))⁻¹

/-- The logistic function. -/
def logi (a : ℝ) : ℝ := 1 / (1 + Real.exp (-a))

/-- The slope of `a * logi a`. -/
def slope (a : ℝ) : ℝ := logi a * (1 + a * (1 - logi a))

/-- The layer's arguments: the rows, the norm's scale, the three weights, the gradient of the result. -/
structure Arrays where
  x : Fin 2048 → Fin 1024 → ℝ
  g : Fin 1024 → ℝ
  wg : Fin 1024 → Fin 2816 → ℝ
  wu : Fin 1024 → Fin 2816 → ℝ
  wd : Fin 2816 → Fin 1024 → ℝ
  dy : Fin 2048 → Fin 1024 → ℝ

variable (A : Arrays)

namespace Arrays

/-- The normalised rows. -/
def xh (t : Fin 2048) (j : Fin 1024) : ℝ := A.x t j * inv (A.x t)
/-- The same scaled. -/
def u (t : Fin 2048) (j : Fin 1024) : ℝ := A.x t j * inv (A.x t) * A.g j
/-- The gate. -/
def gate (t : Fin 2048) (k : Fin 2816) : ℝ := ∑ j, A.u t j * A.wg j k
/-- The values gated. -/
def up (t : Fin 2048) (k : Fin 2816) : ℝ := ∑ j, A.u t j * A.wu j k
/-- The gated values. -/
def act (t : Fin 2048) (k : Fin 2816) : ℝ := A.gate t k * logi (A.gate t k) * A.up t k
/-- The layer's result. -/
def out (t : Fin 2048) (j : Fin 1024) : ℝ := A.x t j + ∑ k, A.act t k * A.wd k j
/-- The gradient of the gated values. -/
def dact (t : Fin 2048) (k : Fin 2816) : ℝ := ∑ j, A.dy t j * A.wd k j
/-- The gradient of the gate. -/
def dgate (t : Fin 2048) (k : Fin 2816) : ℝ := A.dact t k * A.up t k * slope (A.gate t k)
/-- The gradient of the values gated. -/
def dup (t : Fin 2048) (k : Fin 2816) : ℝ := A.dact t k * (A.gate t k * logi (A.gate t k))
/-- The gradient of the scaled rows. -/
def du (t : Fin 2048) (j : Fin 1024) : ℝ := ∑ k, (A.dgate t k * A.wg j k + A.dup t k * A.wu j k)
/-- The mean of a row's gradient along the row. -/
def mean (t : Fin 2048) : ℝ := (∑ j, A.du t j * A.g j * A.xh t j) / 1024
/-- The gradient of the rows. -/
def dx (t : Fin 2048) (j : Fin 1024) : ℝ := A.dy t j + inv (A.x t) * (A.du t j * A.g j - A.xh t j * A.mean t)
/-- The gradient of the scale. -/
def dg (j : Fin 1024) : ℝ := ∑ t, A.du t j * A.xh t j
/-- The gradient of the gate's weights. -/
def dwg (j : Fin 1024) (k : Fin 2816) : ℝ := ∑ t, A.dgate t k * A.u t j
/-- The gradient of the values' weights. -/
def dwu (j : Fin 1024) (k : Fin 2816) : ℝ := ∑ t, A.dup t k * A.u t j
/-- The gradient of the last weights. -/
def dwd (k : Fin 2816) (j : Fin 1024) : ℝ := ∑ t, A.act t k * A.dy t j

end Arrays

/-! ## A long sum in stretches -/

/-- The place a number names on an axis. -/
def pos (L : ℕ) [NeZero L] (i : ℕ) : Fin L := ⟨i % L, Nat.mod_lt _ (NeZero.pos L)⟩

theorem pos_eq {L : ℕ} [NeZero L] {i : ℕ} {l : Fin L} (h : i = l.val) : pos L i = l :=
  Fin.ext (by subst h; exact Nat.mod_eq_of_lt l.isLt)
theorem pos_val {L : ℕ} [NeZero L] {i : ℕ} (h : i < L) : (pos L i).val = i := Nat.mod_eq_of_lt h

/-- The sum over the stretch `s` of `n` entries. -/
def stretch {L : ℕ} [NeZero L] (n : ℕ) (f : Fin L → ℝ) (s : ℕ) : ℝ := ∑ k : Fin n, f (pos L (n * s + k))

/-- The stretches make the whole sum. -/
theorem stretch_sum {L : ℕ} [NeZero L] (S n : ℕ) (f : Fin L → ℝ) (hL : L = S * n) :
    ∑ s ∈ Finset.range S, stretch n f s = ∑ l, f l := by
  rw [Finset.sum_range]
  unfold stretch
  exact Fin.sum_mul_add_congr (fun s k hl => congrArg f (Fin.ext (by
    show (n * s.val + k.val) % L = s.val * n + k.val
    rw [Nat.mul_comm, Nat.mod_eq_of_lt hl]))) hL

/-! ## What the extended reals' operations make of reals -/

theorem ofBits_row : Ideal.ofBits .f32 0x44800000#32 = ((1024 : ℝ) : EReal) := by
  simp [Ideal.ofBits, Ideal.ieee]; norm_num [← EReal.coe_mul]
theorem ofBits_eps : Ideal.ofBits .f32 0x358637BD#32 = ((eps : ℝ) : EReal) := by
  simp [Ideal.ofBits, Ideal.ieee, eps]; norm_num [← EReal.coe_mul]
theorem ofBits_half : Ideal.ofBits .f32 0xBF000000#32 = ((-(1 / 2) : ℝ) : EReal) := by
  simp [Ideal.ofBits, Ideal.ieee]; norm_num [← EReal.coe_mul]

theorem eps_pos : 0 < eps := by unfold eps; norm_num
/-- What is under the root is positive. -/
theorem norm_pos (y : Fin 1024 → ℝ) : 0 < (∑ j, y j * y j) / 1024 + eps :=
  add_pos_of_nonneg_of_pos (div_nonneg (Finset.sum_nonneg fun j _ => mul_self_nonneg (y j)) (by norm_num)) eps_pos

theorem div_row (a : ℝ) : Ideal.div (a : EReal) (Ideal.ofBits .f32 0x44800000#32) = ((a / 1024 : ℝ) : EReal) := by
  rw [ofBits_row, div_real a (by norm_num)]

/-- The row norm's reciprocal. -/
theorem rsqrt_norm (y : Fin 1024 → ℝ) :
    Ideal.rsqrt (Ideal.div (((∑ j, y j * y j : ℝ)) : EReal) (Ideal.ofBits .f32 0x44800000#32) + Ideal.ofBits .f32 0x358637BD#32)
      = ((inv y : ℝ) : EReal) := by
  rw [div_row, ofBits_eps, ← EReal.coe_add, Ideal.rsqrt_coe, if_neg (not_lt.mpr (norm_pos y).le), if_neg (norm_pos y).ne']
  rfl

theorem one_exp_ne (a : ℝ) : 1 + Real.exp a ≠ 0 := (add_pos one_pos (Real.exp_pos a)).ne'

/-- The logistic function as the kernel's body writes it. -/
theorem logi_sub (a : ℝ) : Ideal.div 1 (1 + Ideal.exp (0 - (a : EReal))) = ((logi a : ℝ) : EReal) := by
  rw [← EReal.coe_one, ← EReal.coe_zero, ← EReal.coe_sub, zero_sub, Ideal.exp_coe, ← EReal.coe_add, div_real _ (one_exp_ne _)]; rfl

/-- The logistic function as the reference's lines write it. -/
theorem logi_neg (a : ℝ) : Ideal.div 1 (1 + Ideal.exp (-(a : EReal))) = ((logi a : ℝ) : EReal) := by
  rw [← EReal.coe_one, ← EReal.coe_neg, Ideal.exp_coe, ← EReal.coe_add, div_real _ (one_exp_ne _)]; rfl

/-! ## A block read at every index -/

theorem all2 {n k : ℕ} {X : (⟨2, ![n, k]⟩ : Shape).Idx → EReal} {G : Fin n → Fin k → ℝ}
    (h : ∀ a b, X (ix2 a b) = ((G a b : ℝ) : EReal)) (y : (⟨2, ![n, k]⟩ : Shape).Idx) : X y = ((G (y 0) (y 1) : ℝ) : EReal) :=
  (congrArg X (eq_ix2 y)).trans (h _ _)

theorem all3 {n k : ℕ} {X : (⟨3, ![1, n, k]⟩ : Shape).Idx → EReal} {G : Fin n → Fin k → ℝ}
    (h : ∀ a b, X (ix3 0 a b) = ((G a b : ℝ) : EReal)) (y : (⟨3, ![1, n, k]⟩ : Shape).Idx) : X y = ((G (y 1) (y 2) : ℝ) : EReal) :=
  (congrArg X ((eq_ix3 y).trans (congrArg (fun z => ix3 z (y 1) (y 2)) (Fin.fin_one_eq_zero (y 0))))).trans (h _ _)

end Cert.Layer
-- ==== Proof.Ffn.Pay1.lean ====
/-
  The backward call's values over the extended reals, read at an index.
-/
module

public import proofs.«01_k».proof.Proof.Ffn.Layer
public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Kernel2Ideal.Ffn

open Idealize.ShloMosaic Cert.Kernel2Ideal Cert.Kernel2Ideal.Gen Cert.Band Cert.Layer

section Shard

variable {d : Vec Ideal S512x1024 .bf16} {w : Vec Ideal S1x704x1024 .bf16} {p q : Vec Ideal S1x512x704 .bf16}
  {D : Fin 512 → Fin 1024 → ℝ} {W : Fin 704 → Fin 1024 → ℝ} {P Q : Fin 512 → Fin 704 → ℝ}

/-- The gradient of the gated values on a shard. -/
theorem k1_pay13_at (hd : ∀ t j, d (ix2 t j) = ((D t j : ℝ) : EReal)) (hw : ∀ k j, w (ix3 0 k j) = ((W k j : ℝ) : EReal))
    (t : Fin 512) (k : Fin 704) : k1_pay13 d w (ix2 t k) = ((∑ j, D t j * W k j : ℝ) : EReal) := by
  pointwise [k1_pay13]
  simp only [hd, hw, ← EReal.coe_mul, ← coe_sum]

/-- The logistic function of the gate. -/
theorem k1_pay16_at (hp : ∀ t k, p (ix3 0 t k) = ((P t k : ℝ) : EReal)) (t : Fin 512) (k : Fin 704) :
    k1_pay16 p (ix2 t k) = ((logi (P t k) : ℝ) : EReal) := by
  pointwise [k1_pay16, k1_pay14]
  simp only [hp, logi_sub]

/-- The gate by its logistic function. -/
theorem k1_pay17_at (hp : ∀ t k, p (ix3 0 t k) = ((P t k : ℝ) : EReal)) (t : Fin 512) (k : Fin 704) :
    k1_pay17 p (ix2 t k) = ((P t k * logi (P t k) : ℝ) : EReal) := by
  pointwise [k1_pay17, k1_pay14]
  simp only [hp, k1_pay16_at hp, ← EReal.coe_mul]

/-- The gradient of the gate. -/
theorem k1_pay18_at (hd : ∀ t j, d (ix2 t j) = ((D t j : ℝ) : EReal)) (hw : ∀ k j, w (ix3 0 k j) = ((W k j : ℝ) : EReal))
    (hp : ∀ t k, p (ix3 0 t k) = ((P t k : ℝ) : EReal)) (hq : ∀ t k, q (ix3 0 t k) = ((Q t k : ℝ) : EReal)) (t : Fin 512) (k : Fin 704) :
    k1_pay18 d w p q (ix2 t k) = (((∑ j, D t j * W k j) * Q t k * slope (P t k) : ℝ) : EReal) := by
  pointwise [k1_pay18, k1_pay14, k1_pay15]
  simp only [k1_pay13_at hd hw, k1_pay16_at hp, hp, hq, ← EReal.coe_one, ← EReal.coe_mul, ← EReal.coe_sub, ← EReal.coe_add]
  rfl

/-- The gradient of the values gated. -/
theorem k1_pay19_at (hd : ∀ t j, d (ix2 t j) = ((D t j : ℝ) : EReal)) (hw : ∀ k j, w (ix3 0 k j) = ((W k j : ℝ) : EReal))
    (hp : ∀ t k, p (ix3 0 t k) = ((P t k : ℝ) : EReal)) (t : Fin 512) (k : Fin 704) :
    k1_pay19 d w p (ix2 t k) = (((∑ j, D t j * W k j) * (P t k * logi (P t k)) : ℝ) : EReal) := by
  pointwise [k1_pay19]
  simp only [k1_pay13_at hd hw, k1_pay17_at hp, ← EReal.coe_mul]

/-- The gated values. -/
theorem k1_pay20_at (hp : ∀ t k, p (ix3 0 t k) = ((P t k : ℝ) : EReal)) (hq : ∀ t k, q (ix3 0 t k) = ((Q t k : ℝ) : EReal))
    (t : Fin 512) (k : Fin 704) : k1_pay20 p q (ix2 t k) = ((P t k * logi (P t k) * Q t k : ℝ) : EReal) := by
  pointwise [k1_pay20, k1_pay15]
  simp only [k1_pay17_at hp, hq, ← EReal.coe_mul]

/-- The three as they are stored. -/
theorem k1_pay1_at (e : FVec Ideal S512x704 .bf16) (t : Fin 512) (k : Fin 704) : k1_pay1 e (ix3 0 t k) = e (ix2 t k) := by
  pointwise [k1_pay1]
theorem k1_pay2_at (e : FVec Ideal S512x704 .bf16) (t : Fin 512) (k : Fin 704) : k1_pay2 e (ix3 0 t k) = e (ix2 t k) := by
  pointwise [k1_pay2]
theorem k1_pay3_at (e : FVec Ideal S512x704 .bf16) (t : Fin 512) (k : Fin 704) : k1_pay3 e (ix3 0 t k) = e (ix2 t k) := by
  pointwise [k1_pay3]

/-- A shard's share of the gradient of the scaled rows, added to what is there. -/
theorem k1_pay4_at {e f : FVec Ideal S512x704 .bf16} {b : Vec Ideal S512x1024 .f32} {v : Vec Ideal S1x704x1024 .bf16} {V : Fin 704 → Fin 1024 → ℝ}
    {B : ℝ} (t : Fin 512) (j : Fin 1024) (he : ∀ k, e (ix2 t k) = ((P t k : ℝ) : EReal)) (hf : ∀ k, f (ix2 t k) = ((Q t k : ℝ) : EReal))
    (hb : b (ix2 t j) = ((B : ℝ) : EReal)) (hw : ∀ k j, w (ix3 0 k j) = ((W k j : ℝ) : EReal)) (hv : ∀ k j, v (ix3 0 k j) = ((V k j : ℝ) : EReal)) :
    k1_pay4 e f b w v (ix2 t j) = ((B + ∑ k, (P t k * W k j + Q t k * V k j) : ℝ) : EReal) := by
  rw [Finset.sum_add_distrib]
  pointwise [k1_pay4]
  simp only [he, hf, hb, hw, hv, ← EReal.coe_mul, ← coe_sum, ← EReal.coe_add]

/-- The rounded gradient is the gradient. -/
theorem k1_pay11_at (b : Vec Ideal S512x1024 .f32) (t : Fin 512) (j : Fin 1024) : k1_pay11 b (ix2 t j) = b (ix2 t j) := by
  pointwise [k1_pay11]

/-- What the gradient of the scaled rows is collected from. -/
theorem k1_pay12_at (t : Fin 512) (j : Fin 1024) : k1_pay12 (F := Ideal) (ix2 t j) = ((0 : ℝ) : EReal) := by
  pointwise [k1_pay12]
  rfl

end Shard

section Rows

variable {x b y : Vec Ideal S512x1024 .f32} {g : Vec Ideal S1x1024 .f32} {X B Y : Fin 512 → Fin 1024 → ℝ} {G : Fin 1024 → ℝ}

/-- The reciprocal of a row's norm. -/
theorem k1_pay6_at (hx : ∀ t j, x (ix2 t j) = ((X t j : ℝ) : EReal)) (t : Fin 512) : k1_pay6 x (ix2 t 0) = ((inv (X t) : ℝ) : EReal) := by
  pointwise [k1_pay6]
  simp only [hx, ← EReal.coe_mul, ← coe_sum, rsqrt_norm]

/-- The normalised rows. -/
theorem k1_pay7_at (hx : ∀ t j, x (ix2 t j) = ((X t j : ℝ) : EReal)) (t : Fin 512) (j : Fin 1024) :
    k1_pay7 x (ix2 t j) = ((X t j * inv (X t) : ℝ) : EReal) := by
  pointwise [k1_pay7]
  simp only [k1_pay6_at hx, hx, ← EReal.coe_mul]

/-- The gradient of the rows. -/
theorem k1_pay8_at (hx : ∀ t j, x (ix2 t j) = ((X t j : ℝ) : EReal)) (hb : ∀ t j, b (ix2 t j) = ((B t j : ℝ) : EReal))
    (hg : ∀ j, g (ix2 0 j) = ((G j : ℝ) : EReal)) (hy : ∀ t j, y (ix2 t j) = ((Y t j : ℝ) : EReal)) (t : Fin 512) (j : Fin 1024) :
    k1_pay8 x b g y (ix2 t j) = ((Y t j + inv (X t) * (B t j * G j
      - X t j * inv (X t) * ((∑ i, B t i * G i * (X t i * inv (X t))) / 1024)) : ℝ) : EReal) := by
  pointwise [k1_pay8]
  simp only [k1_pay6_at hx, k1_pay7_at hx, hb, hg, hy, ← EReal.coe_mul, ← coe_sum, div_row, ← EReal.coe_sub, ← EReal.coe_add]

/-- The block's share of the gradient of the scale. -/
theorem k1_pay9_at (hx : ∀ t j, x (ix2 t j) = ((X t j : ℝ) : EReal)) (hb : ∀ t j, b (ix2 t j) = ((B t j : ℝ) : EReal)) (j : Fin 1024) :
    k1_pay9 x b (ix2 0 j) = ((∑ t, B t j * (X t j * inv (X t)) : ℝ) : EReal) := by
  pointwise [k1_pay9]
  simp only [k1_pay7_at hx, hb, ← EReal.coe_mul, ← coe_sum]

/-- The scaled normalised rows. -/
theorem k1_pay10_at (hx : ∀ t j, x (ix2 t j) = ((X t j : ℝ) : EReal)) (hg : ∀ j, g (ix2 0 j) = ((G j : ℝ) : EReal)) (t : Fin 512) (j : Fin 1024) :
    k1_pay10 x g (ix2 t j) = ((X t j * inv (X t) * G j : ℝ) : EReal) := by
  pointwise [k1_pay10]
  simp only [hx, hg, ← EReal.coe_mul, ← coe_sum, rsqrt_norm]

/-- Two shares of the gradient of the scale added. -/
theorem k1_pay5_at (e f : Vec Ideal S1x1024 .f32) (j : Fin 1024) : k1_pay5 e f (ix2 0 j) = (f (ix2 0 j) + e (ix2 0 j) : EReal) := by
  pointwise [k1_pay5]

end Rows

end Cert.Kernel2Ideal.Ffn
-- ==== Proof.Ffn.Pay0.lean ====
/-
  The forward call's values over the extended reals, read at an index.
-/
module

public import proofs.«01_k».proof.Proof.Ffn.Layer
public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Kernel2Ideal.Ffn

open Idealize.ShloMosaic Cert.Kernel2Ideal Cert.Kernel2Ideal.Gen Cert.Band Cert.Layer

section Rows

variable {x : Vec Ideal S1024x1024 .f32} {g : Vec Ideal S1x1024 .f32} {X : Fin 1024 → Fin 1024 → ℝ} {G : Fin 1024 → ℝ}

/-- The scaled normalised rows of a block. -/
theorem k0_pay3_at (hx : ∀ t j, x (ix2 t j) = ((X t j : ℝ) : EReal)) (hg : ∀ j, g (ix2 0 j) = ((G j : ℝ) : EReal)) (t j : Fin 1024) :
    k0_pay3 x g (ix2 t j) = ((X t j * inv (X t) * G j : ℝ) : EReal) := by
  pointwise [k0_pay3]
  simp only [hx, hg, ← EReal.coe_mul, ← coe_sum, rsqrt_norm]

end Rows

section Shard

variable {u o : Vec Ideal S1024x1024 .bf16} {w v d : Vec Ideal S1x704x1024 .bf16} {U : Fin 1024 → Fin 1024 → ℝ} {W V D : Fin 704 → Fin 1024 → ℝ}

/-- A shard's part of the gate. -/
theorem k0_pay4_at (hu : ∀ t j, u (ix2 t j) = ((U t j : ℝ) : EReal)) (hw : ∀ k j, w (ix3 0 k j) = ((W k j : ℝ) : EReal))
    (t : Fin 1024) (k : Fin 704) : k0_pay4 u w (ix2 t k) = ((∑ j, U t j * W k j : ℝ) : EReal) := by
  pointwise [k0_pay4]
  simp only [hu, hw, ← EReal.coe_mul, ← coe_sum]

/-- The same as it is stored. -/
theorem k0_gate_at (hu : ∀ t j, u (ix2 t j) = ((U t j : ℝ) : EReal)) (hw : ∀ k j, w (ix3 0 k j) = ((W k j : ℝ) : EReal))
    (t : Fin 1024) (k : Fin 704) : k0_pay1 (k0_pay7 u w) (ix3 0 t k) = ((∑ j, U t j * W k j : ℝ) : EReal) := by
  pointwise [k0_pay1, k0_pay7]
  exact k0_pay4_at hu hw t k

/-- A shard's part of the values gated. -/
theorem k0_pay5_at (hu : ∀ t j, u (ix2 t j) = ((U t j : ℝ) : EReal)) (hw : ∀ k j, w (ix3 0 k j) = ((W k j : ℝ) : EReal))
    (t : Fin 1024) (k : Fin 704) : k0_pay5 u w (ix2 t k) = ((∑ j, U t j * W k j : ℝ) : EReal) := by
  pointwise [k0_pay5]
  simp only [hu, hw, ← EReal.coe_mul, ← coe_sum]

/-- The same as it is stored. -/
theorem k0_up_at (hu : ∀ t j, u (ix2 t j) = ((U t j : ℝ) : EReal)) (hw : ∀ k j, w (ix3 0 k j) = ((W k j : ℝ) : EReal))
    (t : Fin 1024) (k : Fin 704) : k0_pay2 (k0_pay5 u w) (ix3 0 t k) = ((∑ j, U t j * W k j : ℝ) : EReal) := by
  pointwise [k0_pay2]
  exact k0_pay5_at hu hw t k

/-- A shard's share of the result, added to what is there. -/
theorem k0_pay6_at {b : Vec Ideal S1024x1024 .f32} {B : ℝ} (hu : ∀ t j, u (ix2 t j) = ((U t j : ℝ) : EReal)) (hw : ∀ k j, w (ix3 0 k j) = ((W k j : ℝ) : EReal))
    (hv : ∀ k j, v (ix3 0 k j) = ((V k j : ℝ) : EReal)) (hd : ∀ k j, d (ix3 0 k j) = ((D k j : ℝ) : EReal)) (t j : Fin 1024)
    (hb : b (ix2 t j) = ((B : ℝ) : EReal)) :
    k0_pay6 u w v b d (ix2 t j)
      = ((B + ∑ k, (∑ i, U t i * W k i) * logi (∑ i, U t i * W k i) * (∑ i, U t i * V k i) * D k j : ℝ) : EReal) := by
  pointwise [k0_pay6]
  simp only [k0_pay4_at hu hw, k0_pay5_at hu hv, hb, hd, logi_sub, ← EReal.coe_mul, ← coe_sum, ← EReal.coe_add]

end Shard

end Cert.Kernel2Ideal.Ffn
-- ==== Proof.Ffn.Value0.lean ====
/-
  The forward call's results: from real arguments, the layer's result, the gate and the values gated.
-/
module

public import proofs.«01_k».proof.Proof.Ffn.Reg0
public import proofs.«01_k».proof.Proof.Ffn.Pay0
public import Idealize.ShloMosaic.Lib.Pipeline.ValueKit
public import Idealize.ShloMosaic.Lib.Claim

@[expose] public section

set_option maxRecDepth 16384

noncomputable section

namespace Cert.Kernel2Ideal.Ffn

open Idealize.ShloMosaic Idealize.ShloMosaic.TcCoe Cert.Kernel2Ideal Cert.Kernel2Ideal.Gen Cert.Band Cert.Layer
open Idealize.ShloMosaic.Pipeline (Dat)

/-- The windows' block indices: a block of rows and a shard of the features per point. -/
theorem idx0 : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![t.val % 4, 0, 0] ∧ win0_5.index t = ![t.val / 4, 0]
    ∧ win0_6.index t = ![t.val % 4, t.val / 4, 0] ∧ win0_7.index t = ![t.val % 4, t.val / 4, 0] ∧ t.val < 8 :=
  (by decide +kernel : ∀ t : Fin grid0.N, _)

/-- The row a block's row is. -/
abbrev rw0 (n : ℕ) (a : Fin 1024) : Fin 2048 := pos 2048 (1024 * (n / 4) + a)
/-- The feature a shard's feature is. -/
abbrev cl0 (n : ℕ) (k : Fin 704) : Fin 2816 := pos 2816 (704 * (n % 4) + k)

variable (V : (c : Dev nD) → (b : Ref sig .tc) → Buf (Elt Ideal) ((c : Thread nD τ).loc b)) (c : Dev nD) (A : Arrays)

/-- The arrays the forward call reads. -/
structure In0 : Prop where
  x : ∀ t j, (V c main_arg0 : Vec Ideal S2048x1024 .f32) (ix2 t j) = ((A.x t j : ℝ) : EReal)
  g : ∀ j, (V c main_v8 : Vec Ideal S1x1024 .f32) (ix2 0 j) = ((A.g j : ℝ) : EReal)
  wg : ∀ (s : Fin 4) k j, (V c main_v2 : Vec Ideal S4x704x1024 .bf16) (ix3 s k j) = ((A.wg j (pos 2816 (704 * s + k.val)) : ℝ) : EReal)
  wu : ∀ (s : Fin 4) k j, (V c main_v5 : Vec Ideal S4x704x1024 .bf16) (ix3 s k j) = ((A.wu j (pos 2816 (704 * s + k.val)) : ℝ) : EReal)
  wd : ∀ (s : Fin 4) k j, (V c main_v7 : Vec Ideal S4x704x1024 .bf16) (ix3 s k j) = ((A.wd (pos 2816 (704 * s + k.val)) j : ℝ) : EReal)

variable {V c A}

theorem blk0_0 (t : Fin cfg0.N) (a j : Fin 1024) (r : Fin 2048) (hr : r.val = 1024 * (t.val / 4) + a.val) :
    (blk0 V c 0 t : Vec Ideal S1024x1024 .f32) (ix2 a j) = (V c main_arg0 : Vec Ideal S2048x1024 .f32) (ix2 r j) := by
  blk_ext [blk0, idx0 t]
theorem blk0_1 (t : Fin cfg0.N) (j : Fin 1024) :
    (blk0 V c 1 t : Vec Ideal S1x1024 .f32) (ix2 0 j) = (V c main_v8 : Vec Ideal S1x1024 .f32) (ix2 0 j) := by
  blk_ext [blk0, idx0 t]
theorem blk0_2 (t : Fin cfg0.N) (k : Fin 704) (j : Fin 1024) (s : Fin 4) (hs : s.val = t.val % 4) :
    (blk0 V c 2 t : Vec Ideal S1x704x1024 .bf16) (ix3 0 k j) = (V c main_v2 : Vec Ideal S4x704x1024 .bf16) (ix3 s k j) := by
  blk_ext [blk0, idx0 t]
theorem blk0_3 (t : Fin cfg0.N) (k : Fin 704) (j : Fin 1024) (s : Fin 4) (hs : s.val = t.val % 4) :
    (blk0 V c 3 t : Vec Ideal S1x704x1024 .bf16) (ix3 0 k j) = (V c main_v5 : Vec Ideal S4x704x1024 .bf16) (ix3 s k j) := by
  blk_ext [blk0, idx0 t]
theorem blk0_4 (t : Fin cfg0.N) (k : Fin 704) (j : Fin 1024) (s : Fin 4) (hs : s.val = t.val % 4) :
    (blk0 V c 4 t : Vec Ideal S1x704x1024 .bf16) (ix3 0 k j) = (V c main_v7 : Vec Ideal S4x704x1024 .bf16) (ix3 s k j) := by
  blk_ext [blk0, idx0 t]

/-- The row and the shard of a point. -/
theorem rw0_val (t : Fin cfg0.N) (a : Fin 1024) : (rw0 t.val a).val = 1024 * (t.val / 4) + a.val :=
  pos_val (by have := (idx0 t).2.2.2.2.2.2.2.2; omega)
abbrev sh0 (t : Fin cfg0.N) : Fin 4 := ⟨t.val % 4, by omega⟩

variable (H : In0 V c A)

include H in
theorem x0_at (t : Fin cfg0.N) (a j : Fin 1024) : (blk0 V c 0 t : Vec Ideal S1024x1024 .f32) (ix2 a j) = ((A.x (rw0 t.val a) j : ℝ) : EReal) :=
  (blk0_0 t a j _ (rw0_val t a)).trans (H.x _ j)
include H in
theorem g0_at (t : Fin cfg0.N) (j : Fin 1024) : (blk0 V c 1 t : Vec Ideal S1x1024 .f32) (ix2 0 j) = ((A.g j : ℝ) : EReal) :=
  (blk0_1 t j).trans (H.g j)
include H in
theorem wg0_at (t : Fin cfg0.N) (k : Fin 704) (j : Fin 1024) : (blk0 V c 2 t : Vec Ideal S1x704x1024 .bf16) (ix3 0 k j) = ((A.wg j (cl0 t.val k) : ℝ) : EReal) :=
  (blk0_2 t k j (sh0 t) rfl).trans (H.wg _ k j)
include H in
theorem wu0_at (t : Fin cfg0.N) (k : Fin 704) (j : Fin 1024) : (blk0 V c 3 t : Vec Ideal S1x704x1024 .bf16) (ix3 0 k j) = ((A.wu j (cl0 t.val k) : ℝ) : EReal) :=
  (blk0_3 t k j (sh0 t) rfl).trans (H.wu _ k j)
include H in
theorem wd0_at (t : Fin cfg0.N) (k : Fin 704) (j : Fin 1024) : (blk0 V c 4 t : Vec Ideal S1x704x1024 .bf16) (ix3 0 k j) = ((A.wd (cl0 t.val k) j : ℝ) : EReal) :=
  (blk0_4 t k j (sh0 t) rfl).trans (H.wd _ k j)

/-- The result's share collected after a point. -/
def outTo (A : Arrays) (t : Fin 2048) (j : Fin 1024) (n : ℕ) : ℝ :=
  A.x t j + ∑ s ∈ Finset.range n, stretch 704 (fun k => A.act t k * A.wd k j) s

theorem outTo_all (t : Fin 2048) (j : Fin 1024) : outTo A t j 4 = A.out t j := by
  unfold outTo Arrays.out
  rw [stretch_sum 4 704 _ rfl]

/-- A point's step keeps what the two buffers hold. -/
theorem step0_at (H : In0 V c A) (t : Fin cfg0.N) (p : Vec Ideal S1024x1024 .bf16 × Vec Ideal S1024x1024 .f32)
    (h1 : ¬t.val % 4 = 0 → ∀ a j, p.1 (ix2 a j) = ((A.u (rw0 t.val a) j : ℝ) : EReal))
    (h2 : ¬t.val % 4 = 0 → ∀ a j, p.2 (ix2 a j) = ((outTo A (rw0 t.val a) j (t.val % 4) : ℝ) : EReal)) :
    (∀ a j, (step0 V c t p).1 (ix2 a j) = ((A.u (rw0 t.val a) j : ℝ) : EReal))
      ∧ ∀ a j, (step0 V c t p).2 (ix2 a j) = ((outTo A (rw0 t.val a) j (t.val % 4 + 1) : ℝ) : EReal) := by
  have hu : ∀ a j, (if t.val % 4 = 0 then k0_pay3 (blk0 V c 0 t) (blk0 V c 1 t) else p.1 : Vec Ideal S1024x1024 .bf16) (ix2 a j)
      = ((A.u (rw0 t.val a) j : ℝ) : EReal) := fun a j => by
    split_ifs with h
    · exact k0_pay3_at (X := fun a j => A.x (rw0 t.val a) j) (x0_at H t) (g0_at H t) a j
    · exact h1 h a j
  refine ⟨hu, fun a j => ?_⟩
  have hb : (if t.val % 4 = 0 then blk0 V c 0 t else p.2 : Vec Ideal S1024x1024 .f32) (ix2 a j)
      = ((outTo A (rw0 t.val a) j (t.val % 4) : ℝ) : EReal) := by
    split_ifs with h
    · rw [x0_at H t, h, outTo, Finset.range_zero, Finset.sum_empty, add_zero]
    · exact h2 h a j
  refine (k0_pay6_at hu (W := fun k j => A.wg j (cl0 t.val k)) (wg0_at H t) (V := fun k j => A.wu j (cl0 t.val k)) (wu0_at H t)
    (wd0_at H t) a j hb).trans (congrArg (fun r : ℝ => (r : EReal)) ?_)
  unfold outTo
  rw [Finset.sum_range_succ, ← add_assoc]
  rfl

/-- After every point: the scaled normalised rows of its block, and its shard's and the earlier shards' shares of the result. -/
theorem at0_at (H : In0 V c A) : ∀ (n : ℕ) (h : n < cfg0.N),
    (∀ a j, (at0 V c n h).1 (ix2 a j) = ((A.u (rw0 n a) j : ℝ) : EReal))
      ∧ ∀ a j, (at0 V c n h).2 (ix2 a j) = ((outTo A (rw0 n a) j (n % 4 + 1) : ℝ) : EReal)
  | 0, h => step0_at H ⟨0, h⟩ _ (fun h => absurd rfl h) (fun h => absurd rfl h)
  | n + 1, h => by
    have ih := at0_at H n (Nat.lt_of_succ_lt h)
    have hr : ¬(n + 1) % 4 = 0 → ∀ a, rw0 (n + 1) a = rw0 n a := fun h a => by
      have e : (n + 1) / 4 = n / 4 := by omega
      unfold rw0; rw [e]
    refine step0_at H ⟨n + 1, h⟩ (at0 V c n (Nat.lt_of_succ_lt h)) (fun h a j => ?_) (fun h a j => ?_)
    · show _ = ((A.u (rw0 (n + 1) a) j : ℝ) : EReal)
      rw [hr h]; exact ih.1 a j
    · show _ = ((outTo A (rw0 (n + 1) a) j ((n + 1) % 4) : ℝ) : EReal)
      have e : (n + 1) % 4 = n % 4 + 1 := by have : ¬(n + 1) % 4 = 0 := h; omega
      rw [hr h, e]; exact ih.2 a j

include H in
/-- The result after the call. -/
theorem out_arr : (dat0 V c).arrAt 5 cfg0.N = (fun i : S2048x1024.Idx => ((A.out (pos 2048 (i 0).val) (pos 1024 (i 1).val) : ℝ) : EReal)) := by
  refine (dat0 V c).arrAt_eq_of_covers 5 _ (by decide +kernel) fun t hf y => ?_
  have h3 := (flush0_5 t).mp hf
  have h := all2 (X := (at0 V c t.val t.isLt).2) (G := fun a j => A.out (rw0 t.val a) j) fun a j =>
    ((at0_at H t.val t.isLt).2 a j).trans (by rw [h3]; exact congrArg (fun r : ℝ => (r : EReal)) (outTo_all _ _))
  blk_simp
  refine (h y).trans ?_
  have e := (idx0 t).2.2.2.2.2.1
  rw [show win0_5.index t 0 = t.val / 4 from congrFun e 0, show win0_5.index t 1 = 0 from congrFun e 1, zero_mul, zero_add,
    mul_comm (t.val / 4)]
  exact congrArg (fun r : ℝ => (r : EReal)) (congrArg (A.out _) (pos_eq (L := 1024) (l := (y 1 : Fin 1024)) rfl).symm)

include H in
/-- The gate after the call. -/
theorem gate_arr : (dat0 V c).arrAt 6 cfg0.N = (fun i : S4x2048x704.Idx =>
    ((A.gate (pos 2048 (i 1).val) (pos 2816 (704 * (i 0).val + (i 2).val)) : ℝ) : EReal)) := by
  refine (dat0 V c).arrAt_eq_of_covers 6 _ (by decide +kernel) fun t hf y => ?_
  have h := all3 (X := k0_pay1 (k0_pay7 (at0 V c t.val t.isLt).1 (blk0 V c 2 t)))
    (k0_gate_at (at0_at H t.val t.isLt).1 (wg0_at H t))
  blk_simp
  refine (h y).trans ?_
  have e := (idx0 t).2.2.2.2.2.2.1
  rw [show win0_6.index t 0 = t.val % 4 from congrFun e 0, show win0_6.index t 1 = t.val / 4 from congrFun e 1,
    show win0_6.index t 2 = 0 from congrFun e 2, zero_mul, zero_add, mul_comm (t.val / 4)]
  rfl

include H in
/-- The values gated after the call. -/
theorem up_arr : (dat0 V c).arrAt 7 cfg0.N = (fun i : S4x2048x704.Idx =>
    ((A.up (pos 2048 (i 1).val) (pos 2816 (704 * (i 0).val + (i 2).val)) : ℝ) : EReal)) := by
  refine (dat0 V c).arrAt_eq_of_covers 7 _ (by decide +kernel) fun t hf y => ?_
  have h := all3 (X := k0_pay2 (k0_pay5 (at0 V c t.val t.isLt).1 (blk0 V c 3 t)))
    (k0_up_at (at0_at H t.val t.isLt).1 (wu0_at H t))
  blk_simp
  refine (h y).trans ?_
  have e := (idx0 t).2.2.2.2.2.2.2.1
  rw [show win0_7.index t 0 = t.val % 4 from congrFun e 0, show win0_7.index t 1 = t.val / 4 from congrFun e 1,
    show win0_7.index t 2 = 0 from congrFun e 2, zero_mul, zero_add, mul_comm (t.val / 4)]
  rfl

end Cert.Kernel2Ideal.Ffn
-- ==== Proof.Ffn.Value1.lean ====
/-
  The backward call's results: from real arrays, the gradients of the rows and of the scale, and what the weights' gradients take.
-/
module

public import proofs.«01_k».proof.Proof.Ffn.Reg1
public import proofs.«01_k».proof.Proof.Ffn.Pay1
public import proofs.«01_k».proof.Proof.Ffn.Value0
public import Idealize.ShloMosaic.Lib.Pipeline.ValueKit
public import Idealize.ShloMosaic.Lib.Claim

@[expose] public section

set_option maxRecDepth 16384

noncomputable section

namespace Cert.Kernel2Ideal.Ffn

open Idealize.ShloMosaic Idealize.ShloMosaic.TcCoe Cert.Kernel2Ideal Cert.Kernel2Ideal.Gen Cert.Band Cert.Layer
open Idealize.ShloMosaic.Pipeline (Dat)

/-- The windows' block indices: a block of rows and a shard of the features per point. -/
theorem idx1 : ∀ t : Fin cfg1.N, (win1_0.index t = ![t.val / 4, 0] ∧ win1_1.index t = ![t.val / 4, 0] ∧ win1_2.index t = ![0, 0])
    ∧ (win1_3.index t = ![t.val % 4, t.val / 4, 0] ∧ win1_4.index t = ![t.val % 4, t.val / 4, 0])
    ∧ (win1_5.index t = ![t.val % 4, 0, 0] ∧ win1_6.index t = ![t.val % 4, 0, 0] ∧ win1_7.index t = ![t.val % 4, 0, 0])
    ∧ (win1_8.index t = ![t.val / 4, 0] ∧ win1_9.index t = ![0, 0] ∧ win1_10.index t = ![t.val / 4, 0])
    ∧ (win1_11.index t = ![t.val % 4, t.val / 4, 0] ∧ win1_12.index t = ![t.val % 4, t.val / 4, 0] ∧ win1_13.index t = ![t.val % 4, t.val / 4, 0])
    ∧ t.val < 16 :=
  (by decide +kernel : ∀ t : Fin grid1.N, _)

/-- The row a block's row is. -/
abbrev rw1 (n : ℕ) (a : Fin 512) : Fin 2048 := pos 2048 (512 * (n / 4) + a)

variable (V : (c : Dev nD) → (b : Ref sig .tc) → Buf (Elt Ideal) ((c : Thread nD τ).loc b)) (c : Dev nD) (A : Arrays)

/-- The arrays the backward call reads. -/
structure In1 : Prop where
  dy : ∀ t j, (V c main_arg5 : Vec Ideal S2048x1024 .f32) (ix2 t j) = ((A.dy t j : ℝ) : EReal)
  x : ∀ t j, (V c main_arg0 : Vec Ideal S2048x1024 .f32) (ix2 t j) = ((A.x t j : ℝ) : EReal)
  g : ∀ j, (V c main_v10 : Vec Ideal S1x1024 .f32) (ix2 0 j) = ((A.g j : ℝ) : EReal)
  gate : ∀ (s : Fin 4) t k, (V c main_v9_1 : Vec Ideal S4x2048x704 .bf16) (ix3 s t k) = ((A.gate t (pos 2816 (704 * s + k.val)) : ℝ) : EReal)
  up : ∀ (s : Fin 4) t k, (V c main_v9_2 : Vec Ideal S4x2048x704 .bf16) (ix3 s t k) = ((A.up t (pos 2816 (704 * s + k.val)) : ℝ) : EReal)
  wg : ∀ (s : Fin 4) k j, (V c main_v2 : Vec Ideal S4x704x1024 .bf16) (ix3 s k j) = ((A.wg j (pos 2816 (704 * s + k.val)) : ℝ) : EReal)
  wu : ∀ (s : Fin 4) k j, (V c main_v5 : Vec Ideal S4x704x1024 .bf16) (ix3 s k j) = ((A.wu j (pos 2816 (704 * s + k.val)) : ℝ) : EReal)
  wd : ∀ (s : Fin 4) k j, (V c main_v7 : Vec Ideal S4x704x1024 .bf16) (ix3 s k j) = ((A.wd (pos 2816 (704 * s + k.val)) j : ℝ) : EReal)

variable {V c A}

theorem blk1_0 (t : Fin cfg1.N) (a : Fin 512) (j : Fin 1024) (r : Fin 2048) (hr : r.val = 512 * (t.val / 4) + a.val) :
    (blk1 V c 0 t : Vec Ideal S512x1024 .f32) (ix2 a j) = (V c main_arg5 : Vec Ideal S2048x1024 .f32) (ix2 r j) := by
  blk_ext [blk1, idx1 t]
theorem blk1_1 (t : Fin cfg1.N) (a : Fin 512) (j : Fin 1024) (r : Fin 2048) (hr : r.val = 512 * (t.val / 4) + a.val) :
    (blk1 V c 1 t : Vec Ideal S512x1024 .f32) (ix2 a j) = (V c main_arg0 : Vec Ideal S2048x1024 .f32) (ix2 r j) := by
  blk_ext [blk1, idx1 t]
theorem blk1_2 (t : Fin cfg1.N) (j : Fin 1024) :
    (blk1 V c 2 t : Vec Ideal S1x1024 .f32) (ix2 0 j) = (V c main_v10 : Vec Ideal S1x1024 .f32) (ix2 0 j) := by
  blk_ext [blk1, idx1 t]
theorem blk1_3 (t : Fin cfg1.N) (a : Fin 512) (k : Fin 704) (s : Fin 4) (hs : s.val = t.val % 4) (r : Fin 2048) (hr : r.val = 512 * (t.val / 4) + a.val) :
    (blk1 V c 3 t : Vec Ideal S1x512x704 .bf16) (ix3 0 a k) = (V c main_v9_1 : Vec Ideal S4x2048x704 .bf16) (ix3 s r k) := by
  blk_ext [blk1, idx1 t]
theorem blk1_4 (t : Fin cfg1.N) (a : Fin 512) (k : Fin 704) (s : Fin 4) (hs : s.val = t.val % 4) (r : Fin 2048) (hr : r.val = 512 * (t.val / 4) + a.val) :
    (blk1 V c 4 t : Vec Ideal S1x512x704 .bf16) (ix3 0 a k) = (V c main_v9_2 : Vec Ideal S4x2048x704 .bf16) (ix3 s r k) := by
  blk_ext [blk1, idx1 t]
theorem blk1_5 (t : Fin cfg1.N) (k : Fin 704) (j : Fin 1024) (s : Fin 4) (hs : s.val = t.val % 4) :
    (blk1 V c 5 t : Vec Ideal S1x704x1024 .bf16) (ix3 0 k j) = (V c main_v2 : Vec Ideal S4x704x1024 .bf16) (ix3 s k j) := by
  blk_ext [blk1, idx1 t]
theorem blk1_6 (t : Fin cfg1.N) (k : Fin 704) (j : Fin 1024) (s : Fin 4) (hs : s.val = t.val % 4) :
    (blk1 V c 6 t : Vec Ideal S1x704x1024 .bf16) (ix3 0 k j) = (V c main_v5 : Vec Ideal S4x704x1024 .bf16) (ix3 s k j) := by
  blk_ext [blk1, idx1 t]
theorem blk1_7 (t : Fin cfg1.N) (k : Fin 704) (j : Fin 1024) (s : Fin 4) (hs : s.val = t.val % 4) :
    (blk1 V c 7 t : Vec Ideal S1x704x1024 .bf16) (ix3 0 k j) = (V c main_v7 : Vec Ideal S4x704x1024 .bf16) (ix3 s k j) := by
  blk_ext [blk1, idx1 t]

/-- The row and the shard of a point. -/
theorem rw1_val (t : Fin cfg1.N) (a : Fin 512) : (rw1 t.val a).val = 512 * (t.val / 4) + a.val :=
  pos_val (by have := (idx1 t).2.2.2.2.2; omega)
abbrev sh1 (t : Fin cfg1.N) : Fin 4 := ⟨t.val % 4, by omega⟩

section Blocks

variable (H : In1 V c A) (t : Fin cfg1.N)
include H

theorem dy1_at (a : Fin 512) (j : Fin 1024) : (blk1 V c 0 t : Vec Ideal S512x1024 .f32) (ix2 a j) = ((A.dy (rw1 t.val a) j : ℝ) : EReal) :=
  (blk1_0 t a j _ (rw1_val t a)).trans (H.dy _ j)
theorem x1_at (a : Fin 512) (j : Fin 1024) : (blk1 V c 1 t : Vec Ideal S512x1024 .f32) (ix2 a j) = ((A.x (rw1 t.val a) j : ℝ) : EReal) :=
  (blk1_1 t a j _ (rw1_val t a)).trans (H.x _ j)
theorem g1_at (j : Fin 1024) : (blk1 V c 2 t : Vec Ideal S1x1024 .f32) (ix2 0 j) = ((A.g j : ℝ) : EReal) :=
  (blk1_2 t j).trans (H.g j)
theorem gate1_at (a : Fin 512) (k : Fin 704) : (blk1 V c 3 t : Vec Ideal S1x512x704 .bf16) (ix3 0 a k) = ((A.gate (rw1 t.val a) (cl0 t.val k) : ℝ) : EReal) :=
  (blk1_3 t a k (sh1 t) rfl _ (rw1_val t a)).trans (H.gate _ _ k)
theorem up1_at (a : Fin 512) (k : Fin 704) : (blk1 V c 4 t : Vec Ideal S1x512x704 .bf16) (ix3 0 a k) = ((A.up (rw1 t.val a) (cl0 t.val k) : ℝ) : EReal) :=
  (blk1_4 t a k (sh1 t) rfl _ (rw1_val t a)).trans (H.up _ _ k)
theorem wg1_at (k : Fin 704) (j : Fin 1024) : (blk1 V c 5 t : Vec Ideal S1x704x1024 .bf16) (ix3 0 k j) = ((A.wg j (cl0 t.val k) : ℝ) : EReal) :=
  (blk1_5 t k j (sh1 t) rfl).trans (H.wg _ k j)
theorem wu1_at (k : Fin 704) (j : Fin 1024) : (blk1 V c 6 t : Vec Ideal S1x704x1024 .bf16) (ix3 0 k j) = ((A.wu j (cl0 t.val k) : ℝ) : EReal) :=
  (blk1_6 t k j (sh1 t) rfl).trans (H.wu _ k j)
theorem wd1_at (k : Fin 704) (j : Fin 1024) : (blk1 V c 7 t : Vec Ideal S1x704x1024 .bf16) (ix3 0 k j) = ((A.wd (cl0 t.val k) j : ℝ) : EReal) :=
  (blk1_7 t k j (sh1 t) rfl).trans (H.wd _ k j)

end Blocks

/-- The share of the scaled rows' gradient collected from the first shards. -/
def duTo (A : Arrays) (t : Fin 2048) (j : Fin 1024) (n : ℕ) : ℝ :=
  ∑ s ∈ Finset.range n, stretch 704 (fun k => A.dgate t k * A.wg j k + A.dup t k * A.wu j k) s

theorem duTo_all (t : Fin 2048) (j : Fin 1024) : duTo A t j 4 = A.du t j := stretch_sum 4 704 _ rfl

/-- The share of the scale's gradient collected from the first blocks of rows. -/
def dgTo (A : Arrays) (j : Fin 1024) (n : ℕ) : ℝ := ∑ i ∈ Finset.range n, stretch 512 (fun t => A.du t j * A.xh t j) i

theorem dgTo_all (j : Fin 1024) : dgTo A j 4 = A.dg j := stretch_sum 4 512 _ rfl

/-- What the buffers hold after point `n`. -/
structure Holds1 (A : Arrays) (n : ℕ) (p : State1 Ideal) : Prop where
  dy : ∀ a j, p.1 (ix2 a j) = ((A.dy (rw1 n a) j : ℝ) : EReal)
  du : ∀ a j, p.2.1 (ix2 a j) = ((duTo A (rw1 n a) j (n % 4 + 1) : ℝ) : EReal)
  u : ∀ a j, p.2.2.1 (ix2 a j) = ((A.u (rw1 n a) j : ℝ) : EReal)
  dg : 3 ≤ n → ∀ j, p.2.2.2 (ix2 0 j) = ((dgTo A j ((n + 1) / 4) : ℝ) : EReal)

/-- A point's step keeps what the buffers hold. -/
theorem step1_at (H : In1 V c A) (t : Fin cfg1.N) (p : State1 Ideal)
    (h1 : ¬t.val % 4 = 0 → ∀ a j, p.1 (ix2 a j) = ((A.dy (rw1 t.val a) j : ℝ) : EReal))
    (h2 : ¬t.val % 4 = 0 → ∀ a j, p.2.1 (ix2 a j) = ((duTo A (rw1 t.val a) j (t.val % 4) : ℝ) : EReal))
    (h3 : ¬t.val % 4 = 0 → ∀ a j, p.2.2.1 (ix2 a j) = ((A.u (rw1 t.val a) j : ℝ) : EReal))
    (h4 : 4 ≤ t.val → ∀ j, p.2.2.2 (ix2 0 j) = ((dgTo A j (t.val / 4) : ℝ) : EReal)) : Holds1 A t.val (step1 V c t p) := by
  have hd : ∀ a j, dhb1 V c t p (ix2 a j) = ((A.dy (rw1 t.val a) j : ℝ) : EReal) := fun a j => by
    unfold dhb1
    split_ifs with h
    · exact (k1_pay11_at _ a j).trans (dy1_at H t a j)
    · exact h1 h a j
  have hu : ∀ a j, du1 V c t p (ix2 a j) = ((duTo A (rw1 t.val a) j (t.val % 4 + 1) : ℝ) : EReal) := fun a j => by
    have hb : (if t.val % 4 = 0 then k1_pay12 (F := Ideal) else p.2.1 : Vec Ideal S512x1024 .f32) (ix2 a j)
        = ((duTo A (rw1 t.val a) j (t.val % 4) : ℝ) : EReal) := by
      split_ifs with h
      · rw [k1_pay12_at, h, duTo, Finset.range_zero, Finset.sum_empty]
      · exact h2 h a j
    refine (k1_pay4_at (P := fun a k => A.dgate (rw1 t.val a) (cl0 t.val k)) (Q := fun a k => A.dup (rw1 t.val a) (cl0 t.val k)) a j
      (fun k => k1_pay18_at hd (wd1_at H t) (gate1_at H t) (up1_at H t) a k) (fun k => k1_pay19_at hd (wd1_at H t) (gate1_at H t) a k)
      hb (wg1_at H t) (wu1_at H t)).trans (congrArg (fun r : ℝ => (r : EReal)) ?_)
    unfold duTo
    rw [Finset.sum_range_succ]
    rfl
  refine ⟨hd, hu, fun a j => ?_, fun hn j => ?_⟩
  · show (if t.val % 4 = 0 then k1_pay10 (blk1 V c 1 t) (blk1 V c 2 t) else p.2.2.1 : Vec Ideal S512x1024 .bf16) (ix2 a j) = _
    split_ifs with h
    · exact k1_pay10_at (X := fun a j => A.x (rw1 t.val a) j) (x1_at H t) (g1_at H t) a j
    · exact h3 h a j
  · show (if t.val % 4 = 3 then
        (if t.val = 3 then k1_pay9 (blk1 V c 1 t) (du1 V c t p) else k1_pay5 (k1_pay9 (blk1 V c 1 t) (du1 V c t p)) p.2.2.2)
      else p.2.2.2 : Vec Ideal S1x1024 .f32) (ix2 0 j) = _
    have h9 : t.val % 4 = 3 → k1_pay9 (blk1 V c 1 t) (du1 V c t p) (ix2 0 j)
        = ((stretch 512 (fun t => A.du t j * A.xh t j) (t.val / 4) : ℝ) : EReal) := fun h =>
      k1_pay9_at (X := fun a j => A.x (rw1 t.val a) j) (B := fun a j => A.du (rw1 t.val a) j) (x1_at H t)
        (fun a j => (hu a j).trans (by rw [h]; exact congrArg (fun r : ℝ => (r : EReal)) (duTo_all _ _))) j
    split_ifs with h h0
    · rw [h9 h]
      refine congrArg (fun r : ℝ => (r : EReal)) ?_
      rw [h0, dgTo, show (3 + 1) / 4 = 0 + 1 from rfl, Finset.sum_range_succ, Finset.range_zero, Finset.sum_empty, zero_add]
    · rw [k1_pay5_at, h9 h, h4 (by omega), ← EReal.coe_add]
      refine congrArg (fun r : ℝ => (r : EReal)) ?_
      rw [show (t.val + 1) / 4 = t.val / 4 + 1 by omega, dgTo, dgTo, Finset.sum_range_succ]
    · rw [h4 (by omega), show (t.val + 1) / 4 = t.val / 4 by omega]

/-- What the buffers hold after every point. -/
theorem at1_at (H : In1 V c A) : ∀ (n : ℕ) (h : n < cfg1.N), Holds1 A n (at1 V c n h)
  | 0, h => step1_at H ⟨0, h⟩ _ (fun h => absurd rfl h) (fun h => absurd rfl h) (fun h => absurd rfl h) (fun h => absurd h (Nat.not_succ_le_zero 3))
  | n + 1, h => by
    have ih := at1_at H n (Nat.lt_of_succ_lt h)
    have hr : ¬(n + 1) % 4 = 0 → ∀ a, rw1 (n + 1) a = rw1 n a := fun h a => by
      have e : (n + 1) / 4 = n / 4 := by omega
      unfold rw1; rw [e]
    refine step1_at H ⟨n + 1, h⟩ (at1 V c n (Nat.lt_of_succ_lt h)) (fun h a j => ?_) (fun h a j => ?_) (fun h a j => ?_) (fun h => ih.dg (Nat.le_of_succ_le_succ h))
    · show _ = ((A.dy (rw1 (n + 1) a) j : ℝ) : EReal)
      rw [hr h]; exact ih.dy a j
    · show _ = ((duTo A (rw1 (n + 1) a) j ((n + 1) % 4) : ℝ) : EReal)
      have e : (n + 1) % 4 = n % 4 + 1 := by have : ¬(n + 1) % 4 = 0 := h; omega
      rw [hr h, e]; exact ih.du a j
    · show _ = ((A.u (rw1 (n + 1) a) j : ℝ) : EReal)
      rw [hr h]; exact ih.u a j

section Arrays

variable (H : In1 V c A)
include H

/-- The whole gradient of the scaled rows, on a block's last shard. -/
theorem du1_at (t : Fin cfg1.N) (h3 : t.val % 4 = 3) (a : Fin 512) (j : Fin 1024) :
    (at1 V c t.val t.isLt).2.1 (ix2 a j) = ((A.du (rw1 t.val a) j : ℝ) : EReal) :=
  ((at1_at H t.val t.isLt).du a j).trans (by rw [h3]; exact congrArg (fun r : ℝ => (r : EReal)) (duTo_all _ _))

/-- The gradient of the rows after the call. -/
theorem dx_arr : (dat1 V c).arrAt 8 cfg1.N = (fun i : S2048x1024.Idx => ((A.dx (pos 2048 (i 0).val) (pos 1024 (i 1).val) : ℝ) : EReal)) := by
  refine (dat1 V c).arrAt_eq_of_covers 8 _ (by decide +kernel) fun t hf y => ?_
  have h3 := (flush1_8 t).mp hf
  have h := all2 (X := k1_pay8 (blk1 V c 1 t) (at1 V c t.val t.isLt).2.1 (blk1 V c 2 t) (blk1 V c 0 t)) (G := fun a j => A.dx (rw1 t.val a) j)
    (k1_pay8_at (X := fun a j => A.x (rw1 t.val a) j) (B := fun a j => A.du (rw1 t.val a) j) (x1_at H t) (du1_at H t h3) (g1_at H t) (dy1_at H t))
  blk_simp
  refine (h y).trans ?_
  have e := (idx1 t).2.2.2.1.1
  rw [show win1_8.index t 0 = t.val / 4 from congrFun e 0, show win1_8.index t 1 = 0 from congrFun e 1, zero_mul, zero_add,
    mul_comm (t.val / 4)]
  exact congrArg (fun r : ℝ => (r : EReal)) (congrArg (A.dx _) (pos_eq (L := 1024) (l := (y 1 : Fin 1024)) rfl).symm)

/-- The gradient of the scale after the call. -/
theorem dg_arr : (dat1 V c).arrAt 9 cfg1.N = (fun i : S1x1024.Idx => ((A.dg (pos 1024 (i 1).val) : ℝ) : EReal)) := by
  refine (dat1 V c).arrAt_eq_of_covers 9 _ (by decide +kernel) fun t hf y => ?_
  have h3 : t.val = 15 := by
    have := (flush1_9 t).mp hf
    have := (idx1 t).2.2.2.2.2
    omega
  have h := all2 (X := (at1 V c t.val t.isLt).2.2.2) (G := fun _ j => A.dg j) fun a j => by
    obtain rfl := Fin.fin_one_eq_zero a
    refine ((at1_at H t.val t.isLt).dg (by omega) j).trans ?_
    rw [h3]; exact congrArg (fun r : ℝ => (r : EReal)) (dgTo_all j)
  blk_simp
  refine (h y).trans ?_
  have e := (idx1 t).2.2.2.1.2.1
  rw [show win1_9.index t 1 = 0 from congrFun e 1, zero_mul, zero_add]
  exact congrArg (fun r : ℝ => (r : EReal)) (congrArg A.dg (pos_eq (L := 1024) (l := (y 1 : Fin 1024)) rfl).symm)

/-- The scaled normalised rows after the call. -/
theorem u_arr : (dat1 V c).arrAt 10 cfg1.N = (fun i : S2048x1024.Idx => ((A.u (pos 2048 (i 0).val) (pos 1024 (i 1).val) : ℝ) : EReal)) := by
  refine (dat1 V c).arrAt_eq_of_covers 10 _ (by decide +kernel) fun t hf y => ?_
  have h := all2 (X := (at1 V c t.val t.isLt).2.2.1) (at1_at H t.val t.isLt).u
  blk_simp
  refine (h y).trans ?_
  have e := (idx1 t).2.2.2.1.2.2
  rw [show win1_10.index t 0 = t.val / 4 from congrFun e 0, show win1_10.index t 1 = 0 from congrFun e 1, zero_mul, zero_add,
    mul_comm (t.val / 4)]
  exact congrArg (fun r : ℝ => (r : EReal)) (congrArg (A.u _) (pos_eq (L := 1024) (l := (y 1 : Fin 1024)) rfl).symm)

/-- The gradient of the gate after the call. -/
theorem dgate_arr : (dat1 V c).arrAt 11 cfg1.N = (fun i : S4x2048x704.Idx =>
    ((A.dgate (pos 2048 (i 1).val) (pos 2816 (704 * (i 0).val + (i 2).val)) : ℝ) : EReal)) := by
  refine (dat1 V c).arrAt_eq_of_covers 11 _ (by decide +kernel) fun t hf y => ?_
  have h := all3 (X := k1_pay2 (k1_pay18 (at1 V c t.val t.isLt).1 (blk1 V c 7 t) (blk1 V c 3 t) (blk1 V c 4 t)))
    (G := fun a k => A.dgate (rw1 t.val a) (cl0 t.val k)) fun a k =>
    (k1_pay2_at _ a k).trans (k1_pay18_at (at1_at H t.val t.isLt).dy (wd1_at H t) (gate1_at H t) (up1_at H t) a k)
  blk_simp
  refine (h y).trans ?_
  have e := (idx1 t).2.2.2.2.1.1
  rw [show win1_11.index t 0 = t.val % 4 from congrFun e 0, show win1_11.index t 1 = t.val / 4 from congrFun e 1,
    show win1_11.index t 2 = 0 from congrFun e 2, zero_mul, zero_add, mul_comm (t.val / 4)]

/-- The gradient of the values gated after the call. -/
theorem dup_arr : (dat1 V c).arrAt 12 cfg1.N = (fun i : S4x2048x704.Idx =>
    ((A.dup (pos 2048 (i 1).val) (pos 2816 (704 * (i 0).val + (i 2).val)) : ℝ) : EReal)) := by
  refine (dat1 V c).arrAt_eq_of_covers 12 _ (by decide +kernel) fun t hf y => ?_
  have h := all3 (X := k1_pay3 (k1_pay19 (at1 V c t.val t.isLt).1 (blk1 V c 7 t) (blk1 V c 3 t)))
    (G := fun a k => A.dup (rw1 t.val a) (cl0 t.val k)) fun a k =>
    (k1_pay3_at _ a k).trans (k1_pay19_at (at1_at H t.val t.isLt).dy (wd1_at H t) (gate1_at H t) a k)
  blk_simp
  refine (h y).trans ?_
  have e := (idx1 t).2.2.2.2.1.2.1
  rw [show win1_12.index t 0 = t.val % 4 from congrFun e 0, show win1_12.index t 1 = t.val / 4 from congrFun e 1,
    show win1_12.index t 2 = 0 from congrFun e 2, zero_mul, zero_add, mul_comm (t.val / 4)]

/-- The gated values after the call. -/
theorem act_arr : (dat1 V c).arrAt 13 cfg1.N = (fun i : S4x2048x704.Idx =>
    ((A.act (pos 2048 (i 1).val) (pos 2816 (704 * (i 0).val + (i 2).val)) : ℝ) : EReal)) := by
  refine (dat1 V c).arrAt_eq_of_covers 13 _ (by decide +kernel) fun t hf y => ?_
  have h := all3 (X := k1_pay1 (k1_pay20 (blk1 V c 3 t) (blk1 V c 4 t)))
    (G := fun a k => A.act (rw1 t.val a) (cl0 t.val k)) fun a k =>
    (k1_pay1_at _ a k).trans (k1_pay20_at (gate1_at H t) (up1_at H t) a k)
  blk_simp
  refine (h y).trans ?_
  have e := (idx1 t).2.2.2.2.1.2.2
  rw [show win1_13.index t 0 = t.val % 4 from congrFun e 0, show win1_13.index t 1 = t.val / 4 from congrFun e 1,
    show win1_13.index t 2 = 0 from congrFun e 2, zero_mul, zero_add, mul_comm (t.val / 4)]

end Arrays

end Cert.Kernel2Ideal.Ffn
-- ==== Proof.Ffn.Pay2.lean ====
/-
  The values of the call that makes the weights' gradients, over the extended reals, read at an index.
-/
module

public import proofs.«01_k».proof.Proof.Ffn.Layer
public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Kernel2Ideal.Ffn

open Idealize.ShloMosaic Cert.Kernel2Ideal Cert.Kernel2Ideal.Gen Cert.Band Cert.Layer

section Shard

variable {u : Vec Ideal S1024x1024 .bf16} {y : Vec Ideal S1024x1024 .f32} {p : Vec Ideal S1x1024x704 .bf16} {b : Vec Ideal S704x1024 .f32}
  {U : Fin 1024 → Fin 1024 → ℝ} {P : Fin 1024 → Fin 704 → ℝ} {B : ℝ}

/-- The first block's share of the gradient of the gate's weights. -/
theorem k2_pay5_at (hu : ∀ t j, u (ix2 t j) = ((U t j : ℝ) : EReal)) (hp : ∀ t k, p (ix3 0 t k) = ((P t k : ℝ) : EReal))
    (k : Fin 704) (j : Fin 1024) : k2_pay5 u p (ix2 k j) = ((∑ t, P t k * U t j : ℝ) : EReal) := by
  pointwise [k2_pay5, k2_pay2, k2_pay1]
  simp only [hu, hp, ← EReal.coe_mul, ← coe_sum]

/-- The next block's share added. -/
theorem k2_pay8_at (hu : ∀ t j, u (ix2 t j) = ((U t j : ℝ) : EReal)) (hp : ∀ t k, p (ix3 0 t k) = ((P t k : ℝ) : EReal))
    (k : Fin 704) (j : Fin 1024) (hb : b (ix2 k j) = ((B : ℝ) : EReal)) : k2_pay8 u p b (ix2 k j) = ((B + ∑ t, P t k * U t j : ℝ) : EReal) := by
  pointwise [k2_pay8, k2_pay2, k2_pay1]
  simp only [hu, hp, hb, ← EReal.coe_mul, ← coe_sum, ← EReal.coe_add]

/-- The first block's share of the gradient of the values' weights. -/
theorem k2_pay6_at (hu : ∀ t j, u (ix2 t j) = ((U t j : ℝ) : EReal)) (hp : ∀ t k, p (ix3 0 t k) = ((P t k : ℝ) : EReal))
    (k : Fin 704) (j : Fin 1024) : k2_pay6 u p (ix2 k j) = ((∑ t, P t k * U t j : ℝ) : EReal) := by
  pointwise [k2_pay6, k2_pay3, k2_pay1]
  simp only [hu, hp, ← EReal.coe_mul, ← coe_sum]

/-- The next block's share added. -/
theorem k2_pay9_at (hu : ∀ t j, u (ix2 t j) = ((U t j : ℝ) : EReal)) (hp : ∀ t k, p (ix3 0 t k) = ((P t k : ℝ) : EReal))
    (k : Fin 704) (j : Fin 1024) (hb : b (ix2 k j) = ((B : ℝ) : EReal)) : k2_pay9 u p b (ix2 k j) = ((B + ∑ t, P t k * U t j : ℝ) : EReal) := by
  pointwise [k2_pay9, k2_pay3, k2_pay1]
  simp only [hu, hp, hb, ← EReal.coe_mul, ← coe_sum, ← EReal.coe_add]

/-- The first block's share of the gradient of the last weights. -/
theorem k2_pay7_at (hy : ∀ t j, y (ix2 t j) = ((U t j : ℝ) : EReal)) (hp : ∀ t k, p (ix3 0 t k) = ((P t k : ℝ) : EReal))
    (k : Fin 704) (j : Fin 1024) : k2_pay7 p y (ix2 k j) = ((∑ t, P t k * U t j : ℝ) : EReal) := by
  pointwise [k2_pay7, k2_pay4]
  simp only [hy, hp, ← EReal.coe_mul, ← coe_sum]

/-- The next block's share added. -/
theorem k2_pay10_at (hy : ∀ t j, y (ix2 t j) = ((U t j : ℝ) : EReal)) (hp : ∀ t k, p (ix3 0 t k) = ((P t k : ℝ) : EReal))
    (k : Fin 704) (j : Fin 1024) (hb : b (ix2 k j) = ((B : ℝ) : EReal)) : k2_pay10 p y b (ix2 k j) = ((B + ∑ t, P t k * U t j : ℝ) : EReal) := by
  pointwise [k2_pay10, k2_pay4]
  simp only [hy, hp, hb, ← EReal.coe_mul, ← coe_sum, ← EReal.coe_add]

/-- The three as they are stored. -/
theorem k2_pay11_at (k : Fin 704) (j : Fin 1024) : k2_pay11 b (ix3 0 k j) = b (ix2 k j) := by pointwise [k2_pay11]
theorem k2_pay12_at (k : Fin 704) (j : Fin 1024) : k2_pay12 b (ix3 0 k j) = b (ix2 k j) := by pointwise [k2_pay12]
theorem k2_pay13_at (k : Fin 704) (j : Fin 1024) : k2_pay13 b (ix3 0 k j) = b (ix2 k j) := by pointwise [k2_pay13]

end Shard

end Cert.Kernel2Ideal.Ffn
-- ==== Proof.Ffn.Value2.lean ====
/-
  The weight gradients' call: from real arrays, the gradients of the three weights.
-/
module

public import proofs.«01_k».proof.Proof.Ffn.Reg2
public import proofs.«01_k».proof.Proof.Ffn.Pay2
public import proofs.«01_k».proof.Proof.Ffn.Layer
public import Idealize.ShloMosaic.Lib.Pipeline.ValueKit
public import Idealize.ShloMosaic.Lib.Claim

@[expose] public section

set_option maxRecDepth 16384

noncomputable section

namespace Cert.Kernel2Ideal.Ffn

open Idealize.ShloMosaic Idealize.ShloMosaic.TcCoe Cert.Kernel2Ideal Cert.Kernel2Ideal.Gen Cert.Band Cert.Layer
open Idealize.ShloMosaic.Pipeline (Dat)

/-- The windows' block indices: a shard of the features and a block of rows per point. -/
theorem idx2 : ∀ t : Fin cfg2.N, (win2_0.index t = ![t.val % 2, 0] ∧ win2_1.index t = ![t.val % 2, 0])
    ∧ (win2_2.index t = ![t.val / 2, t.val % 2, 0] ∧ win2_3.index t = ![t.val / 2, t.val % 2, 0] ∧ win2_4.index t = ![t.val / 2, t.val % 2, 0])
    ∧ (win2_5.index t = ![t.val / 2, 0, 0] ∧ win2_6.index t = ![t.val / 2, 0, 0] ∧ win2_7.index t = ![t.val / 2, 0, 0]) ∧ t.val < 8 :=
  (by decide +kernel : ∀ t : Fin grid2.N, _)

/-- The row a block's row is. -/
abbrev rw2 (n : ℕ) (a : Fin 1024) : Fin 2048 := pos 2048 (1024 * (n % 2) + a)
/-- The feature a shard's feature is. -/
abbrev cl2 (n : ℕ) (k : Fin 704) : Fin 2816 := pos 2816 (704 * (n / 2) + k)

variable (V : (c : Dev nD) → (b : Ref sig .tc) → Buf (Elt Ideal) ((c : Thread nD τ).loc b)) (c : Dev nD) (A : Arrays)

/-- The arrays the call reads. -/
structure In2 : Prop where
  u : ∀ t j, (V c main_v11_2 : Vec Ideal S2048x1024 .bf16) (ix2 t j) = ((A.u t j : ℝ) : EReal)
  dy : ∀ t j, (V c main_arg5 : Vec Ideal S2048x1024 .f32) (ix2 t j) = ((A.dy t j : ℝ) : EReal)
  dgate : ∀ (s : Fin 4) t k, (V c main_v11_3 : Vec Ideal S4x2048x704 .bf16) (ix3 s t k) = ((A.dgate t (pos 2816 (704 * s + k.val)) : ℝ) : EReal)
  dup : ∀ (s : Fin 4) t k, (V c main_v11_4 : Vec Ideal S4x2048x704 .bf16) (ix3 s t k) = ((A.dup t (pos 2816 (704 * s + k.val)) : ℝ) : EReal)
  act : ∀ (s : Fin 4) t k, (V c main_v11_5 : Vec Ideal S4x2048x704 .bf16) (ix3 s t k) = ((A.act t (pos 2816 (704 * s + k.val)) : ℝ) : EReal)

variable {V c A}

theorem blk2_0 (t : Fin cfg2.N) (a : Fin 1024) (j : Fin 1024) (r : Fin 2048) (hr : r.val = 1024 * (t.val % 2) + a.val) :
    (blk2 V c 0 t : Vec Ideal S1024x1024 .bf16) (ix2 a j) = (V c main_v11_2 : Vec Ideal S2048x1024 .bf16) (ix2 r j) := by
  blk_ext [blk2, idx2 t]
theorem blk2_1 (t : Fin cfg2.N) (a : Fin 1024) (j : Fin 1024) (r : Fin 2048) (hr : r.val = 1024 * (t.val % 2) + a.val) :
    (blk2 V c 1 t : Vec Ideal S1024x1024 .f32) (ix2 a j) = (V c main_arg5 : Vec Ideal S2048x1024 .f32) (ix2 r j) := by
  blk_ext [blk2, idx2 t]
theorem blk2_2 (t : Fin cfg2.N) (a : Fin 1024) (k : Fin 704) (s : Fin 4) (hs : s.val = t.val / 2) (r : Fin 2048) (hr : r.val = 1024 * (t.val % 2) + a.val) :
    (blk2 V c 2 t : Vec Ideal S1x1024x704 .bf16) (ix3 0 a k) = (V c main_v11_3 : Vec Ideal S4x2048x704 .bf16) (ix3 s r k) := by
  blk_ext [blk2, idx2 t]
theorem blk2_3 (t : Fin cfg2.N) (a : Fin 1024) (k : Fin 704) (s : Fin 4) (hs : s.val = t.val / 2) (r : Fin 2048) (hr : r.val = 1024 * (t.val % 2) + a.val) :
    (blk2 V c 3 t : Vec Ideal S1x1024x704 .bf16) (ix3 0 a k) = (V c main_v11_4 : Vec Ideal S4x2048x704 .bf16) (ix3 s r k) := by
  blk_ext [blk2, idx2 t]
theorem blk2_4 (t : Fin cfg2.N) (a : Fin 1024) (k : Fin 704) (s : Fin 4) (hs : s.val = t.val / 2) (r : Fin 2048) (hr : r.val = 1024 * (t.val % 2) + a.val) :
    (blk2 V c 4 t : Vec Ideal S1x1024x704 .bf16) (ix3 0 a k) = (V c main_v11_5 : Vec Ideal S4x2048x704 .bf16) (ix3 s r k) := by
  blk_ext [blk2, idx2 t]

/-- The row and the shard of a point. -/
theorem rw2_val (t : Fin cfg2.N) (a : Fin 1024) : (rw2 t.val a).val = 1024 * (t.val % 2) + a.val := pos_val (by omega)
abbrev sh2 (t : Fin cfg2.N) : Fin 4 := ⟨t.val / 2, by have := (idx2 t).2.2.2; omega⟩

section Blocks

variable (H : In2 V c A) (t : Fin cfg2.N)
include H

theorem u2_at (a : Fin 1024) (j : Fin 1024) : (blk2 V c 0 t : Vec Ideal S1024x1024 .bf16) (ix2 a j) = ((A.u (rw2 t.val a) j : ℝ) : EReal) :=
  (blk2_0 t a j _ (rw2_val t a)).trans (H.u _ j)
theorem dy2_at (a : Fin 1024) (j : Fin 1024) : (blk2 V c 1 t : Vec Ideal S1024x1024 .f32) (ix2 a j) = ((A.dy (rw2 t.val a) j : ℝ) : EReal) :=
  (blk2_1 t a j _ (rw2_val t a)).trans (H.dy _ j)
theorem dgate2_at (a : Fin 1024) (k : Fin 704) : (blk2 V c 2 t : Vec Ideal S1x1024x704 .bf16) (ix3 0 a k) = ((A.dgate (rw2 t.val a) (cl2 t.val k) : ℝ) : EReal) :=
  (blk2_2 t a k (sh2 t) rfl _ (rw2_val t a)).trans (H.dgate _ _ k)
theorem dup2_at (a : Fin 1024) (k : Fin 704) : (blk2 V c 3 t : Vec Ideal S1x1024x704 .bf16) (ix3 0 a k) = ((A.dup (rw2 t.val a) (cl2 t.val k) : ℝ) : EReal) :=
  (blk2_3 t a k (sh2 t) rfl _ (rw2_val t a)).trans (H.dup _ _ k)
theorem act2_at (a : Fin 1024) (k : Fin 704) : (blk2 V c 4 t : Vec Ideal S1x1024x704 .bf16) (ix3 0 a k) = ((A.act (rw2 t.val a) (cl2 t.val k) : ℝ) : EReal) :=
  (blk2_4 t a k (sh2 t) rfl _ (rw2_val t a)).trans (H.act _ _ k)

end Blocks

/-- A weight gradient's share collected from the first blocks of rows: features `f` against columns `e`. -/
def sumTo (f : Fin 2048 → Fin 2816 → ℝ) (e : Fin 2048 → Fin 1024 → ℝ) (k : Fin 2816) (j : Fin 1024) (n : ℕ) : ℝ :=
  ∑ i ∈ Finset.range n, stretch 1024 (fun t => f t k * e t j) i

theorem sumTo_all (f : Fin 2048 → Fin 2816 → ℝ) (e : Fin 2048 → Fin 1024 → ℝ) (k : Fin 2816) (j : Fin 1024) :
    sumTo f e k j 2 = ∑ t, f t k * e t j := stretch_sum 2 1024 _ rfl

/-- The first block's share, and a further block's share added. -/
theorem sumTo_zero (f : Fin 2048 → Fin 2816 → ℝ) (e : Fin 2048 → Fin 1024 → ℝ) (n : ℕ) (h : n % 2 = 0) (k : Fin 2816) (j : Fin 1024) :
    ∑ t : Fin 1024, f (rw2 n t) k * e (rw2 n t) j = sumTo f e k j (n % 2 + 1) := by
  unfold sumTo rw2
  rw [h, Finset.sum_range_succ, Finset.range_zero, Finset.sum_empty, zero_add]
  rfl
theorem sumTo_succ (f : Fin 2048 → Fin 2816 → ℝ) (e : Fin 2048 → Fin 1024 → ℝ) (n : ℕ) (k : Fin 2816) (j : Fin 1024) :
    sumTo f e k j (n % 2) + ∑ t : Fin 1024, f (rw2 n t) k * e (rw2 n t) j = sumTo f e k j (n % 2 + 1) := by
  unfold sumTo rw2
  rw [Finset.sum_range_succ]
  rfl

/-- What the three sums are after point `n`. -/
structure Holds2 (A : Arrays) (n m : ℕ) (p : Vec Ideal S704x1024 .f32 × Vec Ideal S704x1024 .f32 × Vec Ideal S704x1024 .f32) : Prop where
  wg : ∀ k j, p.1 (ix2 k j) = ((sumTo A.dgate A.u (cl2 n k) j m : ℝ) : EReal)
  wu : ∀ k j, p.2.1 (ix2 k j) = ((sumTo A.dup A.u (cl2 n k) j m : ℝ) : EReal)
  wd : ∀ k j, p.2.2 (ix2 k j) = ((sumTo A.act A.dy (cl2 n k) j m : ℝ) : EReal)

/-- A point's step keeps what the three sums are. -/
theorem step2_at (H : In2 V c A) (t : Fin cfg2.N) (p : Vec Ideal S704x1024 .f32 × Vec Ideal S704x1024 .f32 × Vec Ideal S704x1024 .f32)
    (hp : ¬t.val % 2 = 0 → Holds2 A t.val (t.val % 2) p) : Holds2 A t.val (t.val % 2 + 1) (step2 V c t p) := by
  refine ⟨fun k j => ?_, fun k j => ?_, fun k j => ?_⟩
  · show (if t.val % 2 = 0 then k2_pay5 (blk2 V c 0 t) (blk2 V c 2 t) else k2_pay8 (blk2 V c 0 t) (blk2 V c 2 t) p.1 : Vec Ideal S704x1024 .f32) (ix2 k j) = _
    split_ifs with h
    · exact (k2_pay5_at (u2_at H t) (dgate2_at H t) k j).trans (congrArg (fun r : ℝ => (r : EReal)) (sumTo_zero A.dgate A.u t.val h (cl2 t.val k) j))
    · exact (k2_pay8_at (u2_at H t) (dgate2_at H t) k j ((hp h).wg k j)).trans
        (congrArg (fun r : ℝ => (r : EReal)) (sumTo_succ A.dgate A.u t.val (cl2 t.val k) j))
  · show (if t.val % 2 = 0 then k2_pay6 (blk2 V c 0 t) (blk2 V c 3 t) else k2_pay9 (blk2 V c 0 t) (blk2 V c 3 t) p.2.1 : Vec Ideal S704x1024 .f32) (ix2 k j) = _
    split_ifs with h
    · exact (k2_pay6_at (u2_at H t) (dup2_at H t) k j).trans (congrArg (fun r : ℝ => (r : EReal)) (sumTo_zero A.dup A.u t.val h (cl2 t.val k) j))
    · exact (k2_pay9_at (u2_at H t) (dup2_at H t) k j ((hp h).wu k j)).trans
        (congrArg (fun r : ℝ => (r : EReal)) (sumTo_succ A.dup A.u t.val (cl2 t.val k) j))
  · show (if t.val % 2 = 0 then k2_pay7 (blk2 V c 4 t) (blk2 V c 1 t) else k2_pay10 (blk2 V c 4 t) (blk2 V c 1 t) p.2.2 : Vec Ideal S704x1024 .f32) (ix2 k j) = _
    split_ifs with h
    · exact (k2_pay7_at (dy2_at H t) (act2_at H t) k j).trans (congrArg (fun r : ℝ => (r : EReal)) (sumTo_zero A.act A.dy t.val h (cl2 t.val k) j))
    · exact (k2_pay10_at (dy2_at H t) (act2_at H t) k j ((hp h).wd k j)).trans
        (congrArg (fun r : ℝ => (r : EReal)) (sumTo_succ A.act A.dy t.val (cl2 t.val k) j))

/-- What the three sums are after every point. -/
theorem at2_at (H : In2 V c A) : ∀ (n : ℕ) (h : n < cfg2.N), Holds2 A n (n % 2 + 1) (at2 V c n h)
  | 0, h => step2_at H ⟨0, h⟩ _ (fun h => absurd rfl h)
  | n + 1, h => by
    have ih := at2_at H n (Nat.lt_of_succ_lt h)
    refine step2_at H ⟨n + 1, h⟩ (at2 V c n (Nat.lt_of_succ_lt h)) fun h => ?_
    have h' : ¬(n + 1) % 2 = 0 := h
    have hc : ∀ k, cl2 (n + 1) k = cl2 n k := fun k => by
      have e : (n + 1) / 2 = n / 2 := by omega
      unfold cl2; rw [e]
    have e : (n + 1) % 2 = n % 2 + 1 := by omega
    show Holds2 A (n + 1) ((n + 1) % 2) _
    rw [e]
    exact ⟨fun k j => by rw [hc]; exact ih.wg k j, fun k j => by rw [hc]; exact ih.wu k j, fun k j => by rw [hc]; exact ih.wd k j⟩

section Arrays

variable (H : In2 V c A)
include H

/-- The gradient of the gate's weights after the call. -/
theorem dwg_arr : (dat2 V c).arrAt 5 cfg2.N = (fun i : S4x704x1024.Idx =>
    ((A.dwg (pos 1024 (i 2).val) (pos 2816 (704 * (i 0).val + (i 1).val)) : ℝ) : EReal)) := by
  refine (dat2 V c).arrAt_eq_of_covers 5 _ (by decide +kernel) fun t hf y => ?_
  have h1 := (flush2_5 t).mp hf
  have h := all3 (X := k2_pay11 (at2 V c t.val t.isLt).1) (G := fun k j => A.dwg j (cl2 t.val k)) fun k j =>
    (k2_pay11_at k j).trans (((at2_at H t.val t.isLt).wg k j).trans (by
      rw [h1]; exact congrArg (fun r : ℝ => (r : EReal)) (sumTo_all A.dgate A.u (cl2 t.val k) j)))
  blk_simp
  refine (h y).trans ?_
  have e := (idx2 t).2.2.1.1
  rw [show win2_5.index t 0 = t.val / 2 from congrFun e 0, show win2_5.index t 1 = 0 from congrFun e 1,
    show win2_5.index t 2 = 0 from congrFun e 2, zero_mul, zero_add, zero_mul, zero_add]
  exact congrArg (fun r : ℝ => (r : EReal)) (congrArg (fun z => A.dwg z (cl2 t.val (y 1))) (pos_eq (L := 1024) (l := (y 2 : Fin 1024)) rfl).symm)

/-- The gradient of the values' weights after the call. -/
theorem dwu_arr : (dat2 V c).arrAt 6 cfg2.N = (fun i : S4x704x1024.Idx =>
    ((A.dwu (pos 1024 (i 2).val) (pos 2816 (704 * (i 0).val + (i 1).val)) : ℝ) : EReal)) := by
  refine (dat2 V c).arrAt_eq_of_covers 6 _ (by decide +kernel) fun t hf y => ?_
  have h1 := (flush2_6 t).mp hf
  have h := all3 (X := k2_pay12 (at2 V c t.val t.isLt).2.1) (G := fun k j => A.dwu j (cl2 t.val k)) fun k j =>
    (k2_pay12_at k j).trans (((at2_at H t.val t.isLt).wu k j).trans (by
      rw [h1]; exact congrArg (fun r : ℝ => (r : EReal)) (sumTo_all A.dup A.u (cl2 t.val k) j)))
  blk_simp
  refine (h y).trans ?_
  have e := (idx2 t).2.2.1.2.1
  rw [show win2_6.index t 0 = t.val / 2 from congrFun e 0, show win2_6.index t 1 = 0 from congrFun e 1,
    show win2_6.index t 2 = 0 from congrFun e 2, zero_mul, zero_add, zero_mul, zero_add]
  exact congrArg (fun r : ℝ => (r : EReal)) (congrArg (fun z => A.dwu z (cl2 t.val (y 1))) (pos_eq (L := 1024) (l := (y 2 : Fin 1024)) rfl).symm)

/-- The gradient of the last weights after the call. -/
theorem dwd_arr : (dat2 V c).arrAt 7 cfg2.N = (fun i : S4x704x1024.Idx =>
    ((A.dwd (pos 2816 (704 * (i 0).val + (i 1).val)) (pos 1024 (i 2).val) : ℝ) : EReal)) := by
  refine (dat2 V c).arrAt_eq_of_covers 7 _ (by decide +kernel) fun t hf y => ?_
  have h1 := (flush2_7 t).mp hf
  have h := all3 (X := k2_pay13 (at2 V c t.val t.isLt).2.2) (G := fun k j => A.dwd (cl2 t.val k) j) fun k j =>
    (k2_pay13_at k j).trans (((at2_at H t.val t.isLt).wd k j).trans (by
      rw [h1]; exact congrArg (fun r : ℝ => (r : EReal)) (sumTo_all A.act A.dy (cl2 t.val k) j)))
  blk_simp
  refine (h y).trans ?_
  have e := (idx2 t).2.2.1.2.2
  rw [show win2_7.index t 0 = t.val / 2 from congrFun e 0, show win2_7.index t 1 = 0 from congrFun e 1,
    show win2_7.index t 2 = 0 from congrFun e 2, zero_mul, zero_add, zero_mul, zero_add]
  exact congrArg (fun r : ℝ => (r : EReal)) (congrArg (A.dwd _) (pos_eq (L := 1024) (l := (y 2 : Fin 1024)) rfl).symm)

end Arrays

end Cert.Kernel2Ideal.Ffn
-- ==== Proof.Ffn.Results.lean ====
/-
  What the program leaves, from real arguments: the layer's result and its gradients.
-/
module

public import proofs.«01_k».proof.Proof.Ffn.Launch
public import proofs.«01_k».proof.Proof.Ffn.Value1
public import proofs.«01_k».proof.Proof.Ffn.Value2
public import Idealize.ShloMosaic.Lib.Pointwise
public import Idealize.ShloMosaic.Lib.IdealHost

@[expose] public section

set_option maxRecDepth 16384

noncomputable section

namespace Cert.Kernel2Ideal.Ffn

open Idealize.ShloMosaic Idealize.ShloMosaic.TcCoe Idealize.ShloMosaic.StableHlo Cert.Kernel2Ideal Cert.Kernel2Ideal.Gen Cert.Band Cert.Layer

/-! ## The host's rearrangements -/

/-- A weight's columns as shards. -/
theorem shard_cols (w : FVec Ideal S1024x2816 .f32) (s : Fin 4) (k : Fin 704) (j : Fin 1024) (l : Fin 2816) (hl : l.val = 704 * s.val + k.val) :
    shapeCast S4x704x1024 (truncf .bf16 (transpose S2816x1024 [1, 0] w transposes_S1024x2816_S2816x1024_1_0) bitsLt_bf16_f32)
      shapeCasts_S2816x1024_S4x704x1024 (ix3 s k j) = w (ix2 j l) := by
  pointwise []
  exact congrArg w (congrArg (ix2 j) (Fin.ext (by rw [hl]; exact congrArg (· + k.val) (Nat.mul_comm _ _))))

/-- A weight's rows as shards. -/
theorem shard_rows (w : FVec Ideal S2816x1024 .f32) (s : Fin 4) (k : Fin 704) (j : Fin 1024) (l : Fin 2816) (hl : l.val = 704 * s.val + k.val) :
    shapeCast S4x704x1024 (truncf .bf16 w bitsLt_bf16_f32) shapeCasts_S2816x1024_S4x704x1024 (ix3 s k j) = w (ix2 l j) := by
  pointwise []
  exact congrArg w (congrArg (ix2 · j) (Fin.ext (by rw [hl]; exact congrArg (· + k.val) (Nat.mul_comm _ _))))

/-- The scale as a row. -/
theorem scale_row (g : FVec Ideal S1024 .f32) (j : Fin 1024) : shapeCast S1x1024 g shapeCasts_S1024_S1x1024 (ix2 0 j) = g (ix1 j) := by
  pointwise []

/-- A row as a list. -/
theorem scale_list (g : FVec Ideal S1x1024 .f32) (j : Fin 1024) : shapeCast S1024 g shapeCasts_S1x1024_S1024 (ix1 j) = g (ix2 0 j) := by
  pointwise []

/-- Shards as a weight's columns. -/
theorem cols_shard (X : FVec Ideal S4x704x1024 .bf16) (j : Fin 1024) (k : Fin 2816) :
    transpose S1024x2816 [1, 0] (shapeCast S2816x1024 X shapeCasts_S4x704x1024_S2816x1024) transposes_S2816x1024_S1024x2816_1_0 (ix2 j k)
      = X (ix3 ⟨k.val / 704, by omega⟩ ⟨k.val % 704, by omega⟩ j) := by
  pointwise []

/-- Shards as a weight's rows. -/
theorem rows_shard (X : FVec Ideal S4x704x1024 .bf16) (k : Fin 2816) (j : Fin 1024) :
    shapeCast S2816x1024 X shapeCasts_S4x704x1024_S2816x1024 (ix2 k j) = X (ix3 ⟨k.val / 704, by omega⟩ ⟨k.val % 704, by omega⟩ j) := by
  pointwise []

variable (m : (ℓ : Loc nD τ sig) → Buf (Elt Ideal) ℓ) (ρ : Dev nD → PrngReg) (c : Dev nD)

theorem entry_wg : StableHlo.after hostOps0 (W0 m ρ c) (Proc.devRef .tc main_v2) = shapeCast S4x704x1024 (truncf (F := Ideal) .bf16
    (transpose S2816x1024 [1, 0] (W0 m ρ c (Proc.devRef .tc main_arg2)) transposes_S1024x2816_S2816x1024_1_0) bitsLt_bf16_f32) shapeCasts_S2816x1024_S4x704x1024 := by
  entry_read
  rfl
theorem entry_wu : StableHlo.after hostOps0 (W0 m ρ c) (Proc.devRef .tc main_v5) = shapeCast S4x704x1024 (truncf (F := Ideal) .bf16
    (transpose S2816x1024 [1, 0] (W0 m ρ c (Proc.devRef .tc main_arg3)) transposes_S1024x2816_S2816x1024_1_0) bitsLt_bf16_f32) shapeCasts_S2816x1024_S4x704x1024 := by
  entry_read
  rfl
theorem entry_wd : StableHlo.after hostOps0 (W0 m ρ c) (Proc.devRef .tc main_v7) = shapeCast S4x704x1024 (truncf (F := Ideal) .bf16 (W0 m ρ c (Proc.devRef .tc main_arg4)) bitsLt_bf16_f32)
    shapeCasts_S2816x1024_S4x704x1024 := by
  entry_read
  rfl
theorem entry_g0 : StableHlo.after hostOps0 (W0 m ρ c) (Proc.devRef .tc main_v8) = shapeCast S1x1024 (W0 m ρ c (Proc.devRef .tc main_arg1)) shapeCasts_S1024_S1x1024 := by
  entry_read
  rfl
theorem entry_g1 : StableHlo.after hostOps1 (W2 m ρ c) (Proc.devRef .tc main_v10) = shapeCast S1x1024 (W2 m ρ c (Proc.devRef .tc main_arg1)) shapeCasts_S1024_S1x1024 := by
  entry_read
  rfl
theorem exit_dwg : StableHlo.after hostOps3 (W5 m ρ c) (Proc.devRef .tc main_v14) = transpose S1024x2816 [1, 0]
    (shapeCast S2816x1024 (W5 m ρ c (Proc.devRef .tc main_v12_0)) shapeCasts_S4x704x1024_S2816x1024) transposes_S2816x1024_S1024x2816_1_0 := by
  entry_read
  rfl
theorem exit_dwu : StableHlo.after hostOps3 (W5 m ρ c) (Proc.devRef .tc main_v16) = transpose S1024x2816 [1, 0]
    (shapeCast S2816x1024 (W5 m ρ c (Proc.devRef .tc main_v12_1)) shapeCasts_S4x704x1024_S2816x1024) transposes_S2816x1024_S1024x2816_1_0 := by
  entry_read
  rfl
theorem exit_dg : StableHlo.after hostOps3 (W5 m ρ c) (Proc.devRef .tc main_v17) = shapeCast S1024 (W5 m ρ c (Proc.devRef .tc main_v11_1)) shapeCasts_S1x1024_S1024 := by
  entry_read
  rfl
theorem exit_dwd : StableHlo.after hostOps3 (W5 m ρ c) (Proc.devRef .tc main_v18) = shapeCast S2816x1024 (W5 m ρ c (Proc.devRef .tc main_v12_2)) shapeCasts_S4x704x1024_S2816x1024 := by
  entry_read
  rfl

/-- The program's arguments hold the layer's. -/
structure Args (A : Arrays) : Prop where
  x : ∀ t j, (m ((c : Thread nD τ).loc main_arg0) : Vec Ideal S2048x1024 .f32) (ix2 t j) = ((A.x t j : ℝ) : EReal)
  g : ∀ j, (m ((c : Thread nD τ).loc main_arg1) : Vec Ideal S1024 .f32) (ix1 j) = ((A.g j : ℝ) : EReal)
  wg : ∀ j k, (m ((c : Thread nD τ).loc main_arg2) : Vec Ideal S1024x2816 .f32) (ix2 j k) = ((A.wg j k : ℝ) : EReal)
  wu : ∀ j k, (m ((c : Thread nD τ).loc main_arg3) : Vec Ideal S1024x2816 .f32) (ix2 j k) = ((A.wu j k : ℝ) : EReal)
  wd : ∀ k j, (m ((c : Thread nD τ).loc main_arg4) : Vec Ideal S2816x1024 .f32) (ix2 k j) = ((A.wd k j : ℝ) : EReal)
  dy : ∀ t j, (m ((c : Thread nD τ).loc main_arg5) : Vec Ideal S2048x1024 .f32) (ix2 t j) = ((A.dy t j : ℝ) : EReal)

variable {A : Arrays} (H : Args m c A)

section Chain
include H

theorem wg1_shard (s : Fin 4) (k : Fin 704) (j : Fin 1024) : (W1 m ρ c (Proc.devRef .tc main_v2) : Vec Ideal S4x704x1024 .bf16) (ix3 s k j)
    = ((A.wg j (pos 2816 (704 * s + k.val)) : ℝ) : EReal) :=
  (congrFun (entry_wg m ρ c) _).trans ((shard_cols _ s k j _ (pos_val (by omega))).trans (H.wg j _))
theorem wu1_shard (s : Fin 4) (k : Fin 704) (j : Fin 1024) : (W1 m ρ c (Proc.devRef .tc main_v5) : Vec Ideal S4x704x1024 .bf16) (ix3 s k j)
    = ((A.wu j (pos 2816 (704 * s + k.val)) : ℝ) : EReal) :=
  (congrFun (entry_wu m ρ c) _).trans ((shard_cols _ s k j _ (pos_val (by omega))).trans (H.wu j _))
theorem wd1_shard (s : Fin 4) (k : Fin 704) (j : Fin 1024) : (W1 m ρ c (Proc.devRef .tc main_v7) : Vec Ideal S4x704x1024 .bf16) (ix3 s k j)
    = ((A.wd (pos 2816 (704 * s + k.val)) j : ℝ) : EReal) :=
  (congrFun (entry_wd m ρ c) _).trans ((shard_rows _ s k j _ (pos_val (by omega))).trans (H.wd _ j))

/-- What the forward call reads. -/
theorem in0 : In0 (V1 m ρ) c A where
  x t j := (congrFun (W1_args m ρ c main_arg0 (by decide)) _).trans (H.x t j)
  g j := (congrFun (entry_g0 m ρ c) _).trans ((scale_row _ j).trans (H.g j))
  wg := wg1_shard m ρ c H
  wu := wu1_shard m ρ c H
  wd := wd1_shard m ρ c H

theorem W3_of_W1 (r : Ref sig .tc) (h1 : r ∉ hostOps1_W) (h : ∀ w : Fin cfg0.W, Pipeline.arrRef spec0 w = r → (cfg0.win w).isOut = false) :
    W3 m ρ c (Proc.devRef .tc r) = W1 m ρ c (Proc.devRef .tc r) :=
  (W3_of m ρ c r h1).trans (W2_of m ρ c r h)

/-- What the backward call reads. -/
theorem in1 : In1 (V3 m ρ) c A where
  dy t j := (congrFun (W3_args m ρ c main_arg5 (by decide)) _).trans (H.dy t j)
  x t j := (congrFun (W3_args m ρ c main_arg0 (by decide)) _).trans (H.x t j)
  g j := (congrFun (entry_g1 m ρ c) _).trans ((scale_row _ j).trans ((congrFun (W2_args m ρ c main_arg1 (by decide)) _).trans (H.g j)))
  gate s t k := (congrFun ((W3_of m ρ c main_v9_1 (by decide)).trans ((W2_arr m ρ c 6).trans (gate_arr (in0 m ρ c H)))) _).trans
    (congrArg (fun z => ((A.gate z _ : ℝ) : EReal)) (pos_eq rfl))
  up s t k := (congrFun ((W3_of m ρ c main_v9_2 (by decide)).trans ((W2_arr m ρ c 7).trans (up_arr (in0 m ρ c H)))) _).trans
    (congrArg (fun z => ((A.up z _ : ℝ) : EReal)) (pos_eq rfl))
  wg s k j := (congrFun (W3_of_W1 m ρ c H main_v2 (by decide) (by decide)) _).trans (wg1_shard m ρ c H s k j)
  wu s k j := (congrFun (W3_of_W1 m ρ c H main_v5 (by decide) (by decide)) _).trans (wu1_shard m ρ c H s k j)
  wd s k j := (congrFun (W3_of_W1 m ρ c H main_v7 (by decide) (by decide)) _).trans (wd1_shard m ρ c H s k j)

/-- What the weight gradients' call reads. -/
theorem in2 : In2 (V4 m ρ) c A where
  u t j := (congrFun ((W4_arr m ρ c 10).trans (u_arr (in1 m ρ c H))) _).trans
    (congrArg₂ (fun z y => ((A.u z y : ℝ) : EReal)) (pos_eq rfl) (pos_eq rfl))
  dy t j := (congrFun (W4_args m ρ c main_arg5 (by decide)) _).trans (H.dy t j)
  dgate s t k := (congrFun ((W4_arr m ρ c 11).trans (dgate_arr (in1 m ρ c H))) _).trans
    (congrArg (fun z => ((A.dgate z _ : ℝ) : EReal)) (pos_eq rfl))
  dup s t k := (congrFun ((W4_arr m ρ c 12).trans (dup_arr (in1 m ρ c H))) _).trans
    (congrArg (fun z => ((A.dup z _ : ℝ) : EReal)) (pos_eq rfl))
  act s t k := (congrFun ((W4_arr m ρ c 13).trans (act_arr (in1 m ρ c H))) _).trans
    (congrArg (fun z => ((A.act z _ : ℝ) : EReal)) (pos_eq rfl))

/-! ## The results -/

theorem out_at (t : Fin 2048) (j : Fin 1024) : (W6 m ρ c (Proc.devRef .tc main_v9_0) : Vec Ideal S2048x1024 .f32) (ix2 t j) = ((A.out t j : ℝ) : EReal) :=
  (congrFun ((W6_of m ρ c main_v9_0 (by decide)).trans ((W5_of_ne m ρ c main_v9_0 (by decide)).trans ((W4_of_ne m ρ c main_v9_0 (by decide)).trans
    ((W3_of m ρ c main_v9_0 (by decide)).trans ((W2_arr m ρ c 5).trans (out_arr (in0 m ρ c H))))))) _).trans
    (congrArg₂ (fun z y => ((A.out z y : ℝ) : EReal)) (pos_eq rfl) (pos_eq rfl))

theorem dx_at (t : Fin 2048) (j : Fin 1024) : (W6 m ρ c (Proc.devRef .tc main_v11_0) : Vec Ideal S2048x1024 .f32) (ix2 t j) = ((A.dx t j : ℝ) : EReal) :=
  (congrFun ((W6_of m ρ c main_v11_0 (by decide)).trans ((W5_of_ne m ρ c main_v11_0 (by decide)).trans
    ((W4_arr m ρ c 8).trans (dx_arr (in1 m ρ c H))))) _).trans
    (congrArg₂ (fun z y => ((A.dx z y : ℝ) : EReal)) (pos_eq rfl) (pos_eq rfl))

theorem dg_at (j : Fin 1024) : (W6 m ρ c (Proc.devRef .tc main_v17) : Vec Ideal S1024 .f32) (ix1 j) = ((A.dg j : ℝ) : EReal) :=
  (congrFun (exit_dg m ρ c) _).trans ((scale_list _ j).trans ((congrFun ((W5_of_ne m ρ c main_v11_1 (by decide)).trans
    ((W4_arr m ρ c 9).trans (dg_arr (in1 m ρ c H)))) _).trans (congrArg (fun y => ((A.dg y : ℝ) : EReal)) (pos_eq rfl))))

theorem dwg_at (j : Fin 1024) (k : Fin 2816) : (W6 m ρ c (Proc.devRef .tc main_v14) : Vec Ideal S1024x2816 .bf16) (ix2 j k) = ((A.dwg j k : ℝ) : EReal) :=
  (congrFun (exit_dwg m ρ c) _).trans ((cols_shard _ j k).trans ((congrFun ((W5_arr m ρ c 5).trans (dwg_arr (in2 m ρ c H))) _).trans
    (congrArg₂ (fun z y => ((A.dwg z y : ℝ) : EReal)) (pos_eq rfl) (pos_eq (Nat.div_add_mod k.val 704)))))

theorem dwu_at (j : Fin 1024) (k : Fin 2816) : (W6 m ρ c (Proc.devRef .tc main_v16) : Vec Ideal S1024x2816 .bf16) (ix2 j k) = ((A.dwu j k : ℝ) : EReal) :=
  (congrFun (exit_dwu m ρ c) _).trans ((cols_shard _ j k).trans ((congrFun ((W5_arr m ρ c 6).trans (dwu_arr (in2 m ρ c H))) _).trans
    (congrArg₂ (fun z y => ((A.dwu z y : ℝ) : EReal)) (pos_eq rfl) (pos_eq (Nat.div_add_mod k.val 704)))))

theorem dwd_at (k : Fin 2816) (j : Fin 1024) : (W6 m ρ c (Proc.devRef .tc main_v18) : Vec Ideal S2816x1024 .bf16) (ix2 k j) = ((A.dwd k j : ℝ) : EReal) :=
  (congrFun (exit_dwd m ρ c) _).trans ((rows_shard _ k j).trans ((congrFun ((W5_arr m ρ c 7).trans (dwd_arr (in2 m ρ c H))) _).trans
    (congrArg₂ (fun z y => ((A.dwd z y : ℝ) : EReal)) (pos_eq (Nat.div_add_mod k.val 704)) (pos_eq rfl))))

end Chain

end Cert.Kernel2Ideal.Ffn
-- ==== Proof.Ffn.RefValue.lean ====
/-
  The reference's results, from real arguments: its operations named, each read at an index.
-/
module

public import proofs.«01_k».proof.Proof.Ffn.Layer
public import proofs.«01_k».proof.Proof.Gen.Reference2Ideal.Run
public import Idealize.ShloMosaic.Lib.Pointwise
public import Idealize.ShloMosaic.Lib.IdealHost

@[expose] public section

set_option maxRecDepth 16384

noncomputable section

namespace Cert.Reference2Ideal.Dense

open Idealize.ShloMosaic Cert.Reference2Ideal Cert.Reference2Ideal.Gen Cert.Band Cert.Layer

/-! ## The operations -/

section Ops

variable (x : FVec Ideal S2048x1024 .f32) (g : FVec Ideal S1024 .f32) (w : FVec Ideal S1024x2816 .f32) (v : FVec Ideal S2816x1024 .f32)
  (y : FVec Ideal S2048x1024 .f32) (a b d : FVec Ideal S2048x2816 .f32) (u : FVec Ideal S2048x1024 .f32)

/-- A row's mean square and the small number. -/
def ms : FVec Ideal S2048x1 .f32 :=
  addf (Host.divf (broadcastInDim S2048x1 ![0] bcast_S2048_S2048x1_0 (Host.reduceAdd (mulf x x) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))
/-- One over its root, along the row. -/
def rt : FVec Ideal S2048x1024 .f32 := broadcastInDim S2048x1024 ![0, 1] bcast_S2048x1_S2048x1024_0_1 (Host.rsqrt (ms x))
/-- The scale, along the rows. -/
def gs : FVec Ideal S2048x1024 .f32 := broadcastInDim S2048x1024 ![0, 1] bcast_S1x1024_S2048x1024_0_1 (broadcastInDim S1x1024 ![1] bcast_S1024_S1x1024_1 g)
/-- The scaled normalised rows. -/
def us : FVec Ideal S2048x1024 .f32 := mulf (mulf x (rt x)) (gs g)
/-- A product with one of the first two weights. -/
def lin : FVec Ideal S2048x2816 .f32 := Host.dotGeneral dot_S2048x1024_S1024x2816_S2048x2816_1_0_0_1_n_n none u w
/-- The number one at every entry. -/
def ones : FVec Ideal S2048x2816 .f32 := broadcastInDim S2048x2816 ![] bcast_S_S2048x2816 (constant S_ .f32 0x3F800000#32)
/-- The logistic function. -/
def sg : FVec Ideal S2048x2816 .f32 := Host.divf ones (addf ones (Host.exp (Host.negf a)))
/-- The gated values. -/
def ac : FVec Ideal S2048x2816 .f32 := mulf (mulf a (sg a)) b
/-- The layer's result. -/
def res : FVec Ideal S2048x1024 .f32 := addf x (Host.dotGeneral dot_S2048x2816_S2816x1024_S2048x1024_1_0_0_1_n_n none a v)
/-- The gradient of the gated values. -/
def dac : FVec Ideal S2048x2816 .f32 :=
  Host.dotGeneral dot_S2048x1024_S2816x1024_S2048x2816_1_1_0_0_n_n none (shapeCast _ y shapeCasts_S2048x1024_S2048x1024) v
/-- The gradient of the gate, from the gate, the values gated and the gradient of the gated values. -/
def dga : FVec Ideal S2048x2816 .f32 := addf (mulf (mulf d b) (sg a)) (mulf (mulf a (mulf d b)) (mulf (sg a) (subf ones (sg a))))
/-- The gradient of the values gated. -/
def dvg : FVec Ideal S2048x2816 .f32 := mulf (mulf a (sg a)) d
/-- The gradient of one of the first two weights. -/
def dw : FVec Ideal S1024x2816 .bf16 :=
  truncf .bf16 (transpose S1024x2816 [1, 0] (Host.dotGeneral dot_S2048x2816_S2048x1024_S2816x1024_0_0_1_1_n_n none a u) transposes_S2816x1024_S1024x2816_1_0) bitsLt_bf16_f32
/-- The gradient of the last weights. -/
def dv : FVec Ideal S2816x1024 .bf16 :=
  truncf .bf16 (transpose S2816x1024 [1, 0] (Host.dotGeneral dot_S2048x1024_S2048x2816_S1024x2816_0_0_1_1_n_n none
    (shapeCast _ y shapeCasts_S2048x1024_S2048x1024) a) transposes_S1024x2816_S2816x1024_1_0) bitsLt_bf16_f32
/-- A gradient's product with one of the first two weights. -/
def back : FVec Ideal S2048x1024 .f32 := Host.dotGeneral dot_S2048x2816_S1024x2816_S2048x1024_1_1_0_0_n_n none a w
/-- The gradient of the scale. -/
def dsc : FVec Ideal S1024 .f32 :=
  Host.reduceAdd (shapeCast _ (Host.reduceAdd (mulf (mulf x (rt x)) u) (constant S_ .f32 0x00000000#32) reducesTo_S2048x1024_S1024_d0 h_S_)
    shapeCasts_S1024_S1x1024) (constant S_ .f32 0x00000000#32) reducesTo_S1x1024_S1024_d0 h_S_
/-- What a row's gradient takes through its norm, along the row. -/
def thr : FVec Ideal S2048x1024 .f32 :=
  broadcastInDim S2048x1024 ![0] bcast_S2048_S2048x1024_0 (Host.reduceAdd (Host.divf
    (mulf (shapeCast _ (Host.reduceAdd (mulf x (mulf u (gs g))) (constant S_ .f32 0x00000000#32) reducesTo_S2048x1024_S2048_d1 h_S_) shapeCasts_S2048_S2048x1)
      (mulf (broadcastInDim S2048x1 ![] bcast_S_S2048x1 (constant S_ .f32 0xBF000000#32)) (Host.divf (Host.rsqrt (ms x)) (ms x))))
    (broadcastInDim S2048x1 ![] bcast_S_S2048x1 (constant S_ .f32 0x44800000#32))) (constant S_ .f32 0x00000000#32) reducesTo_S2048x1_S2048_d1 h_S_)
/-- The gradient of the rows. -/
def dro : FVec Ideal S2048x1024 .f32 :=
  addf (addf (addf y (mulf (mulf u (gs g)) (rt x))) (mulf x (thr x g u))) (mulf (thr x g u) x)

end Ops

/-! ## Read at an index -/

section At

variable {x : FVec Ideal S2048x1024 .f32} {g : FVec Ideal S1024 .f32} {w : FVec Ideal S1024x2816 .f32} {v : FVec Ideal S2816x1024 .f32}
  {y : FVec Ideal S2048x1024 .f32} {a b d : FVec Ideal S2048x2816 .f32} {u : FVec Ideal S2048x1024 .f32}
  {X Y U : Fin 2048 → Fin 1024 → ℝ} {G : Fin 1024 → ℝ} {W : Fin 1024 → Fin 2816 → ℝ} {V : Fin 2816 → Fin 1024 → ℝ} {P Q D : Fin 2048 → Fin 2816 → ℝ}
  (hx : ∀ t j, x (ix2 t j) = ((X t j : ℝ) : EReal)) (hg : ∀ j, g (ix1 j) = ((G j : ℝ) : EReal))
  (hw : ∀ j k, w (ix2 j k) = ((W j k : ℝ) : EReal)) (hv : ∀ k j, v (ix2 k j) = ((V k j : ℝ) : EReal))
  (hy : ∀ t j, y (ix2 t j) = ((Y t j : ℝ) : EReal)) (hu : ∀ t j, u (ix2 t j) = ((U t j : ℝ) : EReal))
  (ha : ∀ t k, a (ix2 t k) = ((P t k : ℝ) : EReal)) (hb : ∀ t k, b (ix2 t k) = ((Q t k : ℝ) : EReal)) (hd : ∀ t k, d (ix2 t k) = ((D t k : ℝ) : EReal))

include hx in
theorem ms_at (t : Fin 2048) : ms x (ix2 t 0) = (((∑ j, X t j * X t j) / 1024 + eps : ℝ) : EReal) := by
  pointwise [ms]
  simp only [hx, ← EReal.coe_mul, ← coe_sum, div_row, ofBits_eps, ← EReal.coe_add]
include hx in
theorem root_at (t : Fin 2048) : Host.rsqrt (ms x) (ix2 t 0) = ((inv (X t) : ℝ) : EReal) := by
  pointwise []
  rw [ms_at hx, Ideal.rsqrt_coe, if_neg (not_lt.mpr (norm_pos (X t)).le), if_neg (norm_pos (X t)).ne']
  rfl
include hx in
theorem rt_at (t : Fin 2048) (j : Fin 1024) : rt x (ix2 t j) = ((inv (X t) : ℝ) : EReal) := by
  have h := root_at hx t
  unfold rt
  generalize Host.rsqrt (ms x) = z at h ⊢
  pointwise []
  exact h
include hg in
theorem gs_at (t : Fin 2048) (j : Fin 1024) : gs g (ix2 t j) = ((G j : ℝ) : EReal) := by
  pointwise [gs]
  exact hg j
include hx hg in
theorem us_at (t : Fin 2048) (j : Fin 1024) : us x g (ix2 t j) = ((X t j * inv (X t) * G j : ℝ) : EReal) := by
  pointwise [us]
  simp only [hx, rt_at hx, gs_at hg, ← EReal.coe_mul]
include hu hw in
theorem lin_at (t : Fin 2048) (k : Fin 2816) : lin w u (ix2 t k) = ((∑ j, U t j * W j k : ℝ) : EReal) := by
  pointwise [lin]
  simp only [hu, hw, ← EReal.coe_mul, ← coe_sum]
include ha in
theorem sg_at (t : Fin 2048) (k : Fin 2816) : sg a (ix2 t k) = ((logi (P t k) : ℝ) : EReal) := by
  pointwise [sg, ones]
  simp only [ha, logi_neg]
include ha hb in
theorem ac_at (t : Fin 2048) (k : Fin 2816) : ac a b (ix2 t k) = ((P t k * logi (P t k) * Q t k : ℝ) : EReal) := by
  pointwise [ac]
  simp only [ha, hb, sg_at ha, ← EReal.coe_mul]
include hx hv ha in
theorem res_at (t : Fin 2048) (j : Fin 1024) : res x v a (ix2 t j) = ((X t j + ∑ k, P t k * V k j : ℝ) : EReal) := by
  pointwise [res]
  simp only [hx, hv, ha, ← EReal.coe_mul, ← coe_sum, ← EReal.coe_add]
include hv hy in
theorem dac_at (t : Fin 2048) (k : Fin 2816) : dac v y (ix2 t k) = ((∑ j, Y t j * V k j : ℝ) : EReal) := by
  pointwise [dac]
  simp only [hv, hy, ← EReal.coe_mul, ← coe_sum]
include ha hb hd in
theorem dga_at (t : Fin 2048) (k : Fin 2816) : dga a b d (ix2 t k) = ((D t k * Q t k * slope (P t k) : ℝ) : EReal) := by
  pointwise [dga, ones]
  simp only [ha, hb, hd, sg_at ha, ← EReal.coe_one, ← EReal.coe_mul, ← EReal.coe_sub, ← EReal.coe_add]
  refine congrArg (fun r : ℝ => (r : EReal)) ?_
  unfold Cert.Layer.slope
  ring
include ha hd in
theorem dvg_at (t : Fin 2048) (k : Fin 2816) : dvg a d (ix2 t k) = ((D t k * (P t k * logi (P t k)) : ℝ) : EReal) := by
  pointwise [dvg]
  simp only [ha, hd, sg_at ha, ← EReal.coe_mul]
  exact congrArg (fun r : ℝ => (r : EReal)) (mul_comm _ _)
include ha hu in
theorem dw_at (j : Fin 1024) (k : Fin 2816) : dw a u (ix2 j k) = ((∑ t, P t k * U t j : ℝ) : EReal) := by
  pointwise [dw]
  simp only [ha, hu, ← EReal.coe_mul, ← coe_sum]
include ha hy in
theorem dv_at (k : Fin 2816) (j : Fin 1024) : dv y a (ix2 k j) = ((∑ t, P t k * Y t j : ℝ) : EReal) := by
  pointwise [dv]
  simp only [ha, hy, ← EReal.coe_mul, ← coe_sum]
  exact congrArg (fun r : ℝ => (r : EReal)) (Finset.sum_congr rfl fun _ _ => mul_comm _ _)
include ha hw in
theorem back_at (t : Fin 2048) (j : Fin 1024) : back w a (ix2 t j) = ((∑ k, P t k * W j k : ℝ) : EReal) := by
  pointwise [back]
  simp only [ha, hw, ← EReal.coe_mul, ← coe_sum]
include hx hu in
theorem dsc_at (j : Fin 1024) : dsc x u (ix1 j) = ((∑ t, U t j * (X t j * inv (X t)) : ℝ) : EReal) := by
  pointwise [dsc]
  simp only [hx, hu, rt_at hx, ← EReal.coe_mul, ← coe_sum]
  rw [Fin.sum_univ_one]
  exact congrArg (fun r : ℝ => (r : EReal)) (Finset.sum_congr rfl fun _ _ => mul_comm _ _)
include hx hg hu in
theorem thr_at (t : Fin 2048) (j : Fin 1024) : thr x g u (ix2 t j)
    = (((∑ i, X t i * (U t i * G i)) * (-(1 / 2) * (inv (X t) / ((∑ j, X t j * X t j) / 1024 + eps))) / 1024 : ℝ) : EReal) := by
  have h1 := root_at hx
  have h2 := ms_at hx
  unfold thr
  generalize Host.rsqrt (ms x) = z at h1 ⊢
  generalize ms x = q at h2 ⊢
  pointwise []
  rw [Fin.sum_univ_one]
  simp only [hx, hu, gs_at hg, h1, h2, ofBits_half, div_real _ (norm_pos (X t)).ne', ← EReal.coe_mul, ← coe_sum, div_row]
include hx hg hu hy in
theorem dro_at (t : Fin 2048) (j : Fin 1024) : dro x g y u (ix2 t j) = ((Y t j + inv (X t) * (U t j * G j
      - X t j * inv (X t) * ((∑ i, U t i * G i * (X t i * inv (X t))) / 1024)) : ℝ) : EReal) := by
  pointwise [dro]
  simp only [hx, hu, hy, gs_at hg, rt_at hx, thr_at hx hg hu, ← EReal.coe_mul, ← EReal.coe_add]
  refine congrArg (fun r : ℝ => (r : EReal)) ?_
  have hn := norm_pos (X t)
  have hs : ∑ i, U t i * G i * (X t i * inv (X t)) = (∑ i, X t i * (U t i * G i)) * inv (X t) := by
    rw [Finset.sum_mul]; exact Finset.sum_congr rfl fun i _ => by ring
  have hr : inv (X t) * inv (X t) = 1 / ((∑ j, X t j * X t j) / 1024 + eps) := by
    unfold Cert.Layer.inv
    rw [← mul_inv, Real.mul_self_sqrt hn.le, one_div]
  rw [hs]
  generalize (∑ i, X t i * (U t i * G i)) = S
  rw [div_eq_mul_one_div (Cert.Layer.inv (X t)), ← hr]
  ring

end At

/-! ## The results -/

section Results

variable (m : (ℓ : Loc nD τ sig) → Buf (Elt Ideal) ℓ) (c : Dev nD)

abbrev xr : FVec Ideal S2048x1024 .f32 := m ((c.tc : Thread nD τ).loc main_arg0)
abbrev gr : FVec Ideal S1024 .f32 := m ((c.tc : Thread nD τ).loc main_arg1)
abbrev wgr : FVec Ideal S1024x2816 .f32 := m ((c.tc : Thread nD τ).loc main_arg2)
abbrev wur : FVec Ideal S1024x2816 .f32 := m ((c.tc : Thread nD τ).loc main_arg3)
abbrev wdr : FVec Ideal S2816x1024 .f32 := m ((c.tc : Thread nD τ).loc main_arg4)
abbrev dyr : FVec Ideal S2048x1024 .f32 := m ((c.tc : Thread nD τ).loc main_arg5)

/-- The intermediate arrays. -/
def ur : FVec Ideal S2048x1024 .f32 := us (xr m c) (gr m c)
def gater : FVec Ideal S2048x2816 .f32 := lin (wgr m c) (ur m c)
def upr : FVec Ideal S2048x2816 .f32 := lin (wur m c) (ur m c)
def actr : FVec Ideal S2048x2816 .f32 := ac (gater m c) (upr m c)
def dactr : FVec Ideal S2048x2816 .f32 := dac (wdr m c) (dyr m c)
def dgater : FVec Ideal S2048x2816 .f32 := dga (gater m c) (upr m c) (dactr m c)
def dupr : FVec Ideal S2048x2816 .f32 := dvg (gater m c) (dactr m c)
def dur : FVec Ideal S2048x1024 .f32 := addf (back (wur m c) (dupr m c)) (back (wgr m c) (dgater m c))

/-- The program's arguments hold the layer's. -/
structure Args (A : Arrays) : Prop where
  x : ∀ t j, xr m c (ix2 t j) = ((A.x t j : ℝ) : EReal)
  g : ∀ j, gr m c (ix1 j) = ((A.g j : ℝ) : EReal)
  wg : ∀ j k, wgr m c (ix2 j k) = ((A.wg j k : ℝ) : EReal)
  wu : ∀ j k, wur m c (ix2 j k) = ((A.wu j k : ℝ) : EReal)
  wd : ∀ k j, wdr m c (ix2 k j) = ((A.wd k j : ℝ) : EReal)
  dy : ∀ t j, dyr m c (ix2 t j) = ((A.dy t j : ℝ) : EReal)

variable {m c} {A : Arrays} (H : Args m c A)
include H

theorem ur_at (t : Fin 2048) (j : Fin 1024) : ur m c (ix2 t j) = ((A.u t j : ℝ) : EReal) := us_at H.x H.g t j
theorem gater_at (t : Fin 2048) (k : Fin 2816) : gater m c (ix2 t k) = ((A.gate t k : ℝ) : EReal) := lin_at H.wg (ur_at H) t k
theorem upr_at (t : Fin 2048) (k : Fin 2816) : upr m c (ix2 t k) = ((A.up t k : ℝ) : EReal) := lin_at H.wu (ur_at H) t k
theorem actr_at (t : Fin 2048) (k : Fin 2816) : actr m c (ix2 t k) = ((A.act t k : ℝ) : EReal) := ac_at (gater_at H) (upr_at H) t k
theorem dactr_at (t : Fin 2048) (k : Fin 2816) : dactr m c (ix2 t k) = ((A.dact t k : ℝ) : EReal) := dac_at H.wd H.dy t k
theorem dgater_at (t : Fin 2048) (k : Fin 2816) : dgater m c (ix2 t k) = ((A.dgate t k : ℝ) : EReal) := dga_at (gater_at H) (upr_at H) (dactr_at H) t k
theorem dupr_at (t : Fin 2048) (k : Fin 2816) : dupr m c (ix2 t k) = ((A.dup t k : ℝ) : EReal) := dvg_at (gater_at H) (dactr_at H) t k
theorem dur_at (t : Fin 2048) (j : Fin 1024) : dur m c (ix2 t j) = ((A.du t j : ℝ) : EReal) := by
  pointwise [dur]
  rw [back_at H.wu (dupr_at H), back_at H.wg (dgater_at H), ← EReal.coe_add]
  refine congrArg (fun r : ℝ => (r : EReal)) ?_
  unfold Arrays.du
  rw [Finset.sum_add_distrib, add_comm]

theorem out_at (t : Fin 2048) (j : Fin 1024) : res (xr m c) (wdr m c) (actr m c) (ix2 t j) = ((A.out t j : ℝ) : EReal) :=
  res_at H.x H.wd (actr_at H) t j
theorem dx_at (t : Fin 2048) (j : Fin 1024) : dro (xr m c) (gr m c) (dyr m c) (dur m c) (ix2 t j) = ((A.dx t j : ℝ) : EReal) :=
  dro_at H.x H.g H.dy (dur_at H) t j
theorem dg_at (j : Fin 1024) : dsc (xr m c) (dur m c) (ix1 j) = ((A.dg j : ℝ) : EReal) := dsc_at H.x (dur_at H) j
theorem dwg_at (j : Fin 1024) (k : Fin 2816) : dw (dgater m c) (ur m c) (ix2 j k) = ((A.dwg j k : ℝ) : EReal) := dw_at (ur_at H) (dgater_at H) j k
theorem dwu_at (j : Fin 1024) (k : Fin 2816) : dw (dupr m c) (ur m c) (ix2 j k) = ((A.dwu j k : ℝ) : EReal) := dw_at (ur_at H) (dupr_at H) j k
theorem dwd_at (k : Fin 2816) (j : Fin 1024) : dv (dyr m c) (actr m c) (ix2 k j) = ((A.dwd k j : ℝ) : EReal) := dv_at H.dy (actr_at H) k j

end Results

variable (m : (ℓ : Loc nD τ sig) → Buf (Elt Ideal) ℓ) (c : Dev nD)

theorem res_dx : Value.res_out1 m c = dro (xr m c) (gr m c) (dyr m c) (dur m c) := by
  show Value.res_main_v56 m c = _
  unfold Value.res_main_v56; rfl
theorem res_dg : Value.res_out2 m c = dsc (xr m c) (dur m c) := by
  show Value.res_main_v41 m c = _
  unfold Value.res_main_v41; rfl
theorem res_dwg : Value.res_out3 m c = dw (dgater m c) (ur m c) := by
  show Value.res_main_v57 m c = _
  unfold Value.res_main_v57; rfl

end Cert.Reference2Ideal.Dense
-- ==== Proof.Ffn.Claims.lean ====
/-
  The feed-forward layer: its kernel and its reference agree over the extended reals on finite arguments.
-/
module

public import proofs.«01_k».proof.Proof.Ffn.Frames
public import proofs.«01_k».proof.Proof.Ffn.Results
public import proofs.«01_k».proof.Proof.Ffn.RefValue
public import proofs.«01_k».proof.Proof.Finite

@[expose] public section

set_option maxRecDepth 16384

noncomputable section

namespace Cert.Claims2

open Idealize.ShloMosaic Idealize.ShloMosaic.TcCoe Idealize.ShloMosaic.StableHlo Idealize.SL.Sem Cert.Band Cert.Layer

/-- The real arrays that finite arguments hold. -/
def arrays (x : Vec Ideal Cert.Pre_finite2.S2048x1024 .f32) (g : Vec Ideal Cert.Pre_finite2.S1024 .f32) (wg wu : Vec Ideal Cert.Pre_finite2.S1024x2816 .f32)
    (wd : Vec Ideal Cert.Pre_finite2.S2816x1024 .f32) (dy : Vec Ideal Cert.Pre_finite2.S2048x1024 .f32) : Cert.Layer.Arrays where
  x t j := EReal.toReal (x (ix2 t j))
  g j := EReal.toReal (g (ix1 j))
  wg j k := EReal.toReal (wg (ix2 j k))
  wu j k := EReal.toReal (wu (ix2 j k))
  wd k j := EReal.toReal (wd (ix2 k j))
  dy t j := EReal.toReal (dy (ix2 t j))

/-- Two arrays of rank two that read the same reals are equal. -/
theorem same2 {n k : ℕ} {X Y : (⟨2, ![n, k]⟩ : Shape).Idx → EReal} {G : Fin n → Fin k → ℝ}
    (hX : ∀ a b, X (ix2 a b) = ((G a b : ℝ) : EReal)) (hY : ∀ a b, Y (ix2 a b) = ((G a b : ℝ) : EReal)) : X = Y :=
  funext fun i => (all2 hX i).trans (all2 hY i).symm

/-- The same of rank one. -/
theorem same1 {n : ℕ} {X Y : (⟨1, ![n]⟩ : Shape).Idx → EReal} {G : Fin n → ℝ}
    (hX : ∀ a, X (ix1 a) = ((G a : ℝ) : EReal)) (hY : ∀ a, Y (ix1 a) = ((G a : ℝ) : EReal)) : X = Y :=
  funext fun i => (congrArg X (eq_ix1 i)).trans ((hX (i 0)).trans ((hY (i 0)).symm.trans (congrArg Y (eq_ix1 i)).symm))

/-- From finite arguments the layer's kernel and its reference end with equal results. -/
theorem algebraic : algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  have E : ∀ c : Dev Cert.Kernel2Ideal.nD, Cert.Kernel2Ideal.Ffn.Args m c (arrays _ _ _ _ _ _) := fun c => by
    obtain ⟨h0, h1, h2, h3, h4, h5⟩ := hpre c
    exact ⟨fun t j => real_of_cmp _ (congrFun h0 _), fun j => real_of_cmp _ (congrFun h1 _), fun j k => real_of_cmp _ (congrFun h2 _),
      fun j k => real_of_cmp _ (congrFun h3 _), fun k j => real_of_cmp _ (congrFun h4 _), fun t j => real_of_cmp _ (congrFun h5 _)⟩
  have R : ∀ c : Dev Cert.Kernel2Ideal.nD, Cert.Reference2Ideal.Dense.Args m' c (arrays _ _ _ _ _ _) := fun c => by
    obtain ⟨a0, a1, a2, a3, a4, a5⟩ := hargs c
    exact ⟨fun t j => (congrFun a0 _).trans ((E c).x t j), fun j => (congrFun a1 _).trans ((E c).g j), fun j k => (congrFun a2 _).trans ((E c).wg j k),
      fun j k => (congrFun a3 _).trans ((E c).wu j k), fun k j => (congrFun a4 _).trans ((E c).wd k j), fun t j => (congrFun a5 _).trans ((E c).dy t j)⟩
  refine ⟨fun c => Cert.Kernel2Ideal.Ffn.W6 m g c (Proc.devRef .tc Cert.Kernel2Ideal.main_v9_0),
    fun c => Cert.Kernel2Ideal.Ffn.W6 m g c (Proc.devRef .tc Cert.Kernel2Ideal.main_v11_0),
    fun c => Cert.Kernel2Ideal.Ffn.W6 m g c (Proc.devRef .tc Cert.Kernel2Ideal.main_v17),
    fun c => Cert.Kernel2Ideal.Ffn.W6 m g c (Proc.devRef .tc Cert.Kernel2Ideal.main_v14),
    fun c => Cert.Kernel2Ideal.Ffn.W6 m g c (Proc.devRef .tc Cert.Kernel2Ideal.main_v16),
    fun c => Cert.Kernel2Ideal.Ffn.W6 m g c (Proc.devRef .tc Cert.Kernel2Ideal.main_v18), ?_, ?_⟩
  · refine (θ_run (Cert.Kernel2Ideal.defs (F := Ideal)) _ _).mono (fun _ h c => ?_) (Cert.Kernel2Ideal.Ffn.run m g)
    obtain ⟨a0, a1, a2, a3, a4, a5, r0, r1, r2, r3, r4, r5⟩ := h.1 c
    exact ⟨r0, r1, r2, r3, r4, r5, a0, a1, a2, a3, a4, a5⟩
  · refine (θ_run (Cert.Reference2Ideal.defs (F := Ideal)) _ _).mono (fun _ h c => ?_) (Cert.Reference2Ideal.Value.run m' g')
    obtain ⟨r0, r1, r2, r3, r4, r5, ha⟩ := h c
    exact ⟨r0.trans (same2 (Cert.Reference2Ideal.Dense.out_at (R c)) (Cert.Kernel2Ideal.Ffn.out_at m g c (E c))),
      r1.trans ((Cert.Reference2Ideal.Dense.res_dx m' c).trans (same2 (Cert.Reference2Ideal.Dense.dx_at (R c)) (Cert.Kernel2Ideal.Ffn.dx_at m g c (E c)))),
      r2.trans ((Cert.Reference2Ideal.Dense.res_dg m' c).trans (same1 (Cert.Reference2Ideal.Dense.dg_at (R c)) (Cert.Kernel2Ideal.Ffn.dg_at m g c (E c)))),
      r3.trans ((Cert.Reference2Ideal.Dense.res_dwg m' c).trans (same2 (Cert.Reference2Ideal.Dense.dwg_at (R c)) (Cert.Kernel2Ideal.Ffn.dwg_at m g c (E c)))),
      r4.trans (same2 (Cert.Reference2Ideal.Dense.dwu_at (R c)) (Cert.Kernel2Ideal.Ffn.dwu_at m g c (E c))),
      r5.trans (same2 (Cert.Reference2Ideal.Dense.dwd_at (R c)) (Cert.Kernel2Ideal.Ffn.dwd_at m g c (E c))), ha⟩

end Cert.Claims2
-- ==== Proof.Proj.Products.lean ====
/-
  Products of two matrices over the extended reals: an entry as one sum.
-/
module

public import Idealize.ShloMosaic.Lib.Pipeline.ValueKit
public import Idealize.ShloMosaic.Lib.IdealHost

@[expose] public section

noncomputable section

namespace Cert.Proj

open Idealize.ShloMosaic

variable {n m k : ℕ}

/-- An entry of a product: a row of the first against a column of the second. -/
def nn (X : (⟨2, ![n, k]⟩ : Shape).Idx → EReal) (Y : (⟨2, ![k, m]⟩ : Shape).Idx → EReal) (i : Fin n) (j : Fin m) : EReal :=
  ∑ l : Fin k, X (ix2 i l) * Y (ix2 l j)

/-- A row of the first against a row of the second. -/
def nt (X : (⟨2, ![n, k]⟩ : Shape).Idx → EReal) (Y : (⟨2, ![m, k]⟩ : Shape).Idx → EReal) (i : Fin n) (j : Fin m) : EReal :=
  ∑ l : Fin k, X (ix2 i l) * Y (ix2 j l)

/-- A column of the first against a column of the second. -/
def tn (X : (⟨2, ![k, n]⟩ : Shape).Idx → EReal) (Y : (⟨2, ![k, m]⟩ : Shape).Idx → EReal) (i : Fin n) (j : Fin m) : EReal :=
  ∑ l : Fin k, X (ix2 l i) * Y (ix2 l j)

/-- A sum in two halves. -/
theorem halves {L : ℕ} (n : ℕ) (f : Fin L → EReal) (hL : L = 2 * n) :
    ∑ l, f l = (∑ x : Fin n, f ⟨x.val, by omega⟩) + ∑ x : Fin n, f ⟨n + x.val, by omega⟩ := by
  rw [← Fin.sum_mul_add_fin (S := 2) (n := n) (hL := hL) f, Fin.sum_univ_two]
  simp only [Fin.val_zero, Fin.val_one, zero_mul, zero_add, one_mul]

/-- A sum in three thirds. -/
theorem thirds {L : ℕ} (n : ℕ) (f : Fin L → EReal) (hL : L = 3 * n) :
    ∑ l, f l = (∑ x : Fin n, f ⟨x.val, by omega⟩) + (∑ x : Fin n, f ⟨n + x.val, by omega⟩) + ∑ x : Fin n, f ⟨2 * n + x.val, by omega⟩ := by
  rw [← Fin.sum_mul_add_fin (S := 3) (n := n) (hL := hL) f, Fin.sum_univ_three]
  simp only [Fin.val_zero, Fin.val_one, Fin.val_two, zero_mul, zero_add, one_mul]

end Cert.Proj
-- ==== Proof.Proj.Qkv.lean ====
/-
  The projection to queries, keys and values: its call leaves what its reference computes.
-/
module

public import proofs.«01_k».proof.Proof.Gen.Kernel3Ideal.Value
public import proofs.«01_k».proof.Proof.Gen.Reference3Ideal.Run
public import proofs.«01_k».proof.Proof.Proj.Products

@[expose] public section

set_option maxRecDepth 16384

noncomputable section

namespace Cert.Kernel3Ideal.Proj

open Idealize.ShloMosaic Idealize.ShloMosaic.TcCoe Cert.Kernel3Ideal Cert.Kernel3Ideal.Gen Cert.Proj
open Idealize.ShloMosaic.Pipeline (Dat)

/-- The windows' block indices: a block of rows and one of the three parts of the weights' columns per point. -/
theorem idx : ∀ t : Fin cfg0.N, win0_0.index t = ![t.val / 3, 0] ∧ win0_1.index t = ![0, t.val % 3] ∧ win0_2.index t = ![t.val % 3, t.val / 3, 0] ∧ t.val < 6 :=
  (by decide +kernel : ∀ t : Fin grid0.N, _)

/-- The three parts of the product. -/
def qkv (u : Vec Ideal S2048x1024 .bf16) (w : Vec Ideal S1024x3072 .f32) : Vec Ideal S3x2048x1024 .bf16 :=
  fun i => nn u w (i 1) (⟨(i 0).val * 1024 + (i 2).val, by have := (i 0).isLt; have := (i 2).isLt; simp at *; omega⟩ : Fin 3072)

variable (m : (ℓ : Loc nD τ sig) → Buf (Elt Ideal) ℓ) (c : Dev nD)

/-- The array the call leaves. -/
theorem final : (dats m 0 c).arrAt 2 cfg0.N = qkv (m ((c : Thread nD τ).loc main_arg0)) (m ((c : Thread nD τ).loc main_arg1)) := by
  refine (dats m 0 c).arrAt_eq_of_covers 2 _ (by decide +kernel) fun t hf y => ?_
  blk_simp
  show (dats m 0 c).after 2 t y = _
  rw [after0_2]
  frame_out
  pointwise [k0_pay1, qkv, nn]
  blk_point [iblk, V, idx t]

end Cert.Kernel3Ideal.Proj

namespace Cert.Reference3Ideal.Proj

open Idealize.ShloMosaic Cert.Reference3Ideal Cert.Reference3Ideal.Gen Cert.Proj

/-- The reference's result. -/
theorem final (u : Vec Ideal S2048x1024 .bf16) (w : Vec Ideal S1024x3072 .f32) :
    truncf .bf16 (transpose S3x2048x1024 [1, 0, 2] (shapeCast S2048x3x1024 (Host.dotGeneral (F := Ideal) (φ₁ := .f32) (φ₂ := .f32) dot_S2048x1024_S1024x3072_S2048x3072_1_0_0_1_n_n none
      (extf .f32 u bitsLt_bf16_f32) w) shapeCasts_S2048x3072_S2048x3x1024) transposes_S2048x3x1024_S3x2048x1024_1_0_2) bitsLt_bf16_f32
      = Cert.Kernel3Ideal.Proj.qkv u w := by
  funext i
  pointwise [Cert.Kernel3Ideal.Proj.qkv, nn]

end Cert.Reference3Ideal.Proj
-- ==== Proof.Proj.QkvBack.lean ====
/-
  The gradients of the projection to queries, keys and values: its calls leave what its reference computes.
-/
module

public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Proj.Products

@[expose] public section

set_option maxRecDepth 16384

noncomputable section

namespace Cert.Proj

open Idealize.ShloMosaic

/-- The gradients to queries, keys and values side by side. -/
def flat (d : (⟨3, ![3, 2048, 1024]⟩ : Shape).Idx → EReal) : (⟨2, ![2048, 3072]⟩ : Shape).Idx → EReal := fun i =>
  d (ix3 (⟨(i 1).val / 1024, by have := (i 1).isLt; simp at this; omega⟩ : Fin 3) (i 0 : Fin 2048) (⟨(i 1).val % 1024, by omega⟩ : Fin 1024))

end Cert.Proj

namespace Cert.Kernel4Ideal.Proj

open Idealize.ShloMosaic Idealize.ShloMosaic.TcCoe Cert.Kernel4Ideal Cert.Kernel4Ideal.Gen Cert.Proj
open Idealize.ShloMosaic.Pipeline (Dat)

/-- The windows' block indices: a block of rows and one of the three parts per point, the parts one after another. -/
theorem idx : ∀ t : Fin cfg0.N, win0_0.index t = ![t.val % 3, t.val / 3, 0] ∧ win0_1.index t = ![0, t.val % 3] ∧ win0_2.index t = ![t.val / 3, 0] ∧ t.val < 6 :=
  (by decide +kernel : ∀ t : Fin grid0.N, _)

/-- The gradient of the call's input: the three gradients side by side against the rows of the weights. -/
def dx (w : Vec Ideal S1024x3072 .f32) (d : Vec Ideal S3x2048x1024 .bf16) : Vec Ideal S2048x1024 .f32 :=
  fun i => nt (flat d) w (i 0) (i 1)

variable (m : (ℓ : Loc nD τ sig) → Buf (Elt Ideal) ℓ) (c : Dev nD)

/-- The array the call leaves. -/
theorem final : (dats m 0 c).arrAt 2 cfg0.N = dx (m ((c : Thread nD τ).loc main_arg1)) (m ((c : Thread nD τ).loc main_arg2)) := by
  refine (dats m 0 c).arrAt_eq_of_covers 2 _ (by decide +kernel) fun t hf y => ?_
  have h := (flush0_2 t).mp hf
  obtain ⟨t', ht⟩ : ∃ t' : Fin cfg0.N, t'.val = t.val - 1 := ⟨⟨t.val - 1, by omega⟩, rfl⟩
  obtain ⟨t'', ht'⟩ : ∃ t'' : Fin cfg0.N, t''.val = t'.val - 1 := ⟨⟨t'.val - 1, by omega⟩, rfl⟩
  blk_simp
  show (dats m 0 c).after 2 t y = _
  rw [after0_2, outsAt0_C m c t (by omega) (by omega) h]
  frame_out
  rw [show outsAt0 m c (t.val - 1) (Nat.lt_of_le_of_lt (Nat.sub_le _ _) t.isLt) = outsAt0 m c t'.val t'.isLt from by simp only [ht],
    outsAt0_B m c t' (by omega) (by omega) (by omega)]
  frame_out
  rw [show outsAt0 m c (t'.val - 1) (Nat.lt_of_le_of_lt (Nat.sub_le _ _) t'.isLt) = outsAt0 m c t''.val t''.isLt from by simp only [ht'],
    outsAt0_A m c t'' (by omega) (by omega) (by omega)]
  frame_out
  erw [Memref.IsWhole.read_unread, Memref.IsWhole.read_unread]
  pointwise [k0_pay3, k0_pay2, k0_pay1, dx, nt, flat]
  rw [thirds 1024 _ rfl]
  blk_point [iblk, V, idx t, idx t', idx t'']

end Cert.Kernel4Ideal.Proj

namespace Cert.Reference4Ideal.Proj

open Idealize.ShloMosaic Cert.Reference4Ideal Cert.Reference4Ideal.Gen Cert.Proj

/-- The reference's result. -/
theorem final (w : Vec Ideal S1024x3072 .f32) (d : Vec Ideal S3x2048x1024 .bf16) :
    Host.dotGeneral (F := Ideal) (φ₁ := .f32) (φ₂ := .f32) dot_S2048x3072_S1024x3072_S2048x1024_1_1_0_0_n_n none
      (shapeCast S2048x3072 (transpose S2048x3x1024 [1, 0, 2] (extf .f32 d bitsLt_bf16_f32) transposes_S3x2048x1024_S2048x3x1024_1_0_2) shapeCasts_S2048x3x1024_S2048x3072) w
      = Cert.Kernel4Ideal.Proj.dx w d := by
  funext i
  pointwise [Cert.Kernel4Ideal.Proj.dx, nt, flat]

end Cert.Reference4Ideal.Proj

namespace Cert.Kernel5Ideal.Proj

open Idealize.ShloMosaic Idealize.ShloMosaic.TcCoe Cert.Kernel5Ideal Cert.Kernel5Ideal.Gen Cert.Proj
open Idealize.ShloMosaic.Pipeline (Dat)

/-- The windows' block indices: a half of the positions and three neighbouring pieces of 256 columns per point. -/
theorem idx : ∀ t : Fin cfg0.N, win0_0.index t = ![t.val % 2, 0]
    ∧ win0_1.index t = ![(3 * (t.val / 2)) / 4, t.val % 2, (3 * (t.val / 2)) % 4]
    ∧ win0_2.index t = ![(3 * (t.val / 2) + 1) / 4, t.val % 2, (3 * (t.val / 2) + 1) % 4]
    ∧ win0_3.index t = ![(3 * (t.val / 2) + 2) / 4, t.val % 2, (3 * (t.val / 2) + 2) % 4]
    ∧ win0_4.index t = ![t.val / 2, 0, 0] ∧ t.val < 8 :=
  (by decide +kernel : ∀ t : Fin grid0.N, _)

/-- The gradient of the weights in four groups of columns: the columns of the input against the three gradients side by side. -/
def dw (u : Vec Ideal S2048x1024 .bf16) (d : Vec Ideal S3x2048x1024 .bf16) : Vec Ideal S4x1024x768 .bf16 :=
  fun i => tn u (flat d) (i 1) (⟨(i 0).val * 768 + (i 2).val, by have := (i 0).isLt; have := (i 2).isLt; simp at *; omega⟩ : Fin 3072)

variable (m : (ℓ : Loc nD τ sig) → Buf (Elt Ideal) ℓ) (c : Dev nD)

/-- The array the call leaves. -/
theorem final : (dats m 0 c).arrAt 4 cfg0.N = dw (m ((c : Thread nD τ).loc main_arg0)) (m ((c : Thread nD τ).loc main_arg2)) := by
  refine (dats m 0 c).arrAt_eq_of_covers 4 _ (by decide +kernel) fun t hf y => ?_
  have h := (flush0_4 t).mp hf
  obtain ⟨t', ht⟩ : ∃ t' : Fin cfg0.N, t'.val = t.val - 1 := ⟨⟨t.val - 1, by omega⟩, rfl⟩
  blk_simp
  show (dats m 0 c).after 4 t y = _
  rw [after0_4, outsAt0_B m c t (by omega) h h]
  frame_out
  rw [show outsAt0 m c (t.val - 1) (Nat.lt_of_le_of_lt (Nat.sub_le _ _) t.isLt) = outsAt0 m c t'.val t'.isLt from by simp only [ht],
    outsAt0_A m c t' (by omega) (by omega) (by omega)]
  frame_out
  erw [Memref.IsWhole.read_unread]
  pointwise [k0_pay4, k0_pay3, k0_pay2, k0_pay1, dw, tn, flat]
  rw [halves 1024 _ rfl]
  blk_point [iblk, V, idx t, idx t']

end Cert.Kernel5Ideal.Proj

namespace Cert.Reference5Ideal.Proj

open Idealize.ShloMosaic Cert.Reference5Ideal Cert.Reference5Ideal.Gen Cert.Proj

/-- The reference's result. -/
theorem final (u : Vec Ideal S2048x1024 .bf16) (d : Vec Ideal S3x2048x1024 .bf16) :
    transpose S4x1024x768 [1, 0, 2] (shapeCast S1024x4x768 (truncf .bf16 (transpose S1024x3072 [1, 0] (Host.dotGeneral (F := Ideal) (φ₁ := .f32) (φ₂ := .f32)
      dot_S2048x3072_S2048x1024_S3072x1024_0_0_1_1_n_n none
      (shapeCast S2048x3072 (transpose S2048x3x1024 [1, 0, 2] (extf .f32 d bitsLt_bf16_f32) transposes_S3x2048x1024_S2048x3x1024_1_0_2) shapeCasts_S2048x3x1024_S2048x3072)
      (extf .f32 u bitsLt_bf16_f32)) transposes_S3072x1024_S1024x3072_1_0) bitsLt_bf16_f32) shapeCasts_S1024x3072_S1024x4x768) transposes_S1024x4x768_S4x1024x768_1_0_2
      = Cert.Kernel5Ideal.Proj.dw u d := by
  funext i
  pointwise [Cert.Kernel5Ideal.Proj.dw, tn, flat]
  exact Finset.sum_congr rfl fun _ _ => mul_comm _ _

end Cert.Reference5Ideal.Proj
-- ==== Proof.Proj.Out.lean ====
/-
  The output projection: what its call leaves is what its reference computes, the residual and the product with the weights.
-/
module

public import proofs.«01_k».proof.Proof.Gen.Kernel6Ideal.Value
public import proofs.«01_k».proof.Proof.Gen.Reference6Ideal.Run
public import proofs.«01_k».proof.Proof.Proj.Products

@[expose] public section

set_option maxRecDepth 16384

noncomputable section

namespace Cert.Kernel6Ideal.Proj

open Idealize.ShloMosaic Idealize.ShloMosaic.TcCoe Cert.Kernel6Ideal Cert.Kernel6Ideal.Gen Cert.Proj
open Idealize.ShloMosaic.Pipeline (Dat)

/-- The windows' block indices: a block of rows per point, the weights whole. -/
theorem idx : ∀ t : Fin cfg0.N, win0_0.index t = ![t.val, 0] ∧ win0_1.index t = ![0, 0] ∧ win0_2.index t = ![t.val, 0]
    ∧ win0_3.index t = ![t.val, 0] ∧ t.val < 2 :=
  (by decide +kernel : ∀ t : Fin grid0.N, _)

/-- The residual and the product. -/
def out (o : Vec Ideal S2048x1024 .bf16) (w : Vec Ideal S1024x1024 .f32) (h : Vec Ideal S2048x1024 .f32) : Vec Ideal S2048x1024 .f32 :=
  fun i => nn o w (i 0) (i 1) + h i

variable (m : (ℓ : Loc nD τ sig) → Buf (Elt Ideal) ℓ) (c : Dev nD)

/-- The array the call leaves. -/
theorem final : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  show (dats m 0 c).after 3 t y = _
  rw [after0_3]
  frame_out
  pointwise [k0_pay1, out, nn]
  blk_point [iblk, V, idx t]

end Cert.Kernel6Ideal.Proj

namespace Cert.Reference6Ideal.Proj

open Idealize.ShloMosaic Cert.Reference6Ideal Cert.Reference6Ideal.Gen Cert.Proj

/-- The reference's result. -/
theorem final (o : Vec Ideal S2048x1024 .bf16) (w : Vec Ideal S1024x1024 .f32) (h : Vec Ideal S2048x1024 .f32) :
    addf h (Host.dotGeneral (F := Ideal) (φ₁ := .f32) (φ₂ := .f32) dot_S2048x1024_S1024x1024_S2048x1024_1_0_0_1_n_n none (extf .f32 o bitsLt_bf16_f32) w)
      = Cert.Kernel6Ideal.Proj.out o w h := by
  funext i
  pointwise [Cert.Kernel6Ideal.Proj.out, nn]
  rw [add_comm]

end Cert.Reference6Ideal.Proj
-- ==== Proof.Proj.OutBack.lean ====
/-
  The gradients of the output projection: its calls leave what its reference computes.
-/
module

public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Proj.Products

@[expose] public section

set_option maxRecDepth 16384

noncomputable section

namespace Cert.Kernel7Ideal.Proj

open Idealize.ShloMosaic Idealize.ShloMosaic.TcCoe Cert.Kernel7Ideal Cert.Kernel7Ideal.Gen Cert.Proj
open Idealize.ShloMosaic.Pipeline (Dat)

/-- The windows' block indices: a block of rows per point, the weights whole. -/
theorem idx : ∀ t : Fin cfg0.N, win0_0.index t = ![t.val, 0] ∧ win0_1.index t = ![0, 0] ∧ win0_2.index t = ![t.val, 0] ∧ t.val < 2 :=
  (by decide +kernel : ∀ t : Fin grid0.N, _)

/-- The gradient of the call's input: the gradient of its output against the rows of the weights. -/
def dx (w : Vec Ideal S1024x1024 .f32) (dh : Vec Ideal S2048x1024 .f32) : Vec Ideal S2048x1024 .f32 :=
  fun i => nt dh w (i 0) (i 1)

variable (m : (ℓ : Loc nD τ sig) → Buf (Elt Ideal) ℓ) (c : Dev nD)

/-- The array the call leaves. -/
theorem final : (dats m 0 c).arrAt 2 cfg0.N = dx (m ((c : Thread nD τ).loc main_arg1)) (m ((c : Thread nD τ).loc main_arg2)) := by
  refine (dats m 0 c).arrAt_eq_of_covers 2 _ (by decide +kernel) fun t hf y => ?_
  blk_simp
  show (dats m 0 c).after 2 t y = _
  rw [after0_2]
  frame_out
  pointwise [k0_pay1, dx, nt]
  blk_point [iblk, V, idx t]

end Cert.Kernel7Ideal.Proj

namespace Cert.Reference7Ideal.Proj

open Idealize.ShloMosaic Cert.Reference7Ideal Cert.Reference7Ideal.Gen Cert.Proj

/-- The reference's result. -/
theorem final (w : Vec Ideal S1024x1024 .f32) (dh : Vec Ideal S2048x1024 .f32) :
    Host.dotGeneral (F := Ideal) (φ₁ := .f32) (φ₂ := .f32) dot_S2048x1024_S1024x1024_S2048x1024_1_1_0_0_n_n none dh w
      = Cert.Kernel7Ideal.Proj.dx w dh := by
  funext i
  pointwise [Cert.Kernel7Ideal.Proj.dx, nt]

end Cert.Reference7Ideal.Proj

namespace Cert.Kernel8Ideal.Proj

open Idealize.ShloMosaic Idealize.ShloMosaic.TcCoe Cert.Kernel8Ideal Cert.Kernel8Ideal.Gen Cert.Proj
open Idealize.ShloMosaic.Pipeline (Dat)

/-- The windows' block indices: a half of the weights' rows, and of the positions, per point. -/
theorem idx : ∀ t : Fin cfg0.N, win0_0.index t = ![t.val % 2, t.val / 2] ∧ win0_1.index t = ![t.val % 2, 0] ∧ win0_2.index t = ![t.val / 2, 0] ∧ t.val < 4 :=
  (by decide +kernel : ∀ t : Fin grid0.N, _)

/-- The gradient of the weights: the columns of the input against the columns of the output's gradient. -/
def dw (o : Vec Ideal S2048x1024 .bf16) (dh : Vec Ideal S2048x1024 .f32) : Vec Ideal S1024x1024 .bf16 :=
  fun i => tn o dh (i 0) (i 1)

variable (m : (ℓ : Loc nD τ sig) → Buf (Elt Ideal) ℓ) (c : Dev nD)

/-- The array the call leaves. -/
theorem final : (dats m 0 c).arrAt 2 cfg0.N = dw (m ((c : Thread nD τ).loc main_arg0)) (m ((c : Thread nD τ).loc main_arg2)) := by
  refine (dats m 0 c).arrAt_eq_of_covers 2 _ (by decide +kernel) fun t hf y => ?_
  have h := (flush0_2 t).mp hf
  obtain ⟨t', ht⟩ : ∃ t' : Fin cfg0.N, t'.val = t.val - 1 := ⟨⟨t.val - 1, by omega⟩, rfl⟩
  blk_simp
  show (dats m 0 c).after 2 t y = _
  rw [after0_2, outsAt0_B m c t (by omega) h h]
  frame_out
  rw [show outsAt0 m c (t.val - 1) (Nat.lt_of_le_of_lt (Nat.sub_le _ _) t.isLt) = outsAt0 m c t'.val t'.isLt from by simp only [ht],
    outsAt0_A m c t' (by omega) (by omega) (by omega)]
  frame_out
  erw [Memref.IsWhole.read_unread]
  pointwise [k0_pay4, k0_pay3, k0_pay2, k0_pay1, dw, tn]
  rw [halves 1024 _ rfl]
  blk_point [iblk, V, idx t, idx t']

end Cert.Kernel8Ideal.Proj

namespace Cert.Reference8Ideal.Proj

open Idealize.ShloMosaic Cert.Reference8Ideal Cert.Reference8Ideal.Gen Cert.Proj

/-- The reference's result. -/
theorem final (o : Vec Ideal S2048x1024 .bf16) (dh : Vec Ideal S2048x1024 .f32) :
    truncf .bf16 (transpose S1024x1024 [1, 0] (Host.dotGeneral (F := Ideal) (φ₁ := .f32) (φ₂ := .f32) dot_S2048x1024_S2048x1024_S1024x1024_0_0_1_1_n_n none dh
      (extf .f32 o bitsLt_bf16_f32)) transposes_S1024x1024_S1024x1024_1_0) bitsLt_bf16_f32
      = Cert.Kernel8Ideal.Proj.dw o dh := by
  funext i
  pointwise [Cert.Kernel8Ideal.Proj.dw, tn]
  exact Finset.sum_congr rfl fun _ _ => mul_comm _ _

end Cert.Reference8Ideal.Proj
-- ==== Proof.Proj.Lanes.lean ====
/-
  The columns of the even layer's input projection, in the lanes in which the calls that follow it read them.
-/
module

public import proofs.«01_k».proof.Proof.Proj.Products

@[expose] public section

noncomputable section

namespace Cert.Proj

open Idealize.ShloMosaic

/-- The 2208 columns placed in 2432 lanes: the query latent's 384, a gap of 128, the key latent's 256, the stick-breaking attention's
    1536, a gap of 64, the 32 rotary ones, which are the columns from 640, and a gap of 32. -/
def lanes (f : Fin 2208 → EReal) (j : Fin 2432) : EReal :=
  if h : j.val < 384 then f ⟨j.val, by omega⟩ else if _h : j.val - 384 < 128 then 0
  else if h : j.val - 384 - 128 < 256 then f ⟨384 + (j.val - 384 - 128), by omega⟩
  else if h : j.val - 384 - 128 - 256 < 1536 then f ⟨672 + (j.val - 384 - 128 - 256), by omega⟩
  else if _h : j.val - 384 - 128 - 256 - 1536 < 64 then 0
  else if h : j.val - 384 - 128 - 256 - 1536 - 64 < 32 then f ⟨640 + (j.val - 384 - 128 - 256 - 1536 - 64), by omega⟩ else 0

/-- The same of every row. -/
def lanesOf {n : ℕ} (X : (⟨2, ![n, 2208]⟩ : Shape).Idx → EReal) : (⟨2, ![n, 2432]⟩ : Shape).Idx → EReal :=
  fun i => lanes (fun k => X (ix2 (i 0 : Fin n) k)) (i 1)

variable {n k : ℕ}

/-- A product with placed columns has its columns placed. -/
theorem nn_lanes (X : (⟨2, ![n, k]⟩ : Shape).Idx → EReal) (Y : (⟨2, ![k, 2208]⟩ : Shape).Idx → EReal) (i : Fin n) (j : Fin 2432) :
    lanes (nn X Y i) j = nn X (lanesOf Y) i j := by
  unfold nn lanesOf lanes
  split_ifs <;> simp [*]

/-- The same with the first factor transposed. -/
theorem tn_lanes (X : (⟨2, ![k, n]⟩ : Shape).Idx → EReal) (Y : (⟨2, ![k, 2208]⟩ : Shape).Idx → EReal) (i : Fin n) (j : Fin 2432) :
    lanes (tn X Y i) j = tn X (lanesOf Y) i j := by
  unfold tn lanesOf lanes
  split_ifs <;> simp [*]

/-- The lane of a column. -/
def lane (a : Fin 2208) : Fin 2432 :=
  ⟨if a.val < 384 then a.val else if a.val < 640 then a.val + 128 else if a.val < 672 then a.val + 1728 else a.val + 96, by split_ifs <;> omega⟩

/-- A sum over the lanes of the products of two placed rows is the sum over the columns. -/
theorem sum_lanes (f g : Fin 2208 → EReal) : ∑ l, lanes f l * lanes g l = ∑ a, f a * g a := by
  refine (Fintype.sum_of_injective lane (fun a b h => ?_) (fun a => f a * g a) (fun l => lanes f l * lanes g l) (fun l h => ?_) (fun a => ?_)).symm
  · have := congrArg Fin.val h
    simp only [lane] at this
    apply Fin.ext
    split_ifs at this <;> omega
  · have hl : ∀ a : Fin 2208, lane a ≠ l := fun a e => h ⟨a, e⟩
    have gap : ∀ f : Fin 2208 → EReal, lanes f l = 0 := fun f => by
      unfold lanes
      split_ifs with h1 h2 h3 h4 h5 h6
      · exact absurd (Fin.ext (by simp only [lane]; split_ifs <;> omega)) (hl ⟨l.val, by omega⟩)
      · rfl
      · exact absurd (Fin.ext (by simp only [lane]; split_ifs <;> omega)) (hl ⟨384 + (l.val - 384 - 128), by omega⟩)
      · exact absurd (Fin.ext (by simp only [lane]; split_ifs <;> omega)) (hl ⟨672 + (l.val - 384 - 128 - 256), by omega⟩)
      · rfl
      · exact absurd (Fin.ext (by simp only [lane]; split_ifs <;> omega)) (hl ⟨640 + (l.val - 384 - 128 - 256 - 1536 - 64), by omega⟩)
      · rfl
    simp only [gap, zero_mul]
  · have at_lane : ∀ f : Fin 2208 → EReal, lanes f (lane a) = f a := fun f => by
      unfold lanes lane
      dsimp only
      split_ifs <;> first | omega | exact congrArg f (Fin.ext (by dsimp only <;> omega))
    simp only [at_lane]

/-- A product over placed columns is the product over the columns. -/
theorem nt_lanes {m : ℕ} (X : (⟨2, ![n, 2208]⟩ : Shape).Idx → EReal) (Y : (⟨2, ![m, 2208]⟩ : Shape).Idx → EReal) (i : Fin n) (j : Fin m) :
    nt (lanesOf X) (lanesOf Y) i j = nt X Y i j := by
  unfold nt lanesOf
  exact sum_lanes (fun k => X (ix2 i k)) fun k => Y (ix2 j k)

/-- The 32 rotary columns between a gap of 64 and one of 32. -/
def rotary (f : Fin 2208 → EReal) (a : Fin 128) : EReal :=
  if _h : a.val < 64 then 0 else if h : a.val - 64 < 32 then f ⟨640 + (a.val - 64), by omega⟩ else 0

/-- The same of every row. -/
def rotaryOf (X : (⟨2, ![n, 2208]⟩ : Shape).Idx → EReal) : (⟨2, ![n, 128]⟩ : Shape).Idx → EReal :=
  fun i => rotary (fun k => X (ix2 (i 0 : Fin n) k)) (i 1)

/-- The `w` columns from column `o`. -/
def cut (o w : ℕ) (h : o + w ≤ 2208) (X : (⟨2, ![n, 2208]⟩ : Shape).Idx → EReal) : (⟨2, ![n, w]⟩ : Shape).Idx → EReal :=
  fun i => X (ix2 (i 0 : Fin n) ⟨o + (i 1).val, by have : (i 1).val < w := (i 1).isLt; omega⟩)

/-- A row put together of its pieces: the lanes that each piece holds are those of the placed row. -/
theorem gathered (X : (⟨2, ![n, 2208]⟩ : Shape).Idx → EReal) (i : Fin n) {q : Fin 384 → EReal} {g : Fin 128 → EReal} {k : Fin 256 → EReal} {s0 s1 s2 : Fin 512 → EReal}
    {r : Fin 128 → EReal} (hq : ∀ a, q a = cut 0 384 (by omega) X (ix2 i a)) (hg : ∀ a, g a = 0) (hk : ∀ a, k a = cut 384 256 (by omega) X (ix2 i a))
    (h0 : ∀ a, s0 a = cut 672 512 (by omega) X (ix2 i a)) (h1 : ∀ a, s1 a = cut 1184 512 (by omega) X (ix2 i a))
    (h2 : ∀ a, s2 a = cut 1696 512 (by omega) X (ix2 i a)) (hr : ∀ a, r a = rotaryOf X (ix2 i a)) (j : Fin 2432) :
    (if h : j.val < 384 then q ⟨j.val, h⟩ else if h : j.val - 384 < 128 then g ⟨j.val - 384, h⟩
      else if h : j.val - 384 - 128 < 256 then k ⟨j.val - 384 - 128, h⟩
      else if h : j.val - 384 - 128 - 256 < 512 then s0 ⟨j.val - 384 - 128 - 256, h⟩
      else if h : j.val - 384 - 128 - 256 - 512 < 512 then s1 ⟨j.val - 384 - 128 - 256 - 512, h⟩
      else if h : j.val - 384 - 128 - 256 - 512 - 512 < 512 then s2 ⟨j.val - 384 - 128 - 256 - 512 - 512, h⟩
      else r ⟨j.val - 384 - 128 - 256 - 512 - 512 - 512, by omega⟩) = lanesOf X (ix2 i j) := by
  have hj := j.isLt
  obtain ⟨f, hf⟩ : ∃ f : Fin 2208 → EReal, f = fun k => X (ix2 i k) := ⟨_, rfl⟩
  have hc : ∀ (o w : ℕ) (h : o + w ≤ 2208) (a : Fin w), cut o w h X (ix2 i a) = f ⟨o + a.val, by have := a.isLt; omega⟩ := fun _ _ _ _ => by rw [hf]; rfl
  have hb : ∀ a, rotaryOf X (ix2 i a) = rotary f a := fun _ => by rw [hf]; rfl
  have hl : lanesOf X (ix2 i j) = lanes f j := by rw [hf]; rfl
  simp only [hq, hg, hk, h0, h1, h2, hr, hc, hb, hl]
  unfold rotary lanes
  dsimp only
  split_ifs <;> first | (exfalso; omega) | with_reducible rfl | exact congrArg f (Fin.ext (by dsimp only <;> omega))

end Cert.Proj
-- ==== Proof.Proj.ProjIn.lean ====
/-
  The even layer's input projection: its call leaves what its reference computes.
-/
module

public import proofs.«01_k».proof.Proof.Gen.Kernel9Ideal.Value
public import proofs.«01_k».proof.Proof.Gen.Reference9Ideal.Run
public import proofs.«01_k».proof.Proof.Proj.Lanes

@[expose] public section

set_option maxRecDepth 16384

noncomputable section

namespace Cert.Kernel9Ideal.Proj

open Idealize.ShloMosaic Idealize.ShloMosaic.TcCoe Cert.Kernel9Ideal Cert.Kernel9Ideal.Gen Cert.Proj
open Idealize.ShloMosaic.Pipeline (Dat)

/-- The windows' block indices: a block of rows per point, the weights whole. -/
theorem idx : ∀ t : Fin cfg0.N, win0_0.index t = ![t.val, 0] ∧ win0_1.index t = ![0, 0] ∧ win0_2.index t = ![t.val, 0] ∧ t.val < 4 :=
  (by decide +kernel : ∀ t : Fin grid0.N, _)

/-- The product with the weights' columns placed in lanes. -/
def proj (u : Vec Ideal S2048x1024 .bf16) (w : Vec Ideal S1024x2208 .f32) : Vec Ideal S2048x2432 .f32 :=
  fun i => nn u (lanesOf w) (i 0) (i 1)

variable (m : (ℓ : Loc nD τ sig) → Buf (Elt Ideal) ℓ) (c : Dev nD)

/-- Columns placed in lanes, as host operations place them. -/
def cols (a : Vec Ideal S1024x2208 .bf16) : Vec Ideal S1024x2432 .bf16 :=
  concatenate S1024x2432 1 [⟨S1024x384, extractStridedSlice S1024x384 ![0, 0] a slices_S1024x2208_S1024x384_0_0⟩,
    ⟨S1024x128, broadcastInDim S1024x128 ![] bcast_S_S1024x128 (constant (F := Ideal) S_ .bf16 0x0000#16)⟩,
    ⟨S1024x256, extractStridedSlice S1024x256 ![0, 384] a slices_S1024x2208_S1024x256_0_384⟩,
    ⟨S1024x1536, extractStridedSlice S1024x1536 ![0, 672] a slices_S1024x2208_S1024x1536_0_672⟩,
    ⟨S1024x64, broadcastInDim S1024x64 ![] bcast_S_S1024x64 (constant (F := Ideal) S_ .bf16 0x0000#16)⟩,
    ⟨S1024x32, extractStridedSlice S1024x32 ![0, 640] a slices_S1024x2208_S1024x32_0_640⟩,
    ⟨S1024x32, broadcastInDim S1024x32 ![] bcast_S_S1024x32 (constant (F := Ideal) S_ .bf16 0x0000#16)⟩]
    concatenates_S1024x384_S1024x128_S1024x256_S1024x1536_S1024x64_S1024x32_S1024x32_S1024x2432_d1

/-- The same as a function of columns. -/
theorem placed (a : Vec Ideal S1024x2208 .bf16) : cols a = lanesOf (n := 1024) a := by
  funext i
  pointwise [cols, lanesOf, lanes]

/-- The weights as the call reads them. -/
theorem weights : V m c (Pipeline.arrRef spec0 1) = lanesOf (n := 1024) (m ((c : Thread nD τ).loc main_arg1)) := by
  refine (show V m c main_v8 = lanesOf (n := 1024) (truncf (F := Ideal) (φ := .f32) .bf16 (m ((c : Thread nD τ).loc main_arg1)) bitsLt_bf16_f32) from ?_).trans rfl
  rw [← placed]
  unfold V cols
  after_results <;> rfl

/-- The array the call leaves. -/
theorem final : (dats m 0 c).arrAt 2 cfg0.N = proj (m ((c : Thread nD τ).loc main_arg0)) (m ((c : Thread nD τ).loc main_arg1)) := by
  refine (dats m 0 c).arrAt_eq_of_covers 2 _ (by decide +kernel) fun t hf y => ?_
  blk_simp
  show (dats m 0 c).after 2 t y = _
  rw [after0_2]
  frame_out
  unfold iblk
  rw [weights]
  pointwise [k0_pay1, proj, nn]
  generalize lanesOf (n := 1024) (m ((c : Thread nD τ).loc main_arg1)) = W
  blk_point [V, idx t]

end Cert.Kernel9Ideal.Proj

namespace Cert.Reference9Ideal.Proj

open Idealize.ShloMosaic Cert.Reference9Ideal Cert.Reference9Ideal.Gen Cert.Proj

/-- Columns placed in lanes, as host operations place them. -/
def cols (a : Vec Ideal S2048x2208 .f32) : Vec Ideal S2048x2432 .f32 :=
  concatenate S2048x2432 1 [⟨S2048x384, extractStridedSlice S2048x384 ![0, 0] a slices_S2048x2208_S2048x384_0_0⟩,
    ⟨S2048x128, broadcastInDim S2048x128 ![] bcast_S_S2048x128 (constant (F := Ideal) S_ .f32 0x00000000#32)⟩,
    ⟨S2048x256, extractStridedSlice S2048x256 ![0, 384] a slices_S2048x2208_S2048x256_0_384⟩,
    ⟨S2048x1536, extractStridedSlice S2048x1536 ![0, 672] a slices_S2048x2208_S2048x1536_0_672⟩,
    ⟨S2048x64, broadcastInDim S2048x64 ![] bcast_S_S2048x64 (constant (F := Ideal) S_ .f32 0x00000000#32)⟩,
    ⟨S2048x32, extractStridedSlice S2048x32 ![0, 640] a slices_S2048x2208_S2048x32_0_640⟩,
    ⟨S2048x32, broadcastInDim S2048x32 ![] bcast_S_S2048x32 (constant (F := Ideal) S_ .f32 0x00000000#32)⟩]
    concatenates_S2048x384_S2048x128_S2048x256_S2048x1536_S2048x64_S2048x32_S2048x32_S2048x2432_d1

/-- The same as a function of columns. -/
theorem placed (a : Vec Ideal S2048x2208 .f32) : cols a = lanesOf (n := 2048) a := by
  funext i
  pointwise [cols, lanesOf, lanes]

/-- The array the reference leaves. -/
theorem final (u : Vec Ideal S2048x1024 .bf16) (w : Vec Ideal S1024x2208 .f32) :
    cols (Host.dotGeneral (F := Ideal) (φ₁ := .f32) (φ₂ := .f32) dot_S2048x1024_S1024x2208_S2048x2208_1_0_0_1_n_n none (extf .f32 u bitsLt_bf16_f32) w) = Cert.Kernel9Ideal.Proj.proj u w := by
  refine (placed _).trans (funext fun i => ?_)
  refine (congrArg (lanes · (i 1)) (funext fun j => ?_)).trans (nn_lanes u w (i 0) (i 1))
  pointwise [nn]

end Cert.Reference9Ideal.Proj
-- ==== Proof.Proj.ProjInBack.lean ====
/-
  The call for the gradient of the input projection's input leaves what its reference computes.
-/
module

public import proofs.«01_k».proof.Proof.Gen.Kernel11Ideal.Value
public import proofs.«01_k».proof.Proof.Gen.Reference11Ideal.Run
public import proofs.«01_k».proof.Proof.Proj.ProjIn

@[expose] public section

set_option maxRecDepth 16384

noncomputable section

namespace Cert.Kernel11Ideal.Proj

open Idealize.ShloMosaic Idealize.ShloMosaic.TcCoe Cert.Kernel11Ideal Cert.Kernel11Ideal.Gen Cert.Proj
open Idealize.ShloMosaic.Pipeline (Dat)

/-- The windows' block indices: a block of rows per point, the weights whole. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![t.val, 0]
    ∧ t.val < 4 :=
  (by decide +kernel : ∀ t : Fin grid0.N, _)

/-- The gradient against the weights' rows. -/
def dx (w : Vec Ideal S1024x2208 .f32) (d : Vec Ideal S2048x2208 .bf16) : Vec Ideal S2048x1024 .f32 :=
  fun i => nt d w (i 0) (i 1)

variable (m : (ℓ : Loc nD τ sig) → Buf (Elt Ideal) ℓ) (c : Dev nD)

/-- The weights as the call reads them. -/
theorem weights : V m c (Pipeline.arrRef spec0 7) = lanesOf (n := 1024) (m ((c : Thread nD τ).loc main_arg1)) := by
  refine (show V m c main_v18 = lanesOf (n := 1024) (truncf (F := Ideal) (φ := .f32) .bf16 (m ((c : Thread nD τ).loc main_arg1)) bitsLt_bf16_f32) from ?_).trans rfl
  rw [← Cert.Kernel9Ideal.Proj.placed]
  unfold V Cert.Kernel9Ideal.Proj.cols
  after_results <;> rfl

/-- The query latent's columns, as the call reads them. -/
theorem query : V m c (Pipeline.arrRef spec0 0) = cut (n := 2048) 0 384 (by omega) (m ((c : Thread nD τ).loc main_arg2)) := by
  show V m c main_v0 = _
  unfold V
  after_results
  funext i
  pointwise [cut]

/-- The gap after them, as the call reads it. -/
theorem gap : V m c (Pipeline.arrRef spec0 1) = fun _ => (0 : EReal) := by
  show V m c main_v9 = _
  unfold V
  after_results
  funext i
  pointwise [cut]

/-- The key latent's columns, as the call reads them. -/
theorem key : V m c (Pipeline.arrRef spec0 2) = cut (n := 2048) 384 256 (by omega) (m ((c : Thread nD τ).loc main_arg2)) := by
  show V m c main_v1 = _
  unfold V
  after_results
  funext i
  pointwise [cut]

/-- The stick-breaking attention's queries, as the call reads them. -/
theorem stick0 : V m c (Pipeline.arrRef spec0 3) = cut (n := 2048) 672 512 (by omega) (m ((c : Thread nD τ).loc main_arg2)) := by
  show V m c main_v2 = _
  unfold V
  after_results
  funext i
  pointwise [cut]

/-- The stick-breaking attention's keys, as the call reads them. -/
theorem stick1 : V m c (Pipeline.arrRef spec0 4) = cut (n := 2048) 1184 512 (by omega) (m ((c : Thread nD τ).loc main_arg2)) := by
  show V m c main_v3 = _
  unfold V
  after_results
  funext i
  pointwise [cut]

/-- The stick-breaking attention's values, as the call reads them. -/
theorem stick2 : V m c (Pipeline.arrRef spec0 5) = cut (n := 2048) 1696 512 (by omega) (m ((c : Thread nD τ).loc main_arg2)) := by
  show V m c main_v4 = _
  unfold V
  after_results
  funext i
  pointwise [cut]

/-- The rotary columns placed between their gaps. -/
theorem between (D : Vec Ideal S2048x2208 .bf16) : (concatenate S2048x128 1 [⟨S2048x64, broadcastInDim S2048x64 ![] bcast_S_S2048x64 (constant (F := Ideal) S_ .bf16 0x0000#16)⟩,
    ⟨S2048x32, extractStridedSlice S2048x32 ![0, 640] D slices_S2048x2208_S2048x32_0_640⟩,
    ⟨S2048x32, broadcastInDim S2048x32 ![] bcast_S_S2048x32 (constant (F := Ideal) S_ .bf16 0x0000#16)⟩] concatenates_S2048x64_S2048x32_S2048x32_S2048x128_d1 : Vec Ideal S2048x128 .bf16)
      = rotaryOf (n := 2048) D := by
  funext i
  pointwise [rotaryOf, Cert.Proj.rotary]

/-- The rotary columns between their gaps, as the call reads them. -/
theorem rotary : V m c (Pipeline.arrRef spec0 6) = rotaryOf (n := 2048) (m ((c : Thread nD τ).loc main_arg2)) := by
  show V m c main_v8 = rotaryOf (n := 2048) _
  rw [← between]
  unfold V
  after_results <;> rfl

/-- A row of a point's blocks of the pieces. -/
theorem reads (t : Fin cfg0.N) (l : Fin 512) (h : t.val * 512 + l.val < 2048) (q : Vec Ideal S2048x384 .bf16) (g : Vec Ideal S2048x128 .bf16) (k : Vec Ideal S2048x256 .bf16)
    (s0 s1 s2 : Vec Ideal S2048x512 .bf16) (r : Vec Ideal S2048x128 .bf16) :
    (∀ a, View.read (Elt Ideal) ((View.whole main_v0).slice ((win0 0).rect t)) q (ix2 l a) = q (ix2 ⟨t.val * 512 + l.val, h⟩ a))
    ∧ (∀ a, View.read (Elt Ideal) ((View.whole main_v9).slice ((win0 1).rect t)) g (ix2 l a) = g (ix2 ⟨t.val * 512 + l.val, h⟩ a))
    ∧ (∀ a, View.read (Elt Ideal) ((View.whole main_v1).slice ((win0 2).rect t)) k (ix2 l a) = k (ix2 ⟨t.val * 512 + l.val, h⟩ a))
    ∧ (∀ a, View.read (Elt Ideal) ((View.whole main_v2).slice ((win0 3).rect t)) s0 (ix2 l a) = s0 (ix2 ⟨t.val * 512 + l.val, h⟩ a))
    ∧ (∀ a, View.read (Elt Ideal) ((View.whole main_v3).slice ((win0 4).rect t)) s1 (ix2 l a) = s1 (ix2 ⟨t.val * 512 + l.val, h⟩ a))
    ∧ (∀ a, View.read (Elt Ideal) ((View.whole main_v4).slice ((win0 5).rect t)) s2 (ix2 l a) = s2 (ix2 ⟨t.val * 512 + l.val, h⟩ a))
    ∧ (∀ a, View.read (Elt Ideal) ((View.whole main_v8).slice ((win0 6).rect t)) r (ix2 l a) = r (ix2 ⟨t.val * 512 + l.val, h⟩ a)) := by
  refine ⟨fun a => ?_, fun a => ?_, fun a => ?_, fun a => ?_, fun a => ?_, fun a => ?_, fun a => ?_⟩ <;> (pointwise []; blk_point [idx t])

set_option maxHeartbeats 1000000 in
/-- The array the call leaves. -/
theorem final : (dats m 0 c).arrAt 8 cfg0.N = dx (m ((c : Thread nD τ).loc main_arg1)) (m ((c : Thread nD τ).loc main_arg2)) := by
  refine (dats m 0 c).arrAt_eq_of_covers 8 _ (by decide +kernel) fun t hf y => ?_
  blk_simp
  show (dats m 0 c).after 8 t y = _
  rw [after0_8]
  frame_out
  unfold iblk
  rw [weights, query, gap, key, stick0, stick1, stick2, rotary]
  unfold dx
  refine Eq.trans ?_ (nt_lanes _ _ _ _)
  generalize m ((c : Thread nD τ).loc main_arg2) = D
  pointwise [k0_pay1, nt]
  refine @Finset.sum_congr _ EReal _ _ _ _ _ rfl fun j _ => congrArg₂ (· * ·) ?_ ?_
  · obtain ⟨hq, hg, hk, h0, h1, h2, hr⟩ := reads t (y 0) (by have := (idx t).2.2.2.2.2.2.2.2.2; have : (y 0).val < 512 := (y 0).isLt; omega) (cut (n := 2048) 0 384 (by omega) D) (fun _ => (0 : EReal)) (cut (n := 2048) 384 256 (by omega) D)
      (cut (n := 2048) 672 512 (by omega) D) (cut (n := 2048) 1184 512 (by omega) D) (cut (n := 2048) 1696 512 (by omega) D) (rotaryOf (n := 2048) D)
    refine (gathered D _ hq hg hk h0 h1 h2 hr j).trans ?_
    generalize lanesOf (n := 2048) D = W
    blk_point [idx t]
  · generalize lanesOf (n := 1024) (m ((c : Thread nD τ).loc main_arg1)) = W
    blk_point [V, idx t]

end Cert.Kernel11Ideal.Proj

namespace Cert.Reference11Ideal.Proj

open Idealize.ShloMosaic Cert.Reference11Ideal Cert.Reference11Ideal.Gen Cert.Proj

/-- The reference's result. -/
theorem final (w : Vec Ideal S1024x2208 .f32) (d : Vec Ideal S2048x2208 .bf16) :
    Host.dotGeneral (F := Ideal) (φ₁ := .f32) (φ₂ := .f32) dot_S2048x2208_S1024x2208_S2048x1024_1_1_0_0_n_n none (extf .f32 d bitsLt_bf16_f32) w
      = Cert.Kernel11Ideal.Proj.dx w d := by
  funext i
  pointwise [Cert.Kernel11Ideal.Proj.dx, nt]

end Cert.Reference11Ideal.Proj
-- ==== Proof.Proj.ProjInBackW.lean ====
/-
  The call for the gradient of the input projection's weights leaves what its reference computes.
-/
module

public import proofs.«01_k».proof.Proof.Gen.Kernel10Ideal.Value
public import proofs.«01_k».proof.Proof.Gen.Reference10Ideal.Run
public import proofs.«01_k».proof.Proof.Proj.ProjInBack

@[expose] public section

set_option maxRecDepth 16384

noncomputable section

namespace Cert.Kernel10Ideal.Proj

open Idealize.ShloMosaic Idealize.ShloMosaic.TcCoe Cert.Kernel10Ideal Cert.Kernel10Ideal.Gen Cert.Proj
open Idealize.ShloMosaic.Pipeline (Dat)

/-- The windows' block indices: a half of the positions per point, the result whole. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![0, 0]
    ∧ t.val < 2 :=
  (by decide +kernel : ∀ t : Fin grid0.N, _)

/-- The gradient of the weights, its columns placed in lanes. -/
def dw (u : Vec Ideal S2048x1024 .bf16) (d : Vec Ideal S2048x2208 .bf16) : Vec Ideal S1024x2432 .bf16 :=
  fun i => tn u (lanesOf d) (i 0) (i 1)

variable (m : (ℓ : Loc nD τ sig) → Buf (Elt Ideal) ℓ) (c : Dev nD)

/-- The query latent's columns, as the call reads them. -/
theorem query : V m c (Pipeline.arrRef spec0 1) = cut (n := 2048) 0 384 (by omega) (m ((c : Thread nD τ).loc main_arg2)) := by
  show V m c main_v0 = _
  unfold V
  after_results
  funext i
  pointwise [cut]

/-- The gap after them, as the call reads it. -/
theorem gap : V m c (Pipeline.arrRef spec0 2) = fun _ => (0 : EReal) := by
  show V m c main_v9 = _
  unfold V
  after_results
  funext i
  pointwise [cut]

/-- The key latent's columns, as the call reads them. -/
theorem key : V m c (Pipeline.arrRef spec0 3) = cut (n := 2048) 384 256 (by omega) (m ((c : Thread nD τ).loc main_arg2)) := by
  show V m c main_v1 = _
  unfold V
  after_results
  funext i
  pointwise [cut]

/-- The stick-breaking attention's queries, as the call reads them. -/
theorem stick0 : V m c (Pipeline.arrRef spec0 4) = cut (n := 2048) 672 512 (by omega) (m ((c : Thread nD τ).loc main_arg2)) := by
  show V m c main_v2 = _
  unfold V
  after_results
  funext i
  pointwise [cut]

/-- The stick-breaking attention's keys, as the call reads them. -/
theorem stick1 : V m c (Pipeline.arrRef spec0 5) = cut (n := 2048) 1184 512 (by omega) (m ((c : Thread nD τ).loc main_arg2)) := by
  show V m c main_v3 = _
  unfold V
  after_results
  funext i
  pointwise [cut]

/-- The stick-breaking attention's values, as the call reads them. -/
theorem stick2 : V m c (Pipeline.arrRef spec0 6) = cut (n := 2048) 1696 512 (by omega) (m ((c : Thread nD τ).loc main_arg2)) := by
  show V m c main_v4 = _
  unfold V
  after_results
  funext i
  pointwise [cut]

/-- The rotary columns between their gaps, as the call reads them. -/
theorem rotary : V m c (Pipeline.arrRef spec0 7) = rotaryOf (n := 2048) (m ((c : Thread nD τ).loc main_arg2)) := by
  show V m c main_v8 = rotaryOf (n := 2048) _
  rw [← Cert.Kernel11Ideal.Proj.between]
  unfold V
  after_results <;> rfl

/-- A row of a point's blocks of the pieces. -/
theorem reads (t : Fin cfg0.N) (l : Fin 1024) (h : t.val * 1024 + l.val < 2048) (q : Vec Ideal S2048x384 .bf16) (g : Vec Ideal S2048x128 .bf16) (k : Vec Ideal S2048x256 .bf16)
    (s0 s1 s2 : Vec Ideal S2048x512 .bf16) (r : Vec Ideal S2048x128 .bf16) :
    (∀ a, View.read (Elt Ideal) ((View.whole main_v0).slice ((win0 1).rect t)) q (ix2 l a) = q (ix2 ⟨t.val * 1024 + l.val, h⟩ a))
    ∧ (∀ a, View.read (Elt Ideal) ((View.whole main_v9).slice ((win0 2).rect t)) g (ix2 l a) = g (ix2 ⟨t.val * 1024 + l.val, h⟩ a))
    ∧ (∀ a, View.read (Elt Ideal) ((View.whole main_v1).slice ((win0 3).rect t)) k (ix2 l a) = k (ix2 ⟨t.val * 1024 + l.val, h⟩ a))
    ∧ (∀ a, View.read (Elt Ideal) ((View.whole main_v2).slice ((win0 4).rect t)) s0 (ix2 l a) = s0 (ix2 ⟨t.val * 1024 + l.val, h⟩ a))
    ∧ (∀ a, View.read (Elt Ideal) ((View.whole main_v3).slice ((win0 5).rect t)) s1 (ix2 l a) = s1 (ix2 ⟨t.val * 1024 + l.val, h⟩ a))
    ∧ (∀ a, View.read (Elt Ideal) ((View.whole main_v4).slice ((win0 6).rect t)) s2 (ix2 l a) = s2 (ix2 ⟨t.val * 1024 + l.val, h⟩ a))
    ∧ (∀ a, View.read (Elt Ideal) ((View.whole main_v8).slice ((win0 7).rect t)) r (ix2 l a) = r (ix2 ⟨t.val * 1024 + l.val, h⟩ a)) := by
  refine ⟨fun a => ?_, fun a => ?_, fun a => ?_, fun a => ?_, fun a => ?_, fun a => ?_, fun a => ?_⟩ <;> (pointwise []; blk_point [idx t])

set_option maxHeartbeats 1000000 in
/-- The array the call leaves. -/
theorem final : (dats m 0 c).arrAt 8 cfg0.N = dw (m ((c : Thread nD τ).loc main_arg0)) (m ((c : Thread nD τ).loc main_arg2)) := by
  refine (dats m 0 c).arrAt_eq_of_covers 8 _ (by decide +kernel) fun t hf y => ?_
  have h := (flush0_8 t).mp hf
  have hN := (idx t).2.2.2.2.2.2.2.2.2
  obtain ⟨t', ht⟩ : ∃ t' : Fin cfg0.N, t'.val = t.val - 1 := ⟨⟨t.val - 1, by omega⟩, rfl⟩
  blk_simp
  show (dats m 0 c).after 8 t y = _
  rw [after0_8, outsAt0_B m c t (by omega) h h]
  frame_out
  rw [show outsAt0 m c (t.val - 1) (Nat.lt_of_le_of_lt (Nat.sub_le _ _) t.isLt) = outsAt0 m c t'.val t'.isLt from by simp only [ht],
    outsAt0_A m c t' (by omega) (by omega) (by omega)]
  frame_out
  erw [Memref.IsWhole.read_unread]
  unfold iblk
  rw [query, gap, key, stick0, stick1, stick2, rotary]
  generalize m ((c : Thread nD τ).loc main_arg2) = D
  pointwise [k0_pay4, k0_pay3, k0_pay2, k0_pay1, dw, tn]
  rw [halves 1024 _ rfl]
  refine congrArg₂ (· + ·) (@Finset.sum_congr _ EReal _ _ _ _ _ rfl fun l _ => congrArg₂ (· * ·) ?_ ?_)
    (@Finset.sum_congr _ EReal _ _ _ _ _ rfl fun l _ => congrArg₂ (· * ·) ?_ ?_)
  · blk_point [V, idx t', idx t]
  · obtain ⟨hq, hg, hk, h0, h1, h2, hr⟩ := reads t' l (by have := l.isLt; omega) (cut (n := 2048) 0 384 (by omega) D) (fun _ => (0 : EReal)) (cut (n := 2048) 384 256 (by omega) D)
      (cut (n := 2048) 672 512 (by omega) D) (cut (n := 2048) 1184 512 (by omega) D) (cut (n := 2048) 1696 512 (by omega) D) (rotaryOf (n := 2048) D)
    refine (gathered D _ hq hg hk h0 h1 h2 hr _).trans ?_
    generalize lanesOf (n := 2048) D = W
    blk_point [idx t', idx t]
  · blk_point [V, idx t]
  · obtain ⟨hq, hg, hk, h0, h1, h2, hr⟩ := reads t l (by have := l.isLt; omega) (cut (n := 2048) 0 384 (by omega) D) (fun _ => (0 : EReal)) (cut (n := 2048) 384 256 (by omega) D)
      (cut (n := 2048) 672 512 (by omega) D) (cut (n := 2048) 1184 512 (by omega) D) (cut (n := 2048) 1696 512 (by omega) D) (rotaryOf (n := 2048) D)
    refine (gathered D _ hq hg hk h0 h1 h2 hr _).trans ?_
    generalize lanesOf (n := 2048) D = W
    blk_point [idx t]

end Cert.Kernel10Ideal.Proj

namespace Cert.Reference10Ideal.Proj

open Idealize.ShloMosaic Cert.Reference10Ideal Cert.Reference10Ideal.Gen Cert.Proj

/-- The gradient as the reference computes it. -/
def grad (u : Vec Ideal S2048x1024 .bf16) (d : Vec Ideal S2048x2208 .bf16) : Vec Ideal S1024x2208 .bf16 :=
  truncf .bf16 (transpose S1024x2208 [1, 0] (Host.dotGeneral (F := Ideal) (φ₁ := .f32) (φ₂ := .f32) dot_S2048x2208_S2048x1024_S2208x1024_0_0_1_1_n_n none
    (extf .f32 d bitsLt_bf16_f32) (extf .f32 u bitsLt_bf16_f32)) transposes_S2208x1024_S1024x2208_1_0) bitsLt_bf16_f32

/-- The array the reference leaves. -/
theorem final (u : Vec Ideal S2048x1024 .bf16) (d : Vec Ideal S2048x2208 .bf16) :
    Cert.Kernel9Ideal.Proj.cols (grad u d) = Cert.Kernel10Ideal.Proj.dw u d := by
  refine (Cert.Kernel9Ideal.Proj.placed _).trans (funext fun i => ?_)
  refine (congrArg (lanes · (i 1)) (funext fun j => ?_)).trans (tn_lanes u d (i 0) (i 1))
  pointwise [grad, tn]
  exact Finset.sum_congr rfl fun _ _ => mul_comm _ _

end Cert.Reference10Ideal.Proj
-- ==== Proof.Proj.Claims.lean ====
/-
  The projections: what is claimed of their calls.
-/
module

public import proofs.«01_k».proof.Defs
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Proj.Qkv
public import proofs.«01_k».proof.Proof.Proj.QkvBack
public import proofs.«01_k».proof.Proof.Proj.Out
public import proofs.«01_k».proof.Proof.Proj.OutBack
public import proofs.«01_k».proof.Proof.Proj.ProjIn
public import proofs.«01_k».proof.Proof.Proj.ProjInBack
public import proofs.«01_k».proof.Proof.Proj.ProjInBackW

@[expose] public section

set_option maxRecDepth 16384

noncomputable section

namespace Cert.Claims3

open Idealize.ShloMosaic Idealize.ShloMosaic.TcCoe Idealize.SL.Sem

/-- The projection to queries, keys and values: its call runs on hardware values, with its arguments unchanged and every counter at zero. -/
theorem frame_bits3 : quiescent_Kernel3 (hKernel3 := Kernel3.Gen.facts) := fun m g _ => Kernel3.Gen.frame m g

/-- The same over the extended reals. -/
theorem frame_ideal3 : quiescent_Kernel3Ideal (hKernel3Ideal := Kernel3Ideal.Gen.facts) := fun m g _ => Kernel3Ideal.Gen.frame m g

/-- The same of its reference. -/
theorem frame_ref3 : quiescent_Reference3Ideal (hReference3Ideal := Reference3Ideal.Gen.facts) := fun m g _ =>
  (θ_run (Reference3Ideal.defs (F := Ideal)) _ _).mono (fun r h => ⟨fun c => (h c).2, sem_eq_zero_of_no_sems (by decide) r.2⟩) (Reference3Ideal.Value.run m g)

/-- The call and its reference end with equal results. -/
theorem algebraic3 : algebraic_Kernel3Ideal_Reference3Ideal (hKernel3Ideal := Kernel3Ideal.Gen.facts) (hReference3Ideal := Reference3Ideal.Gen.facts) :=
  fun m g m' g' _ ha => ⟨fun c => (Kernel3Ideal.Gen.dats m 0 c).arrAt 2 Kernel3Ideal.cfg0.N, Kernel3Ideal.Value.run_blocks m g,
    (θ_run (Reference3Ideal.defs (F := Ideal)) _ _).mono (fun _ h c => ⟨(h c).1.trans ((Reference3Ideal.Proj.final _ _).trans
      ((congr (congrArg Kernel3Ideal.Proj.qkv (ha c).1) (ha c).2).trans (Kernel3Ideal.Proj.final m c).symm)), (h c).2⟩) (Reference3Ideal.Value.run m' g')⟩

/-- The gradient of its input: its call runs on hardware values, with its arguments unchanged and every counter at zero. -/
theorem frame_bits4 : quiescent_Kernel4 (hKernel4 := Kernel4.Gen.facts) := fun m g _ => Kernel4.Gen.frame m g

/-- The same over the extended reals. -/
theorem frame_ideal4 : quiescent_Kernel4Ideal (hKernel4Ideal := Kernel4Ideal.Gen.facts) := fun m g _ => Kernel4Ideal.Gen.frame m g

/-- The same of its reference. -/
theorem frame_ref4 : quiescent_Reference4Ideal (hReference4Ideal := Reference4Ideal.Gen.facts) := fun m g _ =>
  (θ_run (Reference4Ideal.defs (F := Ideal)) _ _).mono (fun r h => ⟨fun c => (h c).2, sem_eq_zero_of_no_sems (by decide) r.2⟩) (Reference4Ideal.Value.run m g)

/-- The call and its reference end with equal results. -/
theorem algebraic4 : algebraic_Kernel4Ideal_Reference4Ideal (hKernel4Ideal := Kernel4Ideal.Gen.facts) (hReference4Ideal := Reference4Ideal.Gen.facts) :=
  fun m g m' g' _ ha => ⟨fun c => (Kernel4Ideal.Gen.dats m 0 c).arrAt 2 Kernel4Ideal.cfg0.N, Kernel4Ideal.Value.run_blocks m g,
    (θ_run (Reference4Ideal.defs (F := Ideal)) _ _).mono (fun _ h c => ⟨(h c).1.trans ((Reference4Ideal.Proj.final _ _).trans
      ((congr (congrArg Kernel4Ideal.Proj.dx (ha c).2.1) (ha c).2.2).trans (Kernel4Ideal.Proj.final m c).symm)), (h c).2⟩) (Reference4Ideal.Value.run m' g')⟩

/-- The gradient of its weights: its call runs on hardware values, with its arguments unchanged and every counter at zero. -/
theorem frame_bits5 : quiescent_Kernel5 (hKernel5 := Kernel5.Gen.facts) := fun m g _ => Kernel5.Gen.frame m g

/-- The same over the extended reals. -/
theorem frame_ideal5 : quiescent_Kernel5Ideal (hKernel5Ideal := Kernel5Ideal.Gen.facts) := fun m g _ => Kernel5Ideal.Gen.frame m g

/-- The same of its reference. -/
theorem frame_ref5 : quiescent_Reference5Ideal (hReference5Ideal := Reference5Ideal.Gen.facts) := fun m g _ =>
  (θ_run (Reference5Ideal.defs (F := Ideal)) _ _).mono (fun r h => ⟨fun c => (h c).2, sem_eq_zero_of_no_sems (by decide) r.2⟩) (Reference5Ideal.Value.run m g)

/-- The call and its reference end with equal results. -/
theorem algebraic5 : algebraic_Kernel5Ideal_Reference5Ideal (hKernel5Ideal := Kernel5Ideal.Gen.facts) (hReference5Ideal := Reference5Ideal.Gen.facts) :=
  fun m g m' g' _ ha => ⟨fun c => (Kernel5Ideal.Gen.dats m 0 c).arrAt 4 Kernel5Ideal.cfg0.N, Kernel5Ideal.Value.run_blocks m g,
    (θ_run (Reference5Ideal.defs (F := Ideal)) _ _).mono (fun _ h c => ⟨(h c).1.trans ((Reference5Ideal.Proj.final _ _).trans
      ((congr (congrArg Kernel5Ideal.Proj.dw (ha c).1) (ha c).2.2).trans (Kernel5Ideal.Proj.final m c).symm)), (h c).2⟩) (Reference5Ideal.Value.run m' g')⟩

/-- The output projection: its call runs on hardware values, with its arguments unchanged and every counter at zero. -/
theorem frame_bits6 : quiescent_Kernel6 (hKernel6 := Kernel6.Gen.facts) := fun m g _ => Kernel6.Gen.frame m g

/-- The same over the extended reals. -/
theorem frame_ideal6 : quiescent_Kernel6Ideal (hKernel6Ideal := Kernel6Ideal.Gen.facts) := fun m g _ => Kernel6Ideal.Gen.frame m g

/-- The same of its reference. -/
theorem frame_ref6 : quiescent_Reference6Ideal (hReference6Ideal := Reference6Ideal.Gen.facts) := fun m g _ =>
  (θ_run (Reference6Ideal.defs (F := Ideal)) _ _).mono (fun r h => ⟨fun c => (h c).2, sem_eq_zero_of_no_sems (by decide) r.2⟩) (Reference6Ideal.Value.run m g)

/-- The call and its reference end with equal results. -/
theorem algebraic6 : algebraic_Kernel6Ideal_Reference6Ideal (hKernel6Ideal := Kernel6Ideal.Gen.facts) (hReference6Ideal := Reference6Ideal.Gen.facts) :=
  fun m g m' g' _ ha => ⟨fun c => (Kernel6Ideal.Gen.dats m 0 c).arrAt 3 Kernel6Ideal.cfg0.N, Kernel6Ideal.Value.run_blocks m g,
    (θ_run (Reference6Ideal.defs (F := Ideal)) _ _).mono (fun _ h c => ⟨(h c).1.trans ((Reference6Ideal.Proj.final _ _ _).trans
      ((congr (congr (congrArg Kernel6Ideal.Proj.out (ha c).1) (ha c).2.1) (ha c).2.2).trans (Kernel6Ideal.Proj.final m c).symm)), (h c).2⟩) (Reference6Ideal.Value.run m' g')⟩

/-- The gradient of its input: its call runs on hardware values, with its arguments unchanged and every counter at zero. -/
theorem frame_bits7 : quiescent_Kernel7 (hKernel7 := Kernel7.Gen.facts) := fun m g _ => Kernel7.Gen.frame m g

/-- The same over the extended reals. -/
theorem frame_ideal7 : quiescent_Kernel7Ideal (hKernel7Ideal := Kernel7Ideal.Gen.facts) := fun m g _ => Kernel7Ideal.Gen.frame m g

/-- The same of its reference. -/
theorem frame_ref7 : quiescent_Reference7Ideal (hReference7Ideal := Reference7Ideal.Gen.facts) := fun m g _ =>
  (θ_run (Reference7Ideal.defs (F := Ideal)) _ _).mono (fun r h => ⟨fun c => (h c).2, sem_eq_zero_of_no_sems (by decide) r.2⟩) (Reference7Ideal.Value.run m g)

/-- The call and its reference end with equal results. -/
theorem algebraic7 : algebraic_Kernel7Ideal_Reference7Ideal (hKernel7Ideal := Kernel7Ideal.Gen.facts) (hReference7Ideal := Reference7Ideal.Gen.facts) :=
  fun m g m' g' _ ha => ⟨fun c => (Kernel7Ideal.Gen.dats m 0 c).arrAt 2 Kernel7Ideal.cfg0.N, Kernel7Ideal.Value.run_blocks m g,
    (θ_run (Reference7Ideal.defs (F := Ideal)) _ _).mono (fun _ h c => ⟨(h c).1.trans ((Reference7Ideal.Proj.final _ _).trans
      ((congr (congrArg Kernel7Ideal.Proj.dx (ha c).2.1) (ha c).2.2).trans (Kernel7Ideal.Proj.final m c).symm)), (h c).2⟩) (Reference7Ideal.Value.run m' g')⟩

/-- The gradient of its weights: its call runs on hardware values, with its arguments unchanged and every counter at zero. -/
theorem frame_bits8 : quiescent_Kernel8 (hKernel8 := Kernel8.Gen.facts) := fun m g _ => Kernel8.Gen.frame m g

/-- The same over the extended reals. -/
theorem frame_ideal8 : quiescent_Kernel8Ideal (hKernel8Ideal := Kernel8Ideal.Gen.facts) := fun m g _ => Kernel8Ideal.Gen.frame m g

/-- The same of its reference. -/
theorem frame_ref8 : quiescent_Reference8Ideal (hReference8Ideal := Reference8Ideal.Gen.facts) := fun m g _ =>
  (θ_run (Reference8Ideal.defs (F := Ideal)) _ _).mono (fun r h => ⟨fun c => (h c).2, sem_eq_zero_of_no_sems (by decide) r.2⟩) (Reference8Ideal.Value.run m g)

/-- The call and its reference end with equal results. -/
theorem algebraic8 : algebraic_Kernel8Ideal_Reference8Ideal (hKernel8Ideal := Kernel8Ideal.Gen.facts) (hReference8Ideal := Reference8Ideal.Gen.facts) :=
  fun m g m' g' _ ha => ⟨fun c => (Kernel8Ideal.Gen.dats m 0 c).arrAt 2 Kernel8Ideal.cfg0.N, Kernel8Ideal.Value.run_blocks m g,
    (θ_run (Reference8Ideal.defs (F := Ideal)) _ _).mono (fun _ h c => ⟨(h c).1.trans ((Reference8Ideal.Proj.final _ _).trans
      ((congr (congrArg Kernel8Ideal.Proj.dw (ha c).1) (ha c).2.2).trans (Kernel8Ideal.Proj.final m c).symm)), (h c).2⟩) (Reference8Ideal.Value.run m' g')⟩

/-- The even layer's input projection: its call runs on hardware values, with its arguments unchanged and every counter at zero. -/
theorem frame_bits9 : quiescent_Kernel9 (hKernel9 := Kernel9.Gen.facts) := fun m g _ => Kernel9.Gen.frame m g

/-- The same over the extended reals. -/
theorem frame_ideal9 : quiescent_Kernel9Ideal (hKernel9Ideal := Kernel9Ideal.Gen.facts) := fun m g _ => Kernel9Ideal.Gen.frame m g

/-- The same of its reference. -/
theorem frame_ref9 : quiescent_Reference9Ideal (hReference9Ideal := Reference9Ideal.Gen.facts) := fun m g _ =>
  (θ_run (Reference9Ideal.defs (F := Ideal)) _ _).mono (fun r h => ⟨fun c => (h c).2, sem_eq_zero_of_no_sems (by decide) r.2⟩) (Reference9Ideal.Value.run m g)

/-- The call and its reference end with equal results. -/
theorem algebraic9 : algebraic_Kernel9Ideal_Reference9Ideal (hKernel9Ideal := Kernel9Ideal.Gen.facts) (hReference9Ideal := Reference9Ideal.Gen.facts) :=
  fun m g m' g' _ ha => ⟨fun c => (Kernel9Ideal.Gen.dats m 0 c).arrAt 2 Kernel9Ideal.cfg0.N, Kernel9Ideal.Value.run_blocks m g,
    (θ_run (Reference9Ideal.defs (F := Ideal)) _ _).mono (fun _ h c => ⟨(h c).1.trans ((Reference9Ideal.Proj.final _ _).trans
      ((congr (congrArg Kernel9Ideal.Proj.proj (ha c).1) (ha c).2).trans (Kernel9Ideal.Proj.final m c).symm)), (h c).2⟩) (Reference9Ideal.Value.run m' g')⟩

/-- The gradient of its weights: its call runs on hardware values, with its arguments unchanged and every counter at zero. -/
theorem frame_bits10 : quiescent_Kernel10 (hKernel10 := Kernel10.Gen.facts) := fun m g _ => Kernel10.Gen.frame m g

/-- The same over the extended reals. -/
theorem frame_ideal10 : quiescent_Kernel10Ideal (hKernel10Ideal := Kernel10Ideal.Gen.facts) := fun m g _ => Kernel10Ideal.Gen.frame m g

/-- The same of its reference. -/
theorem frame_ref10 : quiescent_Reference10Ideal (hReference10Ideal := Reference10Ideal.Gen.facts) := fun m g _ =>
  (θ_run (Reference10Ideal.defs (F := Ideal)) _ _).mono (fun r h => ⟨fun c => (h c).2, sem_eq_zero_of_no_sems (by decide) r.2⟩) (Reference10Ideal.Value.run m g)

/-- The call and its reference end with equal results. -/
theorem algebraic10 : algebraic_Kernel10Ideal_Reference10Ideal (hKernel10Ideal := Kernel10Ideal.Gen.facts) (hReference10Ideal := Reference10Ideal.Gen.facts) :=
  fun m g m' g' _ ha => ⟨fun c => (Kernel10Ideal.Gen.dats m 0 c).arrAt 8 Kernel10Ideal.cfg0.N, Kernel10Ideal.Value.run_blocks m g,
    (θ_run (Reference10Ideal.defs (F := Ideal)) _ _).mono (fun _ h c => ⟨(h c).1.trans ((Reference10Ideal.Proj.final _ _).trans
      ((congr (congrArg Kernel10Ideal.Proj.dw (ha c).1) (ha c).2.2).trans (Kernel10Ideal.Proj.final m c).symm)), (h c).2⟩) (Reference10Ideal.Value.run m' g')⟩

/-- The gradient of its input: its call runs on hardware values, with its arguments unchanged and every counter at zero. -/
theorem frame_bits11 : quiescent_Kernel11 (hKernel11 := Kernel11.Gen.facts) := fun m g _ => Kernel11.Gen.frame m g

/-- The same over the extended reals. -/
theorem frame_ideal11 : quiescent_Kernel11Ideal (hKernel11Ideal := Kernel11Ideal.Gen.facts) := fun m g _ => Kernel11Ideal.Gen.frame m g

/-- The same of its reference. -/
theorem frame_ref11 : quiescent_Reference11Ideal (hReference11Ideal := Reference11Ideal.Gen.facts) := fun m g _ =>
  (θ_run (Reference11Ideal.defs (F := Ideal)) _ _).mono (fun r h => ⟨fun c => (h c).2, sem_eq_zero_of_no_sems (by decide) r.2⟩) (Reference11Ideal.Value.run m g)

/-- The call and its reference end with equal results. -/
theorem algebraic11 : algebraic_Kernel11Ideal_Reference11Ideal (hKernel11Ideal := Kernel11Ideal.Gen.facts) (hReference11Ideal := Reference11Ideal.Gen.facts) :=
  fun m g m' g' _ ha => ⟨fun c => (Kernel11Ideal.Gen.dats m 0 c).arrAt 8 Kernel11Ideal.cfg0.N, Kernel11Ideal.Value.run_blocks m g,
    (θ_run (Reference11Ideal.defs (F := Ideal)) _ _).mono (fun _ h c => ⟨(h c).1.trans ((Reference11Ideal.Proj.final _ _).trans
      ((congr (congrArg Kernel11Ideal.Proj.dx (ha c).2.1) (ha c).2.2).trans (Kernel11Ideal.Proj.final m c).symm)), (h c).2⟩) (Reference11Ideal.Value.run m' g')⟩

end Cert.Claims3
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel9.Frame
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel10.Frame
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel11.Frame
public import proofs.«01_k».proof.Proof.Gen.Pre_finite
public import proofs.«01_k».proof.Proof.Gen.Pre_finite2
public import proofs.«01_k».proof.Proof.Claims
public import proofs.«01_k».proof.Proof.Ffn.Claims
public import proofs.«01_k».proof.Proof.Proj.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite2.Gen.facts,
  Cert.Claims.frame_bits, Cert.Claims.frame_ideal, Cert.Claims.frame_ideal_finite, fun m g _ => Cert.Claims.frame_ref m g,
  fun m g _ => Cert.Claims.frame_ref m g, Cert.Claims2.frame_bits, Cert.Claims2.frame_ideal, Cert.Claims2.frame_ideal_finite,
  Cert.Claims2.frame_ref, Cert.Claims2.frame_ref_finite,
  Cert.Claims3.frame_bits3, Cert.Claims3.frame_ideal3, Cert.Claims3.frame_ref3,
  Cert.Claims3.frame_bits4, Cert.Claims3.frame_ideal4, Cert.Claims3.frame_ref4,
  Cert.Claims3.frame_bits5, Cert.Claims3.frame_ideal5, Cert.Claims3.frame_ref5,
  Cert.Claims3.frame_bits6, Cert.Claims3.frame_ideal6, Cert.Claims3.frame_ref6,
  Cert.Claims3.frame_bits7, Cert.Claims3.frame_ideal7, Cert.Claims3.frame_ref7,
  Cert.Claims3.frame_bits8, Cert.Claims3.frame_ideal8, Cert.Claims3.frame_ref8,
  Cert.Claims3.frame_bits9, Cert.Claims3.frame_ideal9, Cert.Claims3.frame_ref9,
  Cert.Claims3.frame_bits10, Cert.Claims3.frame_ideal10, Cert.Claims3.frame_ref10,
  Cert.Claims3.frame_bits11, Cert.Claims3.frame_ideal11, Cert.Claims3.frame_ref11,
  Cert.Claims.preserves, Cert.Claims.algebraic, trivial, Cert.Claims2.algebraic,
  trivial, Cert.Claims3.algebraic3, trivial, Cert.Claims3.algebraic4, trivial, Cert.Claims3.algebraic5, trivial, Cert.Claims3.algebraic6, trivial, Cert.Claims3.algebraic7, trivial, Cert.Claims3.algebraic8, trivial, Cert.Claims3.algebraic9, trivial, Cert.Claims3.algebraic10, trivial, Cert.Claims3.algebraic11⟩

end Cert.Proof

end
